-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_sorted_rows [hPre_sorted_rows : Cert.Pre_sorted_rows.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_sorted_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_sorted_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_sorted_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_sorted_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_sorted_rows [hPre_sorted_rows : Cert.Pre_sorted_rows.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_sorted_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_sorted_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_sorted_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_sorted_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_sorted_rows [hKernel2Ideal : Cert.Kernel2Ideal.Facts] [hPre_sorted_rows : Cert.Pre_sorted_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_sorted_rows m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_sorted_rows [hReference2Ideal : Cert.Reference2Ideal.Facts] [hPre_sorted_rows : Cert.Pre_sorted_rows.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_sorted_rows m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_sorted_rows [hKernel2Ideal : Cert.Kernel2Ideal.Facts] [hReference2Ideal : Cert.Reference2Ideal.Facts] [hPre_sorted_rows : Cert.Pre_sorted_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_sorted_rows m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v39)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v236) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)) (v7 : (c : Dev Cert.Kernel3Ideal.nD) → Buf (Elt Ideal) ((c.tc : Thread Cert.Kernel3Ideal.nD Cert.Kernel3Ideal.τ).loc Cert.Kernel3Ideal.main_v15_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_v15_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_v30) = v5 c
          ∧ r.2.mem ((c.tc : Thread Cert.Reference3Ideal.nD Cert.Reference3Ideal.τ).loc Cert.Reference3Ideal.main_v31) = v6 c
          ∧ r.2.mem ((c.tc : Thread Cert.Reference3Ideal.nD Cert.Reference3Ideal.τ).loc Cert.Reference3Ideal.main_v33) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_sorted_rows : Cert.Pre_sorted_rows.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Kernel2Ideal_pre_sorted_rows (hKernel2Ideal := hKernel2Ideal) (hPre_sorted_rows := hPre_sorted_rows)
    ∧ quiescent_Reference2Ideal (hReference2Ideal := hReference2Ideal)
    ∧ quiescent_Reference2Ideal_pre_sorted_rows (hReference2Ideal := hReference2Ideal) (hPre_sorted_rows := hPre_sorted_rows)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal_pre_sorted_rows (hKernel2Ideal := hKernel2Ideal) (hReference2Ideal := hReference2Ideal) (hPre_sorted_rows := hPre_sorted_rows)
    ∧ preserves_Kernel3_Kernel3Ideal
    ∧ algebraic_Kernel3Ideal_Reference3Ideal (hKernel3Ideal := hKernel3Ideal) (hReference3Ideal := hReference3Ideal)
-- ==== Pre_routed.lean ====
abbrev S520 : Shape := ⟨1, ![520]⟩
abbrev S16384x1024 : Shape := ⟨2, ![16384, 1024]⟩
abbrev S256x1024 : Shape := ⟨2, ![256, 1024]⟩
abbrev S16640x2 : Shape := ⟨2, ![16640, 2]⟩
abbrev S43008x1024 : Shape := ⟨2, ![43008, 1024]⟩
abbrev S1024 : Shape := ⟨1, ![1024]⟩
abbrev S65x8 : Shape := ⟨2, ![65, 8]⟩
abbrev S65x512 : Shape := ⟨2, ![65, 512]⟩
abbrev S_ : Shape := ⟨0, ![]⟩
abbrev S65x1 : Shape := ⟨2, ![65, 1]⟩
abbrev S65x7 : Shape := ⟨2, ![65, 7]⟩
abbrev S16640x1 : Shape := ⟨2, ![16640, 1]⟩
abbrev S16640 : Shape := ⟨1, ![16640]⟩

class Facts : Prop where
  shapeCasts_S520_S65x8 : S520.ShapeCasts S65x8
  shapeCasts_S16640x2_S65x512 : S16640x2.ShapeCasts S65x512
  bcast_S_S65x512 : S_.BroadcastsInDim S65x512 (![] : Fin 0 → Fin S65x512.rank)
  slices_S65x8_S65x1_0_0 : S65x8.Slices ![0, 0] S65x1
  bcast_S65x1_S65x512_0_1 : S65x1.BroadcastsInDim S65x512 (![0, 1] : Fin 2 → Fin S65x512.rank)
  slices_S65x8_S65x1_0_1 : S65x8.Slices ![0, 1] S65x1
  slices_S65x8_S65x1_0_2 : S65x8.Slices ![0, 2] S65x1
  slices_S65x8_S65x1_0_3 : S65x8.Slices ![0, 3] S65x1
  slices_S65x8_S65x1_0_4 : S65x8.Slices ![0, 4] S65x1
  slices_S65x8_S65x1_0_5 : S65x8.Slices ![0, 5] S65x1
  slices_S65x8_S65x1_0_6 : S65x8.Slices ![0, 6] S65x1
  slices_S65x8_S65x1_0_7 : S65x8.Slices ![0, 7] S65x1
  bcast_S_S520 : S_.BroadcastsInDim S520 (![] : Fin 0 → Fin S520.rank)
  slices_S65x8_S65x7_0_0 : S65x8.Slices ![0, 0] S65x7
  slices_S65x8_S65x7_0_1 : S65x8.Slices ![0, 1] S65x7
  slices_S16640x2_S16640x1_0_0 : S16640x2.Slices ![0, 0] S16640x1
  shapeCasts_S16640x1_S16640 : S16640x1.ShapeCasts S16640
  slices_S16640x2_S16640x1_0_1 : S16640x2.Slices ![0, 1] S16640x1
  bcast_S_S16640 : S_.BroadcastsInDim S16640 (![] : Fin 0 → Fin S16640.rank)

variable [Facts]

def fn_part4 {F : FTy → Type} [FloatOps F] (main_arg5 : IVec S16640x2 32) (main_v0 : IVec S65x8 32) (main_v68 : IVec S65x512 1) (main_v73 : IVec S520 1) (main_v82 : IVec S520 1) (main_v87 : IVec S520 1) (main_v88 : IVec S65x7 32) : IVec S520 1 × IVec S520 1 × IVec S520 1 × IVec S65x7 1 × IVec S65x512 1 × IVec S16640 1 :=
  let main_v89 : IVec S65x7 32 := (extractStridedSlice S65x7 ![0, 1] · slices_S65x8_S65x7_0_1) main_v0
  let main_v90 : IVec S65x7 1 := cmpi .sle main_v88 main_v89
  let main_v91 : IVec S16640x1 32 := (extractStridedSlice S16640x1 ![0, 0] · slices_S16640x2_S16640x1_0_0) main_arg5
  let main_v92 : IVec S16640 32 := shapeCast S16640 main_v91 shapeCasts_S16640x1_S16640
  let main_v93 : IVec S16640x1 32 := (extractStridedSlice S16640x1 ![0, 1] · slices_S16640x2_S16640x1_0_1) main_arg5
  let main_v94 : IVec S16640 32 := shapeCast S16640 main_v93 shapeCasts_S16640x1_S16640
  let main_v95 : IVec S16640 1 := cmpi .ne main_v92 main_v94
  let main_v96 : IVec S16640x1 32 := (extractStridedSlice S16640x1 ![0, 0] · slices_S16640x2_S16640x1_0_0) main_arg5
  let main_v97 : IVec S16640 32 := shapeCast S16640 main_v96 shapeCasts_S16640x1_S16640
  let main_c_6 : IVec S_ 32 := constantI S_ 32 0#32
  let main_v98 : IVec S16640 32 := broadcastInDim S16640 ![] bcast_S_S16640 main_c_6
  let main_v99 : IVec S16640 1 := cmpi .slt main_v97 main_v98
  let main_v100 : IVec S16640 1 := ori main_v95 main_v99
  (main_v73, main_v82, main_v87, main_v90, main_v68, main_v100)

def fn_part3 {F : FTy → Type} [FloatOps F] (main_arg0 : IVec S520 32) (main_arg1 : IVec S520 32) (main_arg2 : IVec S520 32) (main_arg5 : IVec S16640x2 32) (main_v0 : IVec S65x8 32) (main_v1 : IVec S65x8 32) (main_v68 : IVec S65x512 1) (main_v69 : IVec S520 32) : IVec S520 1 × IVec S520 1 × IVec S520 1 × IVec S65x7 1 × IVec S65x512 1 × IVec S16640 1 :=
  let main_v70 : IVec S520 1 := cmpi .sge main_arg0 main_v69
  let main_c_1 : IVec S_ 32 := constantI S_ 32 2671#32
  let main_v71 : IVec S520 32 := broadcastInDim S520 ![] bcast_S_S520 main_c_1
  let main_v72 : IVec S520 1 := cmpi .sle main_arg0 main_v71
  let main_v73 : IVec S520 1 := andi main_v70 main_v72
  let main_c_2 : IVec S_ 32 := constantI S_ 32 16#32
  let main_v74 : IVec S520 32 := broadcastInDim S520 ![] bcast_S_S520 main_c_2
  let main_v75 : IVec S520 32 := muli main_arg0 main_v74
  let main_v76 : IVec S520 1 := cmpi .sle main_v75 main_arg1
  let main_c_3 : IVec S_ 32 := constantI S_ 32 16#32
  let main_v77 : IVec S520 32 := broadcastInDim S520 ![] bcast_S_S520 main_c_3
  let main_v78 : IVec S520 32 := muli main_arg0 main_v77
  let main_c_4 : IVec S_ 32 := constantI S_ 32 16#32
  let main_v79 : IVec S520 32 := broadcastInDim S520 ![] bcast_S_S520 main_c_4
  let main_v80 : IVec S520 32 := addi main_v78 main_v79
  let main_v81 : IVec S520 1 := cmpi .slt main_arg1 main_v80
  let main_v82 : IVec S520 1 := andi main_v76 main_v81
  let main_v83 : IVec S520 1 := cmpi .sle main_arg1 main_arg2
  let main_c_5 : IVec S_ 32 := constantI S_ 32 256#32
  let main_v84 : IVec S520 32 := broadcastInDim S520 ![] bcast_S_S520 main_c_5
  let main_v85 : IVec S520 32 := addi main_arg1 main_v84
  let main_v86 : IVec S520 1 := cmpi .sle main_arg2 main_v85
  let main_v87 : IVec S520 1 := andi main_v83 main_v86
  let main_v88 : IVec S65x7 32 := (extractStridedSlice S65x7 ![0, 0] · slices_S65x8_S65x7_0_0) main_v1
  fn_part4 (F := F) main_arg5 main_v0 main_v68 main_v73 main_v82 main_v87 main_v88

def fn_part2 {F : FTy → Type} [FloatOps F] (main_arg0 : IVec S520 32) (main_arg1 : IVec S520 32) (main_arg2 : IVec S520 32) (main_arg5 : IVec S16640x2 32) (main_v0 : IVec S65x8 32) (main_v1 : IVec S65x8 32) (main_v2 : IVec S65x512 32) (main_v44 : IVec S65x512 1) (main_v46 : IVec S65x512 32) : IVec S520 1 × IVec S520 1 × IVec S520 1 × IVec S65x7 1 × IVec S65x512 1 × IVec S16640 1 :=
  let main_v47 : IVec S65x512 1 := cmpi .sge main_v2 main_v46
  let main_v48 : IVec S65x1 32 := (extractStridedSlice S65x1 ![0, 5] · slices_S65x8_S65x1_0_5) main_v1
  let main_v49 : IVec S65x512 32 := broadcastInDim S65x512 ![0, 1] bcast_S65x1_S65x512_0_1 main_v48
  let main_v50 : IVec S65x512 1 := cmpi .slt main_v2 main_v49
  let main_v51 : IVec S65x512 1 := andi main_v47 main_v50
  let main_v52 : IVec S65x512 1 := ori main_v44 main_v51
  let main_v53 : IVec S65x1 32 := (extractStridedSlice S65x1 ![0, 6] · slices_S65x8_S65x1_0_6) main_v0
  let main_v54 : IVec S65x512 32 := broadcastInDim S65x512 ![0, 1] bcast_S65x1_S65x512_0_1 main_v53
  let main_v55 : IVec S65x512 1 := cmpi .sge main_v2 main_v54
  let main_v56 : IVec S65x1 32 := (extractStridedSlice S65x1 ![0, 6] · slices_S65x8_S65x1_0_6) main_v1
  let main_v57 : IVec S65x512 32 := broadcastInDim S65x512 ![0, 1] bcast_S65x1_S65x512_0_1 main_v56
  let main_v58 : IVec S65x512 1 := cmpi .slt main_v2 main_v57
  let main_v59 : IVec S65x512 1 := andi main_v55 main_v58
  let main_v60 : IVec S65x512 1 := ori main_v52 main_v59
  let main_v61 : IVec S65x1 32 := (extractStridedSlice S65x1 ![0, 7] · slices_S65x8_S65x1_0_7) main_v0
  let main_v62 : IVec S65x512 32 := broadcastInDim S65x512 ![0, 1] bcast_S65x1_S65x512_0_1 main_v61
  let main_v63 : IVec S65x512 1 := cmpi .sge main_v2 main_v62
  let main_v64 : IVec S65x1 32 := (extractStridedSlice S65x1 ![0, 7] · slices_S65x8_S65x1_0_7) main_v1
  let main_v65 : IVec S65x512 32 := broadcastInDim S65x512 ![0, 1] bcast_S65x1_S65x512_0_1 main_v64
  let main_v66 : IVec S65x512 1 := cmpi .slt main_v2 main_v65
  let main_v67 : IVec S65x512 1 := andi main_v63 main_v66
  let main_v68 : IVec S65x512 1 := ori main_v60 main_v67
  let main_c_0 : IVec S_ 32 := constantI S_ 32 0#32
  let main_v69 : IVec S520 32 := broadcastInDim S520 ![] bcast_S_S520 main_c_0
  fn_part3 (F := F) main_arg0 main_arg1 main_arg2 main_arg5 main_v0 main_v1 main_v68 main_v69

def fn_part1 {F : FTy → Type} [FloatOps F] (main_arg0 : IVec S520 32) (main_arg1 : IVec S520 32) (main_arg2 : IVec S520 32) (main_arg5 : IVec S16640x2 32) (main_v0 : IVec S65x8 32) (main_v1 : IVec S65x8 32) (main_v2 : IVec S65x512 32) (main_v20 : IVec S65x512 1) (main_v22 : IVec S65x512 32) : IVec S520 1 × IVec S520 1 × IVec S520 1 × IVec S65x7 1 × IVec S65x512 1 × IVec S16640 1 :=
  let main_v23 : IVec S65x512 1 := cmpi .sge main_v2 main_v22
  let main_v24 : IVec S65x1 32 := (extractStridedSlice S65x1 ![0, 2] · slices_S65x8_S65x1_0_2) main_v1
  let main_v25 : IVec S65x512 32 := broadcastInDim S65x512 ![0, 1] bcast_S65x1_S65x512_0_1 main_v24
  let main_v26 : IVec S65x512 1 := cmpi .slt main_v2 main_v25
  let main_v27 : IVec S65x512 1 := andi main_v23 main_v26
  let main_v28 : IVec S65x512 1 := ori main_v20 main_v27
  let main_v29 : IVec S65x1 32 := (extractStridedSlice S65x1 ![0, 3] · slices_S65x8_S65x1_0_3) main_v0
  let main_v30 : IVec S65x512 32 := broadcastInDim S65x512 ![0, 1] bcast_S65x1_S65x512_0_1 main_v29
  let main_v31 : IVec S65x512 1 := cmpi .sge main_v2 main_v30
  let main_v32 : IVec S65x1 32 := (extractStridedSlice S65x1 ![0, 3] · slices_S65x8_S65x1_0_3) main_v1
  let main_v33 : IVec S65x512 32 := broadcastInDim S65x512 ![0, 1] bcast_S65x1_S65x512_0_1 main_v32
  let main_v34 : IVec S65x512 1 := cmpi .slt main_v2 main_v33
  let main_v35 : IVec S65x512 1 := andi main_v31 main_v34
  let main_v36 : IVec S65x512 1 := ori main_v28 main_v35
  let main_v37 : IVec S65x1 32 := (extractStridedSlice S65x1 ![0, 4] · slices_S65x8_S65x1_0_4) main_v0
  let main_v38 : IVec S65x512 32 := broadcastInDim S65x512 ![0, 1] bcast_S65x1_S65x512_0_1 main_v37
  let main_v39 : IVec S65x512 1 := cmpi .sge main_v2 main_v38
  let main_v40 : IVec S65x1 32 := (extractStridedSlice S65x1 ![0, 4] · slices_S65x8_S65x1_0_4) main_v1
  let main_v41 : IVec S65x512 32 := broadcastInDim S65x512 ![0, 1] bcast_S65x1_S65x512_0_1 main_v40
  let main_v42 : IVec S65x512 1 := cmpi .slt main_v2 main_v41
  let main_v43 : IVec S65x512 1 := andi main_v39 main_v42
  let main_v44 : IVec S65x512 1 := ori main_v36 main_v43
  let main_v45 : IVec S65x1 32 := (extractStridedSlice S65x1 ![0, 5] · slices_S65x8_S65x1_0_5) main_v0
  let main_v46 : IVec S65x512 32 := broadcastInDim S65x512 ![0, 1] bcast_S65x1_S65x512_0_1 main_v45
  fn_part2 (F := F) main_arg0 main_arg1 main_arg2 main_arg5 main_v0 main_v1 main_v2 main_v44 main_v46

def fn {F : FTy → Type} [FloatOps F] (main_arg0 : IVec S520 32) (main_arg1 : IVec S520 32) (main_arg2 : IVec S520 32) (main_arg3 : FVec F S16384x1024 .f32) (main_arg4 : FVec F S256x1024 .f32) (main_arg5 : IVec S16640x2 32) (main_arg6 : FVec F S43008x1024 .bf16) (main_arg7 : FVec F S1024 .f32) : IVec S520 1 × IVec S520 1 × IVec S520 1 × IVec S65x7 1 × IVec S65x512 1 × IVec S16640 1 :=
  let main_v0 : IVec S65x8 32 := shapeCast S65x8 main_arg1 shapeCasts_S520_S65x8
  let main_v1 : IVec S65x8 32 := shapeCast S65x8 main_arg2 shapeCasts_S520_S65x8
  let main_v2 : IVec S65x512 32 := shapeCast S65x512 main_arg5 shapeCasts_S16640x2_S65x512
  let main_c : IVec S_ 32 := constantI S_ 32 0#32
  let main_v3 : IVec S65x512 32 := broadcastInDim S65x512 ![] bcast_S_S65x512 main_c
  let main_v4 : IVec S65x512 1 := cmpi .slt main_v2 main_v3
  let main_v5 : IVec S65x1 32 := (extractStridedSlice S65x1 ![0, 0] · slices_S65x8_S65x1_0_0) main_v0
  let main_v6 : IVec S65x512 32 := broadcastInDim S65x512 ![0, 1] bcast_S65x1_S65x512_0_1 main_v5
  let main_v7 : IVec S65x512 1 := cmpi .sge main_v2 main_v6
  let main_v8 : IVec S65x1 32 := (extractStridedSlice S65x1 ![0, 0] · slices_S65x8_S65x1_0_0) main_v1
  let main_v9 : IVec S65x512 32 := broadcastInDim S65x512 ![0, 1] bcast_S65x1_S65x512_0_1 main_v8
  let main_v10 : IVec S65x512 1 := cmpi .slt main_v2 main_v9
  let main_v11 : IVec S65x512 1 := andi main_v7 main_v10
  let main_v12 : IVec S65x512 1 := ori main_v4 main_v11
  let main_v13 : IVec S65x1 32 := (extractStridedSlice S65x1 ![0, 1] · slices_S65x8_S65x1_0_1) main_v0
  let main_v14 : IVec S65x512 32 := broadcastInDim S65x512 ![0, 1] bcast_S65x1_S65x512_0_1 main_v13
  let main_v15 : IVec S65x512 1 := cmpi .sge main_v2 main_v14
  let main_v16 : IVec S65x1 32 := (extractStridedSlice S65x1 ![0, 1] · slices_S65x8_S65x1_0_1) main_v1
  let main_v17 : IVec S65x512 32 := broadcastInDim S65x512 ![0, 1] bcast_S65x1_S65x512_0_1 main_v16
  let main_v18 : IVec S65x512 1 := cmpi .slt main_v2 main_v17
  let main_v19 : IVec S65x512 1 := andi main_v15 main_v18
  let main_v20 : IVec S65x512 1 := ori main_v12 main_v19
  let main_v21 : IVec S65x1 32 := (extractStridedSlice S65x1 ![0, 2] · slices_S65x8_S65x1_0_2) main_v0
  let main_v22 : IVec S65x512 32 := broadcastInDim S65x512 ![0, 1] bcast_S65x1_S65x512_0_1 main_v21
  fn_part1 (F := F) main_arg0 main_arg1 main_arg2 main_arg5 main_v0 main_v1 main_v2 main_v20 main_v22
-- ==== Pre_sorted_rows.lean ====
abbrev S8 : Shape := ⟨1, ![8]⟩
abbrev S43008x1024 : Shape := ⟨2, ![43008, 1024]⟩
abbrev S43008x1 : Shape := ⟨2, ![43008, 1]⟩
abbrev S8x1024x3584 : Shape := ⟨3, ![8, 1024, 3584]⟩
abbrev S8x3584x1024 : Shape := ⟨3, ![8, 3584, 1024]⟩
abbrev S_ : Shape := ⟨0, ![]⟩
abbrev S43008 : Shape := ⟨1, ![43008]⟩
abbrev S1x8 : Shape := ⟨2, ![1, 8]⟩
abbrev S43008x8 : Shape := ⟨2, ![43008, 8]⟩

class Facts : Prop where
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S43008_S43008x1_0 : S43008.BroadcastsInDim S43008x1 (![0] : Fin 1 → Fin S43008x1.rank)
  bcast_S8_S1x8_1 : S8.BroadcastsInDim S1x8 (![1] : Fin 1 → Fin S1x8.rank)
  bcast_S43008x1_S43008x8_0_1 : S43008x1.BroadcastsInDim S43008x8 (![0, 1] : Fin 2 → Fin S43008x8.rank)
  bcast_S1x8_S43008x8_0_1 : S1x8.BroadcastsInDim S43008x8 (![0, 1] : Fin 2 → Fin S43008x8.rank)
  reducesTo_S8_S_d0 : S8.ReducesTo [0] S_
  reducesTo_S43008x8_S43008_d1 : S43008x8.ReducesTo [1] S43008
  shapeCasts_S43008x1_S43008 : S43008x1.ShapeCasts S43008
  bcast_S_S43008 : S_.BroadcastsInDim S43008 (![] : Fin 0 → Fin S43008.rank)

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn_part1 {F : FTy → Type} [FloatOps F] (main_arg0 : IVec S8 32) (main_arg2 : FVec F S43008x1 .f32) (main_v14 : IVec S43008x8 1) (main_v18 : IVec S43008x8 32) (main_v19 : IVec S43008x8 32) : IVec S8 1 × IVec S8 1 × IVec S_ 1 × IVec S43008 1 :=
  let main_v20 : IVec S43008x8 1 := cmpi .slt main_v18 main_v19
  let main_v21 : IVec S43008x8 1 := andi main_v14 main_v20
  let main_c_3 : IVec S_ 32 := constantI S_ 32 0#32
  let main_v22 : IVec S8 32 := broadcastInDim S8 ![] bcast_S_S8 main_c_3
  let main_v23 : IVec S8 1 := cmpi .sge main_arg0 main_v22
  let main_c_4 : IVec S_ 32 := constantI S_ 32 33280#32
  let main_v24 : IVec S8 32 := broadcastInDim S8 ![] bcast_S_S8 main_c_4
  let main_v25 : IVec S8 1 := cmpi .sle main_arg0 main_v24
  let main_c_5 : IVec S_ 32 := constantI S_ 32 0#32
  let main_v26 : IVec S_ 32 := (fun x v => Host.reduce IntOp.addi x v reducesTo_S8_S_d0 h_S_) main_arg0 main_c_5
  let main_c_6 : IVec S_ 32 := constantI S_ 32 33280#32
  let main_v27 : IVec S_ 1 := cmpi .sle main_v26 main_c_6
  let main_c_7 : IVec S_ 1 := constantI S_ 1 0#1
  let main_v28 : IVec S43008 1 := (fun x v => Host.reduce IntOp.ori x v reducesTo_S43008x8_S43008_d1 h_S_) main_v21 main_c_7
  let main_v29 : FVec F S43008 .f32 := shapeCast S43008 main_arg2 shapeCasts_S43008x1_S43008
  let main_cst : FVec F S_ .f32 := constant S_ .f32 0x00000000#32
  let main_v30 : FVec F S43008 .f32 := broadcastInDim S43008 ![] bcast_S_S43008 main_cst
  let main_v31 : IVec S43008 1 := cmpf .oeq main_v29 main_v30
  let main_v32 : IVec S43008 1 := ori main_v28 main_v31
  (main_v23, main_v25, main_v27, main_v32)

def fn {F : FTy → Type} [FloatOps F] (main_arg0 : IVec S8 32) (main_arg1 : FVec F S43008x1024 .bf16) (main_arg2 : FVec F S43008x1 .f32) (main_arg3 : FVec F S8x1024x3584 .f32) (main_arg4 : FVec F S8x1024x3584 .f32) (main_arg5 : FVec F S8x3584x1024 .f32) : IVec S8 1 × IVec S8 1 × IVec S_ 1 × IVec S43008 1 :=
  let main_c : IVec S_ 32 := constantI S_ 32 1024#32
  let main_v0 : IVec S8 32 := broadcastInDim S8 ![] bcast_S_S8 main_c
  let main_v1 : IVec S8 32 := addi main_arg0 main_v0
  let main_c_0 : IVec S_ 32 := constantI S_ 32 1#32
  let main_v2 : IVec S8 32 := broadcastInDim S8 ![] bcast_S_S8 main_c_0
  let main_v3 : IVec S8 32 := subi main_v1 main_v2
  let main_c_1 : IVec S_ 32 := constantI S_ 32 1024#32
  let main_v4 : IVec S8 32 := fn_floor_divide (F := F) main_v3 main_c_1
  let main_c_2 : IVec S_ 32 := constantI S_ 32 1024#32
  let main_v5 : IVec S8 32 := broadcastInDim S8 ![] bcast_S_S8 main_c_2
  let main_v6 : IVec S8 32 := muli main_v4 main_v5
  let main_v7 : IVec S8 32 := fn_cumsum (F := F) main_v6
  let main_v8 : IVec S8 32 := subi main_v7 main_v6
  let main_v9 : IVec S43008 32 := iotaInDim S43008 32 0
  let main_v10 : IVec S43008x1 32 := broadcastInDim S43008x1 ![0] bcast_S43008_S43008x1_0 main_v9
  let main_v11 : IVec S1x8 32 := broadcastInDim S1x8 ![1] bcast_S8_S1x8_1 main_v8
  let main_v12 : IVec S43008x8 32 := broadcastInDim S43008x8 ![0, 1] bcast_S43008x1_S43008x8_0_1 main_v10
  let main_v13 : IVec S43008x8 32 := broadcastInDim S43008x8 ![0, 1] bcast_S1x8_S43008x8_0_1 main_v11
  let main_v14 : IVec S43008x8 1 := cmpi .sge main_v12 main_v13
  let main_v15 : IVec S1x8 32 := broadcastInDim S1x8 ![1] bcast_S8_S1x8_1 main_v8
  let main_v16 : IVec S1x8 32 := broadcastInDim S1x8 ![1] bcast_S8_S1x8_1 main_arg0
  let main_v17 : IVec S1x8 32 := addi main_v15 main_v16
  let main_v18 : IVec S43008x8 32 := broadcastInDim S43008x8 ![0, 1] bcast_S43008x1_S43008x8_0_1 main_v10
  let main_v19 : IVec S43008x8 32 := broadcastInDim S43008x8 ![0, 1] bcast_S1x8_S43008x8_0_1 main_v17
  fn_part1 (F := F) main_arg0 main_arg2 main_v14 main_v18 main_v19
-- ==== Kernel.lean ====
abbrev S520 : Shape := ⟨1, ![520]⟩
abbrev S16384x1024 : Shape := ⟨2, ![16384, 1024]⟩
abbrev S256x1024 : Shape := ⟨2, ![256, 1024]⟩
abbrev S16640x2 : Shape := ⟨2, ![16640, 2]⟩
abbrev S43008x1024 : Shape := ⟨2, ![43008, 1024]⟩
abbrev S1024 : Shape := ⟨1, ![1024]⟩
abbrev S1x1024 : Shape := ⟨2, ![1, 1024]⟩
abbrev S256x2 : Shape := ⟨2, ![256, 2]⟩
abbrev S1 : Shape := ⟨1, ![1]⟩
abbrev S16x1024 : Shape := ⟨2, ![16, 1024]⟩
abbrev S256x256 : Shape := ⟨2, ![256, 256]⟩
abbrev S256x1 : Shape := ⟨2, ![256, 1]⟩
abbrev S256x16 : Shape := ⟨2, ![256, 16]⟩
abbrev S256 : Shape := ⟨1, ![256]⟩

abbrev nBuf : Space → Nat
  | .hbm => 8
  | .vmem => 42
  | .smem => 3
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S16640x2, .i32⟩
  | .hbm, ⟨3, _⟩ => ⟨S43008x1024, .bf16⟩
  | .hbm, ⟨4, _⟩ => ⟨S1024, .f32⟩
  | .hbm, ⟨5, _⟩ => ⟨S1x1024, .f32⟩
  | .hbm, ⟨6, _⟩ => ⟨S16384x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x2, .i32⟩
  | .local _ .vmem, ⟨4, _⟩ => ⟨S256x2, .i32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S16x1024, .bf16⟩
  | .local _ .vmem, ⟨23, _⟩ => ⟨S16x1024, .bf16⟩
  | .local _ .vmem, ⟨24, _⟩ => ⟨S16x1024, .bf16⟩
  | .local _ .vmem, ⟨25, _⟩ => ⟨S16x1024, .bf16⟩
  | .local _ .vmem, ⟨26, _⟩ => ⟨S16x1024, .bf16⟩
  | .local _ .vmem, ⟨27, _⟩ => ⟨S16x1024, .bf16⟩
  | .local _ .vmem, ⟨28, _⟩ => ⟨S16x1024, .bf16⟩
  | .local _ .vmem, ⟨29, _⟩ => ⟨S16x1024, .bf16⟩
  | .local _ .vmem, ⟨30, _⟩ => ⟨S16x1024, .bf16⟩
  | .local _ .vmem, ⟨31, _⟩ => ⟨S16x1024, .bf16⟩
  | .local _ .vmem, ⟨32, _⟩ => ⟨S16x1024, .bf16⟩
  | .local _ .vmem, ⟨33, _⟩ => ⟨S16x1024, .bf16⟩
  | .local _ .vmem, ⟨34, _⟩ => ⟨S16x1024, .bf16⟩
  | .local _ .vmem, ⟨35, _⟩ => ⟨S16x1024, .bf16⟩
  | .local _ .vmem, ⟨36, _⟩ => ⟨S16x1024, .bf16⟩
  | .local _ .vmem, ⟨37, _⟩ => ⟨S16x1024, .bf16⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .smem, ⟨0, _⟩ => ⟨S520, .i32⟩
  | .local _ .smem, ⟨1, _⟩ => ⟨S520, .i32⟩
  | .local _ .smem, ⟨2, _⟩ => ⟨S520, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40

abbrev nD : Nat := 1
abbrev τ : Topo := Topo.v7x

variable {F : FTy → Type} [FloatOps F]

abbrev grid0 : Pipeline.Grid := ⟨1, ![65], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k0_mult1 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.atD 0 ![v2.toNat]
  let c0_i32_0 : BitVec 32 := 0#32
  let v4 : BitVec 32 := Scalar.addi v3 c0_i32_0
  let c16_i32 : BitVec 32 := 16#32
  let v5 : BitVec 32 := Scalar.muli v4 c16_i32
  v5

def k0_mult2 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.atD 0 ![v2.toNat]
  let c0_i32 : BitVec 32 := 0#32
  let v4 : BitVec 32 := Scalar.addi v3 c0_i32
  let c16_i32 : BitVec 32 := 16#32
  let v5 : BitVec 32 := Scalar.muli v4 c16_i32
  v5

def k0_mult3 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.atD 0 ![v2.toNat]
  let c0_i32 : BitVec 32 := 0#32
  let v4 : BitVec 32 := Scalar.addi v3 c0_i32
  let c16_i32 : BitVec 32 := 16#32
  let v5 : BitVec 32 := Scalar.muli v4 c16_i32
  v5

def k0_mult4 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.atD 0 ![v2.toNat]
  let c0_i32 : BitVec 32 := 0#32
  let v4 : BitVec 32 := Scalar.addi v3 c0_i32
  let c16_i32 : BitVec 32 := 16#32
  let v5 : BitVec 32 := Scalar.muli v4 c16_i32
  v5

def k0_mult5 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.atD 0 ![v2.toNat]
  let c0_i32 : BitVec 32 := 0#32
  let v4 : BitVec 32 := Scalar.addi v3 c0_i32
  let c16_i32 : BitVec 32 := 16#32
  let v5 : BitVec 32 := Scalar.muli v4 c16_i32
  v5

def k0_mult6 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.atD 0 ![v2.toNat]
  let c0_i32 : BitVec 32 := 0#32
  let v4 : BitVec 32 := Scalar.addi v3 c0_i32
  let c16_i32 : BitVec 32 := 16#32
  let v5 : BitVec 32 := Scalar.muli v4 c16_i32
  v5

def k0_mult7 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.atD 0 ![v2.toNat]
  let c0_i32 : BitVec 32 := 0#32
  let v4 : BitVec 32 := Scalar.addi v3 c0_i32
  let c16_i32 : BitVec 32 := 16#32
  let v5 : BitVec 32 := Scalar.muli v4 c16_i32
  v5

def k0_mult8 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.atD 0 ![v2.toNat]
  let c0_i32 : BitVec 32 := 0#32
  let v4 : BitVec 32 := Scalar.addi v3 c0_i32
  let c16_i32 : BitVec 32 := 16#32
  let v5 : BitVec 32 := Scalar.muli v4 c16_i32
  v5

def k0_mult9 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_mult10 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_mult11 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_mult12 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_mult13 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_mult14 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_mult15 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_mult16 (pf : pre0.Contents (Elt F)) (i : grid0.Coords) : BitVec 32 :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.atD 0 ![v2.toNat]
  let c16_i32 : BitVec 32 := 16#32
  let v4 : BitVec 32 := Scalar.addi v3 c16_i32
  let c16_i32_0 : BitVec 32 := 16#32
  let v5 : BitVec 32 := Scalar.muli v4 c16_i32_0
  v5

def k0_off2 (i : grid0.Coords) : Fin 1 → Nat :=
  let arg0 : BitVec 32 := BitVec.ofNat 32 (i 0).val
  let c8_i32_45 : BitVec 32 := 8#32
  let v123 : BitVec 32 := Scalar.muli arg0 c8_i32_45
  let c0_i32_46 : BitVec 32 := 0#32
  let v124 : BitVec 32 := Scalar.addi v123 c0_i32_46
  let v125 : Index := Scalar.indexCast v124
  ![v125.toNat]
def k0_off3 (i : grid0.Coords) : Fin 1 → Nat :=
  let arg0 : BitVec 32 := BitVec.ofNat 32 (i 0).val
  let c8_i32_6 : BitVec 32 := 8#32
  let v17 : BitVec 32 := Scalar.muli arg0 c8_i32_6
  let c1_i32 : BitVec 32 := 1#32
  let v18 : BitVec 32 := Scalar.addi v17 c1_i32
  let v19 : Index := Scalar.indexCast v18
  ![v19.toNat]
def k0_off4 (i : grid0.Coords) : Fin 1 → Nat :=
  let arg0 : BitVec 32 := BitVec.ofNat 32 (i 0).val
  let c8_i32_45 : BitVec 32 := 8#32
  let v123 : BitVec 32 := Scalar.muli arg0 c8_i32_45
  let c1_i32_46 : BitVec 32 := 1#32
  let v124 : BitVec 32 := Scalar.addi v123 c1_i32_46
  let v125 : Index := Scalar.indexCast v124
  ![v125.toNat]
def k0_off5 (i : grid0.Coords) : Fin 1 → Nat :=
  let arg0 : BitVec 32 := BitVec.ofNat 32 (i 0).val
  let c8_i32_10 : BitVec 32 := 8#32
  let v28 : BitVec 32 := Scalar.muli arg0 c8_i32_10
  let c2_i32 : BitVec 32 := 2#32
  let v29 : BitVec 32 := Scalar.addi v28 c2_i32
  let v30 : Index := Scalar.indexCast v29
  ![v30.toNat]
def k0_off6 (i : grid0.Coords) : Fin 1 → Nat :=
  let arg0 : BitVec 32 := BitVec.ofNat 32 (i 0).val
  let c8_i32_45 : BitVec 32 := 8#32
  let v123 : BitVec 32 := Scalar.muli arg0 c8_i32_45
  let c2_i32_46 : BitVec 32 := 2#32
  let v124 : BitVec 32 := Scalar.addi v123 c2_i32_46
  let v125 : Index := Scalar.indexCast v124
  ![v125.toNat]
def k0_off7 (i : grid0.Coords) : Fin 1 → Nat :=
  let arg0 : BitVec 32 := BitVec.ofNat 32 (i 0).val
  let c8_i32_14 : BitVec 32 := 8#32
  let v39 : BitVec 32 := Scalar.muli arg0 c8_i32_14
  let c3_i32 : BitVec 32 := 3#32
  let v40 : BitVec 32 := Scalar.addi v39 c3_i32
  let v41 : Index := Scalar.indexCast v40
  ![v41.toNat]
def k0_off8 (i : grid0.Coords) : Fin 1 → Nat :=
  let arg0 : BitVec 32 := BitVec.ofNat 32 (i 0).val
  let c8_i32_45 : BitVec 32 := 8#32
  let v123 : BitVec 32 := Scalar.muli arg0 c8_i32_45
  let c3_i32_46 : BitVec 32 := 3#32
  let v124 : BitVec 32 := Scalar.addi v123 c3_i32_46
  let v125 : Index := Scalar.indexCast v124
  ![v125.toNat]
def k0_off9 (i : grid0.Coords) : Fin 1 → Nat :=
  let arg0 : BitVec 32 := BitVec.ofNat 32 (i 0).val
  let c8_i32_18 : BitVec 32 := 8#32
  let v50 : BitVec 32 := Scalar.muli arg0 c8_i32_18
  let c4_i32 : BitVec 32 := 4#32
  let v51 : BitVec 32 := Scalar.addi v50 c4_i32
  let v52 : Index := Scalar.indexCast v51
  ![v52.toNat]
def k0_off10 (i : grid0.Coords) : Fin 1 → Nat :=
  let arg0 : BitVec 32 := BitVec.ofNat 32 (i 0).val
  let c8_i32_45 : BitVec 32 := 8#32
  let v123 : BitVec 32 := Scalar.muli arg0 c8_i32_45
  let c4_i32_46 : BitVec 32 := 4#32
  let v124 : BitVec 32 := Scalar.addi v123 c4_i32_46
  let v125 : Index := Scalar.indexCast v124
  ![v125.toNat]
def k0_off11 (i : grid0.Coords) : Fin 1 → Nat :=
  let arg0 : BitVec 32 := BitVec.ofNat 32 (i 0).val
  let c8_i32_22 : BitVec 32 := 8#32
  let v61 : BitVec 32 := Scalar.muli arg0 c8_i32_22
  let c5_i32 : BitVec 32 := 5#32
  let v62 : BitVec 32 := Scalar.addi v61 c5_i32
  let v63 : Index := Scalar.indexCast v62
  ![v63.toNat]
def k0_off12 (i : grid0.Coords) : Fin 1 → Nat :=
  let arg0 : BitVec 32 := BitVec.ofNat 32 (i 0).val
  let c8_i32_45 : BitVec 32 := 8#32
  let v123 : BitVec 32 := Scalar.muli arg0 c8_i32_45
  let c5_i32_46 : BitVec 32 := 5#32
  let v124 : BitVec 32 := Scalar.addi v123 c5_i32_46
  let v125 : Index := Scalar.indexCast v124
  ![v125.toNat]
def k0_off13 (i : grid0.Coords) : Fin 1 → Nat :=
  let arg0 : BitVec 32 := BitVec.ofNat 32 (i 0).val
  let c8_i32_26 : BitVec 32 := 8#32
  let v72 : BitVec 32 := Scalar.muli arg0 c8_i32_26
  let c6_i32 : BitVec 32 := 6#32
  let v73 : BitVec 32 := Scalar.addi v72 c6_i32
  let v74 : Index := Scalar.indexCast v73
  ![v74.toNat]
def k0_off14 (i : grid0.Coords) : Fin 1 → Nat :=
  let arg0 : BitVec 32 := BitVec.ofNat 32 (i 0).val
  let c8_i32_45 : BitVec 32 := 8#32
  let v123 : BitVec 32 := Scalar.muli arg0 c8_i32_45
  let c6_i32_46 : BitVec 32 := 6#32
  let v124 : BitVec 32 := Scalar.addi v123 c6_i32_46
  let v125 : Index := Scalar.indexCast v124
  ![v125.toNat]
def k0_off15 (i : grid0.Coords) : Fin 1 → Nat :=
  let arg0 : BitVec 32 := BitVec.ofNat 32 (i 0).val
  let c8_i32_30 : BitVec 32 := 8#32
  let v83 : BitVec 32 := Scalar.muli arg0 c8_i32_30
  let c7_i32 : BitVec 32 := 7#32
  let v84 : BitVec 32 := Scalar.addi v83 c7_i32
  let v85 : Index := Scalar.indexCast v84
  ![v85.toNat]
def k0_off16 (i : grid0.Coords) : Fin 1 → Nat :=
  let arg0 : BitVec 32 := BitVec.ofNat 32 (i 0).val
  let c8_i32_45 : BitVec 32 := 8#32
  let v123 : BitVec 32 := Scalar.muli arg0 c8_i32_45
  let c7_i32_46 : BitVec 32 := 7#32
  let v124 : BitVec 32 := Scalar.addi v123 c7_i32_46
  let v125 : Index := Scalar.indexCast v124
  ![v125.toNat]
def k0_cond19 (i : grid0.Coords) : BitVec 1 :=
  let arg0 : BitVec 32 := BitVec.ofNat 32 (i 0).val
  let c64_i32_39 : BitVec 32 := 64#32
  let v109 : BitVec 1 := Scalar.cmpi .slt arg0 c64_i32_39
  let v110 : BitVec 32 := Scalar.extui v109
  let c0_i32_40 : BitVec 32 := 0#32
  let v111 : BitVec 1 := Scalar.cmpi .ne v110 c0_i32_40
  v111

def k0_cond20 (i : grid0.Coords) : BitVec 1 :=
  let arg0 : BitVec 32 := BitVec.ofNat 32 (i 0).val
  let c64_i32_41 : BitVec 32 := 64#32
  let v112 : BitVec 1 := Scalar.cmpi .eq arg0 c64_i32_41
  let v113 : BitVec 32 := Scalar.extui v112
  let c0_i32_42 : BitVec 32 := 0#32
  let v114 : BitVec 1 := Scalar.cmpi .ne v113 c0_i32_42
  v114

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S520) ![v2.toNat] S1.size (k0_off1_inb i 0)) numel1_S1
  let c0_i32_0 : BitVec 32 := 0#32
  let v4 : BitVec 32 := Scalar.addi v3 c0_i32_0
  let c16_i32 : BitVec 32 := 16#32
  let v5 : BitVec 32 := Scalar.muli v4 c16_i32
  let v6 : BitVec 32 := v5
  let c0_i32_1 : BitVec 32 := 0#32
  let c0_i32_2 : BitVec 32 := 0#32
  ![v6.toNat, c0_i32_1.toNat]

def cc0_transform_5 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S520) ![v2.toNat] S1.size (k0_off1_inb i 1)) numel1_S1
  let c0_i32 : BitVec 32 := 0#32
  let v4 : BitVec 32 := Scalar.addi v3 c0_i32
  let c16_i32 : BitVec 32 := 16#32
  let v5 : BitVec 32 := Scalar.muli v4 c16_i32
  let v6 : BitVec 32 := v5
  let c0_i32_0 : BitVec 32 := 0#32
  let c0_i32_1 : BitVec 32 := 0#32
  ![v6.toNat, c0_i32_0.toNat]

def cc0_transform_6 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S520) ![v2.toNat] S1.size (k0_off1_inb i 2)) numel1_S1
  let c0_i32 : BitVec 32 := 0#32
  let v4 : BitVec 32 := Scalar.addi v3 c0_i32
  let c16_i32 : BitVec 32 := 16#32
  let v5 : BitVec 32 := Scalar.muli v4 c16_i32
  let v6 : BitVec 32 := v5
  let c0_i32_0 : BitVec 32 := 0#32
  let c0_i32_1 : BitVec 32 := 0#32
  ![v6.toNat, c0_i32_0.toNat]

def cc0_transform_7 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S520) ![v2.toNat] S1.size (k0_off1_inb i 3)) numel1_S1
  let c0_i32 : BitVec 32 := 0#32
  let v4 : BitVec 32 := Scalar.addi v3 c0_i32
  let c16_i32 : BitVec 32 := 16#32
  let v5 : BitVec 32 := Scalar.muli v4 c16_i32
  let v6 : BitVec 32 := v5
  let c0_i32_0 : BitVec 32 := 0#32
  let c0_i32_1 : BitVec 32 := 0#32
  ![v6.toNat, c0_i32_0.toNat]

def cc0_transform_8 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S520) ![v2.toNat] S1.size (k0_off1_inb i 4)) numel1_S1
  let c0_i32 : BitVec 32 := 0#32
  let v4 : BitVec 32 := Scalar.addi v3 c0_i32
  let c16_i32 : BitVec 32 := 16#32
  let v5 : BitVec 32 := Scalar.muli v4 c16_i32
  let v6 : BitVec 32 := v5
  let c0_i32_0 : BitVec 32 := 0#32
  let c0_i32_1 : BitVec 32 := 0#32
  ![v6.toNat, c0_i32_0.toNat]

def cc0_transform_9 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S520) ![v2.toNat] S1.size (k0_off1_inb i 5)) numel1_S1
  let c0_i32 : BitVec 32 := 0#32
  let v4 : BitVec 32 := Scalar.addi v3 c0_i32
  let c16_i32 : BitVec 32 := 16#32
  let v5 : BitVec 32 := Scalar.muli v4 c16_i32
  let v6 : BitVec 32 := v5
  let c0_i32_0 : BitVec 32 := 0#32
  let c0_i32_1 : BitVec 32 := 0#32
  ![v6.toNat, c0_i32_0.toNat]

def cc0_transform_10 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S520) ![v2.toNat] S1.size (k0_off1_inb i 6)) numel1_S1
  let c0_i32 : BitVec 32 := 0#32
  let v4 : BitVec 32 := Scalar.addi v3 c0_i32
  let c16_i32 : BitVec 32 := 16#32
  let v5 : BitVec 32 := Scalar.muli v4 c16_i32
  let v6 : BitVec 32 := v5
  let c0_i32_0 : BitVec 32 := 0#32
  let c0_i32_1 : BitVec 32 := 0#32
  ![v6.toNat, c0_i32_0.toNat]

def cc0_transform_11 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S520) ![v2.toNat] S1.size (k0_off1_inb i 7)) numel1_S1
  let c0_i32 : BitVec 32 := 0#32
  let v4 : BitVec 32 := Scalar.addi v3 c0_i32
  let c16_i32 : BitVec 32 := 16#32
  let v5 : BitVec 32 := Scalar.muli v4 c16_i32
  let v6 : BitVec 32 := v5
  let c0_i32_0 : BitVec 32 := 0#32
  let c0_i32_1 : BitVec 32 := 0#32
  ![v6.toNat, c0_i32_0.toNat]

def cc0_transform_12 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S520) ![v2.toNat] S1.size (k0_off1_inb i 0)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32_1 : BitVec 32 := 0#32
  let c0_i32_2 : BitVec 32 := 0#32
  ![v6.toNat, c0_i32_1.toNat]

def cc0_transform_13 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S520) ![v2.toNat] S1.size (k0_off1_inb i 1)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32 : BitVec 32 := 0#32
  let c0_i32_1 : BitVec 32 := 0#32
  ![v6.toNat, c0_i32.toNat]

def cc0_transform_14 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S520) ![v2.toNat] S1.size (k0_off1_inb i 2)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32 : BitVec 32 := 0#32
  let c0_i32_1 : BitVec 32 := 0#32
  ![v6.toNat, c0_i32.toNat]

def cc0_transform_15 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S520) ![v2.toNat] S1.size (k0_off1_inb i 3)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32 : BitVec 32 := 0#32
  let c0_i32_1 : BitVec 32 := 0#32
  ![v6.toNat, c0_i32.toNat]

def cc0_transform_16 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S520) ![v2.toNat] S1.size (k0_off1_inb i 4)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32 : BitVec 32 := 0#32
  let c0_i32_1 : BitVec 32 := 0#32
  ![v6.toNat, c0_i32.toNat]

def cc0_transform_17 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S520) ![v2.toNat] S1.size (k0_off1_inb i 5)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32 : BitVec 32 := 0#32
  let c0_i32_1 : BitVec 32 := 0#32
  ![v6.toNat, c0_i32.toNat]

def cc0_transform_18 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S520) ![v2.toNat] S1.size (k0_off1_inb i 6)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32 : BitVec 32 := 0#32
  let c0_i32_1 : BitVec 32 := 0#32
  ![v6.toNat, c0_i32.toNat]

def cc0_transform_19 (k0_off1_inb : ∀ i : grid0.Coords, ∀ (r : Fin 8), ∀ a, (k0_off1 i (BitVec.ofNat 32 r.val)) a + S1.size a ≤ S520.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S520) ![v2.toNat] S1.size (k0_off1_inb i 7)) numel1_S1
  let c16_i32 : BitVec 32 := 16#32
  let v4 : BitVec 32 := Scalar.addi v3 c16_i32
  let c16_i32_0 : BitVec 32 := 16#32
  let v5 : BitVec 32 := Scalar.muli v4 c16_i32_0
  let v6 : BitVec 32 := v5
  let c0_i32 : BitVec 32 := 0#32
  let c0_i32_1 : BitVec 32 := 0#32
  ![v6.toNat, c0_i32.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S520 : Shape := ⟨1, ![520]⟩
abbrev S16384x1024 : Shape := ⟨2, ![16384, 1024]⟩
abbrev S256x1024 : Shape := ⟨2, ![256, 1024]⟩
abbrev S16640x2 : Shape := ⟨2, ![16640, 2]⟩
abbrev S43008x1024 : Shape := ⟨2, ![43008, 1024]⟩
abbrev S1024 : Shape := ⟨1, ![1024]⟩
abbrev S16640x2x1 : Shape := ⟨3, ![16640, 2, 1]⟩
abbrev S_ : Shape := ⟨0, ![]⟩
abbrev S16640x2x1024 : Shape := ⟨3, ![16640, 2, 1024]⟩
abbrev S16640x1024 : Shape := ⟨2, ![16640, 1024]⟩
abbrev S16640 : Shape := ⟨1, ![16640]⟩
abbrev S16640x1 : Shape := ⟨2, ![16640, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S520, .i32⟩
  | .hbm, ⟨1, _⟩ => ⟨S520, .i32⟩
  | .hbm, ⟨2, _⟩ => ⟨S520, .i32⟩
  | .hbm, ⟨3, _⟩ => ⟨S16384x1024, .f32⟩
  | .hbm, ⟨4, _⟩ => ⟨S256x1024, .f32⟩
  | .hbm, ⟨5, _⟩ => ⟨S16640x2, .i32⟩
  | .hbm, ⟨6, _⟩ => ⟨S43008x1024, .bf16⟩
  | .hbm, ⟨7, _⟩ => ⟨S1024, .f32⟩
  | .hbm, ⟨8, _⟩ => ⟨S16640x2x1, .i32⟩
  | .hbm, ⟨9, _⟩ => ⟨S_, .i32⟩
  | .hbm, ⟨10, _⟩ => ⟨S16640x2x1, .i32⟩
  | .hbm, ⟨11, _⟩ => ⟨S16640x2x1, .i1⟩
  | .hbm, ⟨12, _⟩ => ⟨S43008x1024, .f32⟩
  | .hbm, ⟨13, _⟩ => ⟨S_, .i32⟩
  | .hbm, ⟨14, _⟩ => ⟨S16640x2, .i32⟩
  | .hbm, ⟨15, _⟩ => ⟨S16640x2, .i32⟩
  | .hbm, ⟨16, _⟩ => ⟨S_, .i32⟩
  | .hbm, ⟨17, _⟩ => ⟨S16640x2, .i32⟩
  | .hbm, ⟨18, _⟩ => ⟨S16640x2, .i1⟩
  | .hbm, ⟨19, _⟩ => ⟨S_, .i32⟩
  | .hbm, ⟨20, _⟩ => ⟨S16640x2, .i32⟩
  | .hbm, ⟨21, _⟩ => ⟨S16640x2, .i32⟩
  | .hbm, ⟨22, _⟩ => ⟨S16640x2, .i32⟩
  | .hbm, ⟨23, _⟩ => ⟨S16640x2x1, .i32⟩
  | .hbm, ⟨24, _⟩ => ⟨S16640x2x1024, .f32⟩
  | .hbm, ⟨25, _⟩ => ⟨S_, .f32⟩
  | .hbm, ⟨26, _⟩ => ⟨S_, .f32⟩
  | .hbm, ⟨27, _⟩ => ⟨S16640x2x1024, .i1⟩
  | .hbm, ⟨28, _⟩ => ⟨S16640x2x1024, .f32⟩
  | .hbm, ⟨29, _⟩ => ⟨S16640x2x1024, .f32⟩
  | .hbm, ⟨30, _⟩ => ⟨S16640x1024, .f32⟩
  | .hbm, ⟨31, _⟩ => ⟨S_, .f32⟩
  | .hbm, ⟨32, _⟩ => ⟨S16640x1024, .f32⟩
  | .hbm, ⟨33, _⟩ => ⟨S16640x1024, .f32⟩
  | .hbm, ⟨34, _⟩ => ⟨S16640x1024, .f32⟩
  | .hbm, ⟨35, _⟩ => ⟨S_, .f32⟩
  | .hbm, ⟨36, _⟩ => ⟨S16640, .f32⟩
  | .hbm, ⟨37, _⟩ => ⟨S16640x1, .f32⟩
  | .hbm, ⟨38, _⟩ => ⟨S_, .f32⟩
  | .hbm, ⟨39, _⟩ => ⟨S16640x1, .f32⟩
  | .hbm, ⟨40, _⟩ => ⟨S16640x1, .f32⟩
  | .hbm, ⟨41, _⟩ => ⟨S_, .f32⟩
  | .hbm, ⟨42, _⟩ => ⟨S16640x1, .f32⟩
  | .hbm, ⟨43, _⟩ => ⟨S16640x1, .f32⟩
  | .hbm, ⟨44, _⟩ => ⟨S16640x1, .f32⟩
  | .hbm, ⟨45, _⟩ => ⟨S16640x1024, .f32⟩
  | .hbm, ⟨46, _⟩ => ⟨S16640x1024, .f32⟩
  | .hbm, ⟨47, _⟩ => ⟨S1x1024, .f32⟩
  | .hbm, ⟨48, _⟩ => ⟨S16640x1024, .f32⟩
  | .hbm, ⟨49, _⟩ => ⟨S16640x1024, .f32⟩
  | .hbm, ⟨50, _⟩ => ⟨S16384x1024, .f32⟩
  | .hbm, ⟨51, _⟩ => ⟨S256x1024, .f32⟩
  | _, _ => ⟨S520, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel2.lean ====
abbrev S8 : Shape := ⟨1, ![8]⟩
abbrev S43008x1024 : Shape := ⟨2, ![43008, 1024]⟩
abbrev S43008x1 : Shape := ⟨2, ![43008, 1]⟩
abbrev S8x1024x3584 : Shape := ⟨3, ![8, 1024, 3584]⟩
abbrev S8x3584x1024 : Shape := ⟨3, ![8, 3584, 1024]⟩
abbrev S_ : Shape := ⟨0, ![]⟩
abbrev S1 : Shape := ⟨1, ![1]⟩
abbrev S42 : Shape := ⟨1, ![42]⟩
abbrev S42x1 : Shape := ⟨2, ![42, 1]⟩
abbrev S1x8 : Shape := ⟨2, ![1, 8]⟩
abbrev S42x8 : Shape := ⟨2, ![42, 8]⟩
abbrev S1024x1024 : Shape := ⟨2, ![1024, 1024]⟩
abbrev S1024x1 : Shape := ⟨2, ![1024, 1]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x1024 : Shape := ⟨2, ![256, 1024]⟩
abbrev S256x512 : Shape := ⟨2, ![256, 512]⟩

abbrev nBuf : Space → Nat
  | .hbm => 98
  | .vmem => 13
  | .smem => 2
  | _ => 0

abbrev bufTy : (tb : Table) → Fin (tcTables nBuf tb) → BufTy
  | .hbm, ⟨0, _⟩ => ⟨S8, .i32⟩
  | .hbm, ⟨1, _⟩ => ⟨S43008x1024, .bf16⟩
  | .hbm, ⟨2, _⟩ => ⟨S43008x1, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S1, .i32⟩
  | .hbm, ⟨38, _⟩ => ⟨S_, .i32⟩
  | .hbm, ⟨39, _⟩ => ⟨S42, .i32⟩
  | .hbm, ⟨40, _⟩ => ⟨S_, .i32⟩
  | .hbm, ⟨41, _⟩ => ⟨S42, .i32⟩
  | .hbm, ⟨42, _⟩ => ⟨S42, .i32⟩
  | .hbm, ⟨43, _⟩ => ⟨S42x1, .i32⟩
  | .hbm, ⟨44, _⟩ => ⟨S1x8, .i32⟩
  | .hbm, ⟨45, _⟩ => ⟨S42x8, .i32⟩
  | .hbm, ⟨46, _⟩ => ⟨S42x8, .i32⟩
  | .hbm, ⟨47, _⟩ => ⟨S42x8, .i1⟩
  | .hbm, ⟨48, _⟩ => ⟨S42x8, .i32⟩
  | .hbm, ⟨49, _⟩ => ⟨S_, .i32⟩
  | .hbm, ⟨50, _⟩ => ⟨S42, .i32⟩
  | .hbm, ⟨51, _⟩ => ⟨S_, .i32⟩
  | .hbm, ⟨52, _⟩ => ⟨S42, .i32⟩
  | .hbm, ⟨53, _⟩ => ⟨S8, .i32⟩
  | .hbm, ⟨54, _⟩ => ⟨S_, .i32⟩
  | .hbm, ⟨55, _⟩ => ⟨S42, .i32⟩
  | .hbm, ⟨56, _⟩ => ⟨S42, .i1⟩
  | .hbm, ⟨57, _⟩ => ⟨S_, .i32⟩
  | .hbm, ⟨58, _⟩ => ⟨S42, .i32⟩
  | .hbm, ⟨59, _⟩ => ⟨S42, .i32⟩
  | .hbm, ⟨60, _⟩ => ⟨S42, .i32⟩
  | .hbm, ⟨61, _⟩ => ⟨S42x1, .i32⟩
  | .hbm, ⟨62, _⟩ => ⟨S42, .i32⟩
  | .hbm, ⟨63, _⟩ => ⟨S42, .i32⟩
  | .hbm, ⟨64, _⟩ => ⟨S42, .i32⟩
  | .hbm, ⟨65, _⟩ => ⟨S42, .i1⟩
  | .hbm, ⟨66, _⟩ => ⟨S42, .i32⟩
  | .hbm, ⟨67, _⟩ => ⟨S_, .i32⟩
  | .hbm, ⟨68, _⟩ => ⟨S_, .i32⟩
  | .hbm, ⟨69, _⟩ => ⟨S42, .i32⟩
  | .hbm, ⟨70, _⟩ => ⟨S42, .i32⟩
  | .hbm, ⟨71, _⟩ => ⟨S42, .i32⟩
  | .hbm, ⟨72, _⟩ => ⟨S_, .i32⟩
  | .hbm, ⟨73, _⟩ => ⟨S42, .i32⟩
  | .hbm, ⟨74, _⟩ => ⟨S42, .i1⟩
  | .hbm, ⟨75, _⟩ => ⟨S42, .i32⟩
  | .hbm, ⟨76, _⟩ => ⟨S42, .i32⟩
  | .hbm, ⟨77, _⟩ => ⟨S_, .i32⟩
  | .hbm, ⟨78, _⟩ => ⟨S42, .i32⟩
  | .hbm, ⟨79, _⟩ => ⟨S42, .i1⟩
  | .hbm, ⟨80, _⟩ => ⟨S42, .i1⟩
  | .hbm, ⟨81, _⟩ => ⟨S_, .i32⟩
  | .hbm, ⟨82, _⟩ => ⟨S42, .i32⟩
  | .hbm, ⟨83, _⟩ => ⟨S42, .i32⟩
  | .hbm, ⟨84, _⟩ => ⟨S42, .i32⟩
  | .hbm, ⟨85, _⟩ => ⟨S42, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S42, .i32⟩
  | .hbm, ⟨90, _⟩ => ⟨S42, .i32⟩
  | .hbm, ⟨91, _⟩ => ⟨S_, .i32⟩
  | .hbm, ⟨92, _⟩ => ⟨S42, .i32⟩
  | .hbm, ⟨93, _⟩ => ⟨S42, .i32⟩
  | .hbm, ⟨94, _⟩ => ⟨S_, .i32⟩
  | .hbm, ⟨95, _⟩ => ⟨S_, .i32⟩
  | .hbm, ⟨96, _⟩ => ⟨S42, .i32⟩
  | .hbm, ⟨97, _⟩ => ⟨S43008x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1, .f32⟩
  | .local _ .vmem, ⟨3, _⟩ => ⟨S1024x1, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .smem, ⟨0, _⟩ => ⟨S42, .i32⟩
  | .local _ .smem, ⟨1, _⟩ => ⟨S42, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_c_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_c : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_v35 : Ref sig .tc := ⟨.hbm, 84, rfl⟩
abbrev main_v36 : Ref sig .tc := ⟨.hbm, 85, rfl⟩
abbrev main_c_9 : Ref sig .tc := ⟨.hbm, 86, rfl⟩
abbrev main_c_10 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v37 : Ref sig .tc := ⟨.hbm, 93, rfl⟩
abbrev main_c_11 : Ref sig .tc := ⟨.hbm, 94, rfl⟩
abbrev main_call4_v0 : Ref sig .tc := ⟨.hbm, 95, rfl⟩
abbrev main_call4_v1 : Ref sig .tc := ⟨.hbm, 96, rfl⟩
abbrev main_v39 : Ref sig .tc := ⟨.hbm, 97, rfl⟩
abbrev main_v22 : Ref sig .tc := ⟨.smem, 0, rfl⟩
abbrev main_v38 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![42, 7], ![false, false]⟩

abbrev pre0 : Pipeline.Prefetch sig := ⟨2, ![main_v22.idx, main_v38.idx], fun | 0 => main_v22.names | 1 => main_v38.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond7 (i : grid0.Coords) : BitVec 1 :=
  let arg1 : BitVec 32 := BitVec.ofNat 32 (i 1).val
  let c6_i32_21 : BitVec 32 := 6#32
  let v40 : BitVec 1 := Scalar.cmpi .eq arg1 c6_i32_21
  let v41 : BitVec 32 := Scalar.extui v40
  let c0_i32_22 : BitVec 32 := 0#32
  let v42 : BitVec 1 := Scalar.cmpi .ne v41 c0_i32_22
  v42

def k0_cond8 (i : grid0.Coords) (v1 : BitVec 32) : BitVec 1 :=
  let c0_i32_1 : BitVec 32 := 0#32
  let v5 : BitVec 1 := Scalar.cmpi .eq v1 c0_i32_1
  let arg1 : BitVec 32 := BitVec.ofNat 32 (i 1).val
  let c6_i32 : BitVec 32 := 6#32
  let v6 : BitVec 1 := Scalar.cmpi .eq arg1 c6_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_4 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let v2 : Index := Scalar.indexCast arg0
  let v3 : BitVec 32 := pf.at 1 (Rect.unit (s := S42) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8 : Shape := ⟨1, ![8]⟩
abbrev S43008x1024 : Shape := ⟨2, ![43008, 1024]⟩
abbrev S43008x1 : Shape := ⟨2, ![43008, 1]⟩
abbrev S8x1024x3584 : Shape := ⟨3, ![8, 1024, 3584]⟩
abbrev S8x3584x1024 : Shape := ⟨3, ![8, 3584, 1024]⟩
abbrev S_ : Shape := ⟨0, ![]⟩
abbrev S43008 : Shape := ⟨1, ![43008]⟩
abbrev S1 : Shape := ⟨1, ![1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S43008x3584 : Shape := ⟨2, ![43008, 3584]⟩

abbrev nBuf : Space → Nat
  | .hbm => 354
  | .vmem => 0
  | .smem => 0
  | _ => 0

abbrev hbmTy0_0 (i : Nat) : BufTy := match i % 128 with
  | 0 => ⟨S8, .i32⟩
  | 1 => ⟨S43008x1024, .bf16⟩
  | 2 => ⟨S43008x1, .f32⟩
  | 3 => ⟨S8x1024x3584, .f32⟩
  | 4 => ⟨S8x1024x3584, .f32⟩
  | 5 => ⟨S8x3584x1024, .f32⟩
  | 6 => ⟨S_, .i32⟩
  | 7 => ⟨S8, .i32⟩
  | 8 => ⟨S8, .i32⟩
  | 9 => ⟨S_, .i32⟩
  | 10 => ⟨S8, .i32⟩
  | 11 => ⟨S8, .i32⟩
  | 12 => ⟨S_, .i32⟩
  | 13 => ⟨S_, .i32⟩
  | 14 => ⟨S8, .i32⟩
  | 15 => ⟨S8, .i32⟩
  | 16 => ⟨S8, .i32⟩
  | 17 => ⟨S_, .i32⟩
  | 18 => ⟨S8, .i32⟩
  | 19 => ⟨S8, .i1⟩
  | 20 => ⟨S8, .i32⟩
  | 21 => ⟨S8, .i32⟩
  | 22 => ⟨S_, .i32⟩
  | 23 => ⟨S8, .i32⟩
  | 24 => ⟨S8, .i1⟩
  | 25 => ⟨S8, .i1⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S_, .i32⟩
  | 35 => ⟨S8, .i32⟩
  | 36 => ⟨S8, .i32⟩
  | 37 => ⟨S43008, .i32⟩
  | 38 => ⟨S43008x1024, .f32⟩
  | 39 => ⟨S_, .f32⟩
  | 40 => ⟨S43008x1024, .f32⟩
  | 41 => ⟨S1, .i32⟩
  | 42 => ⟨S_, .i32⟩
  | 43 => ⟨S43008, .i32⟩
  | 44 => ⟨S43008, .i1⟩
  | 45 => ⟨S1, .i32⟩
  | 46 => ⟨S_, .i32⟩
  | 47 => ⟨S1, .i32⟩
  | 48 => ⟨S_, .i32⟩
  | 49 => ⟨S_, .i32⟩
  | 50 => ⟨S43008, .i32⟩
  | 51 => ⟨S43008, .i1⟩
  | 52 => ⟨S43008, .i1⟩
  | 53 => ⟨S43008x1, .i1⟩
  | 54 => ⟨S_, .f32⟩
  | 55 => ⟨S_, .f32⟩
  | 56 => ⟨S43008x1, .f32⟩
  | 57 => ⟨S43008x1, .f32⟩
  | 58 => ⟨S1x1024x3584, .f32⟩
  | 59 => ⟨S1024x3584, .f32⟩
  | 60 => ⟨S1x1024x3584, .f32⟩
  | 61 => ⟨S1024x3584, .f32⟩
  | 62 => ⟨S1x3584x1024, .f32⟩
  | 63 => ⟨S3584x1024, .f32⟩
  | 64 => ⟨S43008x3584, .f32⟩
  | 65 => ⟨S43008x3584, .f32⟩
  | 66 => ⟨S43008x3584, .f32⟩
  | 67 => ⟨S_, .f32⟩
  | 68 => ⟨S43008x3584, .f32⟩
  | 69 => ⟨S43008x3584, .f32⟩
  | 70 => ⟨S_, .f32⟩
  | 71 => ⟨S43008x3584, .f32⟩
  | 72 => ⟨S43008x3584, .f32⟩
  | 73 => ⟨S43008x3584, .f32⟩
  | 74 => ⟨S43008x3584, .f32⟩
  | 75 => ⟨S43008x3584, .f32⟩
  | 76 => ⟨S43008x1024, .f32⟩
  | 77 => ⟨S43008x1024, .f32⟩
  | 78 => ⟨S43008x1024, .f32⟩
  | 79 => ⟨S43008x1024, .f32⟩
  | 80 => ⟨S1, .i32⟩
  | 81 => ⟨S_, .i32⟩
  | 82 => ⟨S43008, .i32⟩
  | 83 => ⟨S43008, .i1⟩
  | 84 => ⟨S1, .i32⟩
  | 85 => ⟨S_, .i32⟩
  | 86 => ⟨S1, .i32⟩
  | 87 => ⟨S_, .i32⟩
  | 88 => ⟨S_, .i32⟩
  | 89 => ⟨S43008, .i32⟩
  | 90 => ⟨S43008, .i1⟩
  | 91 => ⟨S43008, .i1⟩
  | 92 => ⟨S43008x1, .i1⟩
  | 93 => ⟨S_, .f32⟩
  | 94 => ⟨S_, .f32⟩
  | 95 => ⟨S43008x1, .f32⟩
  | 96 => ⟨S43008x1, .f32⟩
  | 97 => ⟨S1x1024x3584, .f32⟩
  | 98 => ⟨S1024x3584, .f32⟩
  | 99 => ⟨S1x1024x3584, .f32⟩
  | 100 => ⟨S1024x3584, .f32⟩
  | 101 => ⟨S1x3584x1024, .f32⟩
  | 102 => ⟨S3584x1024, .f32⟩
  | 103 => ⟨S43008x3584, .f32⟩
  | 104 => ⟨S43008x3584, .f32⟩
  | 105 => ⟨S43008x3584, .f32⟩
  | 106 => ⟨S_, .f32⟩
  | 107 => ⟨S43008x3584, .f32⟩
  | 108 => ⟨S43008x3584, .f32⟩
  | 109 => ⟨S_, .f32⟩
  | 110 => ⟨S43008x3584, .f32⟩
  | 111 => ⟨S43008x3584, .f32⟩
  | 112 => ⟨S43008x3584, .f32⟩
  | 113 => ⟨S43008x3584, .f32⟩
  | 114 => ⟨S43008x3584, .f32⟩
  | 115 => ⟨S43008x1024, .f32⟩
  | 116 => ⟨S43008x1024, .f32⟩
  | 117 => ⟨S43008x1024, .f32⟩
  | 118 => ⟨S43008x1024, .f32⟩
  | 119 => ⟨S1, .i32⟩
  | 120 => ⟨S_, .i32⟩
  | 121 => ⟨S43008, .i32⟩
  | 122 => ⟨S43008, .i1⟩
  | 123 => ⟨S1, .i32⟩
  | 124 => ⟨S_, .i32⟩
  | 125 => ⟨S1, .i32⟩
  | 126 => ⟨S_, .i32⟩
  | 127 => ⟨S_, .i32⟩
  | _ => ⟨S8, .i32⟩

abbrev hbmTy0_1 (i : Nat) : BufTy := match i % 128 with
  | 0 => ⟨S43008, .i32⟩
  | 1 => ⟨S43008, .i1⟩
  | 2 => ⟨S43008, .i1⟩
  | 3 => ⟨S43008x1, .i1⟩
  | 4 => ⟨S_, .f32⟩
  | 5 => ⟨S_, .f32⟩
  | 6 => ⟨S43008x1, .f32⟩
  | 7 => ⟨S43008x1, .f32⟩
  | 8 => ⟨S1x1024x3584, .f32⟩
  | 9 => ⟨S1024x3584, .f32⟩
  | 10 => ⟨S1x1024x3584, .f32⟩
  | 11 => ⟨S1024x3584, .f32⟩
  | 12 => ⟨S1x3584x1024, .f32⟩
  | 13 => ⟨S3584x1024, .f32⟩
  | 14 => ⟨S43008x3584, .f32⟩
  | 15 => ⟨S43008x3584, .f32⟩
  | 16 => ⟨S43008x3584, .f32⟩
  | 17 => ⟨S_, .f32⟩
  | 18 => ⟨S43008x3584, .f32⟩
  | 19 => ⟨S43008x3584, .f32⟩
  | 20 => ⟨S_, .f32⟩
  | 21 => ⟨S43008x3584, .f32⟩
  | 22 => ⟨S43008x3584, .f32⟩
  | 23 => ⟨S43008x3584, .f32⟩
  | 24 => ⟨S43008x3584, .f32⟩
  | 25 => ⟨S43008x3584, .f32⟩
  | 26 => ⟨S43008x1024, .f32⟩
  | 27 => ⟨S43008x1024, .f32⟩
  | 28 => ⟨S43008x1024, .f32⟩
  | 29 => ⟨S43008x1024, .f32⟩
  | 30 => ⟨S1, .i32⟩
  | 31 => ⟨S_, .i32⟩
  | 32 => ⟨S43008, .i32⟩
  | 33 => ⟨S43008, .i1⟩
  | 34 => ⟨S1, .i32⟩
  | 35 => ⟨S_, .i32⟩
  | 36 => ⟨S1, .i32⟩
  | 37 => ⟨S_, .i32⟩
  | 38 => ⟨S_, .i32⟩
  | 39 => ⟨S43008, .i32⟩
  | 40 => ⟨S43008, .i1⟩
  | 41 => ⟨S43008, .i1⟩
  | 42 => ⟨S43008x1, .i1⟩
  | 43 => ⟨S_, .f32⟩
  | 44 => ⟨S_, .f32⟩
  | 45 => ⟨S43008x1, .f32⟩
  | 46 => ⟨S43008x1, .f32⟩
  | 47 => ⟨S1x1024x3584, .f32⟩
  | 48 => ⟨S1024x3584, .f32⟩
  | 49 => ⟨S1x1024x3584, .f32⟩
  | 50 => ⟨S1024x3584, .f32⟩
  | 51 => ⟨S1x3584x1024, .f32⟩
  | 52 => ⟨S3584x1024, .f32⟩
  | 53 => ⟨S43008x3584, .f32⟩
  | 54 => ⟨S43008x3584, .f32⟩
  | 55 => ⟨S43008x3584, .f32⟩
  | 56 => ⟨S_, .f32⟩
  | 57 => ⟨S43008x3584, .f32⟩
  | 58 => ⟨S43008x3584, .f32⟩
  | 59 => ⟨S_, .f32⟩
  | 60 => ⟨S43008x3584, .f32⟩
  | 61 => ⟨S43008x3584, .f32⟩
  | 62 => ⟨S43008x3584, .f32⟩
  | 63 => ⟨S43008x3584, .f32⟩
  | 64 => ⟨S43008x3584, .f32⟩
  | 65 => ⟨S43008x1024, .f32⟩
  | 66 => ⟨S43008x1024, .f32⟩
  | 67 => ⟨S43008x1024, .f32⟩
  | 68 => ⟨S43008x1024, .f32⟩
  | 69 => ⟨S1, .i32⟩
  | 70 => ⟨S_, .i32⟩
  | 71 => ⟨S43008, .i32⟩
  | 72 => ⟨S43008, .i1⟩
  | 73 => ⟨S1, .i32⟩
  | 74 => ⟨S_, .i32⟩
  | 75 => ⟨S1, .i32⟩
  | 76 => ⟨S_, .i32⟩
  | 77 => ⟨S_, .i32⟩
  | 78 => ⟨S43008, .i32⟩
  | 79 => ⟨S43008, .i1⟩
  | 80 => ⟨S43008, .i1⟩
  | 81 => ⟨S43008x1, .i1⟩
  | 82 => ⟨S_, .f32⟩
  | 83 => ⟨S_, .f32⟩
  | 84 => ⟨S43008x1, .f32⟩
  | 85 => ⟨S43008x1, .f32⟩
  | 86 => ⟨S1x1024x3584, .f32⟩
  | 87 => ⟨S1024x3584, .f32⟩
  | 88 => ⟨S1x1024x3584, .f32⟩
  | 89 => ⟨S1024x3584, .f32⟩
  | 90 => ⟨S1x3584x1024, .f32⟩
  | 91 => ⟨S3584x1024, .f32⟩
  | 92 => ⟨S43008x3584, .f32⟩
  | 93 => ⟨S43008x3584, .f32⟩
  | 94 => ⟨S43008x3584, .f32⟩
  | 95 => ⟨S_, .f32⟩
  | 96 => ⟨S43008x3584, .f32⟩
  | 97 => ⟨S43008x3584, .f32⟩
  | 98 => ⟨S_, .f32⟩
  | 99 => ⟨S43008x3584, .f32⟩
  | 100 => ⟨S43008x3584, .f32⟩
  | 101 => ⟨S43008x3584, .f32⟩
  | 102 => ⟨S43008x3584, .f32⟩
  | 103 => ⟨S43008x3584, .f32⟩
  | 104 => ⟨S43008x1024, .f32⟩
  | 105 => ⟨S43008x1024, .f32⟩
  | 106 => ⟨S43008x1024, .f32⟩
  | 107 => ⟨S43008x1024, .f32⟩
  | 108 => ⟨S1, .i32⟩
  | 109 => ⟨S_, .i32⟩
  | 110 => ⟨S43008, .i32⟩
  | 111 => ⟨S43008, .i1⟩
  | 112 => ⟨S1, .i32⟩
  | 113 => ⟨S_, .i32⟩
  | 114 => ⟨S1, .i32⟩
  | 115 => ⟨S_, .i32⟩
  | 116 => ⟨S_, .i32⟩
  | 117 => ⟨S43008, .i32⟩
  | 118 => ⟨S43008, .i1⟩
  | 119 => ⟨S43008, .i1⟩
  | 120 => ⟨S43008x1, .i1⟩
  | 121 => ⟨S_, .f32⟩
  | 122 => ⟨S_, .f32⟩
  | 123 => ⟨S43008x1, .f32⟩
  | 124 => ⟨S43008x1, .f32⟩
  | 125 => ⟨S1x1024x3584, .f32⟩
  | 126 => ⟨S1024x3584, .f32⟩
  | 127 => ⟨S1x1024x3584, .f32⟩
  | _ => ⟨S8, .i32⟩

abbrev hbmTy0_2 (i : Nat) : BufTy := match i % 128 with
  | 0 => ⟨S1024x3584, .f32⟩
  | 1 => ⟨S1x3584x1024, .f32⟩
  | 2 => ⟨S3584x1024, .f32⟩
  | 3 => ⟨S43008x3584, .f32⟩
  | 4 => ⟨S43008x3584, .f32⟩
  | 5 => ⟨S43008x3584, .f32⟩
  | 6 => ⟨S_, .f32⟩
  | 7 => ⟨S43008x3584, .f32⟩
  | 8 => ⟨S43008x3584, .f32⟩
  | 9 => ⟨S_, .f32⟩
  | 10 => ⟨S43008x3584, .f32⟩
  | 11 => ⟨S43008x3584, .f32⟩
  | 12 => ⟨S43008x3584, .f32⟩
  | 13 => ⟨S43008x3584, .f32⟩
  | 14 => ⟨S43008x3584, .f32⟩
  | 15 => ⟨S43008x1024, .f32⟩
  | 16 => ⟨S43008x1024, .f32⟩
  | 17 => ⟨S43008x1024, .f32⟩
  | 18 => ⟨S43008x1024, .f32⟩
  | 19 => ⟨S1, .i32⟩
  | 20 => ⟨S_, .i32⟩
  | 21 => ⟨S43008, .i32⟩
  | 22 => ⟨S43008, .i1⟩
  | 23 => ⟨S1, .i32⟩
  | 24 => ⟨S_, .i32⟩
  | 25 => ⟨S1, .i32⟩
  | 26 => ⟨S_, .i32⟩
  | 27 => ⟨S_, .i32⟩
  | 28 => ⟨S43008, .i32⟩
  | 29 => ⟨S43008, .i1⟩
  | 30 => ⟨S43008, .i1⟩
  | 31 => ⟨S43008x1, .i1⟩
  | 32 => ⟨S_, .f32⟩
  | 33 => ⟨S_, .f32⟩
  | 34 => ⟨S43008x1, .f32⟩
  | 35 => ⟨S43008x1, .f32⟩
  | 36 => ⟨S1x1024x3584, .f32⟩
  | 37 => ⟨S1024x3584, .f32⟩
  | 38 => ⟨S1x1024x3584, .f32⟩
  | 39 => ⟨S1024x3584, .f32⟩
  | 40 => ⟨S1x3584x1024, .f32⟩
  | 41 => ⟨S3584x1024, .f32⟩
  | 42 => ⟨S43008x3584, .f32⟩
  | 43 => ⟨S43008x3584, .f32⟩
  | 44 => ⟨S43008x3584, .f32⟩
  | 45 => ⟨S_, .f32⟩
  | 46 => ⟨S43008x3584, .f32⟩
  | 47 => ⟨S43008x3584, .f32⟩
  | 48 => ⟨S_, .f32⟩
  | 49 => ⟨S43008x3584, .f32⟩
  | 50 => ⟨S43008x3584, .f32⟩
  | 51 => ⟨S43008x3584, .f32⟩
  | 52 => ⟨S43008x3584, .f32⟩
  | 53 => ⟨S43008x3584, .f32⟩
  | 54 => ⟨S43008x1024, .f32⟩
  | 55 => ⟨S43008x1024, .f32⟩
  | 56 => ⟨S43008x1024, .f32⟩
  | 57 => ⟨S43008x1024, .f32⟩
  | 58 => ⟨S1, .i32⟩
  | 59 => ⟨S_, .i32⟩
  | 60 => ⟨S43008, .i32⟩
  | 61 => ⟨S43008, .i1⟩
  | 62 => ⟨S1, .i32⟩
  | 63 => ⟨S_, .i32⟩
  | 64 => ⟨S1, .i32⟩
  | 65 => ⟨S_, .i32⟩
  | 66 => ⟨S_, .i32⟩
  | 67 => ⟨S43008, .i32⟩
  | 68 => ⟨S43008, .i1⟩
  | 69 => ⟨S43008, .i1⟩
  | 70 => ⟨S43008x1, .i1⟩
  | 71 => ⟨S_, .f32⟩
  | 72 => ⟨S_, .f32⟩
  | 73 => ⟨S43008x1, .f32⟩
  | 74 => ⟨S43008x1, .f32⟩
  | 75 => ⟨S1x1024x3584, .f32⟩
  | 76 => ⟨S1024x3584, .f32⟩
  | 77 => ⟨S1x1024x3584, .f32⟩
  | 78 => ⟨S1024x3584, .f32⟩
  | 79 => ⟨S1x3584x1024, .f32⟩
  | 80 => ⟨S3584x1024, .f32⟩
  | 81 => ⟨S43008x3584, .f32⟩
  | 82 => ⟨S43008x3584, .f32⟩
  | 83 => ⟨S43008x3584, .f32⟩
  | 84 => ⟨S_, .f32⟩
  | 85 => ⟨S43008x3584, .f32⟩
  | 86 => ⟨S43008x3584, .f32⟩
  | 87 => ⟨S_, .f32⟩
  | 88 => ⟨S43008x3584, .f32⟩
  | 89 => ⟨S43008x3584, .f32⟩
  | 90 => ⟨S43008x3584, .f32⟩
  | 91 => ⟨S43008x3584, .f32⟩
  | 92 => ⟨S43008x3584, .f32⟩
  | 93 => ⟨S43008x1024, .f32⟩
  | 94 => ⟨S43008x1024, .f32⟩
  | 95 => ⟨S43008x1024, .f32⟩
  | 96 => ⟨S43008x1024, .f32⟩
  | 97 => ⟨S43008x1024, .bf16⟩
  | _ => ⟨S8, .i32⟩

abbrev hbmTy (i : Nat) : BufTy := match i / 128 with
  | 0 => hbmTy0_0 i
  | 1 => hbmTy0_1 i
  | 2 => hbmTy0_2 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_4 : Ref sig .tc := ⟨.hbm, 93, rfl⟩
abbrev main_call4_v0 : Ref sig .tc := ⟨.hbm, 94, rfl⟩
abbrev main_call4_v1 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_call5_v0 : Ref sig .tc := ⟨.hbm, 104, rfl⟩
abbrev main_call5_v1 : Ref sig .tc := ⟨.hbm, 105, rfl⟩
abbrev main_call5_cst : Ref sig .tc := ⟨.hbm, 106, rfl⟩
abbrev main_call5_v2 : Ref sig .tc := ⟨.hbm, 107, rfl⟩
abbrev main_call5_v3 : Ref sig .tc := ⟨.hbm, 108, rfl⟩
abbrev main_call5_cst_0 : Ref sig .tc := ⟨.hbm, 109, rfl⟩
abbrev main_call5_v4 : Ref sig .tc := ⟨.hbm, 110, rfl⟩
abbrev main_call5_v5 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_5 : Ref sig .tc := ⟨.hbm, 132, rfl⟩
abbrev main_call6_v0 : Ref sig .tc := ⟨.hbm, 133, rfl⟩
abbrev main_call6_v1 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_6 : Ref sig .tc := ⟨.hbm, 171, rfl⟩
abbrev main_call8_v0 : Ref sig .tc := ⟨.hbm, 172, rfl⟩
abbrev main_call8_v1 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_call9_v0 : Ref sig .tc := ⟨.hbm, 182, rfl⟩
abbrev main_call9_v1 : Ref sig .tc := ⟨.hbm, 183, rfl⟩
abbrev main_call9_cst : Ref sig .tc := ⟨.hbm, 184, rfl⟩
abbrev main_call9_v2 : Ref sig .tc := ⟨.hbm, 185, rfl⟩
abbrev main_call9_v3 : Ref sig .tc := ⟨.hbm, 186, rfl⟩
abbrev main_call9_cst_0 : Ref sig .tc := ⟨.hbm, 187, rfl⟩
abbrev main_call9_v4 : Ref sig .tc := ⟨.hbm, 188, rfl⟩
abbrev main_call9_v5 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_cst_7 : Ref sig .tc := ⟨.hbm, 210, rfl⟩
abbrev main_call10_v0 : Ref sig .tc := ⟨.hbm, 211, rfl⟩
abbrev main_call10_v1 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_call11_v0 : Ref sig .tc := ⟨.hbm, 221, rfl⟩
abbrev main_call11_v1 : Ref sig .tc := ⟨.hbm, 222, rfl⟩
abbrev main_call11_cst : Ref sig .tc := ⟨.hbm, 223, rfl⟩
abbrev main_call11_v2 : Ref sig .tc := ⟨.hbm, 224, rfl⟩
abbrev main_call11_v3 : Ref sig .tc := ⟨.hbm, 225, rfl⟩
abbrev main_call11_cst_0 : Ref sig .tc := ⟨.hbm, 226, rfl⟩
abbrev main_call11_v4 : Ref sig .tc := ⟨.hbm, 227, rfl⟩
abbrev main_call11_v5 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_cst_8 : Ref sig .tc := ⟨.hbm, 249, rfl⟩
abbrev main_call12_v0 : Ref sig .tc := ⟨.hbm, 250, rfl⟩
abbrev main_call12_v1 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_call13_v0 : Ref sig .tc := ⟨.hbm, 260, rfl⟩
abbrev main_call13_v1 : Ref sig .tc := ⟨.hbm, 261, rfl⟩
abbrev main_call13_cst : Ref sig .tc := ⟨.hbm, 262, rfl⟩
abbrev main_call13_v2 : Ref sig .tc := ⟨.hbm, 263, rfl⟩
abbrev main_call13_v3 : Ref sig .tc := ⟨.hbm, 264, rfl⟩
abbrev main_call13_cst_0 : Ref sig .tc := ⟨.hbm, 265, rfl⟩
abbrev main_call13_v4 : Ref sig .tc := ⟨.hbm, 266, rfl⟩
abbrev main_call13_v5 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_cst_9 : Ref sig .tc := ⟨.hbm, 288, rfl⟩
abbrev main_call14_v0 : Ref sig .tc := ⟨.hbm, 289, rfl⟩
abbrev main_call14_v1 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_call15_v0 : Ref sig .tc := ⟨.hbm, 299, rfl⟩
abbrev main_call15_v1 : Ref sig .tc := ⟨.hbm, 300, rfl⟩
abbrev main_call15_cst : Ref sig .tc := ⟨.hbm, 301, rfl⟩
abbrev main_call15_v2 : Ref sig .tc := ⟨.hbm, 302, rfl⟩
abbrev main_call15_v3 : Ref sig .tc := ⟨.hbm, 303, rfl⟩
abbrev main_call15_cst_0 : Ref sig .tc := ⟨.hbm, 304, rfl⟩
abbrev main_call15_v4 : Ref sig .tc := ⟨.hbm, 305, rfl⟩
abbrev main_call15_v5 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_cst_10 : Ref sig .tc := ⟨.hbm, 327, rfl⟩
abbrev main_call16_v0 : Ref sig .tc := ⟨.hbm, 328, rfl⟩
abbrev main_call16_v1 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_call17_v0 : Ref sig .tc := ⟨.hbm, 338, rfl⟩
abbrev main_call17_v1 : Ref sig .tc := ⟨.hbm, 339, rfl⟩
abbrev main_call17_cst : Ref sig .tc := ⟨.hbm, 340, rfl⟩
abbrev main_call17_v2 : Ref sig .tc := ⟨.hbm, 341, rfl⟩
abbrev main_call17_v3 : Ref sig .tc := ⟨.hbm, 342, rfl⟩
abbrev main_call17_cst_0 : Ref sig .tc := ⟨.hbm, 343, rfl⟩
abbrev main_call17_v4 : Ref sig .tc := ⟨.hbm, 344, rfl⟩
abbrev main_call17_v5 : Ref sig .tc := ⟨.hbm, 345, rfl⟩
abbrev main_v229 : Ref sig .tc := ⟨.hbm, 346, rfl⟩
abbrev main_v230 : Ref sig .tc := ⟨.hbm, 347, rfl⟩
abbrev main_v231 : Ref sig .tc := ⟨.hbm, 348, rfl⟩
abbrev main_v232 : Ref sig .tc := ⟨.hbm, 349, rfl⟩
abbrev main_v233 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S1x1024x3592 : Shape := ⟨3, ![1, 1024, 3592]⟩
abbrev S16384x1024 : Shape := ⟨2, ![16384, 1024]⟩
abbrev S1024x3592 : Shape := ⟨2, ![1024, 3592]⟩
abbrev S1024x8 : Shape := ⟨2, ![1024, 8]⟩
abbrev S1024x512 : Shape := ⟨2, ![1024, 512]⟩
abbrev S1024x2048 : Shape := ⟨2, ![1024, 2048]⟩
abbrev S_ : Shape := ⟨0, ![]⟩
abbrev S1024x128 : Shape := ⟨2, ![1024, 128]⟩
abbrev S1024x2688 : Shape := ⟨2, ![1024, 2688]⟩
abbrev S1024x1024 : Shape := ⟨2, ![1024, 1024]⟩
abbrev S1024x1032 : Shape := ⟨2, ![1024, 1032]⟩
abbrev S1032x1024 : Shape := ⟨2, ![1032, 1024]⟩
abbrev S1x1024 : Shape := ⟨2, ![1, 1024]⟩
abbrev S1024 : Shape := ⟨1, ![1024]⟩
abbrev S16384x512 : Shape := ⟨2, ![16384, 512]⟩
abbrev S16384x128 : Shape := ⟨2, ![16384, 128]⟩
abbrev S8x512x2048 : Shape := ⟨3, ![8, 512, 2048]⟩
abbrev S8x16384 : Shape := ⟨2, ![8, 16384]⟩
abbrev S1x512x1024 : Shape := ⟨3, ![1, 512, 1024]⟩
abbrev S8x1024 : Shape := ⟨2, ![8, 1024]⟩
abbrev S1024x1 : Shape := ⟨2, ![1024, 1]⟩
abbrev S512x1024 : Shape := ⟨2, ![512, 1024]⟩

abbrev nBuf : Space → Nat
  | .hbm => 28
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3592, .f32⟩
  | .hbm, ⟨3, _⟩ => ⟨S16384x1024, .f32⟩
  | .hbm, ⟨4, _⟩ => ⟨S1024x3592, .f32⟩
  | .hbm, ⟨5, _⟩ => ⟨S1024x8, .f32⟩
  | .hbm, ⟨6, _⟩ => ⟨S1024x512, .f32⟩
  | .hbm, ⟨7, _⟩ => ⟨S1024x2048, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x2688, .f32⟩
  | .hbm, ⟨12, _⟩ => ⟨S1024x1024, .f32⟩
  | .hbm, ⟨13, _⟩ => ⟨S1024x1032, .f32⟩
  | .hbm, ⟨14, _⟩ => ⟨S1032x1024, .f32⟩
  | .hbm, ⟨15, _⟩ => ⟨S1x1024, .f32⟩
  | .hbm, ⟨16, _⟩ => ⟨S1024, .f32⟩
  | .hbm, ⟨17, _⟩ => ⟨S1024x2688, .bf16⟩
  | .hbm, ⟨18, _⟩ => ⟨S1032x1024, .bf16⟩
  | .hbm, ⟨19, _⟩ => ⟨S1x1024, .f32⟩
  | .hbm, ⟨20, _⟩ => ⟨S16384x512, .f32⟩
  | .hbm, ⟨21, _⟩ => ⟨S16384x1024, .f32⟩
  | .hbm, ⟨22, _⟩ => ⟨S16384x512, .f32⟩
  | .hbm, ⟨23, _⟩ => ⟨S16384x512, .f32⟩
  | .hbm, ⟨24, _⟩ => ⟨S16384x128, .f32⟩
  | .hbm, ⟨25, _⟩ => ⟨S8x512x2048, .f32⟩
  | .hbm, ⟨26, _⟩ => ⟨S8x512x2048, .f32⟩
  | .hbm, ⟨27, _⟩ => ⟨S8x16384, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2688, .bf16⟩
  | .local _ .vmem, ⟨4, _⟩ => ⟨S1032x1024, .bf16⟩
  | .local _ .vmem, ⟨5, _⟩ => ⟨S1024x512, .f32⟩
  | .local _ .vmem, ⟨6, _⟩ => ⟨S1024x512, .f32⟩
  | .local _ .vmem, ⟨7, _⟩ => ⟨S1024x1024, .f32⟩
  | .local _ .vmem, ⟨8, _⟩ => ⟨S1024x1024, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x128, .f32⟩
  | .local _ .vmem, ⟨14, _⟩ => ⟨S1024x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S8x1024, .f32⟩
  | .local _ .vmem, ⟨20, _⟩ => ⟨S8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev main_v15_6 : Ref sig .tc := ⟨.hbm, 26, rfl⟩
abbrev main_v15_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1032x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x2048x1024 : Shape := ⟨3, ![8, 2048, 1024]⟩
abbrev S2x1024 : Shape := ⟨2, ![2, 1024]⟩
abbrev S1x1024x3592 : Shape := ⟨3, ![1, 1024, 3592]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1024x3592 : Shape := ⟨2, ![1024, 3592]⟩
abbrev S8x2048x3592 : Shape := ⟨3, ![8, 2048, 3592]⟩
abbrev S8x2048x512 : Shape := ⟨3, ![8, 2048, 512]⟩
abbrev S8x2048x8 : Shape := ⟨3, ![8, 2048, 8]⟩
abbrev S16384x8 : Shape := ⟨2, ![16384, 8]⟩
abbrev S16384x128 : Shape := ⟨2, ![16384, 128]⟩
abbrev S16384x512 : Shape := ⟨2, ![16384, 512]⟩
abbrev S16384x1024 : Shape := ⟨2, ![16384, 1024]⟩
abbrev S8x512x2048 : Shape := ⟨3, ![8, 512, 2048]⟩
abbrev S8x16384 : Shape := ⟨2, ![8, 16384]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3592, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x3592, .f32⟩
  | .hbm, ⟨22, _⟩ => ⟨S8x2048x3592, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x1024, .f32⟩
  | .hbm, ⟨27, _⟩ => ⟨S8x2048x512, .f32⟩
  | .hbm, ⟨28, _⟩ => ⟨S8x2048x512, .f32⟩
  | .hbm, ⟨29, _⟩ => ⟨S8x2048x8, .f32⟩
  | .hbm, ⟨30, _⟩ => ⟨S16384x8, .f32⟩
  | .hbm, ⟨31, _⟩ => ⟨S_, .i32⟩
  | .hbm, ⟨32, _⟩ => ⟨S_, .f32⟩
  | .hbm, ⟨33, _⟩ => ⟨S16384x128, .f32⟩
  | .hbm, ⟨34, _⟩ => ⟨S16384x512, .f32⟩
  | .hbm, ⟨35, _⟩ => ⟨S16384x1024, .f32⟩
  | .hbm, ⟨36, _⟩ => ⟨S16384x512, .f32⟩
  | .hbm, ⟨37, _⟩ => ⟨S16384x512, .f32⟩
  | .hbm, ⟨38, _⟩ => ⟨S8x512x2048, .f32⟩
  | .hbm, ⟨39, _⟩ => ⟨S8x512x2048, .f32⟩
  | .hbm, ⟨40, _⟩ => ⟨S16384x8, .f32⟩
  | .hbm, ⟨41, _⟩ => ⟨S8x16384, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.Own.lean ====
/-
  Rules for a memref owned at stated contents: a load of the memref's own sizes reads the contents, an unmasked store of
  its own sizes replaces them, and a load of one word of scalar memory reads the contents at that word.
-/
module

public import Idealize.ShloMosaic.Lib.Pipeline.TableIdle
public import Idealize.ShloMosaic.Lib.VecWindow
public import Idealize.ShloMosaic.Lib.Tactic

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Thread nD τ) (bd : Option 𝒱.V) (E : Set Name)
variable {s : Shape} {e : EltTy}
variable {α : Type} {Q : α → sProp (MT nD τ sig Ix Val Name U Lvl)}

local notation "𝕄" => MT nD τ sig Ix Val Name U Lvl

/-- A load of the memref's own sizes reads the contents it is owned at. -/
theorem wp_load_owns {cs : CoreSpace} {m : Memref sig c.2.kind cs s e} {off : Fin s.rank → ℕ} {inb : ∀ a, off a + s.size a ≤ s.size a}
    {hl : m.view.LoadsAt (Rect.unit (s := s) off s.size inb).toLoadRect} {q : PosShare TreeShare} {X : s.Idx → Val e}
    {k : (s.Idx → Val e) → Prog (TpuEff nD τ sig Val Λ c.2) α} :
    (owns c m q X : sProp 𝕄)
      ⊢ iprop((owns c m q X -∗ wp frame (wpE defs 𝒱 c bd) E (k X) Q)
        -∗ wp frame (wpE defs 𝒱 c bd) E (.op (.load m (Rect.unit (s := s) off s.size inb).toLoadRect hl) k) Q) := by
  unfold owns
  iintro ⟨%f, %hf, H⟩ Hk
  iapply (wp_load 𝒱 c bd E (m := m) (S := m.view.set) (View.setOn_subset_set _ _)) $$ H
  iintro H
  have h : m.view.readAt Val (Rect.unit (s := s) off s.size inb).toLoadRect f = X := by
    rw [View.readAt_full, hf]
  rw [h]
  iapply Hk
  iexists f; isplitr; · ipureintro; exact hf
  iexact H

/-- An unmasked store of the memref's own sizes leaves it at the stored value. -/
theorem wp_store_owns {cs : CoreSpace} {m : Memref sig c.2.kind cs s e} {off : Fin s.rank → ℕ} {inb : ∀ a, off a + s.size a ≤ s.size a}
    {w X : s.Idx → Val e} {hx : (m.access (Rect.unit (s := s) off s.size inb)).Stores Finset.univ}
    {hm : Finset.univ = Finset.univ ∨ ∀ a, (Rect.unit (s := s) off s.size inb).stride a = 1}
    {k : PUnit → Prog (TpuEff nD τ sig Val Λ c.2) α} :
    (owns c m fullShare X : sProp 𝕄)
      ⊢ iprop((owns c m fullShare w -∗ wp frame (wpE defs 𝒱 c bd) E (k ⟨⟩) Q)
        -∗ wp frame (wpE defs 𝒱 c bd) E (.op (.store m (Rect.unit (s := s) off s.size inb) w Finset.univ hx hm) k) Q) := by
  unfold owns
  iintro ⟨%f, -, H⟩ Hk
  have hS : (m.access (Rect.unit (s := s) off s.size inb)).setOn Finset.univ ⊆ m.view.set := View.set_slice_subset _ _
  iapply (wp_store 𝒱 c bd E (m := m) (r := Rect.unit (s := s) off s.size inb) (S := m.view.set) (f := f) hS) $$ H
  iintro H
  iapply Hk
  iexists _; isplitr; swap; · iexact H
  ipureintro
  have := View.read_write_univ (Val := Val) (v := m.access (Rect.unit (s := s) off s.size inb)) f w
  funext y
  have h2 := congrFun this y
  rw [← h2]
  exact congrArg (m.view.read Val _) (Rect.emb_unit_full inb y).symm

/-- A load of one word of scalar memory reads the contents at that word. -/
theorem wp_smemLoad_owns {m : Memref sig c.2.kind .smem s e} {off size : Fin s.rank → ℕ} {inb : ∀ a, off a + size a ≤ s.size a}
    {h1 : (Rect.unit (s := s) off size inb).shape.numel = 1} {hp : e.packing = 1} {q : PosShare TreeShare} {X : s.Idx → Val e}
    {k : Val e → Prog (TpuEff nD τ sig Val Λ c.2) α} :
    (owns c m q X : sProp 𝕄)
      ⊢ iprop((owns c m q X -∗ wp frame (wpE defs 𝒱 c bd) E (k (X ((Rect.unit (s := s) off size inb).emb (Shape.Idx.first (h1.symm ▸ Nat.one_pos))))) Q)
        -∗ wp frame (wpE defs 𝒱 c bd) E (smemLoad m (Rect.unit (s := s) off size inb) h1 hp >>= k) Q) := by
  unfold owns
  iintro ⟨%f, %hf, H⟩ Hk
  have hS : (m.access (Rect.unit (s := s) off size inb)).set ⊆ m.view.set := View.set_slice_subset _ _
  rw [show (smemLoad m (Rect.unit (s := s) off size inb) h1 hp >>= k)
    = smemLoadElt m (Rect.unit (s := s) off size inb) (View.loads_smem_one hp h1) (Shape.Idx.first (h1.symm ▸ Nat.one_pos)) k from rfl]
  iapply (wp_smemLoadElt 𝒱 c bd E (m := m) (r := Rect.unit (s := s) off size inb) (S := m.view.set) (f := f) hS) $$ H
  iintro H
  subst hf
  iapply Hk
  iexists f; isplitr; · ipureintro; rfl
  iexact H

end Cert.Hand

end
-- ==== Proof.Step.lean ====
/-
  The kernel's body at one grid point. It loads the accumulator with the block of `x2_p` (points before the last) or of
  `x2_s` (the last), takes the eight experts' steps in order, and stores the scaled rows to one of the two results.
  The body's printed text is restated as that sequence (equal by definition), an expert's step is proved once, and the
  whole follows by eight uses of it.
-/
module

public import proofs.«01_k».proof.Proof.Gen.KernelIdeal.Skeleton
public import proofs.«01_k».proof.Proof.Gen.KernelIdeal.Launch
public import proofs.«01_k».proof.Proof.Own
public import Idealize.ShloMosaic.Lib.Pipeline.Frame
public import Idealize.ShloMosaic.Lib.Tactic
public import Idealize.ShloMosaic.Lib.Transfers

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {α : Type}

local notation "𝕄" => MT nD τ sig Unit (Elt F) ℕ (UR sig nD τ) ℕ

/-! ## Values -/

/-- The word of a table at the place an access names. -/
def wordAt (X : S520.Idx → BitVec 32) (off : Fin 1 → ℕ) (inb : ∀ a, off a + S1.size a ≤ S520.size a) : BitVec 32 :=
  X ((Rect.unit (s := S520) off S1.size inb).emb (Shape.Idx.first (numel1_S1.symm ▸ Nat.one_pos)))

/-- Whether an expert has rows in the block: `hi > lo`. -/
abbrev live (lo hi : BitVec 32) : BitVec 1 :=
  Scalar.cmpi .ne (Scalar.extui (Scalar.cmpi .sgt hi lo)) 0#32

/-- Whether they reach past the window of 256 rows starting at row `16 * w`. -/
abbrev past (hi w : BitVec 32) : BitVec 1 :=
  Scalar.cmpi .ne (Scalar.extui (Scalar.cmpi .sgt hi (Scalar.addi (Scalar.muli w 16#32) 256#32))) 0#32

/-- What an expert's step leaves in the accumulator that held `A`. -/
def stepV (lo hi w : BitVec 32) (d : Vec F S256x2 .i32) (y : Vec F S256x1024 .bf16) (tl : Vec F S16x1024 .bf16) (A : Vec F S256x1024 .f32) :
    Vec F S256x1024 .f32 :=
  if live lo hi = 1#1 then
    if past hi w = 1#1 then k0_pay5 lo hi d w (k0_pay4 lo hi d w A y) tl else k0_pay4 lo hi d w A y
  else A

/-- What the block's load leaves in the accumulator that held `A`. -/
def initV (i : grid0.Coords) (xp xs A : Vec F S256x1024 .f32) : Vec F S256x1024 .f32 :=
  if k0_cond20 i = 1#1 then k0_pay2 xs else if k0_cond19 i = 1#1 then k0_pay1 xp else A

/-! ## Programs -/

/-- An expert's step before a program `k`, as printed. -/
abbrev stepP (aT : Memref sig .tc .smem S520 .i32) (aD : Memref sig .tc .vmem S256x2 .i32) (aY : Memref sig .tc .vmem S256x1024 .bf16)
    (aL : Memref sig .tc .vmem S16x1024 .bf16) (aA : Memref sig .tc .vmem S256x1024 .f32)
    (off : Fin 1 → ℕ) (inb : ∀ a, off a + S1.size a ≤ S520.size a) (lo hi : BitVec 32)
    (k : Prog (TpuEff nD τ sig (Elt F) Λ₀ .tc) α) : Prog (TpuEff nD τ sig (Elt F) Λ₀ .tc) α :=
  if live lo hi = 1#1 then
    (Prog.op (.load aD (Rect.unit (s := S256x2) ![0, 0] S256x2.size inb_S256x2_S256x2_0_0).toLoadRect (View.loadsAt_vmem h_S256x2)) fun d =>
      smemLoad aT (Rect.unit (s := S520) off S1.size inb) numel1_S1 rfl >>= fun w =>
      .op (.load aA (Rect.unit (s := S256x1024) ![0, 0] S256x1024.size inb_S256x1024_S256x1024_0_0).toLoadRect (View.loadsAt_vmem h_S256x1024)) fun A =>
      .op (.load aY (Rect.unit (s := S256x1024) ![0, 0] S256x1024.size inb_S256x1024_S256x1024_0_0).toLoadRect (View.loadsAt_vmem h_S256x1024)) fun y =>
      .op (.load aA (Rect.unit (s := S256x1024) ![0, 0] S256x1024.size inb_S256x1024_S256x1024_0_0).toLoadRect (View.loadsAt_vmem h_S256x1024)) fun A' =>
      .op (.store aA (Rect.unit (s := S256x1024) ![0, 0] S256x1024.size inb_S256x1024_S256x1024_0_0) (k0_pay4 lo hi d w A y) Finset.univ (View.stores_vmem_bits_univ h_S256x1024 rfl) (.inl rfl)) fun _ =>
      (if past hi w = 1#1 then
        (.op (.load aA (Rect.unit (s := S256x1024) ![0, 0] S256x1024.size inb_S256x1024_S256x1024_0_0).toLoadRect (View.loadsAt_vmem h_S256x1024)) fun B =>
          .op (.load aL (Rect.unit (s := S16x1024) ![0, 0] S16x1024.size inb_S16x1024_S16x1024_0_0).toLoadRect (View.loadsAt_vmem h_S16x1024)) fun tl =>
          .op (.load aA (Rect.unit (s := S256x1024) ![0, 0] S256x1024.size inb_S256x1024_S256x1024_0_0).toLoadRect (View.loadsAt_vmem h_S256x1024)) fun B' =>
          .op (.store aA (Rect.unit (s := S256x1024) ![0, 0] S256x1024.size inb_S256x1024_S256x1024_0_0) (k0_pay5 lo hi d w B tl) Finset.univ (View.stores_vmem_bits_univ h_S256x1024 rfl) (.inl rfl)) fun _ =>
          k)
      else k))
  else k

/-- A copy of a block under a condition, before `k`. -/
abbrev copyP (p : Prop) [Decidable p] (aX aA : Memref sig .tc .vmem S256x1024 .f32) (f : Vec F S256x1024 .f32 → Vec F S256x1024 .f32)
    (k : Prog (TpuEff nD τ sig (Elt F) Λ₀ .tc) α) : Prog (TpuEff nD τ sig (Elt F) Λ₀ .tc) α :=
  if _h : p then
    (.op (.load aX (Rect.unit (s := S256x1024) ![0, 0] S256x1024.size inb_S256x1024_S256x1024_0_0).toLoadRect (View.loadsAt_vmem h_S256x1024)) fun x =>
      .op (.load aA (Rect.unit (s := S256x1024) ![0, 0] S256x1024.size inb_S256x1024_S256x1024_0_0).toLoadRect (View.loadsAt_vmem h_S256x1024)) fun A =>
      .op (.store aA (Rect.unit (s := S256x1024) ![0, 0] S256x1024.size inb_S256x1024_S256x1024_0_0) (f x) Finset.univ (View.stores_vmem_bits_univ h_S256x1024 rfl) (.inl rfl)) fun _ =>
      k)
  else k

/-- A store of a value under a condition, before `k`. -/
abbrev putP (p : Prop) [Decidable p] (aO : Memref sig .tc .vmem S256x1024 .f32) (v : Vec F S256x1024 .f32)
    (k : Prog (TpuEff nD τ sig (Elt F) Λ₀ .tc) α) : Prog (TpuEff nD τ sig (Elt F) Λ₀ .tc) α :=
  if _h : p then
    (.op (.load aO (Rect.unit (s := S256x1024) ![0, 0] S256x1024.size inb_S256x1024_S256x1024_0_0).toLoadRect (View.loadsAt_vmem h_S256x1024)) fun A =>
      .op (.store aO (Rect.unit (s := S256x1024) ![0, 0] S256x1024.size inb_S256x1024_S256x1024_0_0) v Finset.univ (View.stores_vmem_bits_univ h_S256x1024 rfl) (.inl rfl)) fun _ =>
      k)
  else k

/-! ## Their rules -/

variable (c : Dev nD) (E : Set ℕ)

/-- A load of one word of a table. -/
theorem word_wp {h : S1.numel = 1} {hp : EltTy.i32.packing = 1} (aT : Memref sig .tc .smem S520 .i32) {off : Fin 1 → ℕ} {inb : ∀ a, off a + S1.size a ≤ S520.size a}
    {q : PosShare TreeShare} {T : S520.Idx → BitVec 32} {k : BitVec 32 → Prog (TpuEff nD τ sig (Elt F) Λ₀ .tc) α} {Q : α → sProp 𝕄} :
    (owns (c : Thread nD τ) aT q T : sProp 𝕄)
      ⊢ iprop((owns (c : Thread nD τ) aT q T -∗ wp frame (wpE (defs₀ (F := F)) Variants.none c none) E (k (wordAt T off inb)) Q)
        -∗ wp frame (wpE (defs₀ (F := F)) Variants.none c none) E (smemLoad aT (Rect.unit (s := S520) off S1.size inb) h hp >>= k) Q) :=
  wp_smemLoad_owns Variants.none (c : Thread nD τ) none E

theorem copyP_wp (p : Prop) [Decidable p] (aX aA : Memref sig .tc .vmem S256x1024 .f32) (f : Vec F S256x1024 .f32 → Vec F S256x1024 .f32)
    (X A : Vec F S256x1024 .f32) (k : Prog (TpuEff nD τ sig (Elt F) Λ₀ .tc) α) (Q : α → sProp 𝕄) :
    iprop(owns (c : Thread nD τ) aX fullShare X ∗ owns (c : Thread nD τ) aA fullShare A
        ∗ ((owns (c : Thread nD τ) aX fullShare X ∗ owns (c : Thread nD τ) aA fullShare (if p then f X else A)) -∗ wp frame (wpE (defs₀ (F := F)) Variants.none c none) E k Q))
      ⊢ wp frame (wpE (defs₀ (F := F)) Variants.none c none) E (copyP p aX aA f k) Q := by
  by_cases h : p
  · rw [copyP, dif_pos h, if_pos h]
    iintro ⟨HX, HA, Hk⟩
    iapply (wp_load_owns Variants.none (c : Thread nD τ) none E) $$ HX; iintro HX
    iapply (wp_load_owns Variants.none (c : Thread nD τ) none E) $$ HA; iintro HA
    iapply (wp_store_owns Variants.none (c : Thread nD τ) none E) $$ HA; iintro HA
    iapply Hk
    isplitl [HX]; · iexact HX
    iexact HA
  · rw [copyP, dif_neg h, if_neg h]
    iintro ⟨HX, HA, Hk⟩
    iapply Hk
    isplitl [HX]; · iexact HX
    iexact HA

theorem putP_wp (p : Prop) [Decidable p] (aO : Memref sig .tc .vmem S256x1024 .f32) (v A : Vec F S256x1024 .f32) (k : Prog (TpuEff nD τ sig (Elt F) Λ₀ .tc) α) (Q : α → sProp 𝕄) :
    iprop(owns (c : Thread nD τ) aO fullShare A ∗ (owns (c : Thread nD τ) aO fullShare (if p then v else A) -∗ wp frame (wpE (defs₀ (F := F)) Variants.none c none) E k Q))
      ⊢ wp frame (wpE (defs₀ (F := F)) Variants.none c none) E (putP p aO v k) Q := by
  by_cases h : p
  · rw [putP, dif_pos h, if_pos h]
    iintro ⟨HA, Hk⟩
    iapply (wp_load_owns Variants.none (c : Thread nD τ) none E) $$ HA; iintro HA
    iapply (wp_store_owns Variants.none (c : Thread nD τ) none E) $$ HA; iintro HA
    iapply Hk; iexact HA
  · rw [putP, dif_neg h, if_neg h]
    iintro ⟨HA, Hk⟩
    iapply Hk; iexact HA

theorem stepP_wp (aT : Memref sig .tc .smem S520 .i32) (aD : Memref sig .tc .vmem S256x2 .i32) (aY : Memref sig .tc .vmem S256x1024 .bf16)
    (aL : Memref sig .tc .vmem S16x1024 .bf16) (aA : Memref sig .tc .vmem S256x1024 .f32)
    (off : Fin 1 → ℕ) (inb : ∀ a, off a + S1.size a ≤ S520.size a) (lo hi : BitVec 32) (q : PosShare TreeShare)
    (T : S520.Idx → BitVec 32) (d : Vec F S256x2 .i32) (y : Vec F S256x1024 .bf16) (tl : Vec F S16x1024 .bf16) (A : Vec F S256x1024 .f32)
    (k : Prog (TpuEff nD τ sig (Elt F) Λ₀ .tc) α) (Q : α → sProp 𝕄) :
    iprop(owns (c : Thread nD τ) aT q T ∗ owns (c : Thread nD τ) aD fullShare d ∗ owns (c : Thread nD τ) aY fullShare y
        ∗ owns (c : Thread nD τ) aL fullShare tl ∗ owns (c : Thread nD τ) aA fullShare A
        ∗ ((owns (c : Thread nD τ) aT q T ∗ owns (c : Thread nD τ) aD fullShare d ∗ owns (c : Thread nD τ) aY fullShare y
        ∗ owns (c : Thread nD τ) aL fullShare tl ∗ owns (c : Thread nD τ) aA fullShare (stepV lo hi (wordAt T off inb) d y tl A)) -∗ wp frame (wpE (defs₀ (F := F)) Variants.none c none) E k Q))
      ⊢ wp frame (wpE (defs₀ (F := F)) Variants.none c none) E (stepP aT aD aY aL aA off inb lo hi k) Q := by
  unfold stepV wordAt
  by_cases h : live lo hi = 1#1
  · rw [stepP, if_pos h, if_pos h]
    iintro ⟨HT, HD, HY, HL, HA, Hk⟩
    iapply (wp_load_owns Variants.none (c : Thread nD τ) none E) $$ HD; iintro HD
    iapply (wp_smemLoad_owns Variants.none (c : Thread nD τ) none E) $$ HT; iintro HT
    iapply (wp_load_owns Variants.none (c : Thread nD τ) none E) $$ HA; iintro HA
    iapply (wp_load_owns Variants.none (c : Thread nD τ) none E) $$ HY; iintro HY
    iapply (wp_load_owns Variants.none (c : Thread nD τ) none E) $$ HA; iintro HA
    iapply (wp_store_owns Variants.none (c : Thread nD τ) none E) $$ HA; iintro HA
    by_cases h2 : past hi (T ((Rect.unit (s := S520) off S1.size inb).emb (Shape.Idx.first (numel1_S1.symm ▸ Nat.one_pos)))) = 1#1
    · rw [if_pos h2, if_pos h2]
      iapply (wp_load_owns Variants.none (c : Thread nD τ) none E) $$ HA; iintro HA
      iapply (wp_load_owns Variants.none (c : Thread nD τ) none E) $$ HL; iintro HL
      iapply (wp_load_owns Variants.none (c : Thread nD τ) none E) $$ HA; iintro HA
      iapply (wp_store_owns Variants.none (c : Thread nD τ) none E) $$ HA; iintro HA
      iapply Hk
      isplitl [HT]; · iexact HT
      isplitl [HD]; · iexact HD
      isplitl [HY]; · iexact HY
      isplitl [HL]; · iexact HL
      iexact HA
    · rw [if_neg h2, if_neg h2]
      iapply Hk
      isplitl [HT]; · iexact HT
      isplitl [HD]; · iexact HD
      isplitl [HY]; · iexact HY
      isplitl [HL]; · iexact HL
      iexact HA
  · rw [stepP, if_neg h, if_neg h]
    iintro ⟨HT, HD, HY, HL, HA, Hk⟩
    iapply Hk
    isplitl [HT]; · iexact HT
    isplitl [HD]; · iexact HD
    isplitl [HY]; · iexact HY
    isplitl [HL]; · iexact HL
    iexact HA

end Cert.KernelIdeal.Hand

end
-- ==== Proof.Body.lean ====
/-
  The kernel's body at one grid point, from its three printed parts: what it leaves in the accumulator, and the triple.
-/
module

public import proofs.«01_k».proof.Proof.Step

@[expose] public section

set_option synthInstance.maxSize 4096

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords)

/-! ## Values -/

/-- Expert 0's step at grid point `i`: the tables' words are those at `8 * i + 0`. -/
def stepE0 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off1 i 0#32) (k0_off1_inb i 0)) (wordAt T3 (k0_off1 i 0#32) (k0_off1_inb i 0)) (wordAt T1 (k0_off2 i) (k0_off2_inb i)) d y l A

/-- Expert 1's step at grid point `i`: the tables' words are those at `8 * i + 1`. -/
def stepE1 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off3 i) (k0_off3_inb i)) (wordAt T3 (k0_off3 i) (k0_off3_inb i)) (wordAt T1 (k0_off4 i) (k0_off4_inb i)) d y l A

/-- Expert 2's step at grid point `i`: the tables' words are those at `8 * i + 2`. -/
def stepE2 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off5 i) (k0_off5_inb i)) (wordAt T3 (k0_off5 i) (k0_off5_inb i)) (wordAt T1 (k0_off6 i) (k0_off6_inb i)) d y l A

/-- Expert 3's step at grid point `i`: the tables' words are those at `8 * i + 3`. -/
def stepE3 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off7 i) (k0_off7_inb i)) (wordAt T3 (k0_off7 i) (k0_off7_inb i)) (wordAt T1 (k0_off8 i) (k0_off8_inb i)) d y l A

/-- Expert 4's step at grid point `i`: the tables' words are those at `8 * i + 4`. -/
def stepE4 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off9 i) (k0_off9_inb i)) (wordAt T3 (k0_off9 i) (k0_off9_inb i)) (wordAt T1 (k0_off10 i) (k0_off10_inb i)) d y l A

/-- Expert 5's step at grid point `i`: the tables' words are those at `8 * i + 5`. -/
def stepE5 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off11 i) (k0_off11_inb i)) (wordAt T3 (k0_off11 i) (k0_off11_inb i)) (wordAt T1 (k0_off12 i) (k0_off12_inb i)) d y l A

/-- Expert 6's step at grid point `i`: the tables' words are those at `8 * i + 6`. -/
def stepE6 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off13 i) (k0_off13_inb i)) (wordAt T3 (k0_off13 i) (k0_off13_inb i)) (wordAt T1 (k0_off14 i) (k0_off14_inb i)) d y l A

/-- Expert 7's step at grid point `i`: the tables' words are those at `8 * i + 7`. -/
def stepE7 (T1 T2 T3 : S520.Idx → BitVec 32) (d : Vec F S256x2 .i32) (y : Vec F S256x1024 .bf16) (l : Vec F S16x1024 .bf16) (A : Vec F S256x1024 .f32) : Vec F S256x1024 .f32 :=
  stepV (wordAt T2 (k0_off15 i) (k0_off15_inb i)) (wordAt T3 (k0_off15 i) (k0_off15_inb i)) (wordAt T1 (k0_off16 i) (k0_off16_inb i)) d y l A

/-- What the body leaves in the accumulator that held `A`. -/
def accB (T1 T2 T3 : S520.Idx → BitVec 32) (xp xs : Vec F S256x1024 .f32) (d : Vec F S256x2 .i32)
    (y0 y1 y2 y3 y4 y5 y6 y7 : Vec F S256x1024 .bf16) (l0 l1 l2 l3 l4 l5 l6 l7 : Vec F S16x1024 .bf16) (A : Vec F S256x1024 .f32) : Vec F S256x1024 .f32 :=
  stepE7 i T1 T2 T3 d y7 l7 (stepE6 i T1 T2 T3 d y6 l6 (stepE5 i T1 T2 T3 d y5 l5 (stepE4 i T1 T2 T3 d y4 l4 (stepE3 i T1 T2 T3 d y3 l3 (stepE2 i T1 T2 T3 d y2 l2 (stepE1 i T1 T2 T3 d y1 l1 (stepE0 i T1 T2 T3 d y0 l0 (initV i xp xs A))))))))

/-! ## Programs -/

variable (arg1 : Memref sig .tc .smem S520 .i32) (harg1 : arg1.IsWhole)
variable (arg2 : Memref sig .tc .smem S520 .i32) (harg2 : arg2.IsWhole)
variable (arg3 : Memref sig .tc .smem S520 .i32) (harg3 : arg3.IsWhole)
variable (arg4 : Memref sig .tc .vmem S256x1024 .f32) (harg4 : arg4.IsWhole)
variable (arg5 : Memref sig .tc .vmem S256x1024 .f32) (harg5 : arg5.IsWhole)
variable (arg6 : Memref sig .tc .vmem S256x2 .i32) (harg6 : arg6.IsWhole)
variable (arg7 : Memref sig .tc .vmem S1x1024 .f32) (harg7 : arg7.IsWhole)
variable (arg8 : Memref sig .tc .vmem S256x1024 .bf16) (harg8 : arg8.IsWhole)
variable (arg9 : Memref sig .tc .vmem S256x1024 .bf16) (harg9 : arg9.IsWhole)
variable (arg10 : Memref sig .tc .vmem S256x1024 .bf16) (harg10 : arg10.IsWhole)
variable (arg11 : Memref sig .tc .vmem S256x1024 .bf16) (harg11 : arg11.IsWhole)
variable (arg12 : Memref sig .tc .vmem S256x1024 .bf16) (harg12 : arg12.IsWhole)
variable (arg13 : Memref sig .tc .vmem S256x1024 .bf16) (harg13 : arg13.IsWhole)
variable (arg14 : Memref sig .tc .vmem S256x1024 .bf16) (harg14 : arg14.IsWhole)
variable (arg15 : Memref sig .tc .vmem S256x1024 .bf16) (harg15 : arg15.IsWhole)
variable (arg16 : Memref sig .tc .vmem S16x1024 .bf16) (harg16 : arg16.IsWhole)
variable (arg17 : Memref sig .tc .vmem S16x1024 .bf16) (harg17 : arg17.IsWhole)
variable (arg18 : Memref sig .tc .vmem S16x1024 .bf16) (harg18 : arg18.IsWhole)
variable (arg19 : Memref sig .tc .vmem S16x1024 .bf16) (harg19 : arg19.IsWhole)
variable (arg20 : Memref sig .tc .vmem S16x1024 .bf16) (harg20 : arg20.IsWhole)
variable (arg21 : Memref sig .tc .vmem S16x1024 .bf16) (harg21 : arg21.IsWhole)
variable (arg22 : Memref sig .tc .vmem S16x1024 .bf16) (harg22 : arg22.IsWhole)
variable (arg23 : Memref sig .tc .vmem S16x1024 .bf16) (harg23 : arg23.IsWhole)
variable (arg24 : Memref sig .tc .vmem S256x1024 .f32) (harg24 : arg24.IsWhole)
variable (arg25 : Memref sig .tc .vmem S256x1024 .f32) (harg25 : arg25.IsWhole)
variable (arg26 : Memref sig .tc .vmem S256x1024 .f32) (harg26 : arg26.IsWhole)

/-- The first part: the block's load, experts 0 and 1, and expert 2's range. -/
theorem part1_eq : k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 =
  (copyP (k0_cond19 i = 1#1) arg4 arg26 k0_pay1 <|
  copyP (k0_cond20 i = 1#1) arg5 arg26 k0_pay2 <|
  smemLoad arg2 (Rect.unit (s := S520) (k0_off1 i 0#32) S1.size (k0_off1_inb i 0)) numel1_S1 rfl >>= fun lo0 =>
  smemLoad arg3 (Rect.unit (s := S520) (k0_off1 i 0#32) S1.size (k0_off1_inb i 0)) numel1_S1 rfl >>= fun hi0 =>
  stepP arg1 arg6 arg8 arg16 arg26 (k0_off2 i) (k0_off2_inb i) lo0 hi0 <|
  smemLoad arg2 (Rect.unit (s := S520) (k0_off3 i) S1.size (k0_off3_inb i)) numel1_S1 rfl >>= fun lo1 =>
  smemLoad arg3 (Rect.unit (s := S520) (k0_off3 i) S1.size (k0_off3_inb i)) numel1_S1 rfl >>= fun hi1 =>
  stepP arg1 arg6 arg9 arg17 arg26 (k0_off4 i) (k0_off4_inb i) lo1 hi1 <|
  smemLoad arg2 (Rect.unit (s := S520) (k0_off5 i) S1.size (k0_off5_inb i)) numel1_S1 rfl >>= fun lo2 =>
  smemLoad arg3 (Rect.unit (s := S520) (k0_off5 i) S1.size (k0_off5_inb i)) numel1_S1 rfl >>= fun hi2 =>
  .ret ⟨BitVec.ofNat 32 (i 0).val, lo2, hi2, Scalar.cmpi .sgt hi2 lo2⟩) := rfl

/-- The second: expert 2 from its range, and experts 3 to 5. -/
theorem part2_eq (a0 lo2 hi2 : BitVec 32) : k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 a0 lo2 hi2 (Scalar.cmpi .sgt hi2 lo2) =
  (stepP arg1 arg6 arg10 arg18 arg26 (k0_off6 i) (k0_off6_inb i) lo2 hi2 <|
  smemLoad arg2 (Rect.unit (s := S520) (k0_off7 i) S1.size (k0_off7_inb i)) numel1_S1 rfl >>= fun lo3 =>
  smemLoad arg3 (Rect.unit (s := S520) (k0_off7 i) S1.size (k0_off7_inb i)) numel1_S1 rfl >>= fun hi3 =>
  stepP arg1 arg6 arg11 arg19 arg26 (k0_off8 i) (k0_off8_inb i) lo3 hi3 <|
  smemLoad arg2 (Rect.unit (s := S520) (k0_off9 i) S1.size (k0_off9_inb i)) numel1_S1 rfl >>= fun lo4 =>
  smemLoad arg3 (Rect.unit (s := S520) (k0_off9 i) S1.size (k0_off9_inb i)) numel1_S1 rfl >>= fun hi4 =>
  stepP arg1 arg6 arg12 arg20 arg26 (k0_off10 i) (k0_off10_inb i) lo4 hi4 <|
  smemLoad arg2 (Rect.unit (s := S520) (k0_off11 i) S1.size (k0_off11_inb i)) numel1_S1 rfl >>= fun lo5 =>
  smemLoad arg3 (Rect.unit (s := S520) (k0_off11 i) S1.size (k0_off11_inb i)) numel1_S1 rfl >>= fun hi5 =>
  stepP arg1 arg6 arg13 arg21 arg26 (k0_off12 i) (k0_off12_inb i) lo5 hi5 <|
  .ret ⟨⟩) := rfl

/-- The third: experts 6 and 7, the scaled rows and their store to the first result. -/
theorem part3_eq (a0 : BitVec 32) : k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 a0 =
  (smemLoad arg2 (Rect.unit (s := S520) (k0_off13 i) S1.size (k0_off13_inb i)) numel1_S1 rfl >>= fun lo6 =>
  smemLoad arg3 (Rect.unit (s := S520) (k0_off13 i) S1.size (k0_off13_inb i)) numel1_S1 rfl >>= fun hi6 =>
  stepP arg1 arg6 arg14 arg22 arg26 (k0_off14 i) (k0_off14_inb i) lo6 hi6 <|
  smemLoad arg2 (Rect.unit (s := S520) (k0_off15 i) S1.size (k0_off15_inb i)) numel1_S1 rfl >>= fun lo7 =>
  smemLoad arg3 (Rect.unit (s := S520) (k0_off15 i) S1.size (k0_off15_inb i)) numel1_S1 rfl >>= fun hi7 =>
  stepP arg1 arg6 arg15 arg23 arg26 (k0_off16 i) (k0_off16_inb i) lo7 hi7 <|
  .op (.load arg26 (Rect.unit (s := S256x1024) ![0, 0] S256x1024.size inb_S256x1024_S256x1024_0_0).toLoadRect (View.loadsAt_vmem h_S256x1024)) fun A =>
  .op (.load arg7 (Rect.unit (s := S1x1024) ![0, 0] S1x1024.size inb_S1x1024_S1x1024_0_0).toLoadRect (View.loadsAt_vmem h_S1x1024)) fun g =>
  putP (k0_cond19 i = 1#1) arg24 (k0_pay27 A g) <|
  .ret ⟨k0_pay27 A g, Scalar.extui (Scalar.cmpi .eq a0 64#32)⟩) := rfl

/-- The body is the parts and the store to the second result. -/
theorem body_eq : cc0_moe_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 =
  (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 >>= fun r =>
  k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 r.1 r.2.1 r.2.2.1 r.2.2.2 >>= fun _ =>
  k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 r.1 >>= fun s =>
  putP (k0_cond20 i = 1#1) arg25 s.1 (.ret ⟨⟩)) := rfl

/-! ## Triples -/

variable (c : Dev nD) (E : Set ℕ) (q : PosShare TreeShare)
variable (T1 : S520.Idx → BitVec 32) (T2 : S520.Idx → BitVec 32) (T3 : S520.Idx → BitVec 32) (xp : Vec F S256x1024 .f32) (xs : Vec F S256x1024 .f32) (d : Vec F S256x2 .i32) (g : Vec F S1x1024 .f32) (y0 : Vec F S256x1024 .bf16) (y1 : Vec F S256x1024 .bf16) (y2 : Vec F S256x1024 .bf16) (y3 : Vec F S256x1024 .bf16) (y4 : Vec F S256x1024 .bf16) (y5 : Vec F S256x1024 .bf16) (y6 : Vec F S256x1024 .bf16) (y7 : Vec F S256x1024 .bf16) (l0 : Vec F S16x1024 .bf16) (l1 : Vec F S16x1024 .bf16) (l2 : Vec F S16x1024 .bf16) (l3 : Vec F S16x1024 .bf16) (l4 : Vec F S16x1024 .bf16) (l5 : Vec F S16x1024 .bf16) (l6 : Vec F S16x1024 .bf16) (l7 : Vec F S16x1024 .bf16) (o20 : Vec F S256x1024 .f32) (o21 : Vec F S256x1024 .f32) (A : Vec F S256x1024 .f32)

theorem part1_wp (Q : _ → sProp 𝕄) :
    iprop(owns (c : Thread nD τ) arg1 q T1 ∗ owns (c : Thread nD τ) arg2 q T2 ∗ owns (c : Thread nD τ) arg3 q T3 ∗ owns (c : Thread nD τ) arg4 fullShare xp ∗ owns (c : Thread nD τ) arg5 fullShare xs ∗ owns (c : Thread nD τ) arg6 fullShare d ∗ owns (c : Thread nD τ) arg8 fullShare y0 ∗ owns (c : Thread nD τ) arg9 fullShare y1 ∗ owns (c : Thread nD τ) arg16 fullShare l0 ∗ owns (c : Thread nD τ) arg17 fullShare l1 ∗ owns (c : Thread nD τ) arg26 fullShare A
        ∗ ((owns (c : Thread nD τ) arg1 q T1 ∗ owns (c : Thread nD τ) arg2 q T2 ∗ owns (c : Thread nD τ) arg3 q T3 ∗ owns (c : Thread nD τ) arg4 fullShare xp ∗ owns (c : Thread nD τ) arg5 fullShare xs ∗ owns (c : Thread nD τ) arg6 fullShare d ∗ owns (c : Thread nD τ) arg8 fullShare y0 ∗ owns (c : Thread nD τ) arg9 fullShare y1 ∗ owns (c : Thread nD τ) arg16 fullShare l0 ∗ owns (c : Thread nD τ) arg17 fullShare l1 ∗ owns (c : Thread nD τ) arg26 fullShare (stepE1 i T1 T2 T3 d y1 l1 (stepE0 i T1 T2 T3 d y0 l0 (initV i xp xs A)))) -∗ Q ⟨BitVec.ofNat 32 (i 0).val, wordAt T2 (k0_off5 i) (k0_off5_inb i), wordAt T3 (k0_off5 i) (k0_off5_inb i), Scalar.cmpi .sgt (wordAt T3 (k0_off5 i) (k0_off5_inb i)) (wordAt T2 (k0_off5 i) (k0_off5_inb i))⟩))
      ⊢ wp frame (wpE (defs₀ (F := F)) Variants.none c none) E
          (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) Q := by
  rw [part1_eq]
  unfold stepE0 stepE1
  iintro ⟨H1, H2, H3, H4, H5, H6, H8, H9, H16, H17, H26, Hk⟩
  iapply (copyP_wp c E)
  isplitl [H4]; · iexact H4
  isplitl [H26]; · iexact H26
  iintro ⟨H4, H26⟩
  iapply (copyP_wp c E)
  isplitl [H5]; · iexact H5
  isplitl [H26]; · iexact H26
  iintro ⟨H5, H26⟩
  iapply (word_wp c E arg2) $$ H2; iintro H2
  iapply (word_wp c E arg3) $$ H3; iintro H3
  iapply (stepP_wp c E)
  isplitl [H1]; · iexact H1
  isplitl [H6]; · iexact H6
  isplitl [H8]; · iexact H8
  isplitl [H16]; · iexact H16
  isplitl [H26]; · iexact H26
  iintro ⟨H1, H6, H8, H16, H26⟩
  iapply (word_wp c E arg2) $$ H2; iintro H2
  iapply (word_wp c E arg3) $$ H3; iintro H3
  iapply (stepP_wp c E)
  isplitl [H1]; · iexact H1
  isplitl [H6]; · iexact H6
  isplitl [H9]; · iexact H9
  isplitl [H17]; · iexact H17
  isplitl [H26]; · iexact H26
  iintro ⟨H1, H6, H9, H17, H26⟩
  iapply (word_wp c E arg2) $$ H2; iintro H2
  iapply (word_wp c E arg3) $$ H3; iintro H3
  rw [wp_ret]; imodintro; iapply Hk
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H16]; · iexact H16
  isplitl [H17]; · iexact H17
  iexact H26

theorem part2_wp (a0 : BitVec 32) (Q : PUnit → sProp 𝕄) :
    iprop(owns (c : Thread nD τ) arg1 q T1 ∗ owns (c : Thread nD τ) arg2 q T2 ∗ owns (c : Thread nD τ) arg3 q T3 ∗ owns (c : Thread nD τ) arg6 fullShare d ∗ owns (c : Thread nD τ) arg10 fullShare y2 ∗ owns (c : Thread nD τ) arg11 fullShare y3 ∗ owns (c : Thread nD τ) arg12 fullShare y4 ∗ owns (c : Thread nD τ) arg13 fullShare y5 ∗ owns (c : Thread nD τ) arg18 fullShare l2 ∗ owns (c : Thread nD τ) arg19 fullShare l3 ∗ owns (c : Thread nD τ) arg20 fullShare l4 ∗ owns (c : Thread nD τ) arg21 fullShare l5 ∗ owns (c : Thread nD τ) arg26 fullShare A
        ∗ ((owns (c : Thread nD τ) arg1 q T1 ∗ owns (c : Thread nD τ) arg2 q T2 ∗ owns (c : Thread nD τ) arg3 q T3 ∗ owns (c : Thread nD τ) arg6 fullShare d ∗ owns (c : Thread nD τ) arg10 fullShare y2 ∗ owns (c : Thread nD τ) arg11 fullShare y3 ∗ owns (c : Thread nD τ) arg12 fullShare y4 ∗ owns (c : Thread nD τ) arg13 fullShare y5 ∗ owns (c : Thread nD τ) arg18 fullShare l2 ∗ owns (c : Thread nD τ) arg19 fullShare l3 ∗ owns (c : Thread nD τ) arg20 fullShare l4 ∗ owns (c : Thread nD τ) arg21 fullShare l5 ∗ owns (c : Thread nD τ) arg26 fullShare (stepE5 i T1 T2 T3 d y5 l5 (stepE4 i T1 T2 T3 d y4 l4 (stepE3 i T1 T2 T3 d y3 l3 (stepE2 i T1 T2 T3 d y2 l2 (A)))))) -∗ Q ⟨⟩))
      ⊢ wp frame (wpE (defs₀ (F := F)) Variants.none c none) E
          (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 a0 (wordAt T2 (k0_off5 i) (k0_off5_inb i)) (wordAt T3 (k0_off5 i) (k0_off5_inb i)) (Scalar.cmpi .sgt (wordAt T3 (k0_off5 i) (k0_off5_inb i)) (wordAt T2 (k0_off5 i) (k0_off5_inb i)))) Q := by
  rw [part2_eq]
  unfold stepE2 stepE3 stepE4 stepE5
  iintro ⟨H1, H2, H3, H6, H10, H11, H12, H13, H18, H19, H20, H21, H26, Hk⟩
  iapply (stepP_wp c E)
  isplitl [H1]; · iexact H1
  isplitl [H6]; · iexact H6
  isplitl [H10]; · iexact H10
  isplitl [H18]; · iexact H18
  isplitl [H26]; · iexact H26
  iintro ⟨H1, H6, H10, H18, H26⟩
  iapply (word_wp c E arg2) $$ H2; iintro H2
  iapply (word_wp c E arg3) $$ H3; iintro H3
  iapply (stepP_wp c E)
  isplitl [H1]; · iexact H1
  isplitl [H6]; · iexact H6
  isplitl [H11]; · iexact H11
  isplitl [H19]; · iexact H19
  isplitl [H26]; · iexact H26
  iintro ⟨H1, H6, H11, H19, H26⟩
  iapply (word_wp c E arg2) $$ H2; iintro H2
  iapply (word_wp c E arg3) $$ H3; iintro H3
  iapply (stepP_wp c E)
  isplitl [H1]; · iexact H1
  isplitl [H6]; · iexact H6
  isplitl [H12]; · iexact H12
  isplitl [H20]; · iexact H20
  isplitl [H26]; · iexact H26
  iintro ⟨H1, H6, H12, H20, H26⟩
  iapply (word_wp c E arg2) $$ H2; iintro H2
  iapply (word_wp c E arg3) $$ H3; iintro H3
  iapply (stepP_wp c E)
  isplitl [H1]; · iexact H1
  isplitl [H6]; · iexact H6
  isplitl [H13]; · iexact H13
  isplitl [H21]; · iexact H21
  isplitl [H26]; · iexact H26
  iintro ⟨H1, H6, H13, H21, H26⟩
  rw [wp_ret]; imodintro; iapply Hk
  isplitl [H1]; · iexact H1
  isplitl [H2]; · iexact H2
  isplitl [H3]; · iexact H3
  isplitl [H6]; · iexact H6
  isplitl [H10]; · iexact H10
  isplitl [H11]; · iexact H11
  isplitl [H12]; · iexact H12
  isplitl [H13]; · iexact H13
  isplitl [H18]; · iexact H18
  isplitl [H19]; · iexact H19
  isplitl [H20]; · iexact H20
  isplitl [H21]; · iexact H21
  iexact H26

theorem part3_wp (a0 : BitVec 32) (Q : _ → sProp 𝕄) :
    iprop(owns (c : Thread nD τ) arg1 q T1 ∗ owns (c : Thread nD τ) arg2 q T2 ∗ owns (c : Thread nD τ) arg3 q T3 ∗ owns (c : Thread nD τ) arg6 fullShare d ∗ owns (c : Thread nD τ) arg7 fullShare g ∗ owns (c : Thread nD τ) arg14 fullShare y6 ∗ owns (c : Thread nD τ) arg15 fullShare y7 ∗ owns (c : Thread nD τ) arg22 fullShare l6 ∗ owns (c : Thread nD τ) arg23 fullShare l7 ∗ owns (c : Thread nD τ) arg24 fullShare o20 ∗ owns (c : Thread nD τ) arg26 fullShare A
        ∗ ((owns (c : Thread nD τ) arg1 q T1 ∗ owns (c : Thread nD τ) arg2 q T2 ∗ owns (c : Thread nD τ) arg3 q T3 ∗ owns (c : Thread nD τ) arg6 fullShare d ∗ owns (c : Thread nD τ) arg7 fullShare g ∗ owns (c : Thread nD τ) arg14 fullShare y6 ∗ owns (c : Thread nD τ) arg15 fullShare y7 ∗ owns (c : Thread nD τ) arg22 fullShare l6 ∗ owns (c : Thread nD τ) arg23 fullShare l7 ∗ owns (c : Thread nD τ) arg24 fullShare (if k0_cond19 i = 1#1 then k0_pay27 (stepE7 i T1 T2 T3 d y7 l7 (stepE6 i T1 T2 T3 d y6 l6 (A))) g else o20) ∗ owns (c : Thread nD τ) arg26 fullShare (stepE7 i T1 T2 T3 d y7 l7 (stepE6 i T1 T2 T3 d y6 l6 (A)))) -∗ Q ⟨k0_pay27 (stepE7 i T1 T2 T3 d y7 l7 (stepE6 i T1 T2 T3 d y6 l6 (A))) g, Scalar.extui (Scalar.cmpi .eq a0 64#32)⟩))
      ⊢ wp frame (wpE (defs₀ (F := F)) Variants.none c none) E
          (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 a0) Q := by
  rw [part3_eq]
  unfold stepE6 stepE7
  iintro ⟨H1, H2, H3, H6, H7, H14, H15, H22, H23, H24, H26, Hk⟩
  iapply (word_wp c E arg2) $$ H2; iintro H2
  iapply (word_wp c E arg3) $$ H3; iintro H3
  iapply (stepP_wp c E)
  isplitl [H1]; · iexact H1
  isplitl [H6]; · iexact H6
  isplitl [H14]; · iexact H14
  isplitl [H22]; · iexact H22
  isplitl [H26]; · iexact H26
  iintro ⟨H1, H6, H14, H22, H26⟩
  iapply (word_wp c E arg2) $$ H2; iintro H2
  iapply (word_wp c E arg3) $$ H3; iintro H3
  iapply (stepP_wp c E)
  isplitl [H1]; · iexact H1
  isplitl [H6]; · iexact H6
  isplitl [H15]; · iexact H15
  isplitl [H23]; · iexact H23
  isplitl [H26]; · iexact H26
  iintro ⟨H1, H6, H15, H23, H26⟩
  iapply (wp_load_owns Variants.none (c : Thread nD τ) none E) $$ H26; iintro H26
  iapply (wp_load_owns Variants.none (c : Thread nD τ) none E) $$ H7; iintro H7
  iapply (putP_wp c E)
  isplitl [H24]; · iexact H24
  iintro H24
  rw [wp_ret]; imodintro; iapply Hk
  isplitl [H1]; · iexact H1
  isplitl [H2]; · iexact H2
  isplitl [H3]; · iexact H3
  isplitl [H6]; · iexact H6
  isplitl [H7]; · iexact H7
  isplitl [H14]; · iexact H14
  isplitl [H15]; · iexact H15
  isplitl [H22]; · iexact H22
  isplitl [H23]; · iexact H23
  isplitl [H24]; · iexact H24
  iexact H26

/-- The body at one grid point, for any continuation. -/
theorem body_wp (Q : PUnit → sProp 𝕄) :
    iprop(owns (c : Thread nD τ) arg1 q T1 ∗ owns (c : Thread nD τ) arg2 q T2 ∗ owns (c : Thread nD τ) arg3 q T3 ∗ owns (c : Thread nD τ) arg4 fullShare xp ∗ owns (c : Thread nD τ) arg5 fullShare xs ∗ owns (c : Thread nD τ) arg6 fullShare d ∗ owns (c : Thread nD τ) arg7 fullShare g ∗ owns (c : Thread nD τ) arg8 fullShare y0 ∗ owns (c : Thread nD τ) arg9 fullShare y1 ∗ owns (c : Thread nD τ) arg10 fullShare y2 ∗ owns (c : Thread nD τ) arg11 fullShare y3 ∗ owns (c : Thread nD τ) arg12 fullShare y4 ∗ owns (c : Thread nD τ) arg13 fullShare y5 ∗ owns (c : Thread nD τ) arg14 fullShare y6 ∗ owns (c : Thread nD τ) arg15 fullShare y7 ∗ owns (c : Thread nD τ) arg16 fullShare l0 ∗ owns (c : Thread nD τ) arg17 fullShare l1 ∗ owns (c : Thread nD τ) arg18 fullShare l2 ∗ owns (c : Thread nD τ) arg19 fullShare l3 ∗ owns (c : Thread nD τ) arg20 fullShare l4 ∗ owns (c : Thread nD τ) arg21 fullShare l5 ∗ owns (c : Thread nD τ) arg22 fullShare l6 ∗ owns (c : Thread nD τ) arg23 fullShare l7 ∗ owns (c : Thread nD τ) arg24 fullShare o20 ∗ owns (c : Thread nD τ) arg25 fullShare o21 ∗ owns (c : Thread nD τ) arg26 fullShare A
        ∗ ((owns (c : Thread nD τ) arg1 q T1 ∗ owns (c : Thread nD τ) arg2 q T2 ∗ owns (c : Thread nD τ) arg3 q T3 ∗ owns (c : Thread nD τ) arg4 fullShare xp ∗ owns (c : Thread nD τ) arg5 fullShare xs ∗ owns (c : Thread nD τ) arg6 fullShare d ∗ owns (c : Thread nD τ) arg7 fullShare g ∗ owns (c : Thread nD τ) arg8 fullShare y0 ∗ owns (c : Thread nD τ) arg9 fullShare y1 ∗ owns (c : Thread nD τ) arg10 fullShare y2 ∗ owns (c : Thread nD τ) arg11 fullShare y3 ∗ owns (c : Thread nD τ) arg12 fullShare y4 ∗ owns (c : Thread nD τ) arg13 fullShare y5 ∗ owns (c : Thread nD τ) arg14 fullShare y6 ∗ owns (c : Thread nD τ) arg15 fullShare y7 ∗ owns (c : Thread nD τ) arg16 fullShare l0 ∗ owns (c : Thread nD τ) arg17 fullShare l1 ∗ owns (c : Thread nD τ) arg18 fullShare l2 ∗ owns (c : Thread nD τ) arg19 fullShare l3 ∗ owns (c : Thread nD τ) arg20 fullShare l4 ∗ owns (c : Thread nD τ) arg21 fullShare l5 ∗ owns (c : Thread nD τ) arg22 fullShare l6 ∗ owns (c : Thread nD τ) arg23 fullShare l7 ∗ owns (c : Thread nD τ) arg24 fullShare (if k0_cond19 i = 1#1 then k0_pay27 (accB i T1 T2 T3 xp xs d y0 y1 y2 y3 y4 y5 y6 y7 l0 l1 l2 l3 l4 l5 l6 l7 A) g else o20) ∗ owns (c : Thread nD τ) arg25 fullShare (if k0_cond20 i = 1#1 then k0_pay27 (accB i T1 T2 T3 xp xs d y0 y1 y2 y3 y4 y5 y6 y7 l0 l1 l2 l3 l4 l5 l6 l7 A) g else o21) ∗ owns (c : Thread nD τ) arg26 fullShare (accB i T1 T2 T3 xp xs d y0 y1 y2 y3 y4 y5 y6 y7 l0 l1 l2 l3 l4 l5 l6 l7 A)) -∗ Q ⟨⟩))
      ⊢ wp frame (wpE (defs₀ (F := F)) Variants.none c none) E
          (cc0_moe_combine (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) Q := by
  rw [body_eq]
  unfold accB
  iintro ⟨H1, H2, H3, H4, H5, H6, H7, H8, H9, H10, H11, H12, H13, H14, H15, H16, H17, H18, H19, H20, H21, H22, H23, H24, H25, H26, Hk⟩
  rw [wp_bind]
  iapply (part1_wp (c := c) (E := E) (i := i))
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H16]; · iexact H16
  isplitl [H17]; · iexact H17
  isplitl [H26]; · iexact H26
  iintro ⟨H1, H2, H3, H4, H5, H6, H8, H9, H16, H17, H26⟩
  rw [wp_bind]
  iapply (part2_wp (c := c) (E := E) (i := i))
  isplitl [H1]; · iexact H1
  isplitl [H2]; · iexact H2
  isplitl [H3]; · iexact H3
  isplitl [H6]; · iexact H6
  isplitl [H10]; · iexact H10
  isplitl [H11]; · iexact H11
  isplitl [H12]; · iexact H12
  isplitl [H13]; · iexact H13
  isplitl [H18]; · iexact H18
  isplitl [H19]; · iexact H19
  isplitl [H20]; · iexact H20
  isplitl [H21]; · iexact H21
  isplitl [H26]; · iexact H26
  iintro ⟨H1, H2, H3, H6, H10, H11, H12, H13, H18, H19, H20, H21, H26⟩
  rw [wp_bind]
  iapply (part3_wp (c := c) (E := E) (i := i))
  isplitl [H1]; · iexact H1
  isplitl [H2]; · iexact H2
  isplitl [H3]; · iexact H3
  isplitl [H6]; · iexact H6
  isplitl [H7]; · iexact H7
  isplitl [H14]; · iexact H14
  isplitl [H15]; · iexact H15
  isplitl [H22]; · iexact H22
  isplitl [H23]; · iexact H23
  isplitl [H24]; · iexact H24
  isplitl [H26]; · iexact H26
  iintro ⟨H1, H2, H3, H6, H7, H14, H15, H22, H23, H24, H26⟩
  iapply (putP_wp c E (k0_cond20 i = 1#1) arg25 _ o21 (.ret ⟨⟩))
  isplitl [H25]; · iexact H25
  iintro H25
  rw [wp_ret]; imodintro; iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

end Cert.KernelIdeal.Hand

end
-- ==== Proof.Words.lean ====
/-
  What the precondition says of the tables and of the rows' places, as arithmetic on their words.
-/
module

public import proofs.«01_k».proof.Defs
public import proofs.«01_k».proof.Proof.Gen.Pre_routed
public import Idealize.ShloMosaic.Lib.StableHlo.Predicate

@[expose] public section

namespace Cert.Hand

open Idealize.ShloMosaic Cert.Pre_routed

/-- The index of a rank-1 table's word `k`. -/
def ixT (k : ℕ) (hk : k < 520) : S520.Idx := fun a => ⟨k, by fin_cases a; exact hk⟩

/-- The word of block `j` and expert `e`. -/
def ixJE (j : Fin 65) (e : Fin 8) : S520.Idx := ixT (8 * j.val + e.val) (by omega)

/-- The place of row `r`'s choice `k`. -/
def ixD (r : Fin 16640) (k : Fin 2) : S16640x2.Idx := fun a => match a with | 0 => r | 1 => k

def ix7 (j : Fin 65) (e : Fin 7) : S65x7.Idx := fun a => match a with | 0 => j | 1 => e
def ix512 (j : Fin 65) (p : Fin 512) : S65x512.Idx := fun a => match a with | 0 => j | 1 => p
def ixR (r : Fin 16640) : S16640.Idx := fun a => match a with | 0 => r

/-- The precondition, in words. -/
structure Routed (win lo hi : S520.Idx → BitVec 32) (dest : S16640x2.Idx → BitVec 32) : Prop where
  win_le : ∀ x, (win x).toNat ≤ 2671
  lo_ge : ∀ x, (win x).toNat * 16 ≤ (lo x).toNat
  lo_lt : ∀ x, (lo x).toNat < (win x).toNat * 16 + 16
  lo_le_hi : ∀ x, (lo x).toNat ≤ (hi x).toNat
  hi_le : ∀ x, (hi x).toNat ≤ (lo x).toNat + 256
  ordered : ∀ (j : Fin 65) (e : ℕ) (he : e + 1 < 8), (hi (ixJE j ⟨e, by omega⟩)).toNat ≤ (lo (ixJE j ⟨e + 1, he⟩)).toNat
  placed : ∀ (j : Fin 65) (t : Fin 256) (k : Fin 2), (dest (ixD ⟨256 * j.val + t.val, by omega⟩ k)).toInt < 0
    ∨ ∃ e : Fin 8, (lo (ixJE j e)).toNat ≤ (dest (ixD ⟨256 * j.val + t.val, by omega⟩ k)).toNat
        ∧ (dest (ixD ⟨256 * j.val + t.val, by omega⟩ k)).toNat < (hi (ixJE j e)).toNat
  distinct : ∀ r : Fin 16640, dest (ixD r 0) ≠ dest (ixD r 1) ∨ (dest (ixD r 0)).toInt < 0

theorem and_one (a b : BitVec 1) : a &&& b = 1#1 ↔ a = 1#1 ∧ b = 1#1 := by revert a b; decide
theorem or_one (a b : BitVec 1) : a ||| b = 1#1 ↔ a = 1#1 ∨ b = 1#1 := by revert a b; decide
theorem ofBool_one (b : Bool) : BitVec.ofBool b = 1#1 ↔ b = true := by revert b; decide

theorem sle_nat (a b : BitVec 32) : BitVec.sle a b = true ↔
    (a.toNat < 2147483648 ∧ b.toNat < 2147483648 ∧ a.toNat ≤ b.toNat) ∨ (2147483648 ≤ a.toNat ∧ b.toNat < 2147483648)
      ∨ (2147483648 ≤ a.toNat ∧ 2147483648 ≤ b.toNat ∧ a.toNat ≤ b.toNat) := by
  have := a.isLt; have := b.isLt
  simp only [BitVec.sle, decide_eq_true_eq, BitVec.toInt_eq_toNat_cond]
  split <;> split <;> omega

theorem slt_nat (a b : BitVec 32) : BitVec.slt a b = true ↔
    (a.toNat < 2147483648 ∧ b.toNat < 2147483648 ∧ a.toNat < b.toNat) ∨ (2147483648 ≤ a.toNat ∧ b.toNat < 2147483648)
      ∨ (2147483648 ≤ a.toNat ∧ 2147483648 ≤ b.toNat ∧ a.toNat < b.toNat) := by
  have := a.isLt; have := b.isLt
  simp only [BitVec.slt, decide_eq_true_eq, BitVec.toInt_eq_toNat_cond]
  split <;> split <;> omega

theorem toInt_neg (a : BitVec 32) : a.toInt < 0 ↔ 2147483648 ≤ a.toNat := by
  have := a.isLt
  simp only [BitVec.toInt_eq_toNat_cond]
  split <;> omega

/-- A table's column `e` from the 65 rows of 8, broadcast over a row's places. -/
theorem col_read (e : ℕ) (he : e < 8) (h0 : S65x8.Slices ![0, e] S65x1) (h1 : S520.ShapeCasts S65x8) (h2 : S65x1.BroadcastsInDim S65x512 ![0, 1])
    (x : S520.Idx → BitVec 32) (j : Fin 65) (p : Fin 512) :
    broadcastInDim S65x512 ![0, 1] h2 (extractStridedSlice S65x1 ![0, e] (shapeCast S65x8 x h1) h0)
      (ix512 j p) = x (ixJE j ⟨e, he⟩) := by
  simp only [broadcastInDim, extractStridedSlice, shapeCast]
  refine congrArg x (Shape.reshapeEquiv_eq_of_rowMajor h1 ?_)
  rw [Shape.rowMajor_val_two, Shape.rowMajor_val_one]
  simp [ixJE, ixT, ix7, ix512]
  try first | rfl | omega

/-- Column `e` (of columns `o` to `o + 6`) of a table from the 65 rows of 8. -/
theorem cols_read (o : ℕ) (h0 : S65x8.Slices ![0, o] S65x7) (h1 : S520.ShapeCasts S65x8)
    (x : S520.Idx → BitVec 32) (j : Fin 65) (e : Fin 7) (he : o + e.val < 8) :
    extractStridedSlice S65x7 ![0, o] (shapeCast S65x8 x h1) h0 (ix7 j e) = x (ixJE j ⟨o + e.val, he⟩) := by
  simp only [extractStridedSlice, shapeCast]
  refine congrArg x (Shape.reshapeEquiv_eq_of_rowMajor h1 ?_)
  rw [Shape.rowMajor_val_two, Shape.rowMajor_val_one]
  simp [ixJE, ixT, ix7, ix512]
  try first | rfl | omega

/-- A row's place from the 65 blocks of 512. -/
theorem place_read (h1 : S16640x2.ShapeCasts S65x512) (d : S16640x2.Idx → BitVec 32) (j : Fin 65) (t : Fin 256) (k : Fin 2) :
    shapeCast S65x512 d h1 (ix512 j ⟨2 * t.val + k.val, by omega⟩) = d (ixD ⟨256 * j.val + t.val, by omega⟩ k) := by
  simp only [shapeCast]
  refine congrArg d (Shape.reshapeEquiv_eq_of_rowMajor h1 ?_)
  rw [Shape.rowMajor_val_two, Shape.rowMajor_val_two]
  simp [ixD, ix512]
  try first | rfl | omega

/-- A row's place from the column it lies in. -/
theorem choice_read (k : ℕ) (hk : k < 2) (h0 : S16640x2.Slices ![0, k] S16640x1) (h1 : S16640x1.ShapeCasts S16640) (d : S16640x2.Idx → BitVec 32) (r : Fin 16640) :
    shapeCast S16640 (extractStridedSlice S16640x1 ![0, k] d h0) h1 (ixR r) = d (ixD r ⟨k, hk⟩) := by
  have h : Shape.reshapeEquiv h1 (ixR r) = (fun a => match a with | 0 => r | 1 => ⟨0, Nat.one_pos⟩ : S16640x1.Idx) := by
    refine Shape.reshapeEquiv_eq_of_rowMajor h1 ?_
    rw [Shape.rowMajor_val_two, Shape.rowMajor_val_one]
    simp [ixR]
    try first | rfl | omega
  simp only [shapeCast, h, extractStridedSlice]
  refine congrArg d (funext fun a => Fin.ext ?_)
  match a with
  | 0 => simp [ixD]
  | 1 => simp [ixD]

variable {F : FTy → Type} [FloatOps F]

theorem routed_of_fn (a0 a1 a2 : IVec S520 32) (a3 : FVec F S16384x1024 .f32) (a4 : FVec F S256x1024 .f32) (a5 : IVec S16640x2 32)
    (a6 : FVec F S43008x1024 .bf16) (a7 : FVec F S1024 .f32)
    (h1 : (fn (F := F) a0 a1 a2 a3 a4 a5 a6 a7).1 = fun _ => 1#1)
    (h2 : (fn (F := F) a0 a1 a2 a3 a4 a5 a6 a7).2.1 = fun _ => 1#1)
    (h3 : (fn (F := F) a0 a1 a2 a3 a4 a5 a6 a7).2.2.1 = fun _ => 1#1)
    (h4 : (fn (F := F) a0 a1 a2 a3 a4 a5 a6 a7).2.2.2.1 = fun _ => 1#1)
    (h5 : (fn (F := F) a0 a1 a2 a3 a4 a5 a6 a7).2.2.2.2.1 = fun _ => 1#1)
    (h6 : (fn (F := F) a0 a1 a2 a3 a4 a5 a6 a7).2.2.2.2.2 = fun _ => 1#1) :
    Routed a0 a1 a2 a5 := by
  have H1 : ∀ x, (a0 x).toNat ≤ 2671 := by
    intro x
    have e := congrFun h1 x
    simp only [fn, fn_part1, fn_part2, fn_part3, fn_part4, andi, cmpi, broadcastInDim, constantI, IntOp.andi, IntOp.cmpi, and_one, ofBool_one, sle_nat, BitVec.toNat_ofNat, Nat.reducePow, Nat.reduceMod] at e
    omega
  have H2 : ∀ x, (a0 x).toNat * 16 ≤ (a1 x).toNat ∧ (a1 x).toNat < (a0 x).toNat * 16 + 16 := by
    intro x
    have e := congrFun h2 x
    have w := H1 x
    simp only [fn, fn_part1, fn_part2, fn_part3, fn_part4, andi, cmpi, muli, addi, broadcastInDim, constantI, IntOp.andi, IntOp.muli, IntOp.addi, IntOp.cmpi, and_one, ofBool_one, sle_nat, slt_nat, BitVec.toNat_ofNat, BitVec.toNat_add, BitVec.toNat_mul, Nat.reducePow, Nat.reduceMod] at e
    omega
  have H3 : ∀ x, (a1 x).toNat ≤ (a2 x).toNat ∧ (a2 x).toNat ≤ (a1 x).toNat + 256 := by
    intro x
    have e := congrFun h3 x
    have w := H1 x
    have w2 := H2 x
    simp only [fn, fn_part1, fn_part2, fn_part3, fn_part4, andi, cmpi, muli, addi, broadcastInDim, constantI, IntOp.andi, IntOp.muli, IntOp.addi, IntOp.cmpi, and_one, ofBool_one, sle_nat, slt_nat, BitVec.toNat_ofNat, BitVec.toNat_add, BitVec.toNat_mul, Nat.reducePow, Nat.reduceMod] at e
    omega
  refine ⟨H1, fun x => (H2 x).1, fun x => (H2 x).2, fun x => (H3 x).1, fun x => (H3 x).2, ?_, ?_, ?_⟩
  · intro j e he
    have q := congrFun h4 (ix7 j ⟨e, by omega⟩)
    simp only [fn, fn_part1, fn_part2, fn_part3, fn_part4, cmpi, IntOp.cmpi, ofBool_one] at q
    rw [cols_read 0 _ _ a2 j ⟨e, by omega⟩ (by show 0 + e < 8; omega), cols_read 1 _ _ a1 j ⟨e, by omega⟩ (by show 1 + e < 8; omega), sle_nat] at q
    have l1 := H1 (ixJE j ⟨e, by omega⟩); have l2 := H2 (ixJE j ⟨e, by omega⟩); have l3 := H3 (ixJE j ⟨e, by omega⟩)
    have l4 := H1 (ixJE j ⟨e + 1, he⟩); have l5 := H2 (ixJE j ⟨e + 1, he⟩)
    have i1 : (⟨0 + (⟨e, by omega⟩ : Fin 7).val, by show 0 + e < 8; omega⟩ : Fin 8) = ⟨e, by omega⟩ := Fin.ext (Nat.zero_add _)
    have i2 : (⟨1 + (⟨e, by omega⟩ : Fin 7).val, by show 1 + e < 8; omega⟩ : Fin 8) = ⟨e + 1, he⟩ := Fin.ext (Nat.add_comm _ _)
    rw [i1, i2] at q
    omega
  · intro j t k
    have q := congrFun h5 (ix512 j ⟨2 * t.val + k.val, by omega⟩)
    simp only [fn, fn_part1, fn_part2, fn_part3, fn_part4, cmpi, ori, andi, IntOp.cmpi, IntOp.ori, IntOp.andi, or_one, and_one, ofBool_one] at q
    rw [place_read _ a5 j t k] at q
    rw [col_read 0 (by omega) _ _ _ a1 j, col_read 0 (by omega) _ _ _ a2 j, col_read 1 (by omega) _ _ _ a1 j, col_read 1 (by omega) _ _ _ a2 j, col_read 2 (by omega) _ _ _ a1 j, col_read 2 (by omega) _ _ _ a2 j, col_read 3 (by omega) _ _ _ a1 j, col_read 3 (by omega) _ _ _ a2 j, col_read 4 (by omega) _ _ _ a1 j, col_read 4 (by omega) _ _ _ a2 j, col_read 5 (by omega) _ _ _ a1 j, col_read 5 (by omega) _ _ _ a2 j, col_read 6 (by omega) _ _ _ a1 j, col_read 6 (by omega) _ _ _ a2 j, col_read 7 (by omega) _ _ _ a1 j, col_read 7 (by omega) _ _ _ a2 j] at q
    simp only [sle_nat, slt_nat, broadcastInDim, constantI, BitVec.toNat_ofNat, Nat.reducePow, Nat.reduceMod] at q
    rw [toInt_neg]
    rcases q with (((((((q | q) | q) | q) | q) | q) | q) | q) | q
    · left; omega
    · have k1 := H1 (ixJE j 0); have k2 := H2 (ixJE j 0); have k3 := H3 (ixJE j 0)
      refine .inr ⟨0, ?_⟩
      change _ ∧ _ at q
      simp only [show (⟨0, by omega⟩ : Fin 8) = 0 from rfl] at q
      omega
    · have k1 := H1 (ixJE j 1); have k2 := H2 (ixJE j 1); have k3 := H3 (ixJE j 1)
      refine .inr ⟨1, ?_⟩
      change _ ∧ _ at q
      simp only [show (⟨1, by omega⟩ : Fin 8) = 1 from rfl] at q
      omega
    · have k1 := H1 (ixJE j 2); have k2 := H2 (ixJE j 2); have k3 := H3 (ixJE j 2)
      refine .inr ⟨2, ?_⟩
      change _ ∧ _ at q
      simp only [show (⟨2, by omega⟩ : Fin 8) = 2 from rfl] at q
      omega
    · have k1 := H1 (ixJE j 3); have k2 := H2 (ixJE j 3); have k3 := H3 (ixJE j 3)
      refine .inr ⟨3, ?_⟩
      change _ ∧ _ at q
      simp only [show (⟨3, by omega⟩ : Fin 8) = 3 from rfl] at q
      omega
    · have k1 := H1 (ixJE j 4); have k2 := H2 (ixJE j 4); have k3 := H3 (ixJE j 4)
      refine .inr ⟨4, ?_⟩
      change _ ∧ _ at q
      simp only [show (⟨4, by omega⟩ : Fin 8) = 4 from rfl] at q
      omega
    · have k1 := H1 (ixJE j 5); have k2 := H2 (ixJE j 5); have k3 := H3 (ixJE j 5)
      refine .inr ⟨5, ?_⟩
      change _ ∧ _ at q
      simp only [show (⟨5, by omega⟩ : Fin 8) = 5 from rfl] at q
      omega
    · have k1 := H1 (ixJE j 6); have k2 := H2 (ixJE j 6); have k3 := H3 (ixJE j 6)
      refine .inr ⟨6, ?_⟩
      change _ ∧ _ at q
      simp only [show (⟨6, by omega⟩ : Fin 8) = 6 from rfl] at q
      omega
    · have k1 := H1 (ixJE j 7); have k2 := H2 (ixJE j 7); have k3 := H3 (ixJE j 7)
      refine .inr ⟨7, ?_⟩
      change _ ∧ _ at q
      simp only [show (⟨7, by omega⟩ : Fin 8) = 7 from rfl] at q
      omega
  · intro r
    have q := congrFun h6 (ixR r)
    simp only [fn, fn_part1, fn_part2, fn_part3, fn_part4, cmpi, ori, andi, IntOp.cmpi, IntOp.ori, IntOp.andi, or_one, and_one, ofBool_one] at q
    rw [choice_read 0 (by omega) _ _ a5 r, choice_read 1 (by omega) _ _ a5 r] at q
    rcases q with q | q
    · left; simpa using q
    · right; rw [slt_nat] at q; rw [toInt_neg]
      change (_ ∨ _) at q
      simp only [show (⟨0, by omega⟩ : Fin 2) = 0 from rfl] at q
      simp only [broadcastInDim, constantI, BitVec.toNat_ofNat, Nat.reducePow, Nat.reduceMod] at q
      omega

end Cert.Hand
-- ==== Proof.Ok.lean ====
/-
  The tables the precondition admits pass the pipeline's checks: the windows lie in the array, at multiples of 16 rows.
-/
module

public import proofs.«01_k».proof.Proof.Words
public import proofs.«01_k».proof.Proof.Body
public import Idealize.ShloMosaic.Lib.Affine

@[expose] public section

noncomputable section

namespace Cert.KernelIdeal.Hand

open Cert.KernelIdeal Cert.KernelIdeal.Gen Cert.Hand
open Idealize.ShloMosaic

variable {F : FTy → Type} [FloatOps F]

theorem i_lt (i : grid0.Coords) : (i 0).val < 65 := (i 0).isLt

/-- The block of a grid point. -/
def blk (i : grid0.Coords) : Fin 65 := ⟨(i 0).val, i_lt i⟩

/-- The word's position is `8 * i + r`. -/
theorem pos_toNat (n r : ℕ) (hn : n < 65) (hr : r < 8) :
    (Scalar.indexCast (Scalar.addi (Scalar.muli (BitVec.ofNat 32 n) 8#32) (BitVec.ofNat 32 r))).toNat = 8 * n + r := by
  simp only [Scalar.indexCast, Scalar.addi, Scalar.muli, IntOp.addi, IntOp.muli]
  simp only [BitVec.toNat_add, BitVec.toNat_mul, BitVec.toNat_ofNat, BitVec.toNat_setWidth, BitVec.toNat_signExtend]
  omega

theorem word_idx (off : Fin 1 → ℕ) (inb : ∀ a, off a + S1.size a ≤ S520.size a) (h1 : 0 < S1.numel) (k : ℕ) (hk : k < 520) (h : off 0 = k) :
    (Rect.unit (s := S520) off S1.size inb).emb (Shape.Idx.first h1) = ixT k hk := by
  subst h
  funext a
  refine Fin.ext ?_
  match a with
  | 0 =>
    have := ((Shape.Idx.first h1 : S1.Idx) 0).isLt
    change ((Shape.Idx.first h1 : S1.Idx) 0).val < 1 at this

    show off 0 + ((Shape.Idx.first h1 : S1.Idx) 0).val * 1 = off 0
    omega

theorem wordAt_eq (X : S520.Idx → BitVec 32) (off : Fin 1 → ℕ) (inb : ∀ a, off a + S1.size a ≤ S520.size a) (i : grid0.Coords) (e : Fin 8)
    (h : off 0 = 8 * (i 0).val + e.val) : wordAt X off inb = X (ixJE (blk i) e) :=
  congrArg X (word_idx off inb _ _ _ h)

theorem off2_eq (i : grid0.Coords) : k0_off2 i 0 = 8 * (i 0).val + 0 := pos_toNat _ 0 (i_lt i) (by decide)
theorem off3_eq (i : grid0.Coords) : k0_off3 i 0 = 8 * (i 0).val + 1 := pos_toNat _ 1 (i_lt i) (by decide)
theorem off4_eq (i : grid0.Coords) : k0_off4 i 0 = 8 * (i 0).val + 1 := pos_toNat _ 1 (i_lt i) (by decide)
theorem off5_eq (i : grid0.Coords) : k0_off5 i 0 = 8 * (i 0).val + 2 := pos_toNat _ 2 (i_lt i) (by decide)
theorem off6_eq (i : grid0.Coords) : k0_off6 i 0 = 8 * (i 0).val + 2 := pos_toNat _ 2 (i_lt i) (by decide)
theorem off7_eq (i : grid0.Coords) : k0_off7 i 0 = 8 * (i 0).val + 3 := pos_toNat _ 3 (i_lt i) (by decide)
theorem off8_eq (i : grid0.Coords) : k0_off8 i 0 = 8 * (i 0).val + 3 := pos_toNat _ 3 (i_lt i) (by decide)
theorem off9_eq (i : grid0.Coords) : k0_off9 i 0 = 8 * (i 0).val + 4 := pos_toNat _ 4 (i_lt i) (by decide)
theorem off10_eq (i : grid0.Coords) : k0_off10 i 0 = 8 * (i 0).val + 4 := pos_toNat _ 4 (i_lt i) (by decide)
theorem off11_eq (i : grid0.Coords) : k0_off11 i 0 = 8 * (i 0).val + 5 := pos_toNat _ 5 (i_lt i) (by decide)
theorem off12_eq (i : grid0.Coords) : k0_off12 i 0 = 8 * (i 0).val + 5 := pos_toNat _ 5 (i_lt i) (by decide)
theorem off13_eq (i : grid0.Coords) : k0_off13 i 0 = 8 * (i 0).val + 6 := pos_toNat _ 6 (i_lt i) (by decide)
theorem off14_eq (i : grid0.Coords) : k0_off14 i 0 = 8 * (i 0).val + 6 := pos_toNat _ 6 (i_lt i) (by decide)
theorem off15_eq (i : grid0.Coords) : k0_off15 i 0 = 8 * (i 0).val + 7 := pos_toNat _ 7 (i_lt i) (by decide)
theorem off16_eq (i : grid0.Coords) : k0_off16 i 0 = 8 * (i 0).val + 7 := pos_toNat _ 7 (i_lt i) (by decide)
theorem off1_eq (i : grid0.Coords) (r : ℕ) (hr : r < 8) : k0_off1 i (BitVec.ofNat 32 r) 0 = 8 * (i 0).val + r := pos_toNat _ r (i_lt i) hr

/-- A window's first row: `16 * win`, and 256 rows on for a tail. -/
theorem row_toNat (w : BitVec 32) (hw : w.toNat ≤ 2671) (o : ℕ) (ho : o ≤ 16) :
    (Scalar.muli (Scalar.addi w (BitVec.ofNat 32 o)) 16#32).toNat = 16 * (w.toNat + o) := by
  simp only [Scalar.addi, Scalar.muli, IntOp.addi, IntOp.muli, BitVec.toNat_add, BitVec.toNat_mul, BitVec.toNat_ofNat]
  omega

theorem row_toInt (w : BitVec 32) (hw : w.toNat ≤ 2671) (o : ℕ) (ho : o ≤ 16) :
    (16 : Int) ∣ (Scalar.muli (Scalar.addi w (BitVec.ofNat 32 o)) 16#32).toInt := by
  rw [BitVec.toInt_eq_toNat_cond, row_toNat w hw o ho]
  split <;> omega

section

variable (pf : pre0.Contents (Elt F)) (h : ∀ x : S520.Idx, (pf 0 x : BitVec 32).toNat ≤ 2671)
include h

theorem atD_le (off : Fin 1 → ℕ) : (pf.atD 0 off : BitVec 32).toNat ≤ 2671 := by
  unfold Pipeline.Prefetch.Contents.atD
  split
  · exact h _
  · exact Nat.zero_le _

theorem tr4_eq (i : grid0.Coords) : cc0_transform_4 k0_off1_inb numel1_S1 pf i = ![16 * ((pf 0 (ixJE (blk i) 0) : BitVec 32).toNat + 0), 0] := by
  have e0 := word_idx ![(Scalar.indexCast (Scalar.addi (Scalar.muli (BitVec.ofNat 32 (i 0).val) 8#32) 0#32)).toNat] (k0_off1_inb i 0) (numel1_S1.symm ▸ Nat.one_pos) _ (by have := i_lt i; omega) (pos_toNat _ 0 (i_lt i) (by decide))
  have e1 := row_toNat (pf 0 (ixJE (blk i) 0)) (h _) 0 (by decide)
  unfold cc0_transform_4
  exact congrArg (fun n : ℕ => (![n, 0] : Fin 2 → ℕ)) ((congrArg (fun x => (Scalar.muli (Scalar.addi (pf 0 x) 0#32) 16#32).toNat) e0).trans e1)
theorem tr12_eq (i : grid0.Coords) : cc0_transform_12 k0_off1_inb numel1_S1 pf i = ![16 * ((pf 0 (ixJE (blk i) 0) : BitVec 32).toNat + 16), 0] := by
  have e0 := word_idx ![(Scalar.indexCast (Scalar.addi (Scalar.muli (BitVec.ofNat 32 (i 0).val) 8#32) 0#32)).toNat] (k0_off1_inb i 0) (numel1_S1.symm ▸ Nat.one_pos) _ (by have := i_lt i; omega) (pos_toNat _ 0 (i_lt i) (by decide))
  have e1 := row_toNat (pf 0 (ixJE (blk i) 0)) (h _) 16 (by decide)
  unfold cc0_transform_12
  exact congrArg (fun n : ℕ => (![n, 0] : Fin 2 → ℕ)) ((congrArg (fun x => (Scalar.muli (Scalar.addi (pf 0 x) 16#32) 16#32).toNat) e0).trans e1)
theorem tr5_eq (i : grid0.Coords) : cc0_transform_5 k0_off1_inb numel1_S1 pf i = ![16 * ((pf 0 (ixJE (blk i) 1) : BitVec 32).toNat + 0), 0] := by
  have e0 := word_idx ![(Scalar.indexCast (Scalar.addi (Scalar.muli (BitVec.ofNat 32 (i 0).val) 8#32) 1#32)).toNat] (k0_off1_inb i 1) (numel1_S1.symm ▸ Nat.one_pos) _ (by have := i_lt i; omega) (pos_toNat _ 1 (i_lt i) (by decide))
  have e1 := row_toNat (pf 0 (ixJE (blk i) 1)) (h _) 0 (by decide)
  unfold cc0_transform_5
  exact congrArg (fun n : ℕ => (![n, 0] : Fin 2 → ℕ)) ((congrArg (fun x => (Scalar.muli (Scalar.addi (pf 0 x) 0#32) 16#32).toNat) e0).trans e1)
theorem tr13_eq (i : grid0.Coords) : cc0_transform_13 k0_off1_inb numel1_S1 pf i = ![16 * ((pf 0 (ixJE (blk i) 1) : BitVec 32).toNat + 16), 0] := by
  have e0 := word_idx ![(Scalar.indexCast (Scalar.addi (Scalar.muli (BitVec.ofNat 32 (i 0).val) 8#32) 1#32)).toNat] (k0_off1_inb i 1) (numel1_S1.symm ▸ Nat.one_pos) _ (by have := i_lt i; omega) (pos_toNat _ 1 (i_lt i) (by decide))
  have e1 := row_toNat (pf 0 (ixJE (blk i) 1)) (h _) 16 (by decide)
  unfold cc0_transform_13
  exact congrArg (fun n : ℕ => (![n, 0] : Fin 2 → ℕ)) ((congrArg (fun x => (Scalar.muli (Scalar.addi (pf 0 x) 16#32) 16#32).toNat) e0).trans e1)
theorem tr6_eq (i : grid0.Coords) : cc0_transform_6 k0_off1_inb numel1_S1 pf i = ![16 * ((pf 0 (ixJE (blk i) 2) : BitVec 32).toNat + 0), 0] := by
  have e0 := word_idx ![(Scalar.indexCast (Scalar.addi (Scalar.muli (BitVec.ofNat 32 (i 0).val) 8#32) 2#32)).toNat] (k0_off1_inb i 2) (numel1_S1.symm ▸ Nat.one_pos) _ (by have := i_lt i; omega) (pos_toNat _ 2 (i_lt i) (by decide))
  have e1 := row_toNat (pf 0 (ixJE (blk i) 2)) (h _) 0 (by decide)
  unfold cc0_transform_6
  exact congrArg (fun n : ℕ => (![n, 0] : Fin 2 → ℕ)) ((congrArg (fun x => (Scalar.muli (Scalar.addi (pf 0 x) 0#32) 16#32).toNat) e0).trans e1)
theorem tr14_eq (i : grid0.Coords) : cc0_transform_14 k0_off1_inb numel1_S1 pf i = ![16 * ((pf 0 (ixJE (blk i) 2) : BitVec 32).toNat + 16), 0] := by
  have e0 := word_idx ![(Scalar.indexCast (Scalar.addi (Scalar.muli (BitVec.ofNat 32 (i 0).val) 8#32) 2#32)).toNat] (k0_off1_inb i 2) (numel1_S1.symm ▸ Nat.one_pos) _ (by have := i_lt i; omega) (pos_toNat _ 2 (i_lt i) (by decide))
  have e1 := row_toNat (pf 0 (ixJE (blk i) 2)) (h _) 16 (by decide)
  unfold cc0_transform_14
  exact congrArg (fun n : ℕ => (![n, 0] : Fin 2 → ℕ)) ((congrArg (fun x => (Scalar.muli (Scalar.addi (pf 0 x) 16#32) 16#32).toNat) e0).trans e1)
theorem tr7_eq (i : grid0.Coords) : cc0_transform_7 k0_off1_inb numel1_S1 pf i = ![16 * ((pf 0 (ixJE (blk i) 3) : BitVec 32).toNat + 0), 0] := by
  have e0 := word_idx ![(Scalar.indexCast (Scalar.addi (Scalar.muli (BitVec.ofNat 32 (i 0).val) 8#32) 3#32)).toNat] (k0_off1_inb i 3) (numel1_S1.symm ▸ Nat.one_pos) _ (by have := i_lt i; omega) (pos_toNat _ 3 (i_lt i) (by decide))
  have e1 := row_toNat (pf 0 (ixJE (blk i) 3)) (h _) 0 (by decide)
  unfold cc0_transform_7
  exact congrArg (fun n : ℕ => (![n, 0] : Fin 2 → ℕ)) ((congrArg (fun x => (Scalar.muli (Scalar.addi (pf 0 x) 0#32) 16#32).toNat) e0).trans e1)
theorem tr15_eq (i : grid0.Coords) : cc0_transform_15 k0_off1_inb numel1_S1 pf i = ![16 * ((pf 0 (ixJE (blk i) 3) : BitVec 32).toNat + 16), 0] := by
  have e0 := word_idx ![(Scalar.indexCast (Scalar.addi (Scalar.muli (BitVec.ofNat 32 (i 0).val) 8#32) 3#32)).toNat] (k0_off1_inb i 3) (numel1_S1.symm ▸ Nat.one_pos) _ (by have := i_lt i; omega) (pos_toNat _ 3 (i_lt i) (by decide))
  have e1 := row_toNat (pf 0 (ixJE (blk i) 3)) (h _) 16 (by decide)
  unfold cc0_transform_15
  exact congrArg (fun n : ℕ => (![n, 0] : Fin 2 → ℕ)) ((congrArg (fun x => (Scalar.muli (Scalar.addi (pf 0 x) 16#32) 16#32).toNat) e0).trans e1)
theorem tr8_eq (i : grid0.Coords) : cc0_transform_8 k0_off1_inb numel1_S1 pf i = ![16 * ((pf 0 (ixJE (blk i) 4) : BitVec 32).toNat + 0), 0] := by
  have e0 := word_idx ![(Scalar.indexCast (Scalar.addi (Scalar.muli (BitVec.ofNat 32 (i 0).val) 8#32) 4#32)).toNat] (k0_off1_inb i 4) (numel1_S1.symm ▸ Nat.one_pos) _ (by have := i_lt i; omega) (pos_toNat _ 4 (i_lt i) (by decide))
  have e1 := row_toNat (pf 0 (ixJE (blk i) 4)) (h _) 0 (by decide)
  unfold cc0_transform_8
  exact congrArg (fun n : ℕ => (![n, 0] : Fin 2 → ℕ)) ((congrArg (fun x => (Scalar.muli (Scalar.addi (pf 0 x) 0#32) 16#32).toNat) e0).trans e1)
theorem tr16_eq (i : grid0.Coords) : cc0_transform_16 k0_off1_inb numel1_S1 pf i = ![16 * ((pf 0 (ixJE (blk i) 4) : BitVec 32).toNat + 16), 0] := by
  have e0 := word_idx ![(Scalar.indexCast (Scalar.addi (Scalar.muli (BitVec.ofNat 32 (i 0).val) 8#32) 4#32)).toNat] (k0_off1_inb i 4) (numel1_S1.symm ▸ Nat.one_pos) _ (by have := i_lt i; omega) (pos_toNat _ 4 (i_lt i) (by decide))
  have e1 := row_toNat (pf 0 (ixJE (blk i) 4)) (h _) 16 (by decide)
  unfold cc0_transform_16
  exact congrArg (fun n : ℕ => (![n, 0] : Fin 2 → ℕ)) ((congrArg (fun x => (Scalar.muli (Scalar.addi (pf 0 x) 16#32) 16#32).toNat) e0).trans e1)
theorem tr9_eq (i : grid0.Coords) : cc0_transform_9 k0_off1_inb numel1_S1 pf i = ![16 * ((pf 0 (ixJE (blk i) 5) : BitVec 32).toNat + 0), 0] := by
  have e0 := word_idx ![(Scalar.indexCast (Scalar.addi (Scalar.muli (BitVec.ofNat 32 (i 0).val) 8#32) 5#32)).toNat] (k0_off1_inb i 5) (numel1_S1.symm ▸ Nat.one_pos) _ (by have := i_lt i; omega) (pos_toNat _ 5 (i_lt i) (by decide))
  have e1 := row_toNat (pf 0 (ixJE (blk i) 5)) (h _) 0 (by decide)
  unfold cc0_transform_9
  exact congrArg (fun n : ℕ => (![n, 0] : Fin 2 → ℕ)) ((congrArg (fun x => (Scalar.muli (Scalar.addi (pf 0 x) 0#32) 16#32).toNat) e0).trans e1)
theorem tr17_eq (i : grid0.Coords) : cc0_transform_17 k0_off1_inb numel1_S1 pf i = ![16 * ((pf 0 (ixJE (blk i) 5) : BitVec 32).toNat + 16), 0] := by
  have e0 := word_idx ![(Scalar.indexCast (Scalar.addi (Scalar.muli (BitVec.ofNat 32 (i 0).val) 8#32) 5#32)).toNat] (k0_off1_inb i 5) (numel1_S1.symm ▸ Nat.one_pos) _ (by have := i_lt i; omega) (pos_toNat _ 5 (i_lt i) (by decide))
  have e1 := row_toNat (pf 0 (ixJE (blk i) 5)) (h _) 16 (by decide)
  unfold cc0_transform_17
  exact congrArg (fun n : ℕ => (![n, 0] : Fin 2 → ℕ)) ((congrArg (fun x => (Scalar.muli (Scalar.addi (pf 0 x) 16#32) 16#32).toNat) e0).trans e1)
theorem tr10_eq (i : grid0.Coords) : cc0_transform_10 k0_off1_inb numel1_S1 pf i = ![16 * ((pf 0 (ixJE (blk i) 6) : BitVec 32).toNat + 0), 0] := by
  have e0 := word_idx ![(Scalar.indexCast (Scalar.addi (Scalar.muli (BitVec.ofNat 32 (i 0).val) 8#32) 6#32)).toNat] (k0_off1_inb i 6) (numel1_S1.symm ▸ Nat.one_pos) _ (by have := i_lt i; omega) (pos_toNat _ 6 (i_lt i) (by decide))
  have e1 := row_toNat (pf 0 (ixJE (blk i) 6)) (h _) 0 (by decide)
  unfold cc0_transform_10
  exact congrArg (fun n : ℕ => (![n, 0] : Fin 2 → ℕ)) ((congrArg (fun x => (Scalar.muli (Scalar.addi (pf 0 x) 0#32) 16#32).toNat) e0).trans e1)
theorem tr18_eq (i : grid0.Coords) : cc0_transform_18 k0_off1_inb numel1_S1 pf i = ![16 * ((pf 0 (ixJE (blk i) 6) : BitVec 32).toNat + 16), 0] := by
  have e0 := word_idx ![(Scalar.indexCast (Scalar.addi (Scalar.muli (BitVec.ofNat 32 (i 0).val) 8#32) 6#32)).toNat] (k0_off1_inb i 6) (numel1_S1.symm ▸ Nat.one_pos) _ (by have := i_lt i; omega) (pos_toNat _ 6 (i_lt i) (by decide))
  have e1 := row_toNat (pf 0 (ixJE (blk i) 6)) (h _) 16 (by decide)
  unfold cc0_transform_18
  exact congrArg (fun n : ℕ => (![n, 0] : Fin 2 → ℕ)) ((congrArg (fun x => (Scalar.muli (Scalar.addi (pf 0 x) 16#32) 16#32).toNat) e0).trans e1)
theorem tr11_eq (i : grid0.Coords) : cc0_transform_11 k0_off1_inb numel1_S1 pf i = ![16 * ((pf 0 (ixJE (blk i) 7) : BitVec 32).toNat + 0), 0] := by
  have e0 := word_idx ![(Scalar.indexCast (Scalar.addi (Scalar.muli (BitVec.ofNat 32 (i 0).val) 8#32) 7#32)).toNat] (k0_off1_inb i 7) (numel1_S1.symm ▸ Nat.one_pos) _ (by have := i_lt i; omega) (pos_toNat _ 7 (i_lt i) (by decide))
  have e1 := row_toNat (pf 0 (ixJE (blk i) 7)) (h _) 0 (by decide)
  unfold cc0_transform_11
  exact congrArg (fun n : ℕ => (![n, 0] : Fin 2 → ℕ)) ((congrArg (fun x => (Scalar.muli (Scalar.addi (pf 0 x) 0#32) 16#32).toNat) e0).trans e1)
theorem tr19_eq (i : grid0.Coords) : cc0_transform_19 k0_off1_inb numel1_S1 pf i = ![16 * ((pf 0 (ixJE (blk i) 7) : BitVec 32).toNat + 16), 0] := by
  have e0 := word_idx ![(Scalar.indexCast (Scalar.addi (Scalar.muli (BitVec.ofNat 32 (i 0).val) 8#32) 7#32)).toNat] (k0_off1_inb i 7) (numel1_S1.symm ▸ Nat.one_pos) _ (by have := i_lt i; omega) (pos_toNat _ 7 (i_lt i) (by decide))
  have e1 := row_toNat (pf 0 (ixJE (blk i) 7)) (h _) 16 (by decide)
  unfold cc0_transform_19
  exact congrArg (fun n : ℕ => (![n, 0] : Fin 2 → ℕ)) ((congrArg (fun x => (Scalar.muli (Scalar.addi (pf 0 x) 16#32) 16#32).toNat) e0).trans e1)

theorem ok0_of_le : ok0 pf :=
  ⟨fun i => row_toInt _ (atD_le pf h _) 0 (by decide),
    fun i => row_toInt _ (atD_le pf h _) 0 (by decide),
    fun i => row_toInt _ (atD_le pf h _) 0 (by decide),
    fun i => row_toInt _ (atD_le pf h _) 0 (by decide),
    fun i => row_toInt _ (atD_le pf h _) 0 (by decide),
    fun i => row_toInt _ (atD_le pf h _) 0 (by decide),
    fun i => row_toInt _ (atD_le pf h _) 0 (by decide),
    fun i => row_toInt _ (atD_le pf h _) 0 (by decide),
    fun i => row_toInt _ (atD_le pf h _) 16 (by decide),
    fun i => row_toInt _ (atD_le pf h _) 16 (by decide),
    fun i => row_toInt _ (atD_le pf h _) 16 (by decide),
    fun i => row_toInt _ (atD_le pf h _) 16 (by decide),
    fun i => row_toInt _ (atD_le pf h _) 16 (by decide),
    fun i => row_toInt _ (atD_le pf h _) 16 (by decide),
    fun i => row_toInt _ (atD_le pf h _) 16 (by decide),
    fun i => row_toInt _ (atD_le pf h _) 16 (by decide),
    fun i => by
      have q := tr4_eq pf h i
      have l := h (ixJE (blk i) 0)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr5_eq pf h i
      have l := h (ixJE (blk i) 1)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr6_eq pf h i
      have l := h (ixJE (blk i) 2)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr7_eq pf h i
      have l := h (ixJE (blk i) 3)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr8_eq pf h i
      have l := h (ixJE (blk i) 4)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr9_eq pf h i
      have l := h (ixJE (blk i) 5)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr10_eq pf h i
      have l := h (ixJE (blk i) 6)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr11_eq pf h i
      have l := h (ixJE (blk i) 7)
      refine ⟨?_, .inr ?_⟩
      · intro a; rw [q]
        match a with
        | 0 => show 16 * (_ + 0) + 256 ≤ 43008; omega
        | 1 => show 0 + 1024 ≤ 1024; omega
      · refine Affine.words_of_packed (Affine.packed_dvd (by decide) ?_ (by decide))
        rw [q]; show 2 ∣ 16 * (_ + 0); omega,
    fun i => by
      have q := tr12_eq pf h i
      have l := h (ixJE (blk i) 0)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega,
    fun i => by
      have q := tr13_eq pf h i
      have l := h (ixJE (blk i) 1)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega,
    fun i => by
      have q := tr14_eq pf h i
      have l := h (ixJE (blk i) 2)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega,
    fun i => by
      have q := tr15_eq pf h i
      have l := h (ixJE (blk i) 3)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega,
    fun i => by
      have q := tr16_eq pf h i
      have l := h (ixJE (blk i) 4)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega,
    fun i => by
      have q := tr17_eq pf h i
      have l := h (ixJE (blk i) 5)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega,
    fun i => by
      have q := tr18_eq pf h i
      have l := h (ixJE (blk i) 6)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega,
    fun i => by
      have q := tr19_eq pf h i
      have l := h (ixJE (blk i) 7)
      refine ⟨?_, .inr ?_⟩
      · intro a; rw [q]
        match a with
        | 0 => show 16 * (_ + 16) + 16 ≤ 43008; omega
        | 1 => show 0 + 1024 ≤ 1024; omega
      · refine Affine.words_of_packed (Affine.packed_dvd (by decide) ?_ (by decide))
        rw [q]; show 2 ∣ 16 * (_ + 16); omega⟩

end

end Cert.KernelIdeal.Hand

end
-- ==== Proof.Data.lean ====
/-
  The pipeline's proof data: the block each window holds at each grid point, and what the body leaves in the two outputs.
-/
module

public import proofs.«01_k».proof.Proof.Body
public import proofs.«01_k».proof.Proof.Ok
public import Idealize.ShloMosaic.Lib.Pipeline.FrameBody
public import Idealize.ShloMosaic.Lib.Pipeline.TableIdle

@[expose] public section

set_option maxRecDepth 3328
set_option synthInstance.maxSize 4096

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (pf : pre0.Contents (Elt F)) (h : ∀ x, (pf 0 x).toNat ≤ 2671)
variable (V : (c : Dev nD) → (b : Ref sig .tc) → Buf (Elt F) ((c : Thread nD τ).loc b)) (c : Dev nD)

/-- The tables' contents, every window's side condition met. -/
abbrev adm : (pcfg0 (F := F)).Adm := ⟨pf, ok0_of_le pf h⟩

/-- The pipeline at those contents. -/
abbrev cfgA : Pipeline.Cfg sig Λ₀ := cfg0 (adm pf h)

/-! ## The blocks -/

/-- Window 0's block at point `t`. -/
def blk0 (t : Fin (cfgA pf h).N) : Vec F S256x1024 .f32 := (((cfgA pf h).win 0).blk t).view.read (Elt F) (V c (Pipeline.arrRef spec0 0))

/-- Window 1's block at point `t`. -/
def blk1 (t : Fin (cfgA pf h).N) : Vec F S256x1024 .f32 := (((cfgA pf h).win 1).blk t).view.read (Elt F) (V c (Pipeline.arrRef spec0 1))

/-- Window 2's block at point `t`. -/
def blk2 (t : Fin (cfgA pf h).N) : Vec F S256x2 .i32 := (((cfgA pf h).win 2).blk t).view.read (Elt F) (V c (Pipeline.arrRef spec0 2))

/-- Window 3's block at point `t`. -/
def blk3 (t : Fin (cfgA pf h).N) : Vec F S1x1024 .f32 := (((cfgA pf h).win 3).blk t).view.read (Elt F) (V c (Pipeline.arrRef spec0 3))

/-- Window 4's block at point `t`. -/
def blk4 (t : Fin (cfgA pf h).N) : Vec F S256x1024 .bf16 := (((cfgA pf h).win 4).blk t).view.read (Elt F) (V c (Pipeline.arrRef spec0 4))

/-- Window 5's block at point `t`. -/
def blk5 (t : Fin (cfgA pf h).N) : Vec F S256x1024 .bf16 := (((cfgA pf h).win 5).blk t).view.read (Elt F) (V c (Pipeline.arrRef spec0 5))

/-- Window 6's block at point `t`. -/
def blk6 (t : Fin (cfgA pf h).N) : Vec F S256x1024 .bf16 := (((cfgA pf h).win 6).blk t).view.read (Elt F) (V c (Pipeline.arrRef spec0 6))

/-- Window 7's block at point `t`. -/
def blk7 (t : Fin (cfgA pf h).N) : Vec F S256x1024 .bf16 := (((cfgA pf h).win 7).blk t).view.read (Elt F) (V c (Pipeline.arrRef spec0 7))

/-- Window 8's block at point `t`. -/
def blk8 (t : Fin (cfgA pf h).N) : Vec F S256x1024 .bf16 := (((cfgA pf h).win 8).blk t).view.read (Elt F) (V c (Pipeline.arrRef spec0 8))

/-- Window 9's block at point `t`. -/
def blk9 (t : Fin (cfgA pf h).N) : Vec F S256x1024 .bf16 := (((cfgA pf h).win 9).blk t).view.read (Elt F) (V c (Pipeline.arrRef spec0 9))

/-- Window 10's block at point `t`. -/
def blk10 (t : Fin (cfgA pf h).N) : Vec F S256x1024 .bf16 := (((cfgA pf h).win 10).blk t).view.read (Elt F) (V c (Pipeline.arrRef spec0 10))

/-- Window 11's block at point `t`. -/
def blk11 (t : Fin (cfgA pf h).N) : Vec F S256x1024 .bf16 := (((cfgA pf h).win 11).blk t).view.read (Elt F) (V c (Pipeline.arrRef spec0 11))

/-- Window 12's block at point `t`. -/
def blk12 (t : Fin (cfgA pf h).N) : Vec F S16x1024 .bf16 := (((cfgA pf h).win 12).blk t).view.read (Elt F) (V c (Pipeline.arrRef spec0 12))

/-- Window 13's block at point `t`. -/
def blk13 (t : Fin (cfgA pf h).N) : Vec F S16x1024 .bf16 := (((cfgA pf h).win 13).blk t).view.read (Elt F) (V c (Pipeline.arrRef spec0 13))

/-- Window 14's block at point `t`. -/
def blk14 (t : Fin (cfgA pf h).N) : Vec F S16x1024 .bf16 := (((cfgA pf h).win 14).blk t).view.read (Elt F) (V c (Pipeline.arrRef spec0 14))

/-- Window 15's block at point `t`. -/
def blk15 (t : Fin (cfgA pf h).N) : Vec F S16x1024 .bf16 := (((cfgA pf h).win 15).blk t).view.read (Elt F) (V c (Pipeline.arrRef spec0 15))

/-- Window 16's block at point `t`. -/
def blk16 (t : Fin (cfgA pf h).N) : Vec F S16x1024 .bf16 := (((cfgA pf h).win 16).blk t).view.read (Elt F) (V c (Pipeline.arrRef spec0 16))

/-- Window 17's block at point `t`. -/
def blk17 (t : Fin (cfgA pf h).N) : Vec F S16x1024 .bf16 := (((cfgA pf h).win 17).blk t).view.read (Elt F) (V c (Pipeline.arrRef spec0 17))

/-- Window 18's block at point `t`. -/
def blk18 (t : Fin (cfgA pf h).N) : Vec F S16x1024 .bf16 := (((cfgA pf h).win 18).blk t).view.read (Elt F) (V c (Pipeline.arrRef spec0 18))

/-- Window 19's block at point `t`. -/
def blk19 (t : Fin (cfgA pf h).N) : Vec F S16x1024 .bf16 := (((cfgA pf h).win 19).blk t).view.read (Elt F) (V c (Pipeline.arrRef spec0 19))

/-- What the body at point `t` leaves in the accumulator. -/
def accT (t : Fin (cfgA pf h).N) : Vec F S256x1024 .f32 :=
  accB (grid0.coords t) (pf 0) (pf 1) (pf 2) (blk0 pf h V c t) (blk1 pf h V c t) (blk2 pf h V c t) (blk4 pf h V c t) (blk5 pf h V c t) (blk6 pf h V c t) (blk7 pf h V c t) (blk8 pf h V c t) (blk9 pf h V c t) (blk10 pf h V c t) (blk11 pf h V c t) (blk12 pf h V c t) (blk13 pf h V c t) (blk14 pf h V c t) (blk15 pf h V c t) (blk16 pf h V c t) (blk17 pf h V c t) (blk18 pf h V c t) (blk19 pf h V c t) (blk0 pf h V c t)

/-- What it stores. -/
def outT (t : Fin (cfgA pf h).N) : Vec F S256x1024 .f32 := k0_pay27 (accT pf h V c t) (blk3 pf h V c t)

/-- Point `t`, or the last of the first 64. -/
def clampT (t : Fin (cfgA pf h).N) : Fin (cfgA pf h).N := ⟨min t.val 63, Nat.lt_of_le_of_lt (Nat.min_le_left _ _) t.isLt⟩

/-- The proof data on core `c`: inputs are left in place, the first output holds the last block stored, the second what
    the last point stores; the tables and the scratch are the invariant. -/
def dats (_ : Fin 1) (c : Dev nD) : Dat τ (Elt F) Unit ℕ (UR sig nD τ) ℕ (cfgA pf h) c where
  A w := V c (Pipeline.arrRef spec0 w)
  after w t := match w with
    | 0 => blk0 pf h V c t
    | 1 => blk1 pf h V c t
    | 2 => blk2 pf h V c t
    | 3 => blk3 pf h V c t
    | 4 => blk4 pf h V c t
    | 5 => blk5 pf h V c t
    | 6 => blk6 pf h V c t
    | 7 => blk7 pf h V c t
    | 8 => blk8 pf h V c t
    | 9 => blk9 pf h V c t
    | 10 => blk10 pf h V c t
    | 11 => blk11 pf h V c t
    | 12 => blk12 pf h V c t
    | 13 => blk13 pf h V c t
    | 14 => blk14 pf h V c t
    | 15 => blk15 pf h V c t
    | 16 => blk16 pf h V c t
    | 17 => blk17 pf h V c t
    | 18 => blk18 pf h V c t
    | 19 => blk19 pf h V c t
    | 20 => outT pf h V c (clampT pf h t)
    | 21 => outT pf h V c t
    | ⟨_ + 22, hw⟩ => absurd hw (Nat.not_lt.2 (Nat.le_add_left _ _))
  Φ _ := iprop(Pipeline.ΦA spec0 c ∗ Pipeline.ΦT pre0 pf c)
  q w := Pipeline.shareOf spec0 w
  owed _ := 0

theorem A_eq (w : Fin (cfgA pf h).W) : (dats pf h V 0 c).A w = V c (Pipeline.arrRef spec0 w) := by dsimp only [dats]

/-! ## What the body finds -/

theorem before0 (t : Fin (cfgA pf h).N) (d) : (dats pf h V 0 c).before 0 t d = blk0 pf h V c t :=
  ((dats pf h V 0 c).before_in_eq_fetched 0 rfl (fun _ => rfl) (fun _ _ _ => rfl)
    (fun t => by dsimp only [dats]; rfl) t d).trans rfl

theorem before1 (t : Fin (cfgA pf h).N) (d) : (dats pf h V 0 c).before 1 t d = blk1 pf h V c t :=
  ((dats pf h V 0 c).before_in_eq_fetched 1 rfl (fun _ => rfl) (fun _ _ _ => rfl)
    (fun t => by dsimp only [dats]; rfl) t d).trans rfl

theorem before2 (t : Fin (cfgA pf h).N) (d) : (dats pf h V 0 c).before 2 t d = blk2 pf h V c t :=
  ((dats pf h V 0 c).before_in_eq_fetched 2 rfl (fun _ => rfl) (fun _ _ _ => rfl)
    (fun t => by dsimp only [dats]; rfl) t d).trans rfl

theorem before3 (t : Fin (cfgA pf h).N) (d) : (dats pf h V 0 c).before 3 t d = blk3 pf h V c t :=
  ((dats pf h V 0 c).before_in_eq_fetched 3 rfl (fun _ => rfl) (fun _ _ _ => rfl)
    (fun t => by dsimp only [dats]; rfl) t d).trans rfl

theorem before4 (t : Fin (cfgA pf h).N) (d) : (dats pf h V 0 c).before 4 t d = blk4 pf h V c t :=
  ((dats pf h V 0 c).before_in_eq_fetched 4 rfl (fun _ => rfl) (fun _ _ _ => rfl)
    (fun t => by dsimp only [dats]; rfl) t d).trans rfl

theorem before5 (t : Fin (cfgA pf h).N) (d) : (dats pf h V 0 c).before 5 t d = blk5 pf h V c t :=
  ((dats pf h V 0 c).before_in_eq_fetched 5 rfl (fun _ => rfl) (fun _ _ _ => rfl)
    (fun t => by dsimp only [dats]; rfl) t d).trans rfl

theorem before6 (t : Fin (cfgA pf h).N) (d) : (dats pf h V 0 c).before 6 t d = blk6 pf h V c t :=
  ((dats pf h V 0 c).before_in_eq_fetched 6 rfl (fun _ => rfl) (fun _ _ _ => rfl)
    (fun t => by dsimp only [dats]; rfl) t d).trans rfl

theorem before7 (t : Fin (cfgA pf h).N) (d) : (dats pf h V 0 c).before 7 t d = blk7 pf h V c t :=
  ((dats pf h V 0 c).before_in_eq_fetched 7 rfl (fun _ => rfl) (fun _ _ _ => rfl)
    (fun t => by dsimp only [dats]; rfl) t d).trans rfl

theorem before8 (t : Fin (cfgA pf h).N) (d) : (dats pf h V 0 c).before 8 t d = blk8 pf h V c t :=
  ((dats pf h V 0 c).before_in_eq_fetched 8 rfl (fun _ => rfl) (fun _ _ _ => rfl)
    (fun t => by dsimp only [dats]; rfl) t d).trans rfl

theorem before9 (t : Fin (cfgA pf h).N) (d) : (dats pf h V 0 c).before 9 t d = blk9 pf h V c t :=
  ((dats pf h V 0 c).before_in_eq_fetched 9 rfl (fun _ => rfl) (fun _ _ _ => rfl)
    (fun t => by dsimp only [dats]; rfl) t d).trans rfl

theorem before10 (t : Fin (cfgA pf h).N) (d) : (dats pf h V 0 c).before 10 t d = blk10 pf h V c t :=
  ((dats pf h V 0 c).before_in_eq_fetched 10 rfl (fun _ => rfl) (fun _ _ _ => rfl)
    (fun t => by dsimp only [dats]; rfl) t d).trans rfl

theorem before11 (t : Fin (cfgA pf h).N) (d) : (dats pf h V 0 c).before 11 t d = blk11 pf h V c t :=
  ((dats pf h V 0 c).before_in_eq_fetched 11 rfl (fun _ => rfl) (fun _ _ _ => rfl)
    (fun t => by dsimp only [dats]; rfl) t d).trans rfl

theorem before12 (t : Fin (cfgA pf h).N) (d) : (dats pf h V 0 c).before 12 t d = blk12 pf h V c t :=
  ((dats pf h V 0 c).before_in_eq_fetched 12 rfl (fun _ => rfl) (fun _ _ _ => rfl)
    (fun t => by dsimp only [dats]; rfl) t d).trans rfl

theorem before13 (t : Fin (cfgA pf h).N) (d) : (dats pf h V 0 c).before 13 t d = blk13 pf h V c t :=
  ((dats pf h V 0 c).before_in_eq_fetched 13 rfl (fun _ => rfl) (fun _ _ _ => rfl)
    (fun t => by dsimp only [dats]; rfl) t d).trans rfl

theorem before14 (t : Fin (cfgA pf h).N) (d) : (dats pf h V 0 c).before 14 t d = blk14 pf h V c t :=
  ((dats pf h V 0 c).before_in_eq_fetched 14 rfl (fun _ => rfl) (fun _ _ _ => rfl)
    (fun t => by dsimp only [dats]; rfl) t d).trans rfl

theorem before15 (t : Fin (cfgA pf h).N) (d) : (dats pf h V 0 c).before 15 t d = blk15 pf h V c t :=
  ((dats pf h V 0 c).before_in_eq_fetched 15 rfl (fun _ => rfl) (fun _ _ _ => rfl)
    (fun t => by dsimp only [dats]; rfl) t d).trans rfl

theorem before16 (t : Fin (cfgA pf h).N) (d) : (dats pf h V 0 c).before 16 t d = blk16 pf h V c t :=
  ((dats pf h V 0 c).before_in_eq_fetched 16 rfl (fun _ => rfl) (fun _ _ _ => rfl)
    (fun t => by dsimp only [dats]; rfl) t d).trans rfl

theorem before17 (t : Fin (cfgA pf h).N) (d) : (dats pf h V 0 c).before 17 t d = blk17 pf h V c t :=
  ((dats pf h V 0 c).before_in_eq_fetched 17 rfl (fun _ => rfl) (fun _ _ _ => rfl)
    (fun t => by dsimp only [dats]; rfl) t d).trans rfl

theorem before18 (t : Fin (cfgA pf h).N) (d) : (dats pf h V 0 c).before 18 t d = blk18 pf h V c t :=
  ((dats pf h V 0 c).before_in_eq_fetched 18 rfl (fun _ => rfl) (fun _ _ _ => rfl)
    (fun t => by dsimp only [dats]; rfl) t d).trans rfl

theorem before19 (t : Fin (cfgA pf h).N) (d) : (dats pf h V 0 c).before 19 t d = blk19 pf h V c t :=
  ((dats pf h V 0 c).before_in_eq_fetched 19 rfl (fun _ => rfl) (fun _ _ _ => rfl)
    (fun t => by dsimp only [dats]; rfl) t d).trans rfl

end Cert.KernelIdeal.Hand

end
-- ==== Proof.Run.lean ====
/-
  The body at every grid point, against the proof data.
-/
module

public import proofs.«01_k».proof.Proof.Data
public import Idealize.ShloMosaic.Lib.Pipeline.FrameBody
public import Idealize.ShloMosaic.Lib.Pipeline.TableIdle

@[expose] public section

set_option maxRecDepth 3328
set_option synthInstance.maxSize 4096

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (pf : pre0.Contents (Elt F)) (h : ∀ x, (pf 0 x).toNat ≤ 2671)
variable (V : (c : Dev nD) → (b : Ref sig .tc) → Buf (Elt F) ((c : Thread nD τ).loc b)) (c : Dev nD)

/-! ## Where the outputs are stored and written back -/

theorem cond19_at : ∀ t : Fin grid0.N, (k0_cond19 (grid0.coords t) == 1#1) = decide (t.val < 64) := by decide +kernel
theorem cond20_at : ∀ t : Fin grid0.N, (k0_cond20 (grid0.coords t) == 1#1) = decide (t.val = 64) := by decide +kernel

theorem flush20_at : ∀ t : Fin grid0.N, (true && (decide (t.val + 1 = grid0.N) || decide (∃ h : t.val + 1 < grid0.N, ∃ a,
    cc0_transform_20 (grid0.coords ⟨t.val + 1, h⟩) a ≠ cc0_transform_20 (grid0.coords t) a))) = decide (t.val ≠ 63) := by decide +kernel
theorem flush21_at : ∀ t : Fin grid0.N, (true && (decide (t.val + 1 = grid0.N) || decide (∃ h : t.val + 1 < grid0.N, ∃ a,
    cc0_transform_21 (grid0.coords ⟨t.val + 1, h⟩) a ≠ cc0_transform_21 (grid0.coords t) a))) = decide (t.val = 64) := by decide +kernel

theorem flush20 (t : Fin (cfgA pf h).N) : ((cfgA pf h).win 20).flush t = decide (t.val ≠ 63) :=
  (((cfgA pf h).win 20).flush_eq_flushF t).trans (flush20_at t)
theorem flush21 (t : Fin (cfgA pf h).N) : ((cfgA pf h).win 21).flush t = decide (t.val = 64) :=
  (((cfgA pf h).win 21).flush_eq_flushF t).trans (flush21_at t)

theorem idle20 (t : Fin (cfgA pf h).N) : (cfgA pf h).idle 20 ((cfgA pf h).grid.coords t) = !decide (t.val < 64) :=
  congrArg (!·) (cond19_at t)
theorem idle21 (t : Fin (cfgA pf h).N) : (cfgA pf h).idle 21 ((cfgA pf h).grid.coords t) = !decide (t.val = 64) :=
  congrArg (!·) (cond20_at t)

theorem N_eq : (cfgA pf h).N = 65 := N_0

theorem fresh20 (n : ℕ) (hn : n ≤ (cfgA pf h).N) : (cfgA pf h).fresh 20 n = decide (n ≠ 64) :=
  (cfgA pf h).fresh_tab 20 (fun n => decide (n ≠ 64)) rfl (fun t => by
    have := lt_of_lt_of_eq t.isLt (N_eq pf h)
    rw [flush20, idle20]
    simp only [ne_eq, decide_not, ← Bool.decide_or, ← Bool.decide_and, ← decide_not, decide_eq_decide]
    omega) n hn

theorem after20 (t : Fin (cfgA pf h).N) : (dats pf h V 0 c).after 20 t = outT pf h V c (clampT pf h t) := by dsimp only [dats]; rfl
theorem after21 (t : Fin (cfgA pf h).N) : (dats pf h V 0 c).after 21 t = outT pf h V c t := by dsimp only [dats]; rfl

/-- The last of the first 64 points is point `t` itself below 64. -/
theorem clampT_eq (t : Fin (cfgA pf h).N) (ht : t.val < 64) : clampT pf h t = t := by
  apply Fin.ext
  show min t.val 63 = t.val
  omega

theorem clampT_prev (t : Fin (cfgA pf h).N) (ht : 64 ≤ t.val) (hp : t.val - 1 < (cfgA pf h).N) : clampT pf h t = clampT pf h ⟨t.val - 1, hp⟩ := by
  apply Fin.ext
  show min t.val 63 = min (t.val - 1) 63
  omega

theorem before20_last (t : Fin (cfgA pf h).N) (ht : t.val = 64) (d) :
    (dats pf h V 0 c).before 20 t d = outT pf h V c (clampT pf h t) := by
  rw [(dats pf h V 0 c).before_out_traj 20 rfl (fun _ _ => rfl) (fun t ht0 hi hf => by
    rw [idle20] at hi
    have hi' : 64 ≤ t.val := by simpa using hi
    rw [after20, after20, ← clampT_prev pf h t hi']) _ t rfl d,
    if_neg (by rw [fresh20 pf h _ (le_of_lt t.isLt), ht]; decide), after20, ← clampT_prev pf h t (le_of_eq ht.symm)]

theorem accB_any (t : Fin (cfgA pf h).N) (A) : accB (grid0.coords t) (pf 0) (pf 1) (pf 2) (blk0 pf h V c t) (blk1 pf h V c t) (blk2 pf h V c t) (blk4 pf h V c t) (blk5 pf h V c t) (blk6 pf h V c t) (blk7 pf h V c t) (blk8 pf h V c t) (blk9 pf h V c t) (blk10 pf h V c t) (blk11 pf h V c t) (blk12 pf h V c t) (blk13 pf h V c t) (blk14 pf h V c t) (blk15 pf h V c t) (blk16 pf h V c t) (blk17 pf h V c t) (blk18 pf h V c t) (blk19 pf h V c t) A = accT pf h V c t := by
  unfold accT accB
  have e : ∀ A, initV (grid0.coords t) (blk0 pf h V c t) (blk1 pf h V c t) A = initV (grid0.coords t) (blk0 pf h V c t) (blk1 pf h V c t) (blk0 pf h V c t) := fun A => by
    unfold initV
    have h1 := cond19_at t
    have h2 := cond20_at t
    have := lt_of_lt_of_eq t.isLt (N_eq pf h)
    by_cases h3 : k0_cond20 (grid0.coords t) = 1#1
    · rw [if_pos h3, if_pos h3]
    · rw [if_neg h3, if_neg h3]
      have h4 : k0_cond19 (grid0.coords t) = 1#1 := by
        have h5 : t.val ≠ 64 := fun he => h3 (by simpa [he] using h2)
        have h6 : t.val < 64 := by omega
        simpa [h6] using h1
      rw [if_pos h4, if_pos h4]
  rw [e A]

/-! ## The body obligation -/

/-- The body the table runs at point `t`. -/
def bodyT (t : Fin (cfgA pf h).N) : Prog (TpuEff nD τ sig (Elt F) Λ₀ .tc) PUnit :=
  cc0_moe_combine (grid0.coords t) (Memref.whole main_arg0) (Memref.isWhole_whole _) (Memref.whole main_arg1) (Memref.isWhole_whole _) (Memref.whole main_arg2) (Memref.isWhole_whole _)
    (spec0_0.stage ((cfgA pf h).slots t 0)) (hstage0_0 (((cfgA pf h).slots t 0).cast nbuf0_0)) (spec0_1.stage ((cfgA pf h).slots t 1)) (hstage0_1 (((cfgA pf h).slots t 1).cast nbuf0_1)) (spec0_2.stage ((cfgA pf h).slots t 2)) (hstage0_2 (((cfgA pf h).slots t 2).cast nbuf0_2)) (spec0_3.stage ((cfgA pf h).slots t 3)) (hstage0_3 (((cfgA pf h).slots t 3).cast nbuf0_3)) (spec0_4.stage ((cfgA pf h).slots t 4)) (hstage0_4 (((cfgA pf h).slots t 4).cast nbuf0_4)) (spec0_5.stage ((cfgA pf h).slots t 5)) (hstage0_5 (((cfgA pf h).slots t 5).cast nbuf0_5)) (spec0_6.stage ((cfgA pf h).slots t 6)) (hstage0_6 (((cfgA pf h).slots t 6).cast nbuf0_6)) (spec0_7.stage ((cfgA pf h).slots t 7)) (hstage0_7 (((cfgA pf h).slots t 7).cast nbuf0_7)) (spec0_8.stage ((cfgA pf h).slots t 8)) (hstage0_8 (((cfgA pf h).slots t 8).cast nbuf0_8)) (spec0_9.stage ((cfgA pf h).slots t 9)) (hstage0_9 (((cfgA pf h).slots t 9).cast nbuf0_9)) (spec0_10.stage ((cfgA pf h).slots t 10)) (hstage0_10 (((cfgA pf h).slots t 10).cast nbuf0_10)) (spec0_11.stage ((cfgA pf h).slots t 11)) (hstage0_11 (((cfgA pf h).slots t 11).cast nbuf0_11)) (spec0_12.stage ((cfgA pf h).slots t 12)) (hstage0_12 (((cfgA pf h).slots t 12).cast nbuf0_12)) (spec0_13.stage ((cfgA pf h).slots t 13)) (hstage0_13 (((cfgA pf h).slots t 13).cast nbuf0_13)) (spec0_14.stage ((cfgA pf h).slots t 14)) (hstage0_14 (((cfgA pf h).slots t 14).cast nbuf0_14)) (spec0_15.stage ((cfgA pf h).slots t 15)) (hstage0_15 (((cfgA pf h).slots t 15).cast nbuf0_15)) (spec0_16.stage ((cfgA pf h).slots t 16)) (hstage0_16 (((cfgA pf h).slots t 16).cast nbuf0_16)) (spec0_17.stage ((cfgA pf h).slots t 17)) (hstage0_17 (((cfgA pf h).slots t 17).cast nbuf0_17)) (spec0_18.stage ((cfgA pf h).slots t 18)) (hstage0_18 (((cfgA pf h).slots t 18).cast nbuf0_18)) (spec0_19.stage ((cfgA pf h).slots t 19)) (hstage0_19 (((cfgA pf h).slots t 19).cast nbuf0_19)) (spec0_20.stage ((cfgA pf h).slots t 20)) (hstage0_20 (((cfgA pf h).slots t 20).cast nbuf0_20)) (spec0_21.stage ((cfgA pf h).slots t 21)) (hstage0_21 (((cfgA pf h).slots t 21).cast nbuf0_21)) (Memref.whole cc0_scratch0) (Memref.isWhole_whole _)

theorem defs₀_row (t : Fin (cfgA pf h).N) :
    defs₀ (F := F) .tc (cfgA pf h).body ((cfgA pf h).bodyArgs t ((cfgA pf h).slots t)) = bodyT pf h t := by
  unfold defs₀; rw [Defs.onTc_tc]; rfl

/-- The tables at their half shares, one by one. -/
theorem PhiT_eq : (Pipeline.ΦT (U := UR sig nD τ) pre0 pf c : sProp 𝕄)
    = iprop(((c : Thread nD τ).loc main_arg0 ↦{fullShare.right} pf 0) ∗ ((c : Thread nD τ).loc main_arg1 ↦{fullShare.right} pf 1) ∗ ((c : Thread nD τ).loc main_arg2 ↦{fullShare.right} pf 2)) := by
  unfold Pipeline.ΦT Pipeline.prefHeld
  rw [BI.bigSep_univ_eq_bigSepL [0, 1, 2] (by decide) (by decide)]; rfl

/-- What the body is called with at point `t`. -/
def bodyPre (t : Fin (cfgA pf h).N) : sProp 𝕄 :=
  iprop((dats pf h V 0 c).Φ t.castSucc ∗ (dats pf h V 0 c).owesAt () t.castSucc
    ∗ (∃ d, owns (c : Thread nD τ) (((cfgA pf h).win 0).stage ((cfgA pf h).slots t 0)) fullShare ((dats pf h V 0 c).before 0 t d)) ∗ (∃ d, owns (c : Thread nD τ) (((cfgA pf h).win 1).stage ((cfgA pf h).slots t 1)) fullShare ((dats pf h V 0 c).before 1 t d)) ∗ (∃ d, owns (c : Thread nD τ) (((cfgA pf h).win 2).stage ((cfgA pf h).slots t 2)) fullShare ((dats pf h V 0 c).before 2 t d)) ∗ (∃ d, owns (c : Thread nD τ) (((cfgA pf h).win 3).stage ((cfgA pf h).slots t 3)) fullShare ((dats pf h V 0 c).before 3 t d)) ∗ (∃ d, owns (c : Thread nD τ) (((cfgA pf h).win 4).stage ((cfgA pf h).slots t 4)) fullShare ((dats pf h V 0 c).before 4 t d)) ∗ (∃ d, owns (c : Thread nD τ) (((cfgA pf h).win 5).stage ((cfgA pf h).slots t 5)) fullShare ((dats pf h V 0 c).before 5 t d)) ∗ (∃ d, owns (c : Thread nD τ) (((cfgA pf h).win 6).stage ((cfgA pf h).slots t 6)) fullShare ((dats pf h V 0 c).before 6 t d)) ∗ (∃ d, owns (c : Thread nD τ) (((cfgA pf h).win 7).stage ((cfgA pf h).slots t 7)) fullShare ((dats pf h V 0 c).before 7 t d)) ∗ (∃ d, owns (c : Thread nD τ) (((cfgA pf h).win 8).stage ((cfgA pf h).slots t 8)) fullShare ((dats pf h V 0 c).before 8 t d)) ∗ (∃ d, owns (c : Thread nD τ) (((cfgA pf h).win 9).stage ((cfgA pf h).slots t 9)) fullShare ((dats pf h V 0 c).before 9 t d)) ∗ (∃ d, owns (c : Thread nD τ) (((cfgA pf h).win 10).stage ((cfgA pf h).slots t 10)) fullShare ((dats pf h V 0 c).before 10 t d)) ∗ (∃ d, owns (c : Thread nD τ) (((cfgA pf h).win 11).stage ((cfgA pf h).slots t 11)) fullShare ((dats pf h V 0 c).before 11 t d)) ∗ (∃ d, owns (c : Thread nD τ) (((cfgA pf h).win 12).stage ((cfgA pf h).slots t 12)) fullShare ((dats pf h V 0 c).before 12 t d)) ∗ (∃ d, owns (c : Thread nD τ) (((cfgA pf h).win 13).stage ((cfgA pf h).slots t 13)) fullShare ((dats pf h V 0 c).before 13 t d)) ∗ (∃ d, owns (c : Thread nD τ) (((cfgA pf h).win 14).stage ((cfgA pf h).slots t 14)) fullShare ((dats pf h V 0 c).before 14 t d)) ∗ (∃ d, owns (c : Thread nD τ) (((cfgA pf h).win 15).stage ((cfgA pf h).slots t 15)) fullShare ((dats pf h V 0 c).before 15 t d)) ∗ (∃ d, owns (c : Thread nD τ) (((cfgA pf h).win 16).stage ((cfgA pf h).slots t 16)) fullShare ((dats pf h V 0 c).before 16 t d)) ∗ (∃ d, owns (c : Thread nD τ) (((cfgA pf h).win 17).stage ((cfgA pf h).slots t 17)) fullShare ((dats pf h V 0 c).before 17 t d)) ∗ (∃ d, owns (c : Thread nD τ) (((cfgA pf h).win 18).stage ((cfgA pf h).slots t 18)) fullShare ((dats pf h V 0 c).before 18 t d)) ∗ (∃ d, owns (c : Thread nD τ) (((cfgA pf h).win 19).stage ((cfgA pf h).slots t 19)) fullShare ((dats pf h V 0 c).before 19 t d)) ∗ (∃ d, owns (c : Thread nD τ) (((cfgA pf h).win 20).stage ((cfgA pf h).slots t 20)) fullShare ((dats pf h V 0 c).before 20 t d)) ∗ (∃ d, owns (c : Thread nD τ) (((cfgA pf h).win 21).stage ((cfgA pf h).slots t 21)) fullShare ((dats pf h V 0 c).before 21 t d)))

/-- What it returns. -/
def bodyPost (t : Fin (cfgA pf h).N) : sProp 𝕄 :=
  iprop((dats pf h V 0 c).Φ t.succ ∗ (dats pf h V 0 c).owesAt () t.succ
    ∗ owns (c : Thread nD τ) (((cfgA pf h).win 0).stage ((cfgA pf h).slots t 0)) fullShare (blk0 pf h V c t) ∗ owns (c : Thread nD τ) (((cfgA pf h).win 1).stage ((cfgA pf h).slots t 1)) fullShare (blk1 pf h V c t) ∗ owns (c : Thread nD τ) (((cfgA pf h).win 2).stage ((cfgA pf h).slots t 2)) fullShare (blk2 pf h V c t) ∗ owns (c : Thread nD τ) (((cfgA pf h).win 3).stage ((cfgA pf h).slots t 3)) fullShare (blk3 pf h V c t) ∗ owns (c : Thread nD τ) (((cfgA pf h).win 4).stage ((cfgA pf h).slots t 4)) fullShare (blk4 pf h V c t) ∗ owns (c : Thread nD τ) (((cfgA pf h).win 5).stage ((cfgA pf h).slots t 5)) fullShare (blk5 pf h V c t) ∗ owns (c : Thread nD τ) (((cfgA pf h).win 6).stage ((cfgA pf h).slots t 6)) fullShare (blk6 pf h V c t) ∗ owns (c : Thread nD τ) (((cfgA pf h).win 7).stage ((cfgA pf h).slots t 7)) fullShare (blk7 pf h V c t) ∗ owns (c : Thread nD τ) (((cfgA pf h).win 8).stage ((cfgA pf h).slots t 8)) fullShare (blk8 pf h V c t) ∗ owns (c : Thread nD τ) (((cfgA pf h).win 9).stage ((cfgA pf h).slots t 9)) fullShare (blk9 pf h V c t) ∗ owns (c : Thread nD τ) (((cfgA pf h).win 10).stage ((cfgA pf h).slots t 10)) fullShare (blk10 pf h V c t) ∗ owns (c : Thread nD τ) (((cfgA pf h).win 11).stage ((cfgA pf h).slots t 11)) fullShare (blk11 pf h V c t) ∗ owns (c : Thread nD τ) (((cfgA pf h).win 12).stage ((cfgA pf h).slots t 12)) fullShare (blk12 pf h V c t) ∗ owns (c : Thread nD τ) (((cfgA pf h).win 13).stage ((cfgA pf h).slots t 13)) fullShare (blk13 pf h V c t) ∗ owns (c : Thread nD τ) (((cfgA pf h).win 14).stage ((cfgA pf h).slots t 14)) fullShare (blk14 pf h V c t) ∗ owns (c : Thread nD τ) (((cfgA pf h).win 15).stage ((cfgA pf h).slots t 15)) fullShare (blk15 pf h V c t) ∗ owns (c : Thread nD τ) (((cfgA pf h).win 16).stage ((cfgA pf h).slots t 16)) fullShare (blk16 pf h V c t) ∗ owns (c : Thread nD τ) (((cfgA pf h).win 17).stage ((cfgA pf h).slots t 17)) fullShare (blk17 pf h V c t) ∗ owns (c : Thread nD τ) (((cfgA pf h).win 18).stage ((cfgA pf h).slots t 18)) fullShare (blk18 pf h V c t) ∗ owns (c : Thread nD τ) (((cfgA pf h).win 19).stage ((cfgA pf h).slots t 19)) fullShare (blk19 pf h V c t) ∗ (match (cfgA pf h).idle 20 ((cfgA pf h).grid.coords t) with
      | true => (match ((cfgA pf h).win 20).flush t with
        | false => iprop(∃ d, owns (c : Thread nD τ) (((cfgA pf h).win 20).stage ((cfgA pf h).slots t 20)) fullShare ((dats pf h V 0 c).before 20 t d))
        | true => owns (c : Thread nD τ) (((cfgA pf h).win 20).stage ((cfgA pf h).slots t 20)) fullShare ((dats pf h V 0 c).after 20 t))
      | false => owns (c : Thread nD τ) (((cfgA pf h).win 20).stage ((cfgA pf h).slots t 20)) fullShare ((dats pf h V 0 c).after 20 t)) ∗ (match (cfgA pf h).idle 21 ((cfgA pf h).grid.coords t) with
      | true => (match ((cfgA pf h).win 21).flush t with
        | false => iprop(∃ d, owns (c : Thread nD τ) (((cfgA pf h).win 21).stage ((cfgA pf h).slots t 21)) fullShare ((dats pf h V 0 c).before 21 t d))
        | true => owns (c : Thread nD τ) (((cfgA pf h).win 21).stage ((cfgA pf h).slots t 21)) fullShare ((dats pf h V 0 c).after 21 t))
      | false => owns (c : Thread nD τ) (((cfgA pf h).win 21).stage ((cfgA pf h).slots t 21)) fullShare ((dats pf h V 0 c).after 21 t)))

theorem left20 (t : Fin (cfgA pf h).N) (d : Vec F S256x1024 .f32) :
    owns (c : Thread nD τ) (((cfgA pf h).win 20).stage ((cfgA pf h).slots t 20)) fullShare (if k0_cond19 (grid0.coords t) = 1#1 then outT pf h V c t else (dats pf h V 0 c).before 20 t d) ⊢ ((match (cfgA pf h).idle 20 ((cfgA pf h).grid.coords t) with
      | true => (match ((cfgA pf h).win 20).flush t with
        | false => iprop(∃ d, owns (c : Thread nD τ) (((cfgA pf h).win 20).stage ((cfgA pf h).slots t 20)) fullShare ((dats pf h V 0 c).before 20 t d))
        | true => owns (c : Thread nD τ) (((cfgA pf h).win 20).stage ((cfgA pf h).slots t 20)) fullShare ((dats pf h V 0 c).after 20 t))
      | false => owns (c : Thread nD τ) (((cfgA pf h).win 20).stage ((cfgA pf h).slots t 20)) fullShare ((dats pf h V 0 c).after 20 t)) : sProp 𝕄) := by
  have hN : t.val < 65 := lt_of_lt_of_eq t.isLt (N_eq pf h)
  by_cases ht : t.val < 64
  · have e19 : k0_cond19 (grid0.coords t) = 1#1 := by simpa [ht] using cond19_at t
    refine (Entails.of_eq (congrArg (owns (c : Thread nD τ) (((cfgA pf h).win 20).stage ((cfgA pf h).slots t 20)) fullShare) (if_pos e19))).trans ?_
    rw [idle20, decide_eq_true ht]
    exact Entails.of_eq (congrArg (owns (c : Thread nD τ) (((cfgA pf h).win 20).stage ((cfgA pf h).slots t 20)) fullShare) ((congrArg (outT pf h V c) (clampT_eq pf h t ht).symm).trans (after20 pf h V c t).symm))
  · have e19 : ¬ k0_cond19 (grid0.coords t) = 1#1 := by
      have := cond19_at t
      rw [decide_eq_false ht] at this
      simpa using this
    refine (Entails.of_eq (congrArg (owns (c : Thread nD τ) (((cfgA pf h).win 20).stage ((cfgA pf h).slots t 20)) fullShare) (if_neg e19))).trans ?_
    rw [idle20, flush20, decide_eq_false ht, decide_eq_true (show t.val ≠ 63 by omega)]
    exact Entails.of_eq (congrArg (owns (c : Thread nD τ) (((cfgA pf h).win 20).stage ((cfgA pf h).slots t 20)) fullShare) ((before20_last pf h V c t (by omega) d).trans (after20 pf h V c t).symm))

theorem left21 (t : Fin (cfgA pf h).N) (d : Vec F S256x1024 .f32) :
    owns (c : Thread nD τ) (((cfgA pf h).win 21).stage ((cfgA pf h).slots t 21)) fullShare (if k0_cond20 (grid0.coords t) = 1#1 then outT pf h V c t else (dats pf h V 0 c).before 21 t d) ⊢ ((match (cfgA pf h).idle 21 ((cfgA pf h).grid.coords t) with
      | true => (match ((cfgA pf h).win 21).flush t with
        | false => iprop(∃ d, owns (c : Thread nD τ) (((cfgA pf h).win 21).stage ((cfgA pf h).slots t 21)) fullShare ((dats pf h V 0 c).before 21 t d))
        | true => owns (c : Thread nD τ) (((cfgA pf h).win 21).stage ((cfgA pf h).slots t 21)) fullShare ((dats pf h V 0 c).after 21 t))
      | false => owns (c : Thread nD τ) (((cfgA pf h).win 21).stage ((cfgA pf h).slots t 21)) fullShare ((dats pf h V 0 c).after 21 t)) : sProp 𝕄) := by
  by_cases ht : t.val = 64
  · have e20 : k0_cond20 (grid0.coords t) = 1#1 := by simpa [ht] using cond20_at t
    refine (Entails.of_eq (congrArg (owns (c : Thread nD τ) (((cfgA pf h).win 21).stage ((cfgA pf h).slots t 21)) fullShare) (if_pos e20))).trans ?_
    rw [idle21, decide_eq_true ht]
    exact Entails.of_eq (congrArg (owns (c : Thread nD τ) (((cfgA pf h).win 21).stage ((cfgA pf h).slots t 21)) fullShare) (after21 pf h V c t).symm)
  · have e20 : ¬ k0_cond20 (grid0.coords t) = 1#1 := by
      have := cond20_at t
      rw [decide_eq_false ht] at this
      simpa using this
    refine (Entails.of_eq (congrArg (owns (c : Thread nD τ) (((cfgA pf h).win 21).stage ((cfgA pf h).slots t 21)) fullShare) (if_neg e20))).trans ?_
    rw [idle21, flush21, decide_eq_false ht]
    show _ ⊢ (iprop(∃ d, (owns (c : Thread nD τ) (((cfgA pf h).win 21).stage ((cfgA pf h).slots t 21)) fullShare) ((dats pf h V 0 c).before 21 t d)) : sProp 𝕄)
    iintro H; iexists _; iexact H

theorem sound_body (t : Fin (cfgA pf h).N) :
    bodyPre pf h V c t ⊢ wp frame (wpE (defs₀ (F := F)) Variants.none c none) Set.univ (bodyT pf h t) (fun _ => bodyPost pf h V c t) := by
  unfold bodyPre bodyT
  rw [show (dats pf h V 0 c).Φ t.castSucc = iprop(Pipeline.ΦA spec0 c ∗ Pipeline.ΦT pre0 pf c) from rfl, PhiT_eq]
  unfold Pipeline.ΦA
  rw [scopedRest0_eq]
  simp only [before0, before1, before2, before3, before4, before5, before6, before7, before8, before9, before10, before11, before12, before13, before14, before15, before16, before17, before18, before19, ← owns_whole]
  iintro ⟨⟨⟨⟨%A, HS⟩, Hg⟩, HT0, HT1, HT2⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  ihave HT0 := (Entails.of_eq (owns_whole (c : Thread nD τ) main_arg0 fullShare.right (pf 0)).symm) $$ HT0
  ihave HT1 := (Entails.of_eq (owns_whole (c : Thread nD τ) main_arg1 fullShare.right (pf 1)).symm) $$ HT1
  ihave HT2 := (Entails.of_eq (owns_whole (c : Thread nD τ) main_arg2 fullShare.right (pf 2)).symm) $$ HT2
  iapply (body_wp (c := c) (E := Set.univ) (i := grid0.coords t) (T1 := pf 0) (T2 := pf 1) (T3 := pf 2) (q := fullShare.right))
  isplitl [HT0]; · iexact HT0
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HS]; · iexact HS
  iintro ⟨HT0, HT1, HT2, H0, H1, H2, H3, H4, H5, H6, H7, H8, H9, H10, H11, H12, H13, H14, H15, H16, H17, H18, H19, H20, H21, HS⟩
  rw [accB_any]
  unfold bodyPost
  rw [show (dats pf h V 0 c).Φ t.succ = iprop(Pipeline.ΦA spec0 c ∗ Pipeline.ΦT pre0 pf c) from rfl, PhiT_eq,
    show (dats pf h V 0 c).owesAt () t.succ = (dats pf h V 0 c).owesAt () t.castSucc from rfl]
  unfold Pipeline.ΦA
  rw [scopedRest0_eq]
  ihave HT0 := (Entails.of_eq (owns_whole (c : Thread nD τ) main_arg0 fullShare.right (pf 0))) $$ HT0
  ihave HT1 := (Entails.of_eq (owns_whole (c : Thread nD τ) main_arg1 fullShare.right (pf 1))) $$ HT1
  ihave HT2 := (Entails.of_eq (owns_whole (c : Thread nD τ) main_arg2 fullShare.right (pf 2))) $$ HT2
  ihave HS := (Entails.of_eq (owns_whole (c : Thread nD τ) cc0_scratch0 fullShare (accT pf h V c t))) $$ HS
  isplitl [HS Hg HT0 HT1 HT2]
  · isplitl [HS Hg]
    · isplitl [HS]
      · iexists _; iexact HS
      iexact Hg
    isplitl [HT0]; · iexact HT0
    isplitl [HT1]; · iexact HT1
    iexact HT2
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · iapply (left20 pf h V c t d20); iexact H20
  iapply (left21 pf h V c t d21); iexact H21

/-- The body obligation. -/
theorem body_obligation : BodyObligation (dats pf h V 0 c) (defs₀ (F := F)) Variants.none () Set.univ := fun t => by
  rw [bigSep_W0, bigSep_W0, defs₀_row]
  exact triple_restated (sound_body pf h V c t) rfl .rfl fun _ => .rfl

end Cert.KernelIdeal.Hand

end
-- ==== Proof.Final.lean ====
/-
  The run of the whole program, over any float values: it ends with every counter at zero, every argument
  as it was, and the two results as the pipeline's record has them.
-/
module

public import proofs.«01_k».proof.Proof.Run
public import proofs.«01_k».proof.Proof.Words
public import Idealize.ShloMosaic.Lib.Pipeline.Frame
public import Idealize.ShloMosaic.Lib.Claim

@[expose] public section

set_option maxRecDepth 3328
set_option synthInstance.maxSize 4096

noncomputable section

namespace Cert.KernelIdeal.Hand

open Cert.KernelIdeal Cert.KernelIdeal.Gen Cert.Hand
open Idealize.ShloMosaic Idealize.ShloMosaic.TcCoe
open Idealize.SL Idealize.SL.RA Idealize.SL.BI
open Idealize.SL.Sem
open Idealize.ShloMosaic.Pipeline (Dat BodyObligation)

variable {F : FTy → Type} [FloatOps F]

variable (m : (ℓ : Loc nD τ sig) → Buf (Elt F) ℓ)

/-- The contents of every buffer once the gain has been reshaped. -/
def VM (c : Dev nD) (b : Ref sig .tc) : Buf (Elt F) ((c : Thread nD τ).loc b) :=
  StableHlo.after (hostOps0 (F := F)) (fun b => m (c, b)) b

theorem VM_of_ne (c : Dev nD) (b : Ref sig .tc) (hb : b ≠ main_v0) : VM m c b = m ((c : Thread nD τ).loc b) :=
  StableHlo.reshape_result_ne main_arg7 main_v0 (rfl : (.f32 : EltTy) = .f32) shapeCasts_S1024_S1x1024 (by decide) (by decide) (fun b => m (c, b)) hb

theorem VM_gain (c : Dev nD) : VM m c main_v0 =
    shapeCast (s := S1024) S1x1024 (m ((c : Thread nD τ).loc main_arg7)) shapeCasts_S1024_S1x1024 := by
  unfold VM hostOps0
  after_results
  rfl

/-- The three tables as the launch finds them. -/
def pfM : pre0.Contents (Elt F) := fun k => VM m 0 (pre0.ref k)

theorem pfM_eq (c : Dev nD) (k : Fin 3) : VM m c (pre0.ref k) = pfM m k := by
  obtain rfl : c = 0 := Subsingleton.elim _ _
  rfl

variable (ρ : Dev nD → PrngReg) (h : ∀ x, (pfM m 0 x).toNat ≤ 2671)

theorem hostOps0_fresh : (hostOps0 : List (HloOp τ sig (Elt F))).Forall fun op => op.fresh = ∅ := rfl

set_option backward.isDefEq.respectTransparency.types false in
theorem run_main :
    θ_run (defs (F := F)) (onTc main) ⟨m, fun _ => 0, ρ⟩ (fun r =>
      Pipeline.FramePost (Pipeline.pin (pcfgs (F := F)) (fun _ => adm (pfM m) h)) (dats (pfM m) h (VM m)) 0 (VM m) r
        ∧ r.2.sem = fun _ => 0) :=
  Pipeline.θ_run_frameP_shared pcfgs (fun _ => adm (pfM m) h) (dats (pfM m) h (VM m)) 0 launch₀0 defs₀ Variants.none m ρ main
    (fun c => (body_obligation (pfM m) h (VM m) c).loose) (fun _ _ _ => rfl) (fun _ _ => rfl) (VM m)
    (Pipeline.hmainP_prefix pcfgs 0 defs₀ Variants.none m main hostOps0 hostOps0_sub hostOps0_fresh main_chain)
    (fun c w => A_eq (pfM m) h (VM m) c w) (fun c k => pfM_eq m c k) (fun _ _ => rfl) _ (fun _ h => h)

theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)
theorem arg2_rest : main_arg2 ∈ Pipeline.restRefs sig spec0 := Pipeline.mem_restRefs_of main_arg2 (by decide) (by decide)
theorem arg7_rest : main_arg7 ∈ Pipeline.restRefs sig spec0 := Pipeline.mem_restRefs_of main_arg7 (by decide) (by decide)

set_option backward.isDefEq.respectTransparency.types false in
theorem run_ends :
    θ_run (defs (F := F)) (onTc main) ⟨m, fun _ => 0, ρ⟩ (fun r =>
      (∀ c : Dev nD, r.2.mem ((c : Thread nD τ).loc main_v1_0) = (dats (pfM m) h (VM m) 0 c).arrAt 20 (cfgA (pfM m) h).N
        ∧ r.2.mem ((c : Thread nD τ).loc main_v1_1) = (dats (pfM m) h (VM m) 0 c).arrAt 21 (cfgA (pfM m) h).N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7))
        ∧ r.2.sem = fun _ => 0) :=
  (θ_run (defs (F := F)) _ _).mono (fun r hr => ⟨fun c =>
    ⟨(hr.1 c).1 20, (hr.1 c).1 21,
      ((hr.1 c).2 main_arg0 (arg0_rest)).trans (VM_of_ne m c main_arg0 (by decide)),
      ((hr.1 c).2 main_arg1 (arg1_rest)).trans (VM_of_ne m c main_arg1 (by decide)),
      ((hr.1 c).2 main_arg2 (arg2_rest)).trans (VM_of_ne m c main_arg2 (by decide)),
      ((hr.1 c).1 0).trans (((dats (pfM m) h (VM m) 0 c).arrAt_in 0 rfl _).trans ((A_eq (pfM m) h (VM m) c 0).trans (VM_of_ne m c main_arg3 (by decide)))),
      ((hr.1 c).1 1).trans (((dats (pfM m) h (VM m) 0 c).arrAt_in 1 rfl _).trans ((A_eq (pfM m) h (VM m) c 1).trans (VM_of_ne m c main_arg4 (by decide)))),
      ((hr.1 c).1 2).trans (((dats (pfM m) h (VM m) 0 c).arrAt_in 2 rfl _).trans ((A_eq (pfM m) h (VM m) c 2).trans (VM_of_ne m c main_arg5 (by decide)))),
      ((hr.1 c).1 4).trans (((dats (pfM m) h (VM m) 0 c).arrAt_in 4 rfl _).trans ((A_eq (pfM m) h (VM m) c 4).trans (VM_of_ne m c main_arg6 (by decide)))),
      ((hr.1 c).2 main_arg7 (arg7_rest)).trans (VM_of_ne m c main_arg7 (by decide))⟩, hr.2⟩) (run_main m ρ h)

end Cert.KernelIdeal.Hand

end
-- ==== Proof.Frames.lean ====
/- The kernel's two frames. -/
module

public import proofs.«01_k».proof.Defs
public import proofs.«01_k».proof.Proof.Final
public import proofs.«01_k».proof.Proof.Gen.Kernel
public import proofs.«01_k».proof.Proof.Gen.Pre_routed

public import Idealize.ShloMosaic.Lib.Tactic

@[expose] public section

set_option maxRecDepth 3328

noncomputable section

namespace Cert.KernelIdeal.Hand

open Cert.KernelIdeal Cert.KernelIdeal.Gen Cert.Hand
open Idealize.ShloMosaic Idealize.ShloMosaic.TcCoe
open Idealize.SL.Sem

variable {F : FTy → Type} [FloatOps F] (m : (ℓ : Loc nD τ sig) → Buf (Elt F) ℓ)

/-- The window table the launch finds is the first argument. -/
theorem pfM_win : pfM m 0 = m (((0 : Dev nD) : Thread nD τ).loc main_arg0) := VM_of_ne m 0 main_arg0 (by decide)
theorem pfM_lo : pfM m 1 = m (((0 : Dev nD) : Thread nD τ).loc main_arg1) := VM_of_ne m 0 main_arg1 (by decide)
theorem pfM_hi : pfM m 2 = m (((0 : Dev nD) : Thread nD τ).loc main_arg2) := VM_of_ne m 0 main_arg2 (by decide)

/-- What the precondition says of the launch memory. -/
abbrev RoutedM : Prop :=
  Routed (m (((0 : Dev nD) : Thread nD τ).loc main_arg0)) (m (((0 : Dev nD) : Thread nD τ).loc main_arg1))
    (m (((0 : Dev nD) : Thread nD τ).loc main_arg2)) (m (((0 : Dev nD) : Thread nD τ).loc main_arg5))

theorem win_le_of (hr : RoutedM m) (x) : (pfM m 0 x).toNat ≤ 2671 := by
  rw [pfM_win]; exact hr.win_le x

theorem routed_ideal (m : (ℓ : Loc nD τ sig) → Buf (Elt Ideal) ℓ) (h : Cert.Pre_KernelIdeal m) : RoutedM m := by
  obtain ⟨h1, h2, h3, h4, h5, h6⟩ := h 0
  exact routed_of_fn _ _ _ _ _ _ _ _ h1 h2 h3 h4 h5 h6

theorem routed_bits (m : (ℓ : Loc nD τ sig) → Buf (Elt Bits) ℓ) (h : Cert.Pre_Kernel m) : RoutedM m := by
  obtain ⟨h1, h2, h3, h4, h5, h6⟩ := h 0
  exact routed_of_fn _ _ _ _ _ _ _ _ h1 h2 h3 h4 h5 h6

theorem frame_ideal : Cert.quiescent_KernelIdeal := fun m g hp =>
  (θ_run (defs (F := Ideal)) _ _).mono (fun r hr => ⟨fun c => (hr.1 c).2.2, hr.2⟩)
    (run_ends m g (win_le_of m (routed_ideal m hp)))

/-- The frame at the machine's words, of the text the two programs share. -/
def FrameBits : Prop :=
  ∀ (m : (ℓ : Loc nD τ sig) → Buf (Elt Bits) ℓ) (g : Dev nD → PrngReg), Cert.Pre_Kernel m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem frame_text : FrameBits := fun m g hp =>
  (θ_run (defs (F := Bits)) _ _).mono (fun r hr => ⟨fun c => (hr.1 c).2.2, hr.2⟩)
    (run_ends (F := Bits) m g (win_le_of m (routed_bits m hp)))

theorem frame_same : Cert.quiescent_Kernel = FrameBits := by sl_kernel_rfl

theorem frame_bits : Cert.quiescent_Kernel := frame_same.mpr frame_text

end Cert.KernelIdeal.Hand

end
-- ==== Proof.Ref.lean ====
/- The run of the reference. -/
module

public import proofs.«01_k».proof.Defs
public import proofs.«01_k».proof.Proof.Gen.ReferenceIdeal
public import proofs.«01_k».proof.Proof.Gen.Pre_routed
public import Idealize.ShloMosaic.Lib.Claim
public import Idealize.ShloMosaic.Lib.Tactic
public import Idealize.ShloMosaic.Lib.Quiescent

@[expose] public section

set_option maxRecDepth 3328

noncomputable section

namespace Cert.ReferenceIdeal.Hand

open Idealize.ShloMosaic Idealize.ShloMosaic.TcCoe Idealize.SL.Sem

theorem frame : Cert.quiescent_ReferenceIdeal := by
  intro m g _
  hlo_run
  · exact fun _ => ⟨trivial, trivial, trivial, trivial, trivial, trivial, trivial, trivial⟩
  · exact sem_eq_zero_of_no_sems (by decide) _

theorem frame_pre : Cert.quiescent_ReferenceIdeal_pre_routed := by
  intro m g _
  exact frame m g trivial

end Cert.ReferenceIdeal.Hand

end
-- ==== Proof.Vals.lean ====
/- The stored values at an index, over the extended reals. -/
module

public import proofs.«01_k».proof.Proof.Step
public import proofs.«01_k».proof.Proof.Words
public import Idealize.ShloMosaic.Lib.Pointwise

@[expose] public section

set_option maxRecDepth 16384

noncomputable section

namespace Cert.KernelIdeal.Hand

open Cert.KernelIdeal Cert.KernelIdeal.Gen Cert.Hand
open Idealize.ShloMosaic

theorem pay4_at (lo hi w : BitVec 32) (d : Vec Ideal S256x2 .i32) (A : Vec Ideal S256x1024 .f32) (y : Vec Ideal S256x1024 .bf16) (r : Fin 256) (k : Fin 1024) :
    k0_pay4 lo hi d w A y (ix2 r k) = A (ix2 r k) + ∑ x : Fin 256, Scalar.select (IntOp.ori (IntOp.cmpi .eq (Scalar.select (IntOp.andi (IntOp.cmpi .sge (d (ix2 r 0)) lo) (IntOp.cmpi .slt (d (ix2 r 0)) hi)) (d (ix2 r 0)) 4294967295#32)
          (IntOp.addi (BitVec.ofNat 32 x.val) (Scalar.muli w 16#32)))
        (IntOp.cmpi .eq (Scalar.select (IntOp.andi (IntOp.cmpi .sge (d (ix2 r 1)) lo) (IntOp.cmpi .slt (d (ix2 r 1)) hi)) (d (ix2 r 1)) 4294967295#32)
          (IntOp.addi (BitVec.ofNat 32 x.val) (Scalar.muli w 16#32)))) (y (ix2 x k)) (0 : EReal) := by
  pointwise [k0_pay4, k0_pay3]

theorem pay5_at (lo hi w : BitVec 32) (d : Vec Ideal S256x2 .i32) (A : Vec Ideal S256x1024 .f32) (y : Vec Ideal S16x1024 .bf16) (r : Fin 256) (k : Fin 1024) :
    k0_pay5 lo hi d w A y (ix2 r k) = A (ix2 r k) + ∑ x : Fin 16, Scalar.select (IntOp.ori (IntOp.cmpi .eq (Scalar.select (IntOp.andi (IntOp.cmpi .sge (d (ix2 r 0)) lo) (IntOp.cmpi .slt (d (ix2 r 0)) hi)) (d (ix2 r 0)) 4294967295#32)
          (IntOp.addi (BitVec.ofNat 32 x.val) (Scalar.addi (Scalar.muli w 16#32) 256#32)))
        (IntOp.cmpi .eq (Scalar.select (IntOp.andi (IntOp.cmpi .sge (d (ix2 r 1)) lo) (IntOp.cmpi .slt (d (ix2 r 1)) hi)) (d (ix2 r 1)) 4294967295#32)
          (IntOp.addi (BitVec.ofNat 32 x.val) (Scalar.addi (Scalar.muli w 16#32) 256#32)))) (y (ix2 x k)) (0 : EReal) := by
  pointwise [k0_pay5, k0_pay3]

/-- A row's root-mean-square normalization, times the gain. -/
def rmsAt (a : Fin 1024 → EReal) (g : Fin 1024 → EReal) (k : Fin 1024) : EReal :=
  a k * Ideal.rsqrt (Ideal.div (∑ x, a x * a x) (Ideal.ofBits .f32 1149239296#32) + Ideal.ofBits .f32 897988541#32) * g k

theorem pay27_at (A : Vec Ideal S256x1024 .f32) (g : Vec Ideal S1x1024 .f32) (r : Fin 256) (k : Fin 1024) :
    k0_pay27 A g (ix2 r k) = rmsAt (fun x => A (ix2 r x)) (fun x => g (ix2 0 x)) k := by
  pointwise [k0_pay27, rmsAt]

theorem pay1_at (A : Vec Ideal S256x1024 .f32) (r : Fin 256) (k : Fin 1024) : k0_pay1 A (ix2 r k) = A (ix2 r k) := by
  pointwise [k0_pay1]

theorem pay2_at (A : Vec Ideal S256x1024 .f32) (r : Fin 256) (k : Fin 1024) : k0_pay2 A (ix2 r k) = A (ix2 r k) := by
  pointwise [k0_pay2]

end Cert.KernelIdeal.Hand

end
-- ==== Proof.Sums.lean ====
/-
  Sums of a one-hot's products, and of the experts' shares.
-/
module

public import proofs.«01_k».proof.Proof.Vals

@[expose] public section

set_option maxRecDepth 3328

noncomputable section

namespace Cert.Hand

open Idealize.ShloMosaic

/-- Row `d`'s element of `Y`, where `d` is a place in `[lo, hi)`. -/
def pick (lo hi d : ℕ) (Y : ℕ → EReal) : EReal := if lo ≤ d ∧ d < hi then Y d else 0

/-- A one-hot row of places `c`, `c + 1`, … against a column sums to the row it names. -/
theorem sum_hot (n c s : ℕ) (Y : ℕ → EReal) :
    (∑ x : Fin n, if s = x.val + c then Y (x.val + c) else 0) = pick c (c + n) s Y := by
  unfold pick
  split
  · rename_i h
    rw [Finset.sum_eq_single (⟨s - c, by omega⟩ : Fin n)]
    · have e : s - c + c = s := by omega
      simp only [e, if_true]
    · intro b _ hb
      rw [if_neg]
      intro e
      exact hb (Fin.ext (by simp only; omega))
    · intro hx; exact absurd (Finset.mem_univ _) hx
  · rename_i h
    refine Finset.sum_eq_zero fun x _ => ?_
    rw [if_neg]
    have := x.isLt
    omega

/-- The place a word holds, kept when it lies in `[lo, hi)`. -/
def masked (lo hi d : BitVec 32) : BitVec 32 :=
  Scalar.select (IntOp.andi (IntOp.cmpi .sge d lo) (IntOp.cmpi .slt d hi)) d 4294967295#32

theorem masked_eq (lo hi d : BitVec 32) (hl : lo.toNat < 2147483648) (hh : hi.toNat < 2147483648) :
    masked lo hi d = if lo.toNat ≤ d.toNat ∧ d.toNat < hi.toNat then d else 4294967295#32 := by
  have e : (IntOp.andi (IntOp.cmpi .sge d lo) (IntOp.cmpi .slt d hi) = 1#1) ↔ (lo.toNat ≤ d.toNat ∧ d.toNat < hi.toNat) := by
    simp only [IntOp.andi, IntOp.cmpi, and_one, ofBool_one, sle_nat, slt_nat]
    omega
  unfold masked Scalar.select
  split <;> rename_i h <;> split <;> rename_i h' <;> first | rfl | (exact absurd (e.mp h) h') | (exact absurd (e.mpr h') h)

/-- The one-hot's element: one where either place is `x + c`. -/
theorem hot_at (lo hi d0 d1 cw : BitVec 32) (c : ℕ) (hc : cw.toNat = c) (hl : lo.toNat < 2147483648) (hh : hi.toNat < 2147483648)
    (hne : d0 ≠ d1 ∨ ¬ (lo.toNat ≤ d0.toNat ∧ d0.toNat < hi.toNat))
    (x : ℕ) (hx : x + c < 2147483648) (z : EReal) :
    Scalar.select (IntOp.ori (IntOp.cmpi .eq (masked lo hi d0) (IntOp.addi (BitVec.ofNat 32 x) cw))
        (IntOp.cmpi .eq (masked lo hi d1) (IntOp.addi (BitVec.ofNat 32 x) cw))) z 0
      = (if (masked lo hi d0).toNat = x + c then z else 0) + (if (masked lo hi d1).toNat = x + c then z else 0) := by
  have hs : (IntOp.addi (BitVec.ofNat 32 x) cw).toNat = x + c := by
    simp only [IntOp.addi, BitVec.toNat_add, BitVec.toNat_ofNat, hc]
    omega
  have hq : ∀ s : BitVec 32, IntOp.cmpi .eq s (IntOp.addi (BitVec.ofNat 32 x) cw) = 1#1 ↔ s.toNat = x + c := by
    intro s
    simp only [IntOp.cmpi, ofBool_one, beq_iff_eq]
    rw [← hs]
    exact BitVec.toNat_inj.symm
  have hne' : ¬ ((masked lo hi d0).toNat = x + c ∧ (masked lo hi d1).toNat = x + c) := by
    rw [masked_eq _ _ _ hl hh, masked_eq _ _ _ hl hh]
    rintro ⟨h0, h1⟩
    have hf : (4294967295#32).toNat = 4294967295 := rfl
    split at h0
    · split at h1
      · rename_i ha hb
        rcases hne with h | h
        · exact h (BitVec.eq_of_toNat_eq (h0.trans h1.symm))
        · exact h ha
      · omega
    · omega
  unfold Scalar.select
  have ho : (IntOp.ori (IntOp.cmpi .eq (masked lo hi d0) (IntOp.addi (BitVec.ofNat 32 x) cw))
        (IntOp.cmpi .eq (masked lo hi d1) (IntOp.addi (BitVec.ofNat 32 x) cw)) = 1#1)
      ↔ ((masked lo hi d0).toNat = x + c ∨ (masked lo hi d1).toNat = x + c) := by
    rw [IntOp.ori, or_one, hq, hq]
  split <;> rename_i h
  · rcases ho.mp h with h0 | h1
    · rw [if_pos h0, if_neg (fun h1 => hne' ⟨h0, h1⟩), add_zero]
    · rw [if_pos h1, if_neg (fun h0 => hne' ⟨h0, h1⟩), zero_add]
  · rw [if_neg fun h0 => h (ho.mpr (.inl h0)), if_neg fun h1 => h (ho.mpr (.inr h1)), add_zero]

theorem set_bit : ∀ b : BitVec 1, Scalar.cmpi .ne (Scalar.extui b : BitVec 32) 0#32 = 1#1 ↔ b = 1#1 := by decide

theorem pick_masked (lo hi d : BitVec 32) (c n : ℕ) (hl : lo.toNat < 2147483648) (hh : hi.toNat < 2147483648) (hn : c + n < 2147483648)
    (Y : ℕ → EReal) : pick c (c + n) (masked lo hi d).toNat Y
      = if (lo.toNat ≤ d.toNat ∧ d.toNat < hi.toNat) ∧ c ≤ d.toNat ∧ d.toNat < c + n then Y d.toNat else 0 := by
  rw [masked_eq _ _ _ hl hh]
  have hf : (4294967295#32).toNat = 4294967295 := rfl
  unfold pick
  by_cases h : lo.toNat ≤ d.toNat ∧ d.toNat < hi.toNat
  · rw [if_pos h]
    exact if_congr ⟨fun a => ⟨h, a⟩, fun a => a.2⟩ rfl rfl
  · rw [if_neg h, if_neg (by rw [hf]; omega), if_neg (fun a => h a.1)]

end Cert.Hand

namespace Cert.KernelIdeal.Hand

open Cert.KernelIdeal Cert.KernelIdeal.Gen Cert.Hand
open Idealize.ShloMosaic

variable (lo hi w : BitVec 32) (d : Vec Ideal S256x2 .i32) (A : Vec Ideal S256x1024 .f32) (r : Fin 256) (k : Fin 1024)

theorem muli16 (hw : w.toNat ≤ 2671) : (Scalar.muli w 16#32).toNat = w.toNat * 16 := by
  simp only [Scalar.muli, IntOp.muli, BitVec.toNat_mul, BitVec.toNat_ofNat]
  omega

theorem addi256 (hw : w.toNat ≤ 2671) : (Scalar.addi (Scalar.muli w 16#32) 256#32).toNat = w.toNat * 16 + 256 := by
  have := muli16 w hw
  simp only [Scalar.addi, IntOp.addi, BitVec.toNat_add, BitVec.toNat_ofNat, this]
  omega

variable (hl : lo.toNat < 2147483648) (hh : hi.toNat < 2147483648) (hw : w.toNat ≤ 2671)
  (hne : d (ix2 r 0) ≠ d (ix2 r 1) ∨ ¬ (lo.toNat ≤ (d (ix2 r 0)).toNat ∧ (d (ix2 r 0)).toNat < hi.toNat))
  (Y : ℕ → EReal)

include hl hh hw hne

theorem pay4_pick (y : Vec Ideal S256x1024 .bf16) (hy : ∀ x : Fin 256, y (ix2 x k) = Y (x.val + w.toNat * 16)) :
    k0_pay4 lo hi d w A y (ix2 r k) = A (ix2 r k) + (pick (w.toNat * 16) (w.toNat * 16 + 256) (masked lo hi (d (ix2 r 0))).toNat Y
      + pick (w.toNat * 16) (w.toNat * 16 + 256) (masked lo hi (d (ix2 r 1))).toNat Y) := by
  rw [pay4_at, ← sum_hot, ← sum_hot, ← Finset.sum_add_distrib]
  congr 1
  refine Finset.sum_congr rfl fun x _ => ?_
  rw [hy]
  exact hot_at lo hi _ _ _ _ (muli16 w hw) hl hh hne x.val (by have := x.isLt; omega) _

theorem pay5_pick (y : Vec Ideal S16x1024 .bf16) (hy : ∀ x : Fin 16, y (ix2 x k) = Y (x.val + (w.toNat * 16 + 256))) :
    k0_pay5 lo hi d w A y (ix2 r k) = A (ix2 r k) + (pick (w.toNat * 16 + 256) (w.toNat * 16 + 256 + 16) (masked lo hi (d (ix2 r 0))).toNat Y
      + pick (w.toNat * 16 + 256) (w.toNat * 16 + 256 + 16) (masked lo hi (d (ix2 r 1))).toNat Y) := by
  rw [pay5_at, ← sum_hot, ← sum_hot, ← Finset.sum_add_distrib]
  congr 1
  refine Finset.sum_congr rfl fun x _ => ?_
  rw [hy]
  exact hot_at lo hi _ _ _ _ (addi256 w hw) hl hh hne x.val (by have := x.isLt; omega) _

/-- An expert's step adds the rows its range holds. -/
theorem stepV_pick (h1 : w.toNat * 16 ≤ lo.toNat) (h2 : lo.toNat < w.toNat * 16 + 16) (h3 : hi.toNat ≤ lo.toNat + 256)
    (y : Vec Ideal S256x1024 .bf16) (hy : ∀ x : Fin 256, y (ix2 x k) = Y (x.val + w.toNat * 16))
    (tl : Vec Ideal S16x1024 .bf16) (ht : ∀ x : Fin 16, tl (ix2 x k) = Y (x.val + (w.toNat * 16 + 256))) :
    stepV lo hi w d y tl A (ix2 r k) = A (ix2 r k) + (pick lo.toNat hi.toNat (d (ix2 r 0)).toNat Y + pick lo.toNat hi.toNat (d (ix2 r 1)).toNat Y) := by
  have hlive : live lo hi = 1#1 ↔ lo.toNat < hi.toNat := by
    have : Scalar.cmpi .sgt hi lo = 1#1 ↔ lo.toNat < hi.toNat := by
      simp only [Scalar.cmpi, IntOp.cmpi, ofBool_one, slt_nat]; omega
    rw [← this]
    exact set_bit _
  have hpast : past hi w = 1#1 ↔ w.toNat * 16 + 256 < hi.toNat := by
    have : Scalar.cmpi .sgt hi (Scalar.addi (Scalar.muli w 16#32) 256#32) = 1#1 ↔ w.toNat * 16 + 256 < hi.toNat := by
      have := addi256 w hw
      simp only [Scalar.cmpi, IntOp.cmpi, ofBool_one, slt_nat]; omega
    rw [← this]
    exact set_bit _
  unfold stepV
  by_cases hL : lo.toNat < hi.toNat
  · rw [if_pos (hlive.mpr hL)]
    by_cases hP : w.toNat * 16 + 256 < hi.toNat
    · rw [if_pos (hpast.mpr hP), pay5_pick lo hi w d _ r k hl hh hw hne Y tl ht, pay4_pick lo hi w d A r k hl hh hw hne Y y hy, add_assoc]
      congr 1
      have e : ∀ v : BitVec 32, pick lo.toNat hi.toNat v.toNat Y = pick (w.toNat * 16) (w.toNat * 16 + 256) (masked lo hi v).toNat Y
          + pick (w.toNat * 16 + 256) (w.toNat * 16 + 256 + 16) (masked lo hi v).toNat Y := by
        intro v
        rw [pick_masked lo hi v _ _ hl hh (by omega), pick_masked lo hi v _ _ hl hh (by omega), pick]
        by_cases hv : lo.toNat ≤ v.toNat ∧ v.toNat < hi.toNat
        · rw [if_pos hv]
          by_cases hv' : v.toNat < w.toNat * 16 + 256
          · rw [if_pos ⟨hv, by omega, hv'⟩, if_neg (by omega), add_zero]
          · rw [if_neg (by omega), if_pos ⟨hv, by omega, by omega⟩, zero_add]
        · rw [if_neg hv, if_neg (fun a => hv a.1), if_neg (fun a => hv a.1), add_zero]
      rw [e, e, add_add_add_comm]
    · rw [if_neg (fun a => hP (hpast.mp a)), pay4_pick lo hi w d A r k hl hh hw hne Y y hy]
      congr 1
      have e : ∀ v : BitVec 32, pick lo.toNat hi.toNat v.toNat Y = pick (w.toNat * 16) (w.toNat * 16 + 256) (masked lo hi v).toNat Y := by
        intro v
        rw [pick_masked lo hi v _ _ hl hh (by omega), pick]
        exact if_congr ⟨fun a => ⟨a, by omega, by omega⟩, fun a => a.1⟩ rfl rfl
      rw [e, e]
  · rw [if_neg (fun a => hL (hlive.mp a)), pick, pick, if_neg (by omega), if_neg (by omega), add_zero, add_zero]

end Cert.KernelIdeal.Hand

end
-- ==== Proof.Share.lean ====
/-
  The accumulator after the eight experts' steps: the block's rows plus each row's two places' rows.
-/
module

public import proofs.«01_k».proof.Proof.Sums
public import proofs.«01_k».proof.Proof.Body
public import proofs.«01_k».proof.Proof.Ok

@[expose] public section

set_option maxRecDepth 3328

noncomputable section

namespace Cert.Hand

open Idealize.ShloMosaic Cert.Pre_routed

/-- The row a place names: none where the place is negative. -/
def rowOf (d : BitVec 32) (Y : ℕ → EReal) : EReal := if d.toInt < 0 then 0 else Y d.toNat

variable {win lo hi : S520.Idx → BitVec 32} {dest : S16640x2.Idx → BitVec 32} (hr : Routed win lo hi dest) (j : Fin 65) (t : Fin 256)

include hr

theorem hi_small (x : S520.Idx) : (hi x).toNat < 2147483648 := by
  have := hr.win_le x; have := hr.lo_lt x; have := hr.hi_le x; omega

theorem lo_small (x : S520.Idx) : (lo x).toNat < 2147483648 := by
  have := hr.win_le x; have := hr.lo_lt x; omega

theorem chain (n : ℕ) : ∀ (e : ℕ) (h : e + n + 1 < 8), (hi (ixJE j ⟨e, by omega⟩)).toNat ≤ (lo (ixJE j ⟨e + n + 1, h⟩)).toNat := by
  induction n with
  | zero => exact fun e h => hr.ordered j e h
  | succ n ih =>
    intro e h
    have h1 := ih e (by omega)
    have h2 := hr.lo_le_hi (ixJE j ⟨e + n + 1, by omega⟩)
    have h3 := hr.ordered j (e + n + 1) (by omega)
    have : e + (n + 1) + 1 = e + n + 1 + 1 := by omega
    simp only [this]
    omega

theorem before_of_lt (a b : Fin 8) (h : a.val < b.val) : (hi (ixJE j a)).toNat ≤ (lo (ixJE j b)).toNat := by
  have h1 := chain hr j (b.val - a.val - 1) a.val (by have := b.isLt; omega)
  have e : (⟨a.val + (b.val - a.val - 1) + 1, by have := b.isLt; omega⟩ : Fin 8) = b := Fin.ext (by show a.val + (b.val - a.val - 1) + 1 = b.val; omega)
  rwa [e] at h1

/-- One expert at most holds a place: the experts' shares sum to the row the place names. -/
theorem sum_pick (k : Fin 2) (Y : ℕ → EReal) :
    (∑ e : Fin 8, pick (lo (ixJE j e)).toNat (hi (ixJE j e)).toNat (dest (ixD ⟨256 * j.val + t.val, by omega⟩ k)).toNat Y)
      = rowOf (dest (ixD ⟨256 * j.val + t.val, by omega⟩ k)) Y := by
  generalize hd : dest (ixD ⟨256 * j.val + t.val, by omega⟩ k) = d
  unfold rowOf
  by_cases hn : d.toInt < 0
  · rw [if_pos hn]
    rw [toInt_neg] at hn
    refine Finset.sum_eq_zero fun e _ => ?_
    have := hi_small hr (ixJE j e)
    exact if_neg (by omega)
  · rw [if_neg hn]
    rcases hr.placed j t k with h | ⟨e, h1, h2⟩
    · exact absurd (hd ▸ h) hn
    · rw [hd] at h1 h2
      rw [Finset.sum_eq_single e]
      · exact if_pos ⟨h1, h2⟩
      · intro b _ hb
        refine if_neg fun h => ?_
        rcases Nat.lt_or_gt_of_ne (fun he => hb (Fin.ext he)) with hlt | hlt
        · have := before_of_lt hr j b e hlt; omega
        · have := before_of_lt hr j e b hlt; omega
      · intro h; exact absurd (Finset.mem_univ _) h

theorem apart (e : Fin 8) :
    dest (ixD ⟨256 * j.val + t.val, by omega⟩ 0) ≠ dest (ixD ⟨256 * j.val + t.val, by omega⟩ 1)
      ∨ ¬ ((lo (ixJE j e)).toNat ≤ (dest (ixD ⟨256 * j.val + t.val, by omega⟩ 0)).toNat
        ∧ (dest (ixD ⟨256 * j.val + t.val, by omega⟩ 0)).toNat < (hi (ixJE j e)).toNat) := by
  rcases hr.distinct ⟨256 * j.val + t.val, by omega⟩ with h | h
  · exact .inl h
  · right
    rw [toInt_neg] at h
    have := hi_small hr (ixJE j e)
    omega

end Cert.Hand

namespace Cert.KernelIdeal.Hand

open Cert.KernelIdeal Cert.KernelIdeal.Gen Cert.Hand
open Idealize.ShloMosaic

theorem row_lt (i : grid0.Coords) (r : Fin 256) : 256 * (blk i).val + r.val < 16640 := by omega

variable {win lo hi : S520.Idx → BitVec 32} {dest : S16640x2.Idx → BitVec 32} (hr : Routed win lo hi dest) (i : grid0.Coords)
  (xp xs : Vec Ideal S256x1024 .f32) (d : Vec Ideal S256x2 .i32) (A : Vec Ideal S256x1024 .f32) (r : Fin 256) (k : Fin 1024) (Y : ℕ → EReal)
  (hd : ∀ q : Fin 2, d (ix2 r q) = dest (ixD ⟨256 * (blk i).val + r.val, by omega⟩ q))

include hr hd

/-- A step over the tables' words of block `i` and expert `e`. -/
theorem step_at (e : Fin 8) (l h w : BitVec 32) (hl : l = lo (ixJE (blk i) e)) (hh : h = hi (ixJE (blk i) e)) (hw : w = win (ixJE (blk i) e))
    (y : Vec Ideal S256x1024 .bf16) (hy : ∀ x : Fin 256, y (ix2 x k) = Y (x.val + (win (ixJE (blk i) e)).toNat * 16))
    (tl : Vec Ideal S16x1024 .bf16) (ht : ∀ x : Fin 16, tl (ix2 x k) = Y (x.val + ((win (ixJE (blk i) e)).toNat * 16 + 256))) :
    stepV l h w d y tl A (ix2 r k) = A (ix2 r k)
      + (pick (lo (ixJE (blk i) e)).toNat (hi (ixJE (blk i) e)).toNat (dest (ixD ⟨256 * (blk i).val + r.val, by omega⟩ 0)).toNat Y
        + pick (lo (ixJE (blk i) e)).toNat (hi (ixJE (blk i) e)).toNat (dest (ixD ⟨256 * (blk i).val + r.val, by omega⟩ 1)).toNat Y) := by
  subst hl hh hw
  rw [← hd, ← hd]
  exact stepV_pick _ _ _ d A r k (lo_small hr _) (hi_small hr _) (hr.win_le _) (by rw [hd, hd]; exact apart hr _ _ _) Y
    (hr.lo_ge _) (hr.lo_lt _) (hr.hi_le _) y hy tl ht

omit hd in
/-- The accumulator after the body. -/
theorem accB_at (n : Fin 16640) (hn : n.val = 256 * (blk i).val + r.val) (hd : ∀ q : Fin 2, d (ix2 r q) = dest (ixD n q)) (y0 y1 y2 y3 y4 y5 y6 y7 : Vec Ideal S256x1024 .bf16) (l0 l1 l2 l3 l4 l5 l6 l7 : Vec Ideal S16x1024 .bf16)
    (hy0 : ∀ x : Fin 256, y0 (ix2 x k) = Y (x.val + (win (ixJE (blk i) 0)).toNat * 16))
    (hl0 : ∀ x : Fin 16, l0 (ix2 x k) = Y (x.val + ((win (ixJE (blk i) 0)).toNat * 16 + 256)))
    (hy1 : ∀ x : Fin 256, y1 (ix2 x k) = Y (x.val + (win (ixJE (blk i) 1)).toNat * 16))
    (hl1 : ∀ x : Fin 16, l1 (ix2 x k) = Y (x.val + ((win (ixJE (blk i) 1)).toNat * 16 + 256)))
    (hy2 : ∀ x : Fin 256, y2 (ix2 x k) = Y (x.val + (win (ixJE (blk i) 2)).toNat * 16))
    (hl2 : ∀ x : Fin 16, l2 (ix2 x k) = Y (x.val + ((win (ixJE (blk i) 2)).toNat * 16 + 256)))
    (hy3 : ∀ x : Fin 256, y3 (ix2 x k) = Y (x.val + (win (ixJE (blk i) 3)).toNat * 16))
    (hl3 : ∀ x : Fin 16, l3 (ix2 x k) = Y (x.val + ((win (ixJE (blk i) 3)).toNat * 16 + 256)))
    (hy4 : ∀ x : Fin 256, y4 (ix2 x k) = Y (x.val + (win (ixJE (blk i) 4)).toNat * 16))
    (hl4 : ∀ x : Fin 16, l4 (ix2 x k) = Y (x.val + ((win (ixJE (blk i) 4)).toNat * 16 + 256)))
    (hy5 : ∀ x : Fin 256, y5 (ix2 x k) = Y (x.val + (win (ixJE (blk i) 5)).toNat * 16))
    (hl5 : ∀ x : Fin 16, l5 (ix2 x k) = Y (x.val + ((win (ixJE (blk i) 5)).toNat * 16 + 256)))
    (hy6 : ∀ x : Fin 256, y6 (ix2 x k) = Y (x.val + (win (ixJE (blk i) 6)).toNat * 16))
    (hl6 : ∀ x : Fin 16, l6 (ix2 x k) = Y (x.val + ((win (ixJE (blk i) 6)).toNat * 16 + 256)))
    (hy7 : ∀ x : Fin 256, y7 (ix2 x k) = Y (x.val + (win (ixJE (blk i) 7)).toNat * 16))
    (hl7 : ∀ x : Fin 16, l7 (ix2 x k) = Y (x.val + ((win (ixJE (blk i) 7)).toNat * 16 + 256)))
    : accB i win lo hi xp xs d y0 y1 y2 y3 y4 y5 y6 y7 l0 l1 l2 l3 l4 l5 l6 l7 A (ix2 r k) = initV i xp xs A (ix2 r k)
      + (rowOf (dest (ixD n 0)) Y + rowOf (dest (ixD n 1)) Y) := by
  obtain rfl : n = ⟨256 * (blk i).val + r.val, row_lt i r⟩ := Fin.ext hn
  rw [← sum_pick hr (blk i) r 0 Y, ← sum_pick hr (blk i) r 1 Y, ← Finset.sum_add_distrib, Fin.sum_univ_eight]
  unfold accB stepE0 stepE1 stepE2 stepE3 stepE4 stepE5 stepE6 stepE7
  rw [step_at hr i d _ r k Y hd 7 _ _ _ (wordAt_eq lo _ _ i 7 (off15_eq i)) (wordAt_eq hi _ _ i 7 (off15_eq i)) (wordAt_eq win _ _ i 7 (off16_eq i)) y7 hy7 l7 hl7]
  rw [step_at hr i d _ r k Y hd 6 _ _ _ (wordAt_eq lo _ _ i 6 (off13_eq i)) (wordAt_eq hi _ _ i 6 (off13_eq i)) (wordAt_eq win _ _ i 6 (off14_eq i)) y6 hy6 l6 hl6]
  rw [step_at hr i d _ r k Y hd 5 _ _ _ (wordAt_eq lo _ _ i 5 (off11_eq i)) (wordAt_eq hi _ _ i 5 (off11_eq i)) (wordAt_eq win _ _ i 5 (off12_eq i)) y5 hy5 l5 hl5]
  rw [step_at hr i d _ r k Y hd 4 _ _ _ (wordAt_eq lo _ _ i 4 (off9_eq i)) (wordAt_eq hi _ _ i 4 (off9_eq i)) (wordAt_eq win _ _ i 4 (off10_eq i)) y4 hy4 l4 hl4]
  rw [step_at hr i d _ r k Y hd 3 _ _ _ (wordAt_eq lo _ _ i 3 (off7_eq i)) (wordAt_eq hi _ _ i 3 (off7_eq i)) (wordAt_eq win _ _ i 3 (off8_eq i)) y3 hy3 l3 hl3]
  rw [step_at hr i d _ r k Y hd 2 _ _ _ (wordAt_eq lo _ _ i 2 (off5_eq i)) (wordAt_eq hi _ _ i 2 (off5_eq i)) (wordAt_eq win _ _ i 2 (off6_eq i)) y2 hy2 l2 hl2]
  rw [step_at hr i d _ r k Y hd 1 _ _ _ (wordAt_eq lo _ _ i 1 (off3_eq i)) (wordAt_eq hi _ _ i 1 (off3_eq i)) (wordAt_eq win _ _ i 1 (off4_eq i)) y1 hy1 l1 hl1]
  rw [step_at hr i d _ r k Y hd 0 _ _ _ (wordAt_eq lo _ _ i 0 (off1_eq i 0 (by decide))) (wordAt_eq hi _ _ i 0 (off1_eq i 0 (by decide))) (wordAt_eq win _ _ i 0 (off2_eq i)) y0 hy0 l0 hl0]
  simp only [add_assoc]

end Cert.KernelIdeal.Hand

end
-- ==== Proof.RefVal.lean ====
/- The reference's results, read at an index. -/
module

public import proofs.«01_k».proof.Proof.Ref
public import proofs.«01_k».proof.Proof.Share
public import Idealize.ShloMosaic.Lib.Pointwise
public import Idealize.ShloMosaic.Lib.StableHlo.Predicate

@[expose] public section

set_option maxRecDepth 16384

noncomputable section

namespace Cert.ReferenceIdeal.Hand

open Cert.ReferenceIdeal Cert.ReferenceIdeal.Gen Cert.Hand
open Idealize.ShloMosaic

abbrev dims := gather_S43008x1024_S16640x2x1_S16640x2x1024_2_0_n_n_0_2_11024

/-- The gather of whole rows, at an index. -/
theorem gather_at (x : Vec Ideal S43008x1024 .f32) (idx : IVec S16640x2x1 32) (r : Fin 16640) (q : Fin 2) (k : Fin 1024) (b : Fin 43008)
    (hb : (idx (ix3 r q (0 : Fin 1))).toInt = b.val) : Host.gather dims x idx (ix3 r q k) = x (ix2 b k) := by
  have hsi : dims.siIdx (ix3 r q k) ⟨0, by decide⟩ = ix3 r q (0 : Fin 1) := by
    funext a
    match a with
    | ⟨0, _⟩ => rfl
    | ⟨1, _⟩ => rfl
    | ⟨2, _⟩ => rfl
  unfold Host.gather
  refine congrArg x (funext fun a => Fin.ext ?_)
  match a with
  | ⟨0, _⟩ =>
    show dims.start (ix3 r q k) idx 0 + dims.batchCoord (ix3 r q k) 0 + dims.offCoord (ix3 r q k) 0 = b.val
    have e0 : dims.start (ix3 r q k) idx 0 = b.val := by
      unfold GatherDims.start
      rw [dif_pos (by decide)]
      show min (idx (dims.siIdx (ix3 r q k) ⟨0, by decide⟩)).toInt.toNat (43008 - 1) = b.val
      rw [hsi, hb]
      have := b.isLt
      omega
    have e1 : dims.batchCoord (ix3 r q k) 0 = 0 := rfl
    have e2 : dims.offCoord (ix3 r q k) 0 = 0 := rfl
    rw [e0, e1, e2]; rfl
  | ⟨1, _⟩ =>
    show dims.start (ix3 r q k) idx 1 + dims.batchCoord (ix3 r q k) 1 + dims.offCoord (ix3 r q k) 1 = k.val
    have e0 : dims.start (ix3 r q k) idx 1 = 0 := rfl
    have e1 : dims.batchCoord (ix3 r q k) 1 = 0 := rfl
    have e2 : dims.offCoord (ix3 r q k) 1 = k.val := rfl
    rw [e0, e1, e2, Nat.zero_add]

variable (D : Vec Ideal S16640x2 .i32) (ys : Vec Ideal S43008x1024 .bf16) (xp : Vec Ideal S16384x1024 .f32) (xs : Vec Ideal S256x1024 .f32)
  (g : Vec Ideal S1024 .f32)

/-- Column `k` of the rows, over the row's number. -/
def colOf (k : Fin 1024) (n : ℕ) : EReal := if h : n < 43008 then ys (ix2 (⟨n, h⟩ : Fin 43008) k) else 0

/-- The places, none negative. -/
def place : Vec Ideal S16640x2 .i32 :=
  select (cmpi .slt (maxsi D (broadcastInDim S16640x2 ![] bcast_S_S16640x2 (constantI S_ 32 0#32))) (broadcastInDim S16640x2 ![] bcast_S_S16640x2 (constantI S_ 32 0#32)))
    (addi (maxsi D (broadcastInDim S16640x2 ![] bcast_S_S16640x2 (constantI S_ 32 0#32))) (broadcastInDim S16640x2 ![] bcast_S_S16640x2 (constantI S_ 32 43008#32)))
    (maxsi D (broadcastInDim S16640x2 ![] bcast_S_S16640x2 (constantI S_ 32 0#32)))

/-- The rows the places name. -/
def named : Vec Ideal S16640x2x1024 .f32 :=
  Host.gather dims (extf (F := Ideal) .f32 ys bitsLt_bf16_f32) (broadcastInDim S16640x2x1 ![0, 1] bcast_S16640x2_S16640x2x1_0_1 (place D))

/-- Those rows, zero where the place is negative. -/
def rows (G : Vec Ideal S16640x2x1024 .f32) : Vec Ideal S16640x2x1024 .f32 :=
  select (broadcastInDim S16640x2x1024 ![0, 1, 2] bcast_S16640x2x1_S16640x2x1024_0_1_2
      (cmpi .sge (broadcastInDim S16640x2x1 ![0, 1] bcast_S16640x2_S16640x2x1_0_1 D) (broadcastInDim S16640x2x1 ![] bcast_S_S16640x2x1 (constantI S_ 32 0#32))))
    G (broadcastInDim S16640x2x1024 ![] bcast_S_S16640x2x1024 (constant (F := Ideal) S_ .f32 0x00000000#32))

/-- The layer's rows with theirs. -/
def joined (R : Vec Ideal S16640x2x1024 .f32) : Vec Ideal S16640x1024 .f32 :=
  addf (F := Ideal) (concatenate S16640x1024 0 [⟨S16384x1024, xp⟩, ⟨S256x1024, xs⟩] concatenates_S16384x1024_S256x1024_S16640x1024_d0)
    (Host.reduceAdd (F := Ideal) R (constant (F := Ideal) S_ .f32 0x00000000#32) reducesTo_S16640x2x1024_S16640x1024_d1 h_S_)

/-- Each row normalized. -/
def normed (X : Vec Ideal S16640x1024 .f32) : Vec Ideal S16640x1024 .f32 :=
  mulf (F := Ideal) (mulf (F := Ideal) X (broadcastInDim S16640x1024 ![0, 1] bcast_S16640x1_S16640x1024_0_1
      (Host.rsqrt (F := Ideal) (addf (F := Ideal) (Host.divf (F := Ideal) (broadcastInDim S16640x1 ![0] bcast_S16640_S16640x1_0
          (Host.reduceAdd (F := Ideal) (mulf (F := Ideal) X X) (constant (F := Ideal) S_ .f32 0x00000000#32) reducesTo_S16640x1024_S16640_d1 h_S_))
        (broadcastInDim S16640x1 ![] bcast_S_S16640x1 (constant (F := Ideal) S_ .f32 0x44800000#32)))
        (broadcastInDim S16640x1 ![] bcast_S_S16640x1 (constant (F := Ideal) S_ .f32 0x358637BD#32))))))
    (broadcastInDim S16640x1024 ![0, 1] bcast_S1x1024_S16640x1024_0_1 (broadcastInDim S1x1024 ![1] bcast_S1024_S1x1024_1 g))

theorem place_at (r : Fin 16640) (q : Fin 2) (h : ¬ (D (ix2 r q)).toInt < 0) : place D (ix2 r q) = D (ix2 r q) := by
  have e : place D (ix2 r q) = Scalar.select (IntOp.cmpi .slt (IntOp.maxsi (D (ix2 r q)) 0#32) 0#32)
      (IntOp.addi (IntOp.maxsi (D (ix2 r q)) 0#32) 43008#32) (IntOp.maxsi (D (ix2 r q)) 0#32) := by
    pointwise [place]
  rw [e]
  generalize D (ix2 r q) = d at h
  have hm : IntOp.maxsi d 0#32 = d := by
    unfold IntOp.maxsi
    split
    · rfl
    · rename_i hs
      rw [slt_nat] at hs
      rw [toInt_neg] at h
      have h0 : (0#32).toNat = 0 := rfl
      refine BitVec.eq_of_toNat_eq ?_
      omega
  rw [hm]
  refine if_neg fun hs => ?_
  rw [toInt_neg] at h
  have hs' := (slt_nat d 0#32).mp ((ofBool_one _).mp hs)
  have h0 : (0#32).toNat = 0 := rfl
  omega

theorem rows_at (G : Vec Ideal S16640x2x1024 .f32) (r : Fin 16640) (q : Fin 2) (k : Fin 1024) : rows D G (ix3 r q k) = Scalar.select (IntOp.cmpi .sge (D (ix2 r q)) 0#32) (G (ix3 r q k)) (0 : EReal) := by
  pointwise [rows]

theorem joined_at (R : Vec Ideal S16640x2x1024 .f32) (r : Fin 16640) (k : Fin 1024) : joined xp xs R (ix2 r k)
   = (if h : r.val < 16384 then xp (ix2 ⟨r.val, h⟩ k) else xs (ix2 ⟨r.val - 16384, by omega⟩ k)) + (R (ix3 r 0 k) + R (ix3 r 1 k)) := by
  pointwise [joined]
  rw [Fin.sum_univ_two]

theorem normed_at (X : Vec Ideal S16640x1024 .f32) (r : Fin 16640) (k : Fin 1024) : normed g X (ix2 r k)
   = Cert.KernelIdeal.Hand.rmsAt (fun x => X (ix2 r x)) (fun x => g (ix1 x)) k := by
  pointwise [normed, Cert.KernelIdeal.Hand.rmsAt]

theorem rows_named (r : Fin 16640) (q : Fin 2) (k : Fin 1024) (hin : (D (ix2 r q)).toInt < 0 ∨ (D (ix2 r q)).toNat < 43008) :
    rows D (named D ys) (ix3 r q k) = rowOf (D (ix2 r q)) (colOf ys k) := by
  rw [rows_at]
  unfold rowOf
  by_cases h : (D (ix2 r q)).toInt < 0
  · rw [if_pos h]
    refine if_neg fun hs => ?_
    have hs' := (sle_nat 0#32 (D (ix2 r q))).mp ((ofBool_one _).mp hs)
    rw [toInt_neg] at h
    have h0 : (0#32).toNat = 0 := rfl
    omega
  · rw [if_neg h]
    have hlt : (D (ix2 r q)).toNat < 43008 := hin.resolve_left h
    have hc : IntOp.cmpi .sge (D (ix2 r q)) 0#32 = 1#1 := by
      refine (ofBool_one _).mpr ((sle_nat 0#32 (D (ix2 r q))).mpr ?_)
      have h0 : (0#32).toNat = 0 := rfl
      omega
    unfold Scalar.select
    refine (if_pos hc).trans ?_
    rw [colOf, dif_pos hlt, named, gather_at _ _ r q k ⟨_, hlt⟩]
    · pointwise
    · have e : (broadcastInDim S16640x2x1 ![0, 1] bcast_S16640x2_S16640x2x1_0_1 (place D)) (ix3 r q (0 : Fin 1)) = place D (ix2 r q) := by
        pointwise
      rw [e, place_at D r q h, BitVec.toInt_eq_toNat_cond, if_pos (by omega)]

/-- The reference's rows before the normalization. -/
theorem joined_named (r : Fin 16640) (k : Fin 1024) (hin : ∀ q, (D (ix2 r q)).toInt < 0 ∨ (D (ix2 r q)).toNat < 43008) :
    joined xp xs (rows D (named D ys)) (ix2 r k)
      = (if h : r.val < 16384 then xp (ix2 ⟨r.val, h⟩ k) else xs (ix2 ⟨r.val - 16384, by omega⟩ k))
        + (rowOf (D (ix2 r 0)) (colOf ys k) + rowOf (D (ix2 r 1)) (colOf ys k)) := by
  rw [joined_at, rows_named D ys r 0 k (hin 0), rows_named D ys r 1 k (hin 1)]

/-- The first result. -/
def out0 : Vec Ideal S16384x1024 .f32 :=
  extractStridedSlice S16384x1024 ![0, 0] (normed g (joined xp xs (rows D (named D ys)))) slices_S16640x1024_S16384x1024_0_0

/-- The second. -/
def out1 : Vec Ideal S256x1024 .f32 :=
  extractStridedSlice S256x1024 ![16384, 0] (normed g (joined xp xs (rows D (named D ys)))) slices_S16640x1024_S256x1024_16384_0

theorem out0_at (hin : ∀ r q, (D (ix2 r q)).toInt < 0 ∨ (D (ix2 r q)).toNat < 43008) (r : Fin 16384) (k : Fin 1024) :
    out0 D ys xp xs g (ix2 r k) = Cert.KernelIdeal.Hand.rmsAt (fun x => xp (ix2 r x)
        + (rowOf (D (ix2 (⟨r.val, by omega⟩ : Fin 16640) 0)) (colOf ys x) + rowOf (D (ix2 (⟨r.val, by omega⟩ : Fin 16640) 1)) (colOf ys x)))
      (fun x => g (ix1 x)) k := by
  have e : out0 D ys xp xs g (ix2 r k) = normed g (joined xp xs (rows D (named D ys))) (ix2 (⟨r.val, by omega⟩ : Fin 16640) k) := by
    pointwise [out0]
  rw [e, normed_at]
  congr 1
  funext x
  rw [joined_named D ys xp xs _ x (hin _), dif_pos r.isLt]

theorem out1_at (hin : ∀ r q, (D (ix2 r q)).toInt < 0 ∨ (D (ix2 r q)).toNat < 43008) (r : Fin 256) (k : Fin 1024) :
    out1 D ys xp xs g (ix2 r k) = Cert.KernelIdeal.Hand.rmsAt (fun x => xs (ix2 r x)
        + (rowOf (D (ix2 (⟨16384 + r.val, by omega⟩ : Fin 16640) 0)) (colOf ys x) + rowOf (D (ix2 (⟨16384 + r.val, by omega⟩ : Fin 16640) 1)) (colOf ys x)))
      (fun x => g (ix1 x)) k := by
  have e : out1 D ys xp xs g (ix2 r k) = normed g (joined xp xs (rows D (named D ys))) (ix2 (⟨16384 + r.val, by omega⟩ : Fin 16640) k) := by
    pointwise [out1]
  rw [e, normed_at]
  congr 1
  funext x
  rw [joined_named D ys xp xs _ x (hin _), dif_neg (by show ¬ (16384 + r.val < 16384); omega)]
  have e' : (⟨(⟨16384 + r.val, by omega⟩ : Fin 16640).val - 16384, by show 16384 + r.val - 16384 < 256; omega⟩ : Fin 256) = r :=
    Fin.ext (by show 16384 + r.val - 16384 = r.val; omega)
  rw [e']

open Idealize.ShloMosaic.TcCoe Idealize.SL.Sem in
/-- The reference's run. -/
theorem run_ends (m : (ℓ : Loc nD τ sig) → Buf (Elt Ideal) ℓ) (ρ : Dev nD → PrngReg) :
    θ_run (defs (F := Ideal)) (onTc main) ⟨m, fun _ => 0, ρ⟩ (fun r => ∀ c : Dev nD,
      r.2.mem ((c : Thread nD τ).loc main_v30) = out0 (m ((c : Thread nD τ).loc main_arg5)) (m ((c : Thread nD τ).loc main_arg6)) (m ((c : Thread nD τ).loc main_arg3)) (m ((c : Thread nD τ).loc main_arg4)) (m ((c : Thread nD τ).loc main_arg7))
      ∧ r.2.mem ((c : Thread nD τ).loc main_v31) = out1 (m ((c : Thread nD τ).loc main_arg5)) (m ((c : Thread nD τ).loc main_arg6)) (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) := by
  hlo_run
  all_goals rfl

end Cert.ReferenceIdeal.Hand

end
-- ==== Proof.Blocks.lean ====
/-
  The blocks each window holds, read at an index of the array they come from.
-/
module

public import proofs.«01_k».proof.Proof.Run
public import proofs.«01_k».proof.Proof.RefVal
public import Idealize.ShloMosaic.Lib.Pipeline.ValueKit.Geometry

@[expose] public section

set_option maxRecDepth 16384
set_option synthInstance.maxSize 4096

noncomputable section

namespace Cert.KernelIdeal.Hand

open Cert.KernelIdeal Cert.KernelIdeal.Gen Cert.Hand
open Idealize.ShloMosaic Idealize.ShloMosaic.TcCoe
open Cert.ReferenceIdeal.Hand (colOf)

/-! ## The index maps -/

theorem ix0_at : ∀ t : Fin grid0.N, cc0_transform_0 (grid0.coords t) = ![min t.val 63, 0] := by decide +kernel
theorem ix1_at : ∀ t : Fin grid0.N, cc0_transform_1 (grid0.coords t) = ![0, 0] := by decide +kernel
theorem ix2_at : ∀ t : Fin grid0.N, cc0_transform_2 (grid0.coords t) = ![t.val, 0] := by decide +kernel
theorem ix3_at : ∀ t : Fin grid0.N, cc0_transform_3 (grid0.coords t) = ![0, 0] := by decide +kernel
theorem ix20_at : ∀ t : Fin grid0.N, cc0_transform_20 (grid0.coords t) = ![min t.val 63, 0] := by decide +kernel
theorem ix21_at : ∀ t : Fin grid0.N, cc0_transform_21 (grid0.coords t) = ![0, 0] := by decide +kernel
theorem blk_at : ∀ t : Fin grid0.N, (blk (grid0.coords t)).val = t.val := by decide +kernel

/-! ## The blocks -/

variable (pf : pre0.Contents (Elt Ideal)) (h : ∀ x, (pf 0 x).toNat ≤ 2671)
variable (V : (c : Dev nD) → (b : Ref sig .tc) → Buf (Elt Ideal) ((c : Thread nD τ).loc b)) (c : Dev nD) (t : Fin (cfgA pf h).N)

theorem blk0_at (r : Fin 256) (k : Fin 1024) (n : Fin 16384) (hn : n.val = 256 * min t.val 63 + r.val) :
    blk0 pf h V c t (ix2 r k) = V c main_arg3 (ix2 n k) := by
  unfold blk0
  refine congrArg (V c main_arg3) (funext fun a => Fin.ext ?_)
  refine (((cfgA pf h).win 0).rect_emb_val t (ix2 r k) a).trans ?_
  match a with
  | ⟨0, _⟩ =>
    show cc0_transform_0 (grid0.coords t) 0 * 256 + r.val = n.val
    rw [ix0_at, hn]
    show (min t.val 63) * 256 + r.val = 256 * min t.val 63 + r.val
    omega
  | ⟨1, _⟩ =>
    show cc0_transform_0 (grid0.coords t) 1 * 1024 + k.val = k.val
    rw [ix0_at]
    show 0 * 1024 + k.val = k.val
    omega

theorem blk1_at (r : Fin 256) (k : Fin 1024) (n : Fin 256) (hn : n.val = r.val) :
    blk1 pf h V c t (ix2 r k) = V c main_arg4 (ix2 n k) := by
  unfold blk1
  refine congrArg (V c main_arg4) (funext fun a => Fin.ext ?_)
  refine (((cfgA pf h).win 1).rect_emb_val t (ix2 r k) a).trans ?_
  match a with
  | ⟨0, _⟩ =>
    show cc0_transform_1 (grid0.coords t) 0 * 256 + r.val = n.val
    rw [ix1_at, hn]
    show 0 * 256 + r.val = r.val
    omega
  | ⟨1, _⟩ =>
    show cc0_transform_1 (grid0.coords t) 1 * 1024 + k.val = k.val
    rw [ix1_at]
    show 0 * 1024 + k.val = k.val
    omega

theorem blk2_at (r : Fin 256) (k : Fin 2) (n : Fin 16640) (hn : n.val = 256 * t.val + r.val) :
    blk2 pf h V c t (ix2 r k) = V c main_arg5 (ix2 n k) := by
  unfold blk2
  refine congrArg (V c main_arg5) (funext fun a => Fin.ext ?_)
  refine (((cfgA pf h).win 2).rect_emb_val t (ix2 r k) a).trans ?_
  match a with
  | ⟨0, _⟩ =>
    show cc0_transform_2 (grid0.coords t) 0 * 256 + r.val = n.val
    rw [ix2_at, hn]
    show t.val * 256 + r.val = 256 * t.val + r.val
    omega
  | ⟨1, _⟩ =>
    show cc0_transform_2 (grid0.coords t) 1 * 2 + k.val = k.val
    rw [ix2_at]
    show 0 * 2 + k.val = k.val
    omega

theorem blk3_at (r : Fin 1) (k : Fin 1024) (n : Fin 1) (hn : n.val = r.val) :
    blk3 pf h V c t (ix2 r k) = V c main_v0 (ix2 n k) := by
  unfold blk3
  refine congrArg (V c main_v0) (funext fun a => Fin.ext ?_)
  refine (((cfgA pf h).win 3).rect_emb_val t (ix2 r k) a).trans ?_
  match a with
  | ⟨0, _⟩ =>
    show cc0_transform_3 (grid0.coords t) 0 * 1 + r.val = n.val
    rw [ix3_at, hn]
    show 0 * 1 + r.val = r.val
    omega
  | ⟨1, _⟩ =>
    show cc0_transform_3 (grid0.coords t) 1 * 1024 + k.val = k.val
    rw [ix3_at]
    show 0 * 1024 + k.val = k.val
    omega

end Cert.KernelIdeal.Hand

end
-- ==== Proof.BlocksE.lean ====
/-
  The windows onto the experts' rows, read at an index of the array they come from.
-/
module

public import proofs.«01_k».proof.Proof.Run
public import proofs.«01_k».proof.Proof.RefVal
public import Idealize.ShloMosaic.Lib.Pipeline.ValueKit.Geometry

@[expose] public section

set_option maxRecDepth 16384
set_option synthInstance.maxSize 4096

noncomputable section

namespace Cert.KernelIdeal.Hand

open Cert.KernelIdeal Cert.KernelIdeal.Gen Cert.Hand
open Idealize.ShloMosaic Idealize.ShloMosaic.TcCoe
open Cert.ReferenceIdeal.Hand (colOf)

/-! ## The blocks -/

variable (pf : pre0.Contents (Elt Ideal)) (h : ∀ x, (pf 0 x).toNat ≤ 2671)
variable (V : (c : Dev nD) → (b : Ref sig .tc) → Buf (Elt Ideal) ((c : Thread nD τ).loc b)) (c : Dev nD) (t : Fin (cfgA pf h).N)

theorem blk4_at (x : Fin 256) (k : Fin 1024) :
    blk4 pf h V c t (ix2 x k) = colOf (V c main_arg6) k (x.val + (pf 0 (ixJE (blk (grid0.coords t)) 0) : BitVec 32).toNat * 16) := by
  have hw := h (ixJE (blk (grid0.coords t)) 0)
  have hx := x.isLt
  rw [colOf, dif_pos (by omega)]
  unfold blk4
  refine congrArg (V c main_arg6) (funext fun a => Fin.ext ?_)
  refine (((cfgA pf h).win 4).rect_emb_val_off t (ix2 x k) a).trans ?_
  match a with
  | ⟨0, _⟩ =>
    show cc0_transform_4 k0_off1_inb numel1_S1 pf (grid0.coords t) 0 + x.val = _
    rw [tr4_eq pf h]
    show 16 * ((pf 0 (ixJE (blk (grid0.coords t)) 0) : BitVec 32).toNat + 0) + x.val = x.val + (pf 0 (ixJE (blk (grid0.coords t)) 0) : BitVec 32).toNat * 16
    omega
  | ⟨1, _⟩ =>
    show cc0_transform_4 k0_off1_inb numel1_S1 pf (grid0.coords t) 1 + k.val = _
    rw [tr4_eq pf h]
    show 0 + k.val = k.val
    omega

theorem blk5_at (x : Fin 256) (k : Fin 1024) :
    blk5 pf h V c t (ix2 x k) = colOf (V c main_arg6) k (x.val + (pf 0 (ixJE (blk (grid0.coords t)) 1) : BitVec 32).toNat * 16) := by
  have hw := h (ixJE (blk (grid0.coords t)) 1)
  have hx := x.isLt
  rw [colOf, dif_pos (by omega)]
  unfold blk5
  refine congrArg (V c main_arg6) (funext fun a => Fin.ext ?_)
  refine (((cfgA pf h).win 5).rect_emb_val_off t (ix2 x k) a).trans ?_
  match a with
  | ⟨0, _⟩ =>
    show cc0_transform_5 k0_off1_inb numel1_S1 pf (grid0.coords t) 0 + x.val = _
    rw [tr5_eq pf h]
    show 16 * ((pf 0 (ixJE (blk (grid0.coords t)) 1) : BitVec 32).toNat + 0) + x.val = x.val + (pf 0 (ixJE (blk (grid0.coords t)) 1) : BitVec 32).toNat * 16
    omega
  | ⟨1, _⟩ =>
    show cc0_transform_5 k0_off1_inb numel1_S1 pf (grid0.coords t) 1 + k.val = _
    rw [tr5_eq pf h]
    show 0 + k.val = k.val
    omega

theorem blk6_at (x : Fin 256) (k : Fin 1024) :
    blk6 pf h V c t (ix2 x k) = colOf (V c main_arg6) k (x.val + (pf 0 (ixJE (blk (grid0.coords t)) 2) : BitVec 32).toNat * 16) := by
  have hw := h (ixJE (blk (grid0.coords t)) 2)
  have hx := x.isLt
  rw [colOf, dif_pos (by omega)]
  unfold blk6
  refine congrArg (V c main_arg6) (funext fun a => Fin.ext ?_)
  refine (((cfgA pf h).win 6).rect_emb_val_off t (ix2 x k) a).trans ?_
  match a with
  | ⟨0, _⟩ =>
    show cc0_transform_6 k0_off1_inb numel1_S1 pf (grid0.coords t) 0 + x.val = _
    rw [tr6_eq pf h]
    show 16 * ((pf 0 (ixJE (blk (grid0.coords t)) 2) : BitVec 32).toNat + 0) + x.val = x.val + (pf 0 (ixJE (blk (grid0.coords t)) 2) : BitVec 32).toNat * 16
    omega
  | ⟨1, _⟩ =>
    show cc0_transform_6 k0_off1_inb numel1_S1 pf (grid0.coords t) 1 + k.val = _
    rw [tr6_eq pf h]
    show 0 + k.val = k.val
    omega

theorem blk7_at (x : Fin 256) (k : Fin 1024) :
    blk7 pf h V c t (ix2 x k) = colOf (V c main_arg6) k (x.val + (pf 0 (ixJE (blk (grid0.coords t)) 3) : BitVec 32).toNat * 16) := by
  have hw := h (ixJE (blk (grid0.coords t)) 3)
  have hx := x.isLt
  rw [colOf, dif_pos (by omega)]
  unfold blk7
  refine congrArg (V c main_arg6) (funext fun a => Fin.ext ?_)
  refine (((cfgA pf h).win 7).rect_emb_val_off t (ix2 x k) a).trans ?_
  match a with
  | ⟨0, _⟩ =>
    show cc0_transform_7 k0_off1_inb numel1_S1 pf (grid0.coords t) 0 + x.val = _
    rw [tr7_eq pf h]
    show 16 * ((pf 0 (ixJE (blk (grid0.coords t)) 3) : BitVec 32).toNat + 0) + x.val = x.val + (pf 0 (ixJE (blk (grid0.coords t)) 3) : BitVec 32).toNat * 16
    omega
  | ⟨1, _⟩ =>
    show cc0_transform_7 k0_off1_inb numel1_S1 pf (grid0.coords t) 1 + k.val = _
    rw [tr7_eq pf h]
    show 0 + k.val = k.val
    omega

theorem blk8_at (x : Fin 256) (k : Fin 1024) :
    blk8 pf h V c t (ix2 x k) = colOf (V c main_arg6) k (x.val + (pf 0 (ixJE (blk (grid0.coords t)) 4) : BitVec 32).toNat * 16) := by
  have hw := h (ixJE (blk (grid0.coords t)) 4)
  have hx := x.isLt
  rw [colOf, dif_pos (by omega)]
  unfold blk8
  refine congrArg (V c main_arg6) (funext fun a => Fin.ext ?_)
  refine (((cfgA pf h).win 8).rect_emb_val_off t (ix2 x k) a).trans ?_
  match a with
  | ⟨0, _⟩ =>
    show cc0_transform_8 k0_off1_inb numel1_S1 pf (grid0.coords t) 0 + x.val = _
    rw [tr8_eq pf h]
    show 16 * ((pf 0 (ixJE (blk (grid0.coords t)) 4) : BitVec 32).toNat + 0) + x.val = x.val + (pf 0 (ixJE (blk (grid0.coords t)) 4) : BitVec 32).toNat * 16
    omega
  | ⟨1, _⟩ =>
    show cc0_transform_8 k0_off1_inb numel1_S1 pf (grid0.coords t) 1 + k.val = _
    rw [tr8_eq pf h]
    show 0 + k.val = k.val
    omega

theorem blk9_at (x : Fin 256) (k : Fin 1024) :
    blk9 pf h V c t (ix2 x k) = colOf (V c main_arg6) k (x.val + (pf 0 (ixJE (blk (grid0.coords t)) 5) : BitVec 32).toNat * 16) := by
  have hw := h (ixJE (blk (grid0.coords t)) 5)
  have hx := x.isLt
  rw [colOf, dif_pos (by omega)]
  unfold blk9
  refine congrArg (V c main_arg6) (funext fun a => Fin.ext ?_)
  refine (((cfgA pf h).win 9).rect_emb_val_off t (ix2 x k) a).trans ?_
  match a with
  | ⟨0, _⟩ =>
    show cc0_transform_9 k0_off1_inb numel1_S1 pf (grid0.coords t) 0 + x.val = _
    rw [tr9_eq pf h]
    show 16 * ((pf 0 (ixJE (blk (grid0.coords t)) 5) : BitVec 32).toNat + 0) + x.val = x.val + (pf 0 (ixJE (blk (grid0.coords t)) 5) : BitVec 32).toNat * 16
    omega
  | ⟨1, _⟩ =>
    show cc0_transform_9 k0_off1_inb numel1_S1 pf (grid0.coords t) 1 + k.val = _
    rw [tr9_eq pf h]
    show 0 + k.val = k.val
    omega

theorem blk10_at (x : Fin 256) (k : Fin 1024) :
    blk10 pf h V c t (ix2 x k) = colOf (V c main_arg6) k (x.val + (pf 0 (ixJE (blk (grid0.coords t)) 6) : BitVec 32).toNat * 16) := by
  have hw := h (ixJE (blk (grid0.coords t)) 6)
  have hx := x.isLt
  rw [colOf, dif_pos (by omega)]
  unfold blk10
  refine congrArg (V c main_arg6) (funext fun a => Fin.ext ?_)
  refine (((cfgA pf h).win 10).rect_emb_val_off t (ix2 x k) a).trans ?_
  match a with
  | ⟨0, _⟩ =>
    show cc0_transform_10 k0_off1_inb numel1_S1 pf (grid0.coords t) 0 + x.val = _
    rw [tr10_eq pf h]
    show 16 * ((pf 0 (ixJE (blk (grid0.coords t)) 6) : BitVec 32).toNat + 0) + x.val = x.val + (pf 0 (ixJE (blk (grid0.coords t)) 6) : BitVec 32).toNat * 16
    omega
  | ⟨1, _⟩ =>
    show cc0_transform_10 k0_off1_inb numel1_S1 pf (grid0.coords t) 1 + k.val = _
    rw [tr10_eq pf h]
    show 0 + k.val = k.val
    omega

theorem blk11_at (x : Fin 256) (k : Fin 1024) :
    blk11 pf h V c t (ix2 x k) = colOf (V c main_arg6) k (x.val + (pf 0 (ixJE (blk (grid0.coords t)) 7) : BitVec 32).toNat * 16) := by
  have hw := h (ixJE (blk (grid0.coords t)) 7)
  have hx := x.isLt
  rw [colOf, dif_pos (by omega)]
  unfold blk11
  refine congrArg (V c main_arg6) (funext fun a => Fin.ext ?_)
  refine (((cfgA pf h).win 11).rect_emb_val_off t (ix2 x k) a).trans ?_
  match a with
  | ⟨0, _⟩ =>
    show cc0_transform_11 k0_off1_inb numel1_S1 pf (grid0.coords t) 0 + x.val = _
    rw [tr11_eq pf h]
    show 16 * ((pf 0 (ixJE (blk (grid0.coords t)) 7) : BitVec 32).toNat + 0) + x.val = x.val + (pf 0 (ixJE (blk (grid0.coords t)) 7) : BitVec 32).toNat * 16
    omega
  | ⟨1, _⟩ =>
    show cc0_transform_11 k0_off1_inb numel1_S1 pf (grid0.coords t) 1 + k.val = _
    rw [tr11_eq pf h]
    show 0 + k.val = k.val
    omega

end Cert.KernelIdeal.Hand

end
-- ==== Proof.BlocksT.lean ====
/-
  The windows onto the experts' rows, read at an index of the array they come from.
-/
module

public import proofs.«01_k».proof.Proof.Run
public import proofs.«01_k».proof.Proof.RefVal
public import Idealize.ShloMosaic.Lib.Pipeline.ValueKit.Geometry

@[expose] public section

set_option maxRecDepth 16384
set_option synthInstance.maxSize 4096

noncomputable section

namespace Cert.KernelIdeal.Hand

open Cert.KernelIdeal Cert.KernelIdeal.Gen Cert.Hand
open Idealize.ShloMosaic Idealize.ShloMosaic.TcCoe
open Cert.ReferenceIdeal.Hand (colOf)

/-! ## The blocks -/

variable (pf : pre0.Contents (Elt Ideal)) (h : ∀ x, (pf 0 x).toNat ≤ 2671)
variable (V : (c : Dev nD) → (b : Ref sig .tc) → Buf (Elt Ideal) ((c : Thread nD τ).loc b)) (c : Dev nD) (t : Fin (cfgA pf h).N)

theorem blk12_at (x : Fin 16) (k : Fin 1024) :
    blk12 pf h V c t (ix2 x k) = colOf (V c main_arg6) k (x.val + ((pf 0 (ixJE (blk (grid0.coords t)) 0) : BitVec 32).toNat * 16 + 256)) := by
  have hw := h (ixJE (blk (grid0.coords t)) 0)
  have hx := x.isLt
  rw [colOf, dif_pos (by omega)]
  unfold blk12
  refine congrArg (V c main_arg6) (funext fun a => Fin.ext ?_)
  refine (((cfgA pf h).win 12).rect_emb_val_off t (ix2 x k) a).trans ?_
  match a with
  | ⟨0, _⟩ =>
    show cc0_transform_12 k0_off1_inb numel1_S1 pf (grid0.coords t) 0 + x.val = _
    rw [tr12_eq pf h]
    show 16 * ((pf 0 (ixJE (blk (grid0.coords t)) 0) : BitVec 32).toNat + 16) + x.val = x.val + ((pf 0 (ixJE (blk (grid0.coords t)) 0) : BitVec 32).toNat * 16 + 256)
    omega
  | ⟨1, _⟩ =>
    show cc0_transform_12 k0_off1_inb numel1_S1 pf (grid0.coords t) 1 + k.val = _
    rw [tr12_eq pf h]
    show 0 + k.val = k.val
    omega

theorem blk13_at (x : Fin 16) (k : Fin 1024) :
    blk13 pf h V c t (ix2 x k) = colOf (V c main_arg6) k (x.val + ((pf 0 (ixJE (blk (grid0.coords t)) 1) : BitVec 32).toNat * 16 + 256)) := by
  have hw := h (ixJE (blk (grid0.coords t)) 1)
  have hx := x.isLt
  rw [colOf, dif_pos (by omega)]
  unfold blk13
  refine congrArg (V c main_arg6) (funext fun a => Fin.ext ?_)
  refine (((cfgA pf h).win 13).rect_emb_val_off t (ix2 x k) a).trans ?_
  match a with
  | ⟨0, _⟩ =>
    show cc0_transform_13 k0_off1_inb numel1_S1 pf (grid0.coords t) 0 + x.val = _
    rw [tr13_eq pf h]
    show 16 * ((pf 0 (ixJE (blk (grid0.coords t)) 1) : BitVec 32).toNat + 16) + x.val = x.val + ((pf 0 (ixJE (blk (grid0.coords t)) 1) : BitVec 32).toNat * 16 + 256)
    omega
  | ⟨1, _⟩ =>
    show cc0_transform_13 k0_off1_inb numel1_S1 pf (grid0.coords t) 1 + k.val = _
    rw [tr13_eq pf h]
    show 0 + k.val = k.val
    omega

theorem blk14_at (x : Fin 16) (k : Fin 1024) :
    blk14 pf h V c t (ix2 x k) = colOf (V c main_arg6) k (x.val + ((pf 0 (ixJE (blk (grid0.coords t)) 2) : BitVec 32).toNat * 16 + 256)) := by
  have hw := h (ixJE (blk (grid0.coords t)) 2)
  have hx := x.isLt
  rw [colOf, dif_pos (by omega)]
  unfold blk14
  refine congrArg (V c main_arg6) (funext fun a => Fin.ext ?_)
  refine (((cfgA pf h).win 14).rect_emb_val_off t (ix2 x k) a).trans ?_
  match a with
  | ⟨0, _⟩ =>
    show cc0_transform_14 k0_off1_inb numel1_S1 pf (grid0.coords t) 0 + x.val = _
    rw [tr14_eq pf h]
    show 16 * ((pf 0 (ixJE (blk (grid0.coords t)) 2) : BitVec 32).toNat + 16) + x.val = x.val + ((pf 0 (ixJE (blk (grid0.coords t)) 2) : BitVec 32).toNat * 16 + 256)
    omega
  | ⟨1, _⟩ =>
    show cc0_transform_14 k0_off1_inb numel1_S1 pf (grid0.coords t) 1 + k.val = _
    rw [tr14_eq pf h]
    show 0 + k.val = k.val
    omega

theorem blk15_at (x : Fin 16) (k : Fin 1024) :
    blk15 pf h V c t (ix2 x k) = colOf (V c main_arg6) k (x.val + ((pf 0 (ixJE (blk (grid0.coords t)) 3) : BitVec 32).toNat * 16 + 256)) := by
  have hw := h (ixJE (blk (grid0.coords t)) 3)
  have hx := x.isLt
  rw [colOf, dif_pos (by omega)]
  unfold blk15
  refine congrArg (V c main_arg6) (funext fun a => Fin.ext ?_)
  refine (((cfgA pf h).win 15).rect_emb_val_off t (ix2 x k) a).trans ?_
  match a with
  | ⟨0, _⟩ =>
    show cc0_transform_15 k0_off1_inb numel1_S1 pf (grid0.coords t) 0 + x.val = _
    rw [tr15_eq pf h]
    show 16 * ((pf 0 (ixJE (blk (grid0.coords t)) 3) : BitVec 32).toNat + 16) + x.val = x.val + ((pf 0 (ixJE (blk (grid0.coords t)) 3) : BitVec 32).toNat * 16 + 256)
    omega
  | ⟨1, _⟩ =>
    show cc0_transform_15 k0_off1_inb numel1_S1 pf (grid0.coords t) 1 + k.val = _
    rw [tr15_eq pf h]
    show 0 + k.val = k.val
    omega

theorem blk16_at (x : Fin 16) (k : Fin 1024) :
    blk16 pf h V c t (ix2 x k) = colOf (V c main_arg6) k (x.val + ((pf 0 (ixJE (blk (grid0.coords t)) 4) : BitVec 32).toNat * 16 + 256)) := by
  have hw := h (ixJE (blk (grid0.coords t)) 4)
  have hx := x.isLt
  rw [colOf, dif_pos (by omega)]
  unfold blk16
  refine congrArg (V c main_arg6) (funext fun a => Fin.ext ?_)
  refine (((cfgA pf h).win 16).rect_emb_val_off t (ix2 x k) a).trans ?_
  match a with
  | ⟨0, _⟩ =>
    show cc0_transform_16 k0_off1_inb numel1_S1 pf (grid0.coords t) 0 + x.val = _
    rw [tr16_eq pf h]
    show 16 * ((pf 0 (ixJE (blk (grid0.coords t)) 4) : BitVec 32).toNat + 16) + x.val = x.val + ((pf 0 (ixJE (blk (grid0.coords t)) 4) : BitVec 32).toNat * 16 + 256)
    omega
  | ⟨1, _⟩ =>
    show cc0_transform_16 k0_off1_inb numel1_S1 pf (grid0.coords t) 1 + k.val = _
    rw [tr16_eq pf h]
    show 0 + k.val = k.val
    omega

theorem blk17_at (x : Fin 16) (k : Fin 1024) :
    blk17 pf h V c t (ix2 x k) = colOf (V c main_arg6) k (x.val + ((pf 0 (ixJE (blk (grid0.coords t)) 5) : BitVec 32).toNat * 16 + 256)) := by
  have hw := h (ixJE (blk (grid0.coords t)) 5)
  have hx := x.isLt
  rw [colOf, dif_pos (by omega)]
  unfold blk17
  refine congrArg (V c main_arg6) (funext fun a => Fin.ext ?_)
  refine (((cfgA pf h).win 17).rect_emb_val_off t (ix2 x k) a).trans ?_
  match a with
  | ⟨0, _⟩ =>
    show cc0_transform_17 k0_off1_inb numel1_S1 pf (grid0.coords t) 0 + x.val = _
    rw [tr17_eq pf h]
    show 16 * ((pf 0 (ixJE (blk (grid0.coords t)) 5) : BitVec 32).toNat + 16) + x.val = x.val + ((pf 0 (ixJE (blk (grid0.coords t)) 5) : BitVec 32).toNat * 16 + 256)
    omega
  | ⟨1, _⟩ =>
    show cc0_transform_17 k0_off1_inb numel1_S1 pf (grid0.coords t) 1 + k.val = _
    rw [tr17_eq pf h]
    show 0 + k.val = k.val
    omega

theorem blk18_at (x : Fin 16) (k : Fin 1024) :
    blk18 pf h V c t (ix2 x k) = colOf (V c main_arg6) k (x.val + ((pf 0 (ixJE (blk (grid0.coords t)) 6) : BitVec 32).toNat * 16 + 256)) := by
  have hw := h (ixJE (blk (grid0.coords t)) 6)
  have hx := x.isLt
  rw [colOf, dif_pos (by omega)]
  unfold blk18
  refine congrArg (V c main_arg6) (funext fun a => Fin.ext ?_)
  refine (((cfgA pf h).win 18).rect_emb_val_off t (ix2 x k) a).trans ?_
  match a with
  | ⟨0, _⟩ =>
    show cc0_transform_18 k0_off1_inb numel1_S1 pf (grid0.coords t) 0 + x.val = _
    rw [tr18_eq pf h]
    show 16 * ((pf 0 (ixJE (blk (grid0.coords t)) 6) : BitVec 32).toNat + 16) + x.val = x.val + ((pf 0 (ixJE (blk (grid0.coords t)) 6) : BitVec 32).toNat * 16 + 256)
    omega
  | ⟨1, _⟩ =>
    show cc0_transform_18 k0_off1_inb numel1_S1 pf (grid0.coords t) 1 + k.val = _
    rw [tr18_eq pf h]
    show 0 + k.val = k.val
    omega

theorem blk19_at (x : Fin 16) (k : Fin 1024) :
    blk19 pf h V c t (ix2 x k) = colOf (V c main_arg6) k (x.val + ((pf 0 (ixJE (blk (grid0.coords t)) 7) : BitVec 32).toNat * 16 + 256)) := by
  have hw := h (ixJE (blk (grid0.coords t)) 7)
  have hx := x.isLt
  rw [colOf, dif_pos (by omega)]
  unfold blk19
  refine congrArg (V c main_arg6) (funext fun a => Fin.ext ?_)
  refine (((cfgA pf h).win 19).rect_emb_val_off t (ix2 x k) a).trans ?_
  match a with
  | ⟨0, _⟩ =>
    show cc0_transform_19 k0_off1_inb numel1_S1 pf (grid0.coords t) 0 + x.val = _
    rw [tr19_eq pf h]
    show 16 * ((pf 0 (ixJE (blk (grid0.coords t)) 7) : BitVec 32).toNat + 16) + x.val = x.val + ((pf 0 (ixJE (blk (grid0.coords t)) 7) : BitVec 32).toNat * 16 + 256)
    omega
  | ⟨1, _⟩ =>
    show cc0_transform_19 k0_off1_inb numel1_S1 pf (grid0.coords t) 1 + k.val = _
    rw [tr19_eq pf h]
    show 0 + k.val = k.val
    omega

end Cert.KernelIdeal.Hand

end
-- ==== Proof.Value.lean ====
/-
  The two results' arrays, and the claim that they are the reference's.
-/
module

public import proofs.«01_k».proof.Proof.Frames
public import proofs.«01_k».proof.Proof.Blocks
public import proofs.«01_k».proof.Proof.BlocksE
public import proofs.«01_k».proof.Proof.BlocksT

@[expose] public section

set_option maxRecDepth 16384
set_option synthInstance.maxSize 4096

noncomputable section

namespace Cert.KernelIdeal.Hand

open Cert.KernelIdeal Cert.KernelIdeal.Gen Cert.Hand
open Idealize.ShloMosaic Idealize.ShloMosaic.TcCoe Idealize.SL.Sem
open Cert.ReferenceIdeal.Hand (colOf out0 out1 out0_at out1_at)

theorem ixD_eq (r : Fin 16640) (q : Fin 2) : ixD r q = ix2 r q := by
  funext a
  match a with
  | ⟨0, _⟩ => rfl
  | ⟨1, _⟩ => rfl

section
variable (pf : pre0.Contents (Elt Ideal)) (h : ∀ x, (pf 0 x).toNat ≤ 2671)
variable (V : (c : Dev nD) → (b : Ref sig .tc) → Buf (Elt Ideal) ((c : Thread nD τ).loc b)) (c : Dev nD)
variable (D : Vec Ideal S16640x2 .i32) (hD : V c main_arg5 = D) (hr : Routed (pf 0) (pf 1) (pf 2) D)

/-- The block of rows at point `t`. -/
def rowsT (t : Fin (cfgA pf h).N) : Vec Ideal S256x1024 .f32 := if t.val = 64 then blk1 pf h V c t else blk0 pf h V c t

theorem initV_at (t : Fin (cfgA pf h).N) (A : Vec Ideal S256x1024 .f32) (r : Fin 256) (k : Fin 1024) :
    initV (grid0.coords t) (blk0 pf h V c t) (blk1 pf h V c t) A (ix2 r k) = rowsT pf h V c t (ix2 r k) := by
  have h1 := cond19_at t
  have h2 := cond20_at t
  have hN := lt_of_lt_of_eq t.isLt (N_eq pf h)
  unfold initV rowsT
  by_cases h3 : t.val = 64
  · rw [if_pos h3, if_pos (by simpa [h3] using h2), pay2_at]
  · have h6 : t.val < 64 := by omega
    rw [if_neg h3, if_neg (by simpa [h3] using h2), if_pos (by simpa [h6] using h1), pay1_at]

include hD hr in
theorem accT_at (t : Fin (cfgA pf h).N) (r : Fin 256) (k : Fin 1024) (n : Fin 16640) (hn : n.val = 256 * t.val + r.val) :
    accT pf h V c t (ix2 r k) = rowsT pf h V c t (ix2 r k)
      + (rowOf (D (ix2 n 0)) (colOf (V c main_arg6) k) + rowOf (D (ix2 n 1)) (colOf (V c main_arg6) k)) := by
  have hb := blk_at t
  have hN := lt_of_lt_of_eq t.isLt (N_eq pf h)
  have hr' := r.isLt
  unfold accT
  rw [accB_at hr (grid0.coords t) _ _ _ _ r k (colOf (V c main_arg6) k) n (by omega)
    (fun q => by rw [blk2_at pf h V c t r q n hn, hD, ixD_eq]) _ _ _ _ _ _ _ _ _ _ _ _ _ _ _ _
    (fun x => blk4_at pf h V c t x k) (fun x => blk12_at pf h V c t x k)
    (fun x => blk5_at pf h V c t x k) (fun x => blk13_at pf h V c t x k)
    (fun x => blk6_at pf h V c t x k) (fun x => blk14_at pf h V c t x k)
    (fun x => blk7_at pf h V c t x k) (fun x => blk15_at pf h V c t x k)
    (fun x => blk8_at pf h V c t x k) (fun x => blk16_at pf h V c t x k)
    (fun x => blk9_at pf h V c t x k) (fun x => blk17_at pf h V c t x k)
    (fun x => blk10_at pf h V c t x k) (fun x => blk18_at pf h V c t x k)
    (fun x => blk11_at pf h V c t x k) (fun x => blk19_at pf h V c t x k), initV_at, ixD_eq, ixD_eq]

include hD hr in
theorem outT_at (t : Fin (cfgA pf h).N) (r : Fin 256) (k : Fin 1024) (n : Fin 16640) (hn : n.val = 256 * t.val + r.val) :
    outT pf h V c t (ix2 r k) = rmsAt (fun x => rowsT pf h V c t (ix2 r x)
      + (rowOf (D (ix2 n 0)) (colOf (V c main_arg6) x) + rowOf (D (ix2 n 1)) (colOf (V c main_arg6) x)))
      (fun x => V c main_v0 (ix2 0 x)) k := by
  unfold outT
  rw [pay27_at]
  congr 1
  · funext x
    exact accT_at pf h V c D hD hr t r x n hn
  · funext x
    exact blk3_at pf h V c t 0 x 0 rfl

theorem emb20 (t : Fin (cfgA pf h).N) (r : Fin 256) (k : Fin 1024) (n : Fin 16384) (hn : n.val = 256 * min t.val 63 + r.val) :
    (((cfgA pf h).win 20).blk t).view.emb (ix2 r k) = (ix2 n k : S16384x1024.Idx) := by
  refine funext fun a => Fin.ext ?_
  refine (((cfgA pf h).win 20).rect_emb_val t (ix2 r k) a).trans ?_
  match a with
  | ⟨0, _⟩ =>
    show cc0_transform_20 (grid0.coords t) 0 * 256 + r.val = n.val
    rw [ix20_at, hn]
    show (min t.val 63) * 256 + r.val = 256 * min t.val 63 + r.val
    omega
  | ⟨1, _⟩ =>
    show cc0_transform_20 (grid0.coords t) 1 * 1024 + k.val = k.val
    rw [ix20_at]
    show 0 * 1024 + k.val = k.val
    omega

theorem emb21 (t : Fin (cfgA pf h).N) (r : Fin 256) (k : Fin 1024) :
    (((cfgA pf h).win 21).blk t).view.emb (ix2 r k) = (ix2 r k : S256x1024.Idx) := by
  refine funext fun a => Fin.ext ?_
  refine (((cfgA pf h).win 21).rect_emb_val t (ix2 r k) a).trans ?_
  match a with
  | ⟨0, _⟩ =>
    show cc0_transform_21 (grid0.coords t) 0 * 256 + r.val = r.val
    rw [ix21_at]
    show 0 * 256 + r.val = r.val
    omega
  | ⟨1, _⟩ =>
    show cc0_transform_21 (grid0.coords t) 1 * 1024 + k.val = k.val
    rw [ix21_at]
    show 0 * 1024 + k.val = k.val
    omega

theorem mem_of_emb {κ : Kind} {sp : Space} {s : Shape} {e : EltTy} {v : View sig κ sp s e} (y : s.Idx) (i : v.ty.Idx) (he : v.emb y = i) : i ∈ v.set := by
  subst he
  exact v.emb_mem_set y

theorem idx2 {a b : ℕ} (y : (⟨2, ![a, b]⟩ : Shape).Idx) : y = ix2 (y 0) (y 1) := by
  funext q
  match q with
  | ⟨0, _⟩ => rfl
  | ⟨1, _⟩ => rfl

include hr in
theorem dest_small (r : Fin 16640) (q : Fin 2) : (D (ix2 r q)).toInt < 0 ∨ (D (ix2 r q)).toNat < 43008 := by
  have hlt := r.isLt
  have hp := hr.placed ⟨r.val / 256, by omega⟩ ⟨r.val % 256, by omega⟩ q
  have en : (⟨256 * (⟨r.val / 256, by omega⟩ : Fin 65).val + (⟨r.val % 256, by omega⟩ : Fin 256).val, by show 256 * (r.val / 256) + r.val % 256 < 16640; omega⟩ : Fin 16640) = r :=
    Fin.ext (by show 256 * (r.val / 256) + r.val % 256 = r.val; omega)
  rw [en, ixD_eq] at hp
  rcases hp with hp | ⟨e, h1, h2⟩
  · exact .inl hp
  · right
    have a1 := hr.hi_le (ixJE ⟨r.val / 256, by omega⟩ e)
    have a2 := hr.lo_lt (ixJE ⟨r.val / 256, by omega⟩ e)
    have a3 := hr.win_le (ixJE ⟨r.val / 256, by omega⟩ e)
    omega

variable (xp : Vec Ideal S16384x1024 .f32) (xs : Vec Ideal S256x1024 .f32) (ys : Vec Ideal S43008x1024 .bf16) (g : Vec Ideal S1024 .f32)
  (h3 : V c main_arg3 = xp) (h4 : V c main_arg4 = xs) (h6 : V c main_arg6 = ys) (h0 : ∀ x : Fin 1024, V c main_v0 (ix2 0 x) = g (ix1 x))

include hD hr h3 h6 h0 in
theorem final20 : (dats pf h V 0 c).arrAt 20 (cfgA pf h).N = (out0 D ys xp xs g : Vec Ideal S16384x1024 .f32) := by
  refine (dats pf h V 0 c).arrAt_eq_of_emb 20 (out0 D ys xp xs g) (fun t hf y => ?_) (fun i => ?_)
  · rw [flush20] at hf
    have hf' : t.val ≠ 63 := of_decide_eq_true hf
    have hN := lt_of_lt_of_eq t.isLt (N_eq pf h)
    obtain ⟨r, k, rfl⟩ : ∃ (r : Fin 256) (k : Fin 1024), y = (ix2 r k : S256x1024.Idx) := ⟨_, _, idx2 y⟩
    have hlt := r.isLt
    rw [after20]
    refine Eq.trans ?_ (congrArg (out0 D ys xp xs g) (emb20 pf h t r k ⟨256 * min t.val 63 + r.val, by omega⟩ rfl)).symm
    refine (outT_at pf h V c D hD hr (clampT pf h t) r k ⟨256 * min t.val 63 + r.val, by omega⟩ rfl).trans ?_
    rw [out0_at D ys xp xs g (dest_small pf D hr)]
    have hc : ¬ (clampT pf h t).val = 64 := by show ¬ (min t.val 63 = 64); omega
    simp only [rowsT, if_neg hc, h6, h0]
    congr 1
    funext x
    rw [blk0_at pf h V c (clampT pf h t) r x ⟨256 * min t.val 63 + r.val, by omega⟩ (by show 256 * min t.val 63 + r.val = 256 * min (min t.val 63) 63 + r.val; omega), h3]
  · obtain ⟨n, k, rfl⟩ : ∃ (r : Fin 16384) (k : Fin 1024), i = (ix2 r k : S16384x1024.Idx) := ⟨_, _, idx2 i⟩
    have hlt := n.isLt
    by_cases hq : n.val / 256 = 63
    · exact ⟨⟨64, by rw [N_eq]; decide⟩, by rw [flush20]; rfl,
        mem_of_emb _ _ (emb20 pf h ⟨64, by rw [N_eq]; decide⟩ ⟨n.val % 256, by omega⟩ k n (by show n.val = 256 * 63 + n.val % 256; omega))⟩
    · exact ⟨⟨n.val / 256, by rw [N_eq]; omega⟩, by rw [flush20]; exact decide_eq_true hq,
        mem_of_emb _ _ (emb20 pf h ⟨n.val / 256, by rw [N_eq]; omega⟩ ⟨n.val % 256, by omega⟩ k n (by show n.val = 256 * min (n.val / 256) 63 + n.val % 256; omega))⟩

include hD hr h4 h6 h0 in
theorem final21 : (dats pf h V 0 c).arrAt 21 (cfgA pf h).N = (out1 D ys xp xs g : Vec Ideal S256x1024 .f32) := by
  refine (dats pf h V 0 c).arrAt_eq_of_emb 21 (out1 D ys xp xs g) (fun t hf y => ?_) (fun i => ?_)
  · rw [flush21] at hf
    have hf' : t.val = 64 := of_decide_eq_true hf
    obtain ⟨r, k, rfl⟩ : ∃ (r : Fin 256) (k : Fin 1024), y = (ix2 r k : S256x1024.Idx) := ⟨_, _, idx2 y⟩
    have hlt := r.isLt
    rw [after21]
    refine Eq.trans ?_ (congrArg (out1 D ys xp xs g) (emb21 pf h t r k)).symm
    refine (outT_at pf h V c D hD hr t r k ⟨16384 + r.val, by omega⟩ (by rw [hf'])).trans ?_
    rw [out1_at D ys xp xs g (dest_small pf D hr)]
    simp only [rowsT, if_pos hf', h6, h0]
    congr 1
    funext x
    rw [blk1_at pf h V c t r x r rfl, h4]
  · obtain ⟨n, k, rfl⟩ : ∃ (r : Fin 256) (k : Fin 1024), i = (ix2 r k : S256x1024.Idx) := ⟨_, _, idx2 i⟩
    exact ⟨⟨64, by rw [N_eq]; decide⟩, by rw [flush21]; rfl, mem_of_emb _ _ (emb21 pf h ⟨64, by rw [N_eq]; decide⟩ n k)⟩

end

theorem gain_at (m : (ℓ : Loc nD τ sig) → Buf (Elt Ideal) ℓ) (c : Dev nD) (x : Fin 1024) :
    VM m c main_v0 (ix2 0 x) = (m ((c : Thread nD τ).loc main_arg7) : Vec Ideal S1024 .f32) (ix1 x) := by
  refine (congrFun (VM_gain m c) (ix2 0 x)).trans ?_
  generalize (m ((c : Thread nD τ).loc main_arg7) : Vec Ideal S1024 .f32) = g
  pointwise

/-- The kernel's results, over the same arguments, are the reference's. -/
theorem value : Cert.algebraic_KernelIdeal_ReferenceIdeal := by
  intro m g m' g' hp hm
  have hr := routed_ideal m hp
  refine ⟨fun c => out0 (m ((c : Thread nD τ).loc main_arg5)) (m ((c : Thread nD τ).loc main_arg6)) (m ((c : Thread nD τ).loc main_arg3))
      (m ((c : Thread nD τ).loc main_arg4)) (m ((c : Thread nD τ).loc main_arg7)),
    fun c => out1 (m ((c : Thread nD τ).loc main_arg5)) (m ((c : Thread nD τ).loc main_arg6)) (m ((c : Thread nD τ).loc main_arg3))
      (m ((c : Thread nD τ).loc main_arg4)) (m ((c : Thread nD τ).loc main_arg7)), ?_, ?_⟩
  · refine (θ_run (defs (F := Ideal)) _ _).mono (fun r hq c => ?_) (run_ends m g (win_le_of m hr))
    have hc : c = 0 := Subsingleton.elim _ _
    have hr' : Routed (pfM m 0) (pfM m 1) (pfM m 2) (m ((c : Thread nD τ).loc main_arg5)) := by
      rw [pfM_win, pfM_lo, pfM_hi, hc]
      exact hr
    have e5 := VM_of_ne m c main_arg5 (by decide)
    have e6 := VM_of_ne m c main_arg6 (by decide)
    have e3 := VM_of_ne m c main_arg3 (by decide)
    have e4 := VM_of_ne m c main_arg4 (by decide)
    refine ⟨(hq.1 c).1.trans ?_, (hq.1 c).2.1.trans ?_, (hq.1 c).2.2⟩
    · exact final20 (pfM m) (win_le_of m hr) (VM m) c _ e5 hr' _ _ _ _ e3 e6 (gain_at m c)
    · exact final21 (pfM m) (win_le_of m hr) (VM m) c _ e5 hr' _ _ _ _ e4 e6 (gain_at m c)
  · refine (θ_run (Cert.ReferenceIdeal.defs (F := Ideal)) _ _).mono (fun r hq c => ?_) (Cert.ReferenceIdeal.Hand.run_ends m' g')
    obtain ⟨h0, h1, h2, h3, h4, h5, h6, h7⟩ := hm c
    have hq' := hq c
    rw [h3, h4, h5, h6, h7] at hq'
    rw [h3, h4, h5, h6, h7]
    exact hq'

end Cert.KernelIdeal.Hand

end
-- ==== Proof.FOwn.lean ====
/-
  Rules for a memref owned at stated contents and a rectangle of it: a load reads the window of the contents, an unmasked
  store puts the stored window into the contents.
-/
module

public import proofs.«01_k».proof.Proof.Own

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Thread nD τ) (bd : Option 𝒱.V) (E : Set Name)
variable {s : Shape} {e : EltTy}
variable {α : Type} {Q : α → sProp (MT nD τ sig Ix Val Name U Lvl)}

local notation "𝕄" => MT nD τ sig Ix Val Name U Lvl

/-- A load of a window reads the contents' window. -/
theorem wp_load_window {cs : CoreSpace} {m : Memref sig c.2.kind cs s e} {off size : Fin s.rank → ℕ} {inb : ∀ a, off a + size a ≤ s.size a}
    {hl : m.view.LoadsAt (Rect.unit (s := s) off size inb).toLoadRect} {q : PosShare TreeShare} {X : s.Idx → Val e}
    {k : ((Rect.unit (s := s) off size inb).shape.Idx → Val e) → Prog (TpuEff nD τ sig Val Λ c.2) α} :
    (owns c m q X : sProp 𝕄)
      ⊢ iprop((owns c m q X -∗ wp frame (wpE defs 𝒱 c bd) E (k (VecWindow.window X off size inb)) Q)
        -∗ wp frame (wpE defs 𝒱 c bd) E (.op (.load m (Rect.unit (s := s) off size inb).toLoadRect hl) k) Q) := by
  unfold owns
  iintro ⟨%f, %hf, H⟩ Hk
  iapply (wp_load 𝒱 c bd E (m := m) (S := m.view.set) (View.setOn_subset_set _ _)) $$ H
  iintro H
  have h : m.view.readAt Val (Rect.unit (s := s) off size inb).toLoadRect f = VecWindow.window X off size inb := by
    rw [View.readAt_unit _ _ inb rfl inb, hf]
  rw [h]
  iapply Hk
  iexists f; isplitr; · ipureintro; exact hf
  iexact H

/-- An unmasked store of a window puts it into the contents. -/
theorem wp_store_window {cs : CoreSpace} {m : Memref sig c.2.kind cs s e} {off size : Fin s.rank → ℕ} {inb : ∀ a, off a + size a ≤ s.size a}
    {w : (Rect.unit (s := s) off size inb).shape.Idx → Val e} {X : s.Idx → Val e} {hx : (m.access (Rect.unit (s := s) off size inb)).Stores Finset.univ}
    {hm : Finset.univ = Finset.univ ∨ ∀ a, (Rect.unit (s := s) off size inb).stride a = 1}
    {k : PUnit → Prog (TpuEff nD τ sig Val Λ c.2) α} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit (s := s) off size inb) w Finset.univ hx hm) k) Q) := by
  unfold owns
  iintro ⟨%f, %hf, H⟩ Hk
  have hS : (m.access (Rect.unit (s := s) off size inb)).setOn Finset.univ ⊆ m.view.set := View.set_slice_subset _ _
  iapply (wp_store 𝒱 c bd E (m := m) (r := Rect.unit (s := s) off size inb) (S := m.view.set) (f := f) hS) $$ H
  iintro H
  iapply Hk
  iexists _; isplitr; swap; · iexact H
  ipureintro
  have h := View.read_writes_cons_put m.view f inb w [] rfl
  rw [View.writes_nil, hf] at h
  exact h

end Cert.Hand

end
-- ==== Proof.FBody.lean ====
/-
  The feed-forward kernel's body at one grid point: tile `i 0`, step `i 1` of the seven over the hidden dimension. Of a
  live tile the first step clears the accumulator; each step adds its part of the product, to all 1024 rows of a full
  tile or to the first one, two or three 256-row chunks of a partial one; the last step stores the accumulator times the
  gates. Of a dead tile the last step stores zeros. The printed text is restated as that sequence (equal by definition)
  and each part of it gets its rule.
-/
module

public import proofs.«01_k».proof.Proof.Gen.Kernel2Ideal.Skeleton
public import proofs.«01_k».proof.Proof.Gen.Kernel2Ideal.Launch
public import proofs.«01_k».proof.Proof.FOwn
public import Idealize.ShloMosaic.Lib.Pipeline.Frame
public import Idealize.ShloMosaic.Lib.Tactic
public import Idealize.ShloMosaic.Lib.Transfers

@[expose] public section

noncomputable section

namespace Cert.Kernel2Ideal.Hand

open Cert.Kernel2Ideal Cert.Kernel2Ideal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {α : Type}

local notation "𝕄" => MT nD τ sig Unit (Elt F) ℕ (UR sig nD τ) ℕ

/-! ## Values -/

/-- The word of a table at the place an access names. -/
def wordAt (X : S42.Idx → BitVec 32) (off : Fin 1 → ℕ) (inb : ∀ a, off a + S1.size a ≤ S42.size a) : BitVec 32 :=
  X ((Rect.unit (s := S42) off S1.size inb).emb (Shape.Idx.first (numel1_S1.symm ▸ Nat.one_pos)))

/-- Whether the step is the first. -/
abbrev isFirst (f : BitVec 32) : BitVec 1 := Scalar.cmpi .ne (Scalar.extui (Scalar.cmpi .eq f 0#32)) 0#32
/-- Whether the tile has all four chunks. -/
abbrev isFull (n : BitVec 32) : BitVec 1 := Scalar.cmpi .ne (Scalar.extui (Scalar.cmpi .eq n 4#32)) 0#32
/-- Whether a partial tile has more than `k` chunks. -/
abbrev hasMore (n k : BitVec 32) : BitVec 1 :=
  Scalar.cmpi .ne (Scalar.extui (Scalar.andi (Scalar.cmpi .slt n 4#32) (Scalar.cmpi .sgt n k))) 0#32

/-- Rows 0 to 255, 256 to 511 and 512 to 767 of a tile. -/
abbrev rows0 {α : Type} (X : S1024x1024.Idx → α) := VecWindow.window X ![0, 0] S256x1024.size inb_S1024x1024_S256x1024_0_0
abbrev rows1 {α : Type} (X : S1024x1024.Idx → α) := VecWindow.window X ![256, 0] S256x1024.size inb_S1024x1024_S256x1024_256_0
abbrev rows2 {α : Type} (X : S1024x1024.Idx → α) := VecWindow.window X ![512, 0] S256x1024.size inb_S1024x1024_S256x1024_512_0

/-- The accumulator after the full tile's update. -/
def fullV (n : BitVec 32) (w1 w3 : Vec F S1x1024x512 .f32) (w2 : Vec F S1x512x1024 .f32) (x : Vec F S1024x1024 .bf16) (A : Vec F S1024x1024 .f32) :
    Vec F S1024x1024 .f32 := if isFull n = 1#1 then k0_pay7 w1 w3 w2 x A else A
/-- After the first chunk's. -/
def chunk0V (n : BitVec 32) (w1 w3 : Vec F S1x1024x512 .f32) (w2 : Vec F S1x512x1024 .f32) (x : Vec F S1024x1024 .bf16) (A : Vec F S1024x1024 .f32) :
    Vec F S1024x1024 .f32 :=
  if hasMore n 0#32 = 1#1 then VecWindow.put A ![0, 0] S256x1024.size (k0_pay8 w1 w3 w2 (rows0 x) (rows0 A)) else A
/-- After the second chunk's. -/
def chunk1V (n : BitVec 32) (w1 w3 : Vec F S1x1024x512 .f32) (w2 : Vec F S1x512x1024 .f32) (x : Vec F S1024x1024 .bf16) (A : Vec F S1024x1024 .f32) :
    Vec F S1024x1024 .f32 :=
  if hasMore n 1#32 = 1#1 then VecWindow.put A ![256, 0] S256x1024.size (k0_pay9 w1 w3 w2 (rows1 x) (rows1 A)) else A
/-- After the third chunk's. -/
def chunk2V (n : BitVec 32) (w1 w3 : Vec F S1x1024x512 .f32) (w2 : Vec F S1x512x1024 .f32) (x : Vec F S1024x1024 .bf16) (A : Vec F S1024x1024 .f32) :
    Vec F S1024x1024 .f32 :=
  if hasMore n 2#32 = 1#1 then VecWindow.put A ![512, 0] S256x1024.size (k0_pay10 w1 w3 w2 (rows2 x) (rows2 A)) else A

/-- A step's updates, of an accumulator already cleared where the step is the first. -/
def addV (n : BitVec 32) (w1 w3 : Vec F S1x1024x512 .f32) (w2 : Vec F S1x512x1024 .f32) (x : Vec F S1024x1024 .bf16) (A : Vec F S1024x1024 .f32) :
    Vec F S1024x1024 .f32 :=
  chunk2V n w1 w3 w2 x (chunk1V n w1 w3 w2 x (chunk0V n w1 w3 w2 x (fullV n w1 w3 w2 x A)))
/-- The accumulator after a live tile's step `f`. -/
def stepV (f n : BitVec 32) (w1 w3 : Vec F S1x1024x512 .f32) (w2 : Vec F S1x512x1024 .f32) (x : Vec F S1024x1024 .bf16) (A : Vec F S1024x1024 .f32) :
    Vec F S1024x1024 .f32 := addV n w1 w3 w2 x (if isFirst f = 1#1 then k0_pay3 else A)

variable (i : grid0.Coords)

/-- The accumulator after the body. -/
def accB (n : BitVec 32) (w1 w3 : Vec F S1x1024x512 .f32) (w2 : Vec F S1x512x1024 .f32) (x : Vec F S1024x1024 .bf16) (A : Vec F S1024x1024 .f32) :
    Vec F S1024x1024 .f32 := if k0_cond1 n = 1#1 then stepV (BitVec.ofNat 32 (i 1).val) n w1 w3 w2 x A else A
/-- The output's buffer after the body, the accumulator being `A` then. -/
def outB (n : BitVec 32) (A : Vec F S1024x1024 .f32) (g : Vec F S1024x1 .f32) (o : Vec F S1024x1024 .bf16) : Vec F S1024x1024 .bf16 :=
  if k0_cond8 i n = 1#1 then k0_pay2 else if k0_cond1 n = 1#1 then (if k0_cond7 i = 1#1 then k0_pay1 A g else o) else o

/-! ## Programs -/

/-- A store of a value under a condition, before `k`. -/
abbrev putP {e : EltTy} (p : Prop) [Decidable p] (aO : Memref sig .tc .vmem S1024x1024 e) (v : Vec F S1024x1024 e)
    (hx : (aO.access (Rect.unit (s := S1024x1024) ![0, 0] S1024x1024.size inb_S1024x1024_S1024x1024_0_0)).Stores Finset.univ)
    (k : Prog (TpuEff nD τ sig (Elt F) Λ₀ .tc) α) : Prog (TpuEff nD τ sig (Elt F) Λ₀ .tc) α :=
  if _h : p then
    (.op (.load aO (Rect.unit (s := S1024x1024) ![0, 0] S1024x1024.size inb_S1024x1024_S1024x1024_0_0).toLoadRect (View.loadsAt_vmem h_S1024x1024)) fun _ =>
      .op (.store aO (Rect.unit (s := S1024x1024) ![0, 0] S1024x1024.size inb_S1024x1024_S1024x1024_0_0) v Finset.univ hx (.inl rfl)) fun _ => k)
  else k

/-- The full tile's update, before `k`. -/
abbrev fullP (p : Prop) [Decidable p] (aX : Memref sig .tc .vmem S1024x1024 .bf16) (aA : Memref sig .tc .vmem S1024x1024 .f32)
    (fn : Vec F S1024x1024 .bf16 → Vec F S1024x1024 .f32 → Vec F S1024x1024 .f32)
    (k : Prog (TpuEff nD τ sig (Elt F) Λ₀ .tc) α) : Prog (TpuEff nD τ sig (Elt F) Λ₀ .tc) α :=
  if p then
    (.op (.load aX (Rect.unit (s := S1024x1024) ![0, 0] S1024x1024.size inb_S1024x1024_S1024x1024_0_0).toLoadRect (View.loadsAt_vmem h_S1024x1024)) fun x =>
      .op (.load aA (Rect.unit (s := S1024x1024) ![0, 0] S1024x1024.size inb_S1024x1024_S1024x1024_0_0).toLoadRect (View.loadsAt_vmem h_S1024x1024)) fun B =>
      .op (.load aA (Rect.unit (s := S1024x1024) ![0, 0] S1024x1024.size inb_S1024x1024_S1024x1024_0_0).toLoadRect (View.loadsAt_vmem h_S1024x1024)) fun _ =>
      .op (.store aA (Rect.unit (s := S1024x1024) ![0, 0] S1024x1024.size inb_S1024x1024_S1024x1024_0_0) (fn x B) Finset.univ (View.stores_vmem_bits_univ h_S1024x1024 rfl) (.inl rfl)) fun _ => k)
  else k

/-- A chunk's update, before `k`. -/
abbrev rowsP (p : Prop) [Decidable p] (aX : Memref sig .tc .vmem S1024x1024 .bf16) (aA : Memref sig .tc .vmem S1024x1024 .f32)
    (off : Fin 2 → ℕ) (inb : ∀ a, off a + S256x1024.size a ≤ S1024x1024.size a)
    (fn : Vec F S256x1024 .bf16 → Vec F S256x1024 .f32 → Vec F S256x1024 .f32)
    (k : Prog (TpuEff nD τ sig (Elt F) Λ₀ .tc) α) : Prog (TpuEff nD τ sig (Elt F) Λ₀ .tc) α :=
  if p then
    (.op (.load aX (Rect.unit (s := S1024x1024) off S256x1024.size inb).toLoadRect (View.loadsAt_vmem h_S256x1024)) fun x =>
      .op (.load aA (Rect.unit (s := S1024x1024) off S256x1024.size inb).toLoadRect (View.loadsAt_vmem h_S256x1024)) fun B =>
      .op (.load aA (Rect.unit (s := S1024x1024) off S256x1024.size inb).toLoadRect (View.loadsAt_vmem h_S256x1024)) fun _ =>
      .op (.store aA (Rect.unit (s := S1024x1024) off S256x1024.size inb) (fn x B) Finset.univ (View.stores_vmem_bits_univ h_S256x1024 rfl) (.inl rfl)) fun _ => k)
  else k

/-- The scaled store, before `k`. -/
abbrev scaleP (p : Prop) [Decidable p] (aA : Memref sig .tc .vmem S1024x1024 .f32) (aG : Memref sig .tc .vmem S1024x1 .f32)
    (aO : Memref sig .tc .vmem S1024x1024 .bf16) (hx : (aO.access (Rect.unit (s := S1024x1024) ![0, 0] S1024x1024.size inb_S1024x1024_S1024x1024_0_0)).Stores Finset.univ)
    (k : Prog (TpuEff nD τ sig (Elt F) Λ₀ .tc) α) : Prog (TpuEff nD τ sig (Elt F) Λ₀ .tc) α :=
  if _h : p then
    (.op (.load aA (Rect.unit (s := S1024x1024) ![0, 0] S1024x1024.size inb_S1024x1024_S1024x1024_0_0).toLoadRect (View.loadsAt_vmem h_S1024x1024)) fun B =>
      .op (.load aG (Rect.unit (s := S1024x1) ![0, 0] S1024x1.size inb_S1024x1_S1024x1_0_0).toLoadRect (View.loadsAt_vmem h_S1024x1)) fun g =>
      .op (.load aO (Rect.unit (s := S1024x1024) ![0, 0] S1024x1024.size inb_S1024x1024_S1024x1024_0_0).toLoadRect (View.loadsAt_vmem h_S1024x1024)) fun _ =>
      .op (.store aO (Rect.unit (s := S1024x1024) ![0, 0] S1024x1024.size inb_S1024x1024_S1024x1024_0_0) (k0_pay1 B g) Finset.univ hx (.inl rfl)) fun _ => k)
  else k

/-! ## Their rules -/

section Rules

variable (c : Dev nD) (E : Set ℕ)

/-- A load of one word of a table. -/
theorem word_wp {h : S1.numel = 1} {hp : EltTy.i32.packing = 1} (aT : Memref sig .tc .smem S42 .i32) {off : Fin 1 → ℕ} {inb : ∀ a, off a + S1.size a ≤ S42.size a}
    {q : PosShare TreeShare} {T : S42.Idx → BitVec 32} {k : BitVec 32 → Prog (TpuEff nD τ sig (Elt F) Λ₀ .tc) α} {Q : α → sProp 𝕄} :
    (owns (c : Thread nD τ) aT q T : sProp 𝕄)
      ⊢ iprop((owns (c : Thread nD τ) aT q T -∗ wp frame (wpE (defs₀ (F := F)) Variants.none c none) E (k (wordAt T off inb)) Q)
        -∗ wp frame (wpE (defs₀ (F := F)) Variants.none c none) E (smemLoad aT (Rect.unit (s := S42) off S1.size inb) h hp >>= k) Q) :=
  wp_smemLoad_owns Variants.none (c : Thread nD τ) none E

theorem putP_wp {e : EltTy} (p : Prop) [Decidable p] (aO : Memref sig .tc .vmem S1024x1024 e) (v B : Vec F S1024x1024 e)
    (hx : (aO.access (Rect.unit (s := S1024x1024) ![0, 0] S1024x1024.size inb_S1024x1024_S1024x1024_0_0)).Stores Finset.univ)
    (k : Prog (TpuEff nD τ sig (Elt F) Λ₀ .tc) α) (Q : α → sProp 𝕄) :
    iprop(owns (c : Thread nD τ) aO fullShare B ∗ (owns (c : Thread nD τ) aO fullShare (if p then v else B) -∗ wp frame (wpE (defs₀ (F := F)) Variants.none c none) E k Q))
      ⊢ wp frame (wpE (defs₀ (F := F)) Variants.none c none) E (putP p aO v hx k) Q := by
  by_cases h : p
  · rw [putP, dif_pos h, if_pos h]
    iintro ⟨HA, Hk⟩
    iapply (wp_load_owns Variants.none (c : Thread nD τ) none E) $$ HA; iintro HA
    iapply (wp_store_owns Variants.none (c : Thread nD τ) none E) $$ HA; iintro HA
    iapply Hk; iexact HA
  · rw [putP, dif_neg h, if_neg h]
    iintro ⟨HA, Hk⟩
    iapply Hk; iexact HA

theorem fullP_wp (p : Prop) [Decidable p] (aX : Memref sig .tc .vmem S1024x1024 .bf16) (aA : Memref sig .tc .vmem S1024x1024 .f32)
    (fn : Vec F S1024x1024 .bf16 → Vec F S1024x1024 .f32 → Vec F S1024x1024 .f32) (X : Vec F S1024x1024 .bf16) (B : Vec F S1024x1024 .f32)
    (k : Prog (TpuEff nD τ sig (Elt F) Λ₀ .tc) α) (Q : α → sProp 𝕄) :
    iprop(owns (c : Thread nD τ) aX fullShare X ∗ owns (c : Thread nD τ) aA fullShare B
        ∗ ((owns (c : Thread nD τ) aX fullShare X ∗ owns (c : Thread nD τ) aA fullShare (if p then fn X B else B)) -∗ wp frame (wpE (defs₀ (F := F)) Variants.none c none) E k Q))
      ⊢ wp frame (wpE (defs₀ (F := F)) Variants.none c none) E (fullP p aX aA fn k) Q := by
  by_cases h : p
  · rw [fullP, if_pos h, if_pos h]
    iintro ⟨HX, HA, Hk⟩
    iapply (wp_load_owns Variants.none (c : Thread nD τ) none E) $$ HX; iintro HX
    iapply (wp_load_owns Variants.none (c : Thread nD τ) none E) $$ HA; iintro HA
    iapply (wp_load_owns Variants.none (c : Thread nD τ) none E) $$ HA; iintro HA
    iapply (wp_store_owns Variants.none (c : Thread nD τ) none E) $$ HA; iintro HA
    iapply Hk
    isplitl [HX]; · iexact HX
    iexact HA
  · rw [fullP, if_neg h, if_neg h]
    iintro ⟨HX, HA, Hk⟩
    iapply Hk
    isplitl [HX]; · iexact HX
    iexact HA

theorem rowsP_wp (p : Prop) [Decidable p] (aX : Memref sig .tc .vmem S1024x1024 .bf16) (aA : Memref sig .tc .vmem S1024x1024 .f32)
    (off : Fin 2 → ℕ) (inb : ∀ a, off a + S256x1024.size a ≤ S1024x1024.size a)
    (fn : Vec F S256x1024 .bf16 → Vec F S256x1024 .f32 → Vec F S256x1024 .f32) (X : Vec F S1024x1024 .bf16) (B : Vec F S1024x1024 .f32)
    (k : Prog (TpuEff nD τ sig (Elt F) Λ₀ .tc) α) (Q : α → sProp 𝕄) :
    iprop(owns (c : Thread nD τ) aX fullShare X ∗ owns (c : Thread nD τ) aA fullShare B
        ∗ ((owns (c : Thread nD τ) aX fullShare X ∗ owns (c : Thread nD τ) aA fullShare
            (if p then VecWindow.put B off S256x1024.size (fn (VecWindow.window X off S256x1024.size inb) (VecWindow.window B off S256x1024.size inb)) else B))
          -∗ wp frame (wpE (defs₀ (F := F)) Variants.none c none) E k Q))
      ⊢ wp frame (wpE (defs₀ (F := F)) Variants.none c none) E (rowsP p aX aA off inb fn k) Q := by
  by_cases h : p
  · rw [rowsP, if_pos h, if_pos h]
    iintro ⟨HX, HA, Hk⟩
    iapply (wp_load_window Variants.none (c : Thread nD τ) none E) $$ HX; iintro HX
    iapply (wp_load_window Variants.none (c : Thread nD τ) none E) $$ HA; iintro HA
    iapply (wp_load_window Variants.none (c : Thread nD τ) none E) $$ HA; iintro HA
    iapply (wp_store_window Variants.none (c : Thread nD τ) none E) $$ HA; iintro HA
    iapply Hk
    isplitl [HX]; · iexact HX
    iexact HA
  · rw [rowsP, if_neg h, if_neg h]
    iintro ⟨HX, HA, Hk⟩
    iapply Hk
    isplitl [HX]; · iexact HX
    iexact HA

theorem scaleP_wp (p : Prop) [Decidable p] (aA : Memref sig .tc .vmem S1024x1024 .f32) (aG : Memref sig .tc .vmem S1024x1 .f32)
    (aO : Memref sig .tc .vmem S1024x1024 .bf16) (hx : (aO.access (Rect.unit (s := S1024x1024) ![0, 0] S1024x1024.size inb_S1024x1024_S1024x1024_0_0)).Stores Finset.univ)
    (B : Vec F S1024x1024 .f32) (g : Vec F S1024x1 .f32) (o : Vec F S1024x1024 .bf16)
    (k : Prog (TpuEff nD τ sig (Elt F) Λ₀ .tc) α) (Q : α → sProp 𝕄) :
    iprop(owns (c : Thread nD τ) aA fullShare B ∗ owns (c : Thread nD τ) aG fullShare g ∗ owns (c : Thread nD τ) aO fullShare o
        ∗ ((owns (c : Thread nD τ) aA fullShare B ∗ owns (c : Thread nD τ) aG fullShare g ∗ owns (c : Thread nD τ) aO fullShare (if p then k0_pay1 B g else o))
          -∗ wp frame (wpE (defs₀ (F := F)) Variants.none c none) E k Q))
      ⊢ wp frame (wpE (defs₀ (F := F)) Variants.none c none) E (scaleP p aA aG aO hx k) Q := by
  by_cases h : p
  · rw [scaleP, dif_pos h, if_pos h]
    iintro ⟨HA, HG, HO, Hk⟩
    iapply (wp_load_owns Variants.none (c : Thread nD τ) none E) $$ HA; iintro HA
    iapply (wp_load_owns Variants.none (c : Thread nD τ) none E) $$ HG; iintro HG
    iapply (wp_load_owns Variants.none (c : Thread nD τ) none E) $$ HO; iintro HO
    iapply (wp_store_owns Variants.none (c : Thread nD τ) none E) $$ HO; iintro HO
    iapply Hk
    isplitl [HA]; · iexact HA
    isplitl [HG]; · iexact HG
    iexact HO
  · rw [scaleP, dif_neg h, if_neg h]
    iintro ⟨HA, HG, HO, Hk⟩
    iapply Hk
    isplitl [HA]; · iexact HA
    isplitl [HG]; · iexact HG
    iexact HO

end Rules

/-! ## The body -/

variable (arg2 : Memref sig .tc .smem S42 .i32) (harg2 : arg2.IsWhole)
variable (arg3 : Memref sig .tc .smem S42 .i32) (harg3 : arg3.IsWhole)
variable (arg4 : Memref sig .tc .vmem S1024x1024 .bf16) (harg4 : arg4.IsWhole)
variable (arg5 : Memref sig .tc .vmem S1024x1 .f32) (harg5 : arg5.IsWhole)
variable (arg6 : Memref sig .tc .vmem S1x1024x512 .f32) (harg6 : arg6.IsWhole)
variable (arg7 : Memref sig .tc .vmem S1x1024x512 .f32) (harg7 : arg7.IsWhole)
variable (arg8 : Memref sig .tc .vmem S1x512x1024 .f32) (harg8 : arg8.IsWhole)
variable (arg9 : Memref sig .tc .vmem S1024x1024 .bf16) (harg9 : arg9.IsWhole)
variable (arg10 : Memref sig .tc .vmem S1024x1024 .f32) (harg10 : arg10.IsWhole)

/-- The steps of a live tile. -/
theorem part1_eq (f n : BitVec 32) : k0_part1 (F := F) i arg2 harg2 arg3 harg3 arg4 harg4 arg5 harg5 arg6 harg6 arg7 harg7 arg8 harg8 arg9 harg9 arg10 harg10 f n =
  (putP (isFirst f = 1#1) arg10 k0_pay3 (View.stores_vmem_bits_univ h_S1024x1024 rfl) <|
  .op (.load arg6 (Rect.unit (s := S1x1024x512) ![0, 0, 0] S1x1024x512.size inb_S1x1024x512_S1x1024x512_0_0_0).toLoadRect (View.loadsAt_vmem h_S1x1024x512)) fun w1 =>
  .op (.load arg7 (Rect.unit (s := S1x1024x512) ![0, 0, 0] S1x1024x512.size inb_S1x1024x512_S1x1024x512_0_0_0).toLoadRect (View.loadsAt_vmem h_S1x1024x512)) fun w3 =>
  .op (.load arg8 (Rect.unit (s := S1x512x1024) ![0, 0, 0] S1x512x1024.size inb_S1x512x1024_S1x512x1024_0_0_0).toLoadRect (View.loadsAt_vmem h_S1x512x1024)) fun w2 =>
  fullP (isFull n = 1#1) arg4 arg10 (k0_pay7 w1 w3 w2) <|
  rowsP (hasMore n 0#32 = 1#1) arg4 arg10 ![0, 0] inb_S1024x1024_S256x1024_0_0 (k0_pay8 w1 w3 w2) <|
  rowsP (hasMore n 1#32 = 1#1) arg4 arg10 ![256, 0] inb_S1024x1024_S256x1024_256_0 (k0_pay9 w1 w3 w2) <|
  rowsP (hasMore n 2#32 = 1#1) arg4 arg10 ![512, 0] inb_S1024x1024_S256x1024_512_0 (k0_pay10 w1 w3 w2) <|
  .ret (Scalar.extui (Scalar.cmpi .eq f 6#32))) := rfl

theorem body_eq : cc0_moe_ffn (F := F) i arg2 harg2 arg3 harg3 arg4 harg4 arg5 harg5 arg6 harg6 arg7 harg7 arg8 harg8 arg9 harg9 arg10 harg10 =
  (smemLoad arg3 (Rect.unit (s := S42) (k0_off1 i) S1.size (k0_off1_inb i)) numel1_S1 rfl >>= fun n =>
  if _h : k0_cond1 n = 1#1 then
    (k0_part1 (F := F) i arg2 harg2 arg3 harg3 arg4 harg4 arg5 harg5 arg6 harg6 arg7 harg7 arg8 harg8 arg9 harg9 arg10 harg10 (BitVec.ofNat 32 (i 1).val) n >>= fun _ =>
      scaleP (k0_cond7 i = 1#1) arg10 arg5 arg9 (View.stores_vmem h_S1024x1024 (harg9.storeExact_slice rfl _ packedbf16_S1024x1024_S1024x1024_0_0) (fun _ => rfl)) <|
      putP (k0_cond8 i n = 1#1) arg9 k0_pay2 (View.stores_vmem h_S1024x1024 (harg9.storeExact_slice rfl _ packedbf16_S1024x1024_S1024x1024_0_0) (fun _ => rfl)) <| .ret ⟨⟩)
  else
    putP (k0_cond8 i n = 1#1) arg9 k0_pay2 (View.stores_vmem h_S1024x1024 (harg9.storeExact_slice rfl _ packedbf16_S1024x1024_S1024x1024_0_0) (fun _ => rfl)) <| .ret ⟨⟩) := rfl

variable (c : Dev nD) (E : Set ℕ) (q : PosShare TreeShare)
variable (T2 T3 : S42.Idx → BitVec 32) (x : Vec F S1024x1024 .bf16) (g : Vec F S1024x1 .f32) (w1 w3 : Vec F S1x1024x512 .f32)
  (w2 : Vec F S1x512x1024 .f32) (o : Vec F S1024x1024 .bf16) (A : Vec F S1024x1024 .f32)

theorem part1_wp (f n : BitVec 32) (Q : _ → sProp 𝕄) :
    iprop(owns (c : Thread nD τ) arg4 fullShare x ∗ owns (c : Thread nD τ) arg6 fullShare w1 ∗ owns (c : Thread nD τ) arg7 fullShare w3
        ∗ owns (c : Thread nD τ) arg8 fullShare w2 ∗ owns (c : Thread nD τ) arg10 fullShare A
        ∗ ((owns (c : Thread nD τ) arg4 fullShare x ∗ owns (c : Thread nD τ) arg6 fullShare w1 ∗ owns (c : Thread nD τ) arg7 fullShare w3
        ∗ owns (c : Thread nD τ) arg8 fullShare w2 ∗ owns (c : Thread nD τ) arg10 fullShare (stepV f n w1 w3 w2 x A)) -∗ Q (Scalar.extui (Scalar.cmpi .eq f 6#32))))
      ⊢ wp frame (wpE (defs₀ (F := F)) Variants.none c none) E (k0_part1 (F := F) i arg2 harg2 arg3 harg3 arg4 harg4 arg5 harg5 arg6 harg6 arg7 harg7 arg8 harg8 arg9 harg9 arg10 harg10 f n) Q := by
  rw [part1_eq]
  unfold stepV addV chunk2V chunk1V chunk0V fullV
  iintro ⟨H4, H6, H7, H8, H10, Hk⟩
  iapply (putP_wp c E)
  isplitl [H10]; · iexact H10
  iintro H10
  iapply (wp_load_owns Variants.none (c : Thread nD τ) none E) $$ H6; iintro H6
  iapply (wp_load_owns Variants.none (c : Thread nD τ) none E) $$ H7; iintro H7
  iapply (wp_load_owns Variants.none (c : Thread nD τ) none E) $$ H8; iintro H8
  iapply (fullP_wp c E)
  isplitl [H4]; · iexact H4
  isplitl [H10]; · iexact H10
  iintro ⟨H4, H10⟩
  iapply (rowsP_wp c E)
  isplitl [H4]; · iexact H4
  isplitl [H10]; · iexact H10
  iintro ⟨H4, H10⟩
  iapply (rowsP_wp c E)
  isplitl [H4]; · iexact H4
  isplitl [H10]; · iexact H10
  iintro ⟨H4, H10⟩
  iapply (rowsP_wp c E)
  isplitl [H4]; · iexact H4
  isplitl [H10]; · iexact H10
  iintro ⟨H4, H10⟩
  rw [wp_ret]; imodintro; iapply Hk
  isplitl [H4]; · iexact H4
  isplitl [H6]; · iexact H6
  isplitl [H7]; · iexact H7
  isplitl [H8]; · iexact H8
  iexact H10

/-- The body at one grid point, for any continuation. -/
theorem body_wp (Q : PUnit → sProp 𝕄) :
    iprop(owns (c : Thread nD τ) arg3 q T3 ∗ owns (c : Thread nD τ) arg4 fullShare x ∗ owns (c : Thread nD τ) arg5 fullShare g ∗ owns (c : Thread nD τ) arg6 fullShare w1 ∗ owns (c : Thread nD τ) arg7 fullShare w3
        ∗ owns (c : Thread nD τ) arg8 fullShare w2 ∗ owns (c : Thread nD τ) arg9 fullShare o ∗ owns (c : Thread nD τ) arg10 fullShare A
        ∗ ((owns (c : Thread nD τ) arg3 q T3 ∗ owns (c : Thread nD τ) arg4 fullShare x ∗ owns (c : Thread nD τ) arg5 fullShare g ∗ owns (c : Thread nD τ) arg6 fullShare w1 ∗ owns (c : Thread nD τ) arg7 fullShare w3
        ∗ owns (c : Thread nD τ) arg8 fullShare w2
        ∗ owns (c : Thread nD τ) arg9 fullShare (outB i (wordAt T3 (k0_off1 i) (k0_off1_inb i)) (accB i (wordAt T3 (k0_off1 i) (k0_off1_inb i)) w1 w3 w2 x A) g o)
        ∗ owns (c : Thread nD τ) arg10 fullShare (accB i (wordAt T3 (k0_off1 i) (k0_off1_inb i)) w1 w3 w2 x A)) -∗ Q ⟨⟩))
      ⊢ wp frame (wpE (defs₀ (F := F)) Variants.none c none) E (cc0_moe_ffn (F := F) i arg2 harg2 arg3 harg3 arg4 harg4 arg5 harg5 arg6 harg6 arg7 harg7 arg8 harg8 arg9 harg9 arg10 harg10) Q := by
  rw [body_eq]
  unfold outB accB
  iintro ⟨H3, H4, H5, H6, H7, H8, H9, H10, Hk⟩
  iapply (word_wp c E arg3) $$ H3; iintro H3
  by_cases h : k0_cond1 (wordAt T3 (k0_off1 i) (k0_off1_inb i)) = 1#1
  · rw [dif_pos h, if_pos h, if_pos h, wp_bind]
    iapply (part1_wp (c := c) (E := E) (i := i))
    isplitl [H4]; · iexact H4
    isplitl [H6]; · iexact H6
    isplitl [H7]; · iexact H7
    isplitl [H8]; · iexact H8
    isplitl [H10]; · iexact H10
    iintro ⟨H4, H6, H7, H8, H10⟩
    iapply (scaleP_wp c E)
    isplitl [H10]; · iexact H10
    isplitl [H5]; · iexact H5
    isplitl [H9]; · iexact H9
    iintro ⟨H10, H5, H9⟩
    iapply (putP_wp c E)
    isplitl [H9]; · iexact H9
    iintro H9
    rw [wp_ret]; imodintro; iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [dif_neg h, if_neg h, if_neg h]
    iapply (putP_wp c E)
    isplitl [H9]; · iexact H9
    iintro H9
    rw [wp_ret]; imodintro; iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Kernel2Ideal.Hand

end
-- ==== Proof.FOk.lean ====
/-
  The feed-forward call's tables: where the kernel and its index maps read them, and that tables of small words (experts
  below 8, at most 4 chunks a tile) keep every window inside its array.
-/
module

public import proofs.«01_k».proof.Proof.FBody
public import Idealize.ShloMosaic.Lib.Affine

@[expose] public section

noncomputable section

namespace Cert.Kernel2Ideal.Hand

open Cert.Kernel2Ideal Cert.Kernel2Ideal.Gen Cert.Hand
open Idealize.ShloMosaic

variable {F : FTy → Type} [FloatOps F]

/-- The tables' index `k`. -/
def ixT (k : Fin 42) : S42.Idx := fun a => ⟨k.val, by fin_cases a; exact k.isLt⟩

theorem tile_lt (i : grid0.Coords) : (i 0).val < 42 := (i 0).isLt
theorem step_lt (i : grid0.Coords) : (i 1).val < 7 := (i 1).isLt

/-- The tile of a grid point. -/
def tile (i : grid0.Coords) : Fin 42 := ⟨(i 0).val, tile_lt i⟩

theorem pos_toNat (n : ℕ) (hn : n < 42) : (Scalar.indexCast (BitVec.ofNat 32 n)).toNat = n := by
  simp only [Scalar.indexCast]
  simp only [BitVec.toNat_ofNat, BitVec.toNat_setWidth, BitVec.toNat_signExtend]
  omega

theorem word_idx (off : Fin 1 → ℕ) (inb : ∀ a, off a + S1.size a ≤ S42.size a) (h1 : 0 < S1.numel) (k : Fin 42) (h : off 0 = k.val) :
    (Rect.unit (s := S42) off S1.size inb).emb (Shape.Idx.first h1) = ixT k := by
  funext a
  refine Fin.ext ?_
  match a with
  | 0 =>
    have := ((Shape.Idx.first h1 : S1.Idx) 0).isLt
    change ((Shape.Idx.first h1 : S1.Idx) 0).val < 1 at this
    show off 0 + ((Shape.Idx.first h1 : S1.Idx) 0).val * 1 = k.val
    omega

theorem off1_eq (i : grid0.Coords) : k0_off1 i 0 = (tile i).val := pos_toNat _ (tile_lt i)

theorem wordAt_eq (X : S42.Idx → BitVec 32) (i : grid0.Coords) : wordAt X (k0_off1 i) (k0_off1_inb i) = X (ixT (tile i)) :=
  congrArg X (word_idx _ _ _ _ (off1_eq i))

/-- The step an index map takes: the grid's, or the last of a dead tile. -/
def fsel (n : BitVec 32) (i : grid0.Coords) : BitVec 32 := Scalar.select (Scalar.cmpi .sgt n 0#32) (BitVec.ofNat 32 (i 1).val) 6#32

theorem fsel_le (n : BitVec 32) (i : grid0.Coords) : (fsel n i).toNat ≤ 6 := by
  unfold fsel Scalar.select
  have := step_lt i
  split
  · rw [BitVec.toNat_ofNat]; omega
  · decide

variable (pf : pre0.Contents (Elt F))

theorem atD_eq (i : grid0.Coords) : (pf.atD 1 (k0_off1 i) : BitVec 32) = pf 1 (ixT (tile i)) := by
  unfold Pipeline.Prefetch.Contents.atD
  split
  · refine congrArg (pf 1) ?_
    refine funext fun (a : Fin 1) => Fin.ext ?_
    match a with
    | 0 => exact off1_eq i
  · rename_i hn
    exact absurd (fun (a : Fin 1) => by
      match a with
      | 0 => exact lt_of_eq_of_lt (off1_eq i) (tile i).isLt) hn

theorem tr2_eq (i : grid0.Coords) : cc0_transform_2 k0_off1_inb numel1_S1 pf i
    = ![(pf 0 (ixT (tile i)) : BitVec 32).toNat, 0, (fsel (pf 1 (ixT (tile i))) i).toNat] := by
  rw [← wordAt_eq (pf 0) i, ← wordAt_eq (pf 1) i]; rfl
theorem tr3_eq (i : grid0.Coords) : cc0_transform_3 k0_off1_inb numel1_S1 pf i
    = ![(pf 0 (ixT (tile i)) : BitVec 32).toNat, 0, (fsel (pf 1 (ixT (tile i))) i).toNat] := by
  rw [← wordAt_eq (pf 0) i, ← wordAt_eq (pf 1) i]; rfl
theorem tr4_eq (i : grid0.Coords) : cc0_transform_4 k0_off1_inb numel1_S1 pf i
    = ![(pf 0 (ixT (tile i)) : BitVec 32).toNat, (fsel (pf 1 (ixT (tile i))) i).toNat, 0] := by
  rw [← wordAt_eq (pf 0) i, ← wordAt_eq (pf 1) i]; rfl

theorem ok0_of_le (h : ∀ x : S42.Idx, (pf 0 x : BitVec 32).toNat ≤ 7) : ok0 pf :=
  ⟨fun i => by
      refine ⟨?_, .inl rfl⟩
      intro a; rw [tr2_eq]
      have h0 := h (ixT (tile i))
      have h1 := fsel_le (pf 1 (ixT (tile i))) i
      match a with
      | 0 => show ((pf 0 (ixT (tile i)) : BitVec 32).toNat + 1) * 1 ≤ 8; omega
      | 1 => show (0 + 1) * 1024 ≤ 1024; omega
      | 2 => show ((fsel (pf 1 (ixT (tile i))) i).toNat + 1) * 512 ≤ 3584; omega,
    fun i => by
      refine ⟨?_, .inl rfl⟩
      intro a; rw [tr3_eq]
      have h0 := h (ixT (tile i))
      have h1 := fsel_le (pf 1 (ixT (tile i))) i
      match a with
      | 0 => show ((pf 0 (ixT (tile i)) : BitVec 32).toNat + 1) * 1 ≤ 8; omega
      | 1 => show (0 + 1) * 1024 ≤ 1024; omega
      | 2 => show ((fsel (pf 1 (ixT (tile i))) i).toNat + 1) * 512 ≤ 3584; omega,
    fun i => by
      refine ⟨?_, .inl rfl⟩
      intro a; rw [tr4_eq]
      have h0 := h (ixT (tile i))
      have h1 := fsel_le (pf 1 (ixT (tile i))) i
      match a with
      | 0 => show ((pf 0 (ixT (tile i)) : BitVec 32).toNat + 1) * 1 ≤ 8; omega
      | 1 => show ((fsel (pf 1 (ixT (tile i))) i).toNat + 1) * 512 ≤ 3584; omega
      | 2 => show (0 + 1) * 1024 ≤ 1024; omega⟩

end Cert.Kernel2Ideal.Hand

end
-- ==== Proof.FData.lean ====
/-
  The feed-forward pipeline's proof data: the block each window holds at each grid point, the accumulator step by step
  and what a tile's last step stores.
-/
module

public import proofs.«01_k».proof.Proof.FOk
public import Idealize.ShloMosaic.Lib.Pipeline.FrameBody
public import Idealize.ShloMosaic.Lib.Pipeline.TableIdle

@[expose] public section

set_option maxRecDepth 3328
set_option synthInstance.maxSize 4096

noncomputable section

namespace Cert.Kernel2Ideal.Hand

open Cert.Kernel2Ideal Cert.Kernel2Ideal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (pf : pre0.Contents (Elt F)) (h : ∀ x : S42.Idx, (pf 0 x : BitVec 32).toNat ≤ 7)
variable (V : (c : Dev nD) → (b : Ref sig .tc) → Buf (Elt F) ((c : Thread nD τ).loc b)) (c : Dev nD)

/-- The tables' contents, every window's side condition met. -/
abbrev adm : (pcfg0 (F := F)).Adm := ⟨pf, ok0_of_le pf h⟩

/-- The pipeline at those contents. -/
abbrev cfgA : Pipeline.Cfg sig Λ₀ := cfg0 (adm pf h)

theorem N_eq : (cfgA pf h).N = 294 := N_0

/-! ## The blocks -/

/-- Window 0's block at point `t`. -/
def blk0 (t : Fin (cfgA pf h).N) : Vec F S1024x1024 .bf16 := (((cfgA pf h).win 0).blk t).view.read (Elt F) (V c (Pipeline.arrRef spec0 0))

/-- Window 1's block at point `t`. -/
def blk1 (t : Fin (cfgA pf h).N) : Vec F S1024x1 .f32 := (((cfgA pf h).win 1).blk t).view.read (Elt F) (V c (Pipeline.arrRef spec0 1))

/-- Window 2's block at point `t`. -/
def blk2 (t : Fin (cfgA pf h).N) : Vec F S1x1024x512 .f32 := (((cfgA pf h).win 2).blk t).view.read (Elt F) (V c (Pipeline.arrRef spec0 2))

/-- Window 3's block at point `t`. -/
def blk3 (t : Fin (cfgA pf h).N) : Vec F S1x1024x512 .f32 := (((cfgA pf h).win 3).blk t).view.read (Elt F) (V c (Pipeline.arrRef spec0 3))

/-- Window 4's block at point `t`. -/
def blk4 (t : Fin (cfgA pf h).N) : Vec F S1x512x1024 .f32 := (((cfgA pf h).win 4).blk t).view.read (Elt F) (V c (Pipeline.arrRef spec0 4))

/-- Point `n` of the grid. -/
def ptOf (n : ℕ) : Fin (cfgA pf h).N := ⟨n % 294, lt_of_lt_of_eq (Nat.mod_lt _ (by decide)) (N_eq pf h).symm⟩

/-- The tile of point `n`. -/
def tileN (n : ℕ) : Fin 42 := ⟨n / 7 % 42, Nat.mod_lt _ (by decide)⟩

/-- Its number of live chunks. -/
def ncN (n : ℕ) : BitVec 32 := pf 1 (ixT (tileN n))

/-- Tile `j`'s accumulator after `k` steps. -/
def accF (j : ℕ) : ℕ → Vec F S1024x1024 .f32
  | 0 => k0_pay3
  | k + 1 => addV (ncN pf (7 * j + k)) (blk2 pf h V c (ptOf pf h (7 * j + k))) (blk3 pf h V c (ptOf pf h (7 * j + k)))
      (blk4 pf h V c (ptOf pf h (7 * j + k))) (blk0 pf h V c (ptOf pf h (7 * j + k))) (accF j k)

/-- What the last step of point `t`'s tile stores. -/
def outT (t : Fin (cfgA pf h).N) : Vec F S1024x1024 .bf16 :=
  if k0_cond1 (ncN pf t.val) = 1#1 then k0_pay1 (accF pf h V c (t.val / 7) 7) (blk1 pf h V c t) else k0_pay2

/-- What the scratch holds before point `n`: past a live tile's first step, its accumulator so far. -/
def holds (n : ℕ) (A : Vec F S1024x1024 .f32) : Prop :=
  n % 7 ≠ 0 → k0_cond1 (ncN pf n) = 1#1 → A = accF pf h V c (n / 7) (n % 7)

/-- The invariant before point `n`. -/
def PhiS (n : ℕ) : sProp 𝕄 :=
  iprop((∃ A : Vec F S1024x1024 .f32, ⌜holds pf h V c n A⌝ ∗ ((c : Thread nD τ).loc cc0_scratch0 ↦{fullShare} A)) ∗ (∃ r, prngReg c r) ∗ Pipeline.ΦT pre0 pf c)

/-- The proof data on core `c`: inputs are left in place, the output holds what its tile's last step stores. -/
def dats (_ : Fin 1) (c : Dev nD) : Dat τ (Elt F) Unit ℕ (UR sig nD τ) ℕ (cfgA pf h) c where
  A w := V c (Pipeline.arrRef spec0 w)
  after w t := match w with
    | 0 => blk0 pf h V c t
    | 1 => blk1 pf h V c t
    | 2 => blk2 pf h V c t
    | 3 => blk3 pf h V c t
    | 4 => blk4 pf h V c t
    | 5 => outT pf h V c t
    | ⟨_ + 6, hw⟩ => absurd hw (Nat.not_lt.2 (Nat.le_add_left _ _))
  Φ t := PhiS pf h V c t.val
  q w := Pipeline.shareOf spec0 w
  owed _ := 0

theorem A_eq (w : Fin (cfgA pf h).W) : (dats pf h V 0 c).A w = V c (Pipeline.arrRef spec0 w) := by dsimp only [dats]

/-! ## What the body finds -/

theorem before0 (t : Fin (cfgA pf h).N) (d) : (dats pf h V 0 c).before 0 t d = blk0 pf h V c t :=
  ((dats pf h V 0 c).before_in_eq_fetched 0 rfl (fun _ => rfl) (fun _ _ _ => rfl)
    (fun t => by dsimp only [dats]; rfl) t d).trans rfl

theorem before1 (t : Fin (cfgA pf h).N) (d) : (dats pf h V 0 c).before 1 t d = blk1 pf h V c t :=
  ((dats pf h V 0 c).before_in_eq_fetched 1 rfl (fun _ => rfl) (fun _ _ _ => rfl)
    (fun t => by dsimp only [dats]; rfl) t d).trans rfl

theorem before2 (t : Fin (cfgA pf h).N) (d) : (dats pf h V 0 c).before 2 t d = blk2 pf h V c t :=
  ((dats pf h V 0 c).before_in_eq_fetched 2 rfl (fun _ => rfl) (fun _ _ _ => rfl)
    (fun t => by dsimp only [dats]; rfl) t d).trans rfl

theorem before3 (t : Fin (cfgA pf h).N) (d) : (dats pf h V 0 c).before 3 t d = blk3 pf h V c t :=
  ((dats pf h V 0 c).before_in_eq_fetched 3 rfl (fun _ => rfl) (fun _ _ _ => rfl)
    (fun t => by dsimp only [dats]; rfl) t d).trans rfl

theorem before4 (t : Fin (cfgA pf h).N) (d) : (dats pf h V 0 c).before 4 t d = blk4 pf h V c t :=
  ((dats pf h V 0 c).before_in_eq_fetched 4 rfl (fun _ => rfl) (fun _ _ _ => rfl)
    (fun t => by dsimp only [dats]; rfl) t d).trans rfl

/-! ## The tables' words and the grid's points -/

theorem small_word {v : BitVec 32} (hv : v.toNat ≤ 4) : ∃ k : Fin 5, v = BitVec.ofNat 32 k.val :=
  ⟨⟨v.toNat, by omega⟩, by simp⟩

theorem cond1_at : ∀ k : Fin 5, (k0_cond1 (BitVec.ofNat 32 k.val) == 1#1) = decide (0 < k.val) := by decide +kernel
theorem cond7_at : ∀ t : Fin grid0.N, (k0_cond7 (grid0.coords t) == 1#1) = decide (t.val % 7 = 6) := by decide +kernel
theorem cond8_at : ∀ k : Fin 5, ∀ t : Fin grid0.N, (k0_cond8 (grid0.coords t) (BitVec.ofNat 32 k.val) == 1#1) = decide (k.val = 0 ∧ t.val % 7 = 6) := by
  decide +kernel
theorem first_at : ∀ t : Fin grid0.N, (isFirst (BitVec.ofNat 32 (grid0.coords t 1).val) == 1#1) = decide (t.val % 7 = 0) := by decide +kernel
theorem tile_at : ∀ t : Fin grid0.N, tile (grid0.coords t) = tileN t.val := by decide +kernel
theorem step_at : ∀ t : Fin grid0.N, (grid0.coords t 1).val = t.val % 7 := by decide +kernel

theorem flush5_at : ∀ t : Fin grid0.N, (true && (decide (t.val + 1 = grid0.N) || decide (∃ h : t.val + 1 < grid0.N, ∃ a,
    cc0_transform_5 (grid0.coords ⟨t.val + 1, h⟩) a ≠ cc0_transform_5 (grid0.coords t) a))) = decide (t.val % 7 = 6) := by decide +kernel

theorem flush5 (t : Fin (cfgA pf h).N) : ((cfgA pf h).win 5).flush t = decide (t.val % 7 = 6) :=
  (((cfgA pf h).win 5).flush_eq_flushF t).trans (flush5_at t)

theorem idle_word : ∀ k : Fin 5, ∀ t : Fin grid0.N,
    (!(k0_cond1 (BitVec.ofNat 32 k.val) == 1#1 && k0_cond7 (grid0.coords t) == 1#1) && !(k0_cond8 (grid0.coords t) (BitVec.ofNat 32 k.val) == 1#1))
      = !decide (t.val % 7 = 6) := by
  intro k t
  rw [cond1_at, cond7_at, cond8_at]
  by_cases h6 : t.val % 7 = 6 <;> by_cases h0 : k.val = 0 <;> simp [h6, h0] <;> omega

theorem idle5 (hn : ∀ x : S42.Idx, (pf 1 x : BitVec 32).toNat ≤ 4) (t : Fin (cfgA pf h).N) :
    (cfgA pf h).idle 5 ((cfgA pf h).grid.coords t) = !decide (t.val % 7 = 6) := by
  obtain ⟨k, hk⟩ := small_word (hn (ixT (tile (grid0.coords t))))
  have e := atD_eq pf (grid0.coords t)
  rw [hk] at e
  show (!(k0_cond1 (pf.atD 1 (k0_off1 (grid0.coords t))) == 1#1 && k0_cond7 (grid0.coords t) == 1#1)
    && !(k0_cond8 (grid0.coords t) (pf.atD 1 (k0_off1 (grid0.coords t))) == 1#1)) = _
  rw [e]; exact idle_word k t

/-- The word the body reads. -/
theorem word_at (t : Fin (cfgA pf h).N) : wordAt (pf 1) (k0_off1 (grid0.coords t)) (k0_off1_inb (grid0.coords t)) = ncN pf t.val := by
  exact (wordAt_eq (pf 1) (grid0.coords t)).trans (congrArg (fun j => (pf 1 (ixT j) : BitVec 32)) (tile_at t))

theorem ptOf_self (t : Fin (cfgA pf h).N) : ptOf pf h (7 * (t.val / 7) + t.val % 7) = t := by
  have := lt_of_lt_of_eq t.isLt (N_eq pf h)
  apply Fin.ext
  show (7 * (t.val / 7) + t.val % 7) % 294 = t.val
  omega

/-- A live point's update continues its tile's accumulator. -/
theorem accB_live (t : Fin (cfgA pf h).N) (A : Vec F S1024x1024 .f32) (hl : k0_cond1 (ncN pf t.val) = 1#1) (hA : holds pf h V c t.val A) :
    accB (grid0.coords t) (ncN pf t.val) (blk2 pf h V c t) (blk3 pf h V c t) (blk4 pf h V c t) (blk0 pf h V c t) A
      = accF pf h V c (t.val / 7) (t.val % 7 + 1) := by
  unfold accB stepV
  rw [if_pos hl]
  have e : (if isFirst (BitVec.ofNat 32 (grid0.coords t 1).val) = 1#1 then k0_pay3 else A) = accF pf h V c (t.val / 7) (t.val % 7) := by
    have hf := first_at t
    by_cases h0 : t.val % 7 = 0
    · have : isFirst (BitVec.ofNat 32 (grid0.coords t 1).val) = 1#1 := by simpa [h0] using hf
      rw [if_pos this, h0]; rfl
    · have : ¬ isFirst (BitVec.ofNat 32 (grid0.coords t 1).val) = 1#1 := by simpa [h0] using hf
      rw [if_neg this]; exact hA h0 hl
  rw [e]
  have e2 : (7 * (t.val / 7) + t.val % 7) = t.val := by omega
  show _ = addV _ _ _ _ _ _
  rw [ptOf_self, e2]

theorem holds_succ (t : Fin (cfgA pf h).N) (A : Vec F S1024x1024 .f32) (hA : holds pf h V c t.val A) :
    holds pf h V c (t.val + 1) (accB (grid0.coords t) (ncN pf t.val) (blk2 pf h V c t) (blk3 pf h V c t) (blk4 pf h V c t) (blk0 pf h V c t) A) := by
  intro h7 hl
  have e1 : (t.val + 1) / 7 = t.val / 7 := by omega
  have e2 : (t.val + 1) % 7 = t.val % 7 + 1 := by omega
  have e3 : ncN pf (t.val + 1) = ncN pf t.val :=
    congrArg (fun j => (pf 1 (ixT j) : BitVec 32)) (Fin.ext (by show (t.val + 1) / 7 % 42 = t.val / 7 % 42; rw [e1]))
  rw [e3] at hl
  rw [e1, e2]; exact accB_live pf h V c t A hl hA

/-- What a tile's last step stores. -/
theorem outB_last (hn : ∀ x : S42.Idx, (pf 1 x : BitVec 32).toNat ≤ 4) (t : Fin (cfgA pf h).N) (ht : t.val % 7 = 6) (A : Vec F S1024x1024 .f32) (hA : holds pf h V c t.val A) (o : Vec F S1024x1024 .bf16) :
    outB (grid0.coords t) (ncN pf t.val) (accB (grid0.coords t) (ncN pf t.val) (blk2 pf h V c t) (blk3 pf h V c t) (blk4 pf h V c t) (blk0 pf h V c t) A)
      (blk1 pf h V c t) o = outT pf h V c t := by
  unfold outB outT
  obtain ⟨k, hk⟩ := small_word (hn (ixT (tileN t.val)))
  have hk' : ncN pf t.val = BitVec.ofNat 32 k.val := hk
  have h1 := cond1_at k
  have h7 := cond7_at t
  have h8 := cond8_at k t
  rw [← hk'] at h1 h8
  by_cases h0 : k.val = 0
  · have a8 : k0_cond8 (grid0.coords t) (ncN pf t.val) = 1#1 := by simpa [h0, ht] using h8
    have a1 : ¬ k0_cond1 (ncN pf t.val) = 1#1 := by simpa [h0] using h1
    rw [if_pos a8, if_neg a1]
  · have a8 : ¬ k0_cond8 (grid0.coords t) (ncN pf t.val) = 1#1 := by simpa [h0, ht] using h8
    have a1 : k0_cond1 (ncN pf t.val) = 1#1 := by
      have : 0 < k.val := by omega
      simpa [this] using h1
    have a7 : k0_cond7 (grid0.coords t) = 1#1 := by simpa [ht] using h7
    rw [if_neg a8, if_pos a1, if_pos a7, if_pos a1, accB_live pf h V c t A a1 hA, ht]

/-- Before it, nothing is stored. -/
theorem outB_other (hn : ∀ x : S42.Idx, (pf 1 x : BitVec 32).toNat ≤ 4) (t : Fin (cfgA pf h).N) (ht : ¬ t.val % 7 = 6) (A : Vec F S1024x1024 .f32) (g : Vec F S1024x1 .f32) (o : Vec F S1024x1024 .bf16) :
    outB (grid0.coords t) (ncN pf t.val) A g o = o := by
  unfold outB
  obtain ⟨k, hk⟩ := small_word (hn (ixT (tileN t.val)))
  have hk' : ncN pf t.val = BitVec.ofNat 32 k.val := hk
  have h7 := cond7_at t
  have h8 := cond8_at k t
  rw [← hk'] at h8
  have a8 : ¬ k0_cond8 (grid0.coords t) (ncN pf t.val) = 1#1 := by simpa [ht] using h8
  have a7 : ¬ k0_cond7 (grid0.coords t) = 1#1 := by simpa [ht] using h7
  rw [if_neg a8, if_neg a7, ite_self]

end Cert.Kernel2Ideal.Hand

end
-- ==== Proof.FRun.lean ====
/-
  The feed-forward body at every grid point, against the proof data.
-/
module

public import proofs.«01_k».proof.Proof.FData
public import Idealize.ShloMosaic.Lib.Pipeline.FrameBody
public import Idealize.ShloMosaic.Lib.Pipeline.TableIdle

@[expose] public section

set_option maxRecDepth 3328
set_option synthInstance.maxSize 4096

noncomputable section

namespace Cert.Kernel2Ideal.Hand

open Cert.Kernel2Ideal Cert.Kernel2Ideal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (pf : pre0.Contents (Elt F)) (h : ∀ x : S42.Idx, (pf 0 x : BitVec 32).toNat ≤ 7)
variable (V : (c : Dev nD) → (b : Ref sig .tc) → Buf (Elt F) ((c : Thread nD τ).loc b)) (c : Dev nD)

theorem after5 (t : Fin (cfgA pf h).N) : (dats pf h V 0 c).after 5 t = outT pf h V c t := by dsimp only [dats]; rfl

/-- The body the table runs at point `t`. -/
def bodyT (t : Fin (cfgA pf h).N) : Prog (TpuEff nD τ sig (Elt F) Λ₀ .tc) PUnit :=
  cc0_moe_ffn (grid0.coords t) (Memref.whole main_v22) (Memref.isWhole_whole _) (Memref.whole main_v38) (Memref.isWhole_whole _)
    (spec0_0.stage ((cfgA pf h).slots t 0)) (hstage0_0 (((cfgA pf h).slots t 0).cast nbuf0_0)) (spec0_1.stage ((cfgA pf h).slots t 1)) (hstage0_1 (((cfgA pf h).slots t 1).cast nbuf0_1)) (spec0_2.stage ((cfgA pf h).slots t 2)) (hstage0_2 (((cfgA pf h).slots t 2).cast nbuf0_2)) (spec0_3.stage ((cfgA pf h).slots t 3)) (hstage0_3 (((cfgA pf h).slots t 3).cast nbuf0_3)) (spec0_4.stage ((cfgA pf h).slots t 4)) (hstage0_4 (((cfgA pf h).slots t 4).cast nbuf0_4)) (spec0_5.stage ((cfgA pf h).slots t 5)) (hstage0_5 (((cfgA pf h).slots t 5).cast nbuf0_5)) (Memref.whole cc0_scratch0) (Memref.isWhole_whole _)

theorem defs₀_row (t : Fin (cfgA pf h).N) :
    defs₀ (F := F) .tc (cfgA pf h).body ((cfgA pf h).bodyArgs t ((cfgA pf h).slots t)) = bodyT pf h t := by
  unfold defs₀; rw [Defs.onTc_tc]; rfl

/-- The tables at their half shares, one by one. -/
theorem PhiT_eq : (Pipeline.ΦT (U := UR sig nD τ) pre0 pf c : sProp 𝕄)
    = iprop(((c : Thread nD τ).loc main_v22 ↦{fullShare.right} pf 0) ∗ ((c : Thread nD τ).loc main_v38 ↦{fullShare.right} pf 1)) := by
  unfold Pipeline.ΦT Pipeline.prefHeld
  rw [BI.bigSep_univ_eq_bigSepL [0, 1] (by decide) (by decide)]; rfl

/-- What the body is called with at point `t`. -/
def bodyPre (t : Fin (cfgA pf h).N) : sProp 𝕄 :=
  iprop((dats pf h V 0 c).Φ t.castSucc ∗ (dats pf h V 0 c).owesAt () t.castSucc
    ∗ (∃ d, owns (c : Thread nD τ) (((cfgA pf h).win 0).stage ((cfgA pf h).slots t 0)) fullShare ((dats pf h V 0 c).before 0 t d)) ∗ (∃ d, owns (c : Thread nD τ) (((cfgA pf h).win 1).stage ((cfgA pf h).slots t 1)) fullShare ((dats pf h V 0 c).before 1 t d)) ∗ (∃ d, owns (c : Thread nD τ) (((cfgA pf h).win 2).stage ((cfgA pf h).slots t 2)) fullShare ((dats pf h V 0 c).before 2 t d)) ∗ (∃ d, owns (c : Thread nD τ) (((cfgA pf h).win 3).stage ((cfgA pf h).slots t 3)) fullShare ((dats pf h V 0 c).before 3 t d)) ∗ (∃ d, owns (c : Thread nD τ) (((cfgA pf h).win 4).stage ((cfgA pf h).slots t 4)) fullShare ((dats pf h V 0 c).before 4 t d)) ∗ (∃ d, owns (c : Thread nD τ) (((cfgA pf h).win 5).stage ((cfgA pf h).slots t 5)) fullShare ((dats pf h V 0 c).before 5 t d)))

/-- What it returns. -/
def bodyPost (t : Fin (cfgA pf h).N) : sProp 𝕄 :=
  iprop((dats pf h V 0 c).Φ t.succ ∗ (dats pf h V 0 c).owesAt () t.succ
    ∗ owns (c : Thread nD τ) (((cfgA pf h).win 0).stage ((cfgA pf h).slots t 0)) fullShare (blk0 pf h V c t) ∗ owns (c : Thread nD τ) (((cfgA pf h).win 1).stage ((cfgA pf h).slots t 1)) fullShare (blk1 pf h V c t) ∗ owns (c : Thread nD τ) (((cfgA pf h).win 2).stage ((cfgA pf h).slots t 2)) fullShare (blk2 pf h V c t) ∗ owns (c : Thread nD τ) (((cfgA pf h).win 3).stage ((cfgA pf h).slots t 3)) fullShare (blk3 pf h V c t) ∗ owns (c : Thread nD τ) (((cfgA pf h).win 4).stage ((cfgA pf h).slots t 4)) fullShare (blk4 pf h V c t) ∗ (match (cfgA pf h).idle 5 ((cfgA pf h).grid.coords t) with
      | true => (match ((cfgA pf h).win 5).flush t with
        | false => iprop(∃ d, owns (c : Thread nD τ) (((cfgA pf h).win 5).stage ((cfgA pf h).slots t 5)) fullShare ((dats pf h V 0 c).before 5 t d))
        | true => owns (c : Thread nD τ) (((cfgA pf h).win 5).stage ((cfgA pf h).slots t 5)) fullShare ((dats pf h V 0 c).after 5 t))
      | false => owns (c : Thread nD τ) (((cfgA pf h).win 5).stage ((cfgA pf h).slots t 5)) fullShare ((dats pf h V 0 c).after 5 t)))

theorem left5 (hn : ∀ x : S42.Idx, (pf 1 x : BitVec 32).toNat ≤ 4) (t : Fin (cfgA pf h).N) (A : Vec F S1024x1024 .f32) (hA : holds pf h V c t.val A) (d : Vec F S1024x1024 .bf16) :
    owns (c : Thread nD τ) (((cfgA pf h).win 5).stage ((cfgA pf h).slots t 5)) fullShare (outB (grid0.coords t) (ncN pf t.val) (accB (grid0.coords t) (ncN pf t.val) (blk2 pf h V c t) (blk3 pf h V c t) (blk4 pf h V c t) (blk0 pf h V c t) A) (blk1 pf h V c t) ((dats pf h V 0 c).before 5 t d)) ⊢ ((match (cfgA pf h).idle 5 ((cfgA pf h).grid.coords t) with
      | true => (match ((cfgA pf h).win 5).flush t with
        | false => iprop(∃ d, owns (c : Thread nD τ) (((cfgA pf h).win 5).stage ((cfgA pf h).slots t 5)) fullShare ((dats pf h V 0 c).before 5 t d))
        | true => owns (c : Thread nD τ) (((cfgA pf h).win 5).stage ((cfgA pf h).slots t 5)) fullShare ((dats pf h V 0 c).after 5 t))
      | false => owns (c : Thread nD τ) (((cfgA pf h).win 5).stage ((cfgA pf h).slots t 5)) fullShare ((dats pf h V 0 c).after 5 t)) : sProp 𝕄) := by
  by_cases ht : t.val % 7 = 6
  · refine (Entails.of_eq (congrArg (owns (c : Thread nD τ) (((cfgA pf h).win 5).stage ((cfgA pf h).slots t 5)) fullShare) (outB_last pf h V c hn t ht A hA _))).trans ?_
    rw [idle5 pf h hn, decide_eq_true ht]
    exact Entails.of_eq (congrArg (owns (c : Thread nD τ) (((cfgA pf h).win 5).stage ((cfgA pf h).slots t 5)) fullShare) (after5 pf h V c t).symm)
  · refine (Entails.of_eq (congrArg (owns (c : Thread nD τ) (((cfgA pf h).win 5).stage ((cfgA pf h).slots t 5)) fullShare) (outB_other pf h hn t ht _ _ _))).trans ?_
    rw [idle5 pf h hn, flush5, decide_eq_false ht]
    show _ ⊢ (iprop(∃ d, (owns (c : Thread nD τ) (((cfgA pf h).win 5).stage ((cfgA pf h).slots t 5)) fullShare) ((dats pf h V 0 c).before 5 t d)) : sProp 𝕄)
    iintro H; iexists _; iexact H

theorem sound_body (hn : ∀ x : S42.Idx, (pf 1 x : BitVec 32).toNat ≤ 4) (t : Fin (cfgA pf h).N) :
    bodyPre pf h V c t ⊢ wp frame (wpE (defs₀ (F := F)) Variants.none c none) Set.univ (bodyT pf h t) (fun _ => bodyPost pf h V c t) := by
  unfold bodyPre bodyT
  rw [show (dats pf h V 0 c).Φ t.castSucc = PhiS pf h V c t.val from rfl]
  unfold PhiS
  rw [PhiT_eq]
  simp only [before0, before1, before2, before3, before4, ← owns_whole]
  iintro ⟨⟨⟨%A, %hA, HS⟩, Hg, HT0, HT1⟩, HO, ⟨%d0, H0⟩, ⟨%d1, H1⟩, ⟨%d2, H2⟩, ⟨%d3, H3⟩, ⟨%d4, H4⟩, ⟨%d5, H5⟩⟩
  ihave HT1 := (Entails.of_eq (owns_whole (c : Thread nD τ) main_v38 fullShare.right (pf 1)).symm) $$ HT1
  iapply (body_wp (c := c) (E := Set.univ) (i := grid0.coords t) (T3 := pf 1) (q := fullShare.right))
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [HS]; · iexact HS
  rw [word_at pf h t]
  iintro ⟨HT1, H0, H1, H2, H3, H4, H5, HS⟩
  unfold bodyPost
  rw [show (dats pf h V 0 c).Φ t.succ = PhiS pf h V c (t.val + 1) from rfl,
    show (dats pf h V 0 c).owesAt () t.succ = (dats pf h V 0 c).owesAt () t.castSucc from rfl]
  unfold PhiS
  rw [PhiT_eq]
  ihave HT1 := (Entails.of_eq (owns_whole (c : Thread nD τ) main_v38 fullShare.right (pf 1))) $$ HT1
  ihave HS := (Entails.of_eq (owns_whole (c : Thread nD τ) cc0_scratch0 fullShare _)) $$ HS
  isplitl [HS Hg HT0 HT1]
  · isplitl [HS]
    · iexists _
      isplitr; swap; · iexact HS
      ipureintro; exact holds_succ pf h V c t A hA
    isplitl [Hg]; · iexact Hg
    isplitl [HT0]; · iexact HT0
    iexact HT1
  isplitl [HO]; · iexact HO
  isplitl [H0]; · iexact H0
  isplitl [H1]; · iexact H1
  isplitl [H2]; · iexact H2
  isplitl [H3]; · iexact H3
  isplitl [H4]; · iexact H4
  iapply (left5 pf h V c hn t A hA d5); iexact H5

/-- The body obligation. -/
theorem body_obligation (hn : ∀ x : S42.Idx, (pf 1 x : BitVec 32).toNat ≤ 4) : BodyObligation (dats pf h V 0 c) (defs₀ (F := F)) Variants.none () Set.univ := fun t => by
  rw [bigSep_W0, bigSep_W0, defs₀_row]
  exact triple_restated (sound_body pf h V c hn t) rfl .rfl fun _ => .rfl

/-- The invariant at the start, and what it leaves at the end. -/
theorem phi_start : iprop(Pipeline.ΦA spec0 c ∗ Pipeline.ΦT pre0 pf c) ⊢ (dats pf h V 0 c).Φ 0 := by
  rw [show (dats pf h V 0 c).Φ 0 = PhiS pf h V c 0 from rfl]
  unfold PhiS Pipeline.ΦA
  rw [scopedRest0_eq]
  iintro ⟨⟨⟨%A, HS⟩, Hg⟩, HT⟩
  isplitl [HS]
  · iexists A
    isplitr; swap; · iexact HS
    ipureintro; exact fun h0 => absurd rfl h0
  isplitl [Hg]; · iexact Hg
  iexact HT

theorem phi_end : (dats pf h V 0 c).Φ (Fin.last (cfgA pf h).N) ⊢ Pipeline.ΦA spec0 c := by
  rw [show (dats pf h V 0 c).Φ (Fin.last (cfgA pf h).N) = PhiS pf h V c (cfgA pf h).N from rfl]
  unfold PhiS Pipeline.ΦA
  rw [scopedRest0_eq]
  iintro ⟨⟨%A, -, HS⟩, Hg, -⟩
  isplitl [HS]
  · iexists A; iexact HS
  iexact Hg

end Cert.Kernel2Ideal.Hand

end
-- ==== Proof.FHost.lean ====
/-
  The plan the feed-forward kernel's host code makes of the experts' row counts: the length of each expert's segment of
  rows, where the segments end, the expert whose segment holds each tile of 1024 rows, and how many of the tile's
  256-row chunks hold rows; and that the launch finds the last two in its tables, and every argument as it was.
-/
module

public import proofs.«01_k».proof.Proof.FRun
public import Idealize.ShloMosaic.Lib.Claim
public import Idealize.ShloMosaic.Lib.StableHlo.RunRead
public import Idealize.ShloMosaic.Lib.StableHlo.Predicate

@[expose] public section

set_option maxRecDepth 16384
set_option synthInstance.maxSize 4096

noncomputable section

namespace Cert.Kernel2Ideal.Hand

open Cert.Kernel2Ideal Cert.Kernel2Ideal.Gen Cert.Hand
open Idealize.ShloMosaic Idealize.ShloMosaic.TcCoe
open Idealize.SL Idealize.SL.RA Idealize.SL.BI
open Idealize.SL.Sem
open Idealize.ShloMosaic.Pipeline (Dat BodyObligation)

variable {F : FTy → Type} [FloatOps F]

section Plan

/-- One word at eight places. -/
def all8 (n : BitVec 32) : Vec F S8 .i32 := broadcastInDim S8 ![] bcast_S_S8 (constantI S_ 32 n)
/-- One word at forty-two places. -/
def all42 (n : BitVec 32) : Vec F S42 .i32 := broadcastInDim S42 ![] bcast_S_S42 (constantI S_ 32 n)

variable (C : Vec F S8 .i32)

/-- The counts, 1023 added. -/
def raisedV : Vec F S8 .i32 := subi (addi C (all8 (F := F) 1024#32)) (all8 (F := F) 1#32)

/-- Eight words over 1024, rounded down. -/
def over1024 (X : Vec F S8 .i32) : Vec F S8 .i32 :=
  select (andi (cmpi .ne (signi X) (broadcastInDim S8 ![] bcast_S_S8 (signi (constantI S_ 32 1024#32) : Vec F S_ .i32)))
      (cmpi .ne (Host.remsi X (all8 (F := F) 1024#32)) (all8 (F := F) 0#32)))
    (subi (Host.divsi X (all8 (F := F) 1024#32)) (all8 (F := F) 1#32)) (Host.divsi X (all8 (F := F) 1024#32))

/-- The lengths of the segments. -/
def segV : Vec F S8 .i32 := muli (over1024 (F := F) (raisedV (F := F) C)) (all8 (F := F) 1024#32)

/-- Where the segments end. -/
def endV : Vec F S8 .i32 :=
  Host.reduceWindow IntOp.addi ![8] ![1] ![7] ![0] (segV (F := F) C) (broadcastInDim S_ ![] bcast_S_S_ (constantI S_ 32 0#32) : Vec F S_ .i32) reduceWindows_S8_S8_w8s1p7_0 h_S_

/-- Where they begin. -/
def offV : Vec F S8 .i32 := subi (endV (F := F) C) (segV (F := F) C)

/-- The first rows of the tiles. -/
def startV : Vec F S42 .i32 := muli (iotaInDim S42 32 0) (all42 (F := F) 1024#32)

/-- How many segments end at or before each tile. -/
def pastV : Vec F S42 .i32 :=
  Host.reduce IntOp.addi
    (extui 32 (cmpi .sge (broadcastInDim S42x8 ![0, 1] bcast_S42x1_S42x8_0_1 (broadcastInDim S42x1 ![0] bcast_S42_S42x1_0 (startV (F := F))))
      (broadcastInDim S42x8 ![0, 1] bcast_S1x8_S42x8_0_1 (broadcastInDim S1x8 ![1] bcast_S8_S1x8_1 (endV (F := F) C)))) natLt_1_32 : Vec F S42x8 .i32)
    (constantI S_ 32 0#32 : Vec F S_ .i32) reducesTo_S42x8_S42_d1 h_S_

/-- Each tile's expert. -/
def expertV : Vec F S42 .i32 := minsi (pastV (F := F) C) (all42 (F := F) 7#32)

/-- The rows left of the expert's at the tile's first, negative. -/
def negLeftV : Vec F S42 .i32 :=
  negi (subi (Host.gather gather_S8_S42x1_S42_n_0_n_n_0_1_1 (addi (offV (F := F) C) C)
    (broadcastInDim S42x1 ![0] bcast_S42_S42x1_0 (select (cmpi .slt (expertV (F := F) C) (all42 (F := F) 0#32)) (addi (expertV (F := F) C) (all42 (F := F) 8#32)) (expertV (F := F) C))))
    (startV (F := F)))

/-- Forty-two words over 256, rounded down. -/
def over256 (X : Vec F S42 .i32) : Vec F S42 .i32 :=
  select (andi (cmpi .ne (signi X) (broadcastInDim S42 ![] bcast_S_S42 (signi (constantI S_ 32 256#32) : Vec F S_ .i32)))
      (cmpi .ne (Host.remsi X (all42 (F := F) 256#32)) (all42 (F := F) 0#32)))
    (subi (Host.divsi X (all42 (F := F) 256#32)) (all42 (F := F) 1#32)) (Host.divsi X (all42 (F := F) 256#32))

/-- Where the last segment ends. -/
def totalV : Vec F S_ .i32 := shapeCast (s := S1) S_ (extractStridedSlice S1 ![7] (endV (F := F) C) slices_S8_S1_7) shapeCasts_S1_S_

/-- The chunks of a tile that hold rows. -/
def chunksV : Vec F S42 .i32 :=
  select (cmpi .slt (startV (F := F)) (broadcastInDim S42 ![] bcast_S_S42 (totalV (F := F) C)))
    (minsi (all42 (F := F) 4#32) (maxsi (all42 (F := F) 0#32) (negi (over256 (F := F) (negLeftV (F := F) C))))) (all42 (F := F) 0#32)

end Plan

/-! The references the called functions take hold their own types. -/

theorem to_main_v3 (h₁ h₂ h₃) (v : Vec F S8 .i32) : (StableHlo.TRef.of main_v3 h₁ h₂ h₃ : StableHlo.TRef sig ⟨S8, .i32⟩).toBuf (Val := Elt F) v = v := rfl
theorem of_main_v3 (h₁ h₂ h₃) (v : Vec F S8 .i32) : (StableHlo.TRef.of main_v3 h₁ h₂ h₃ : StableHlo.TRef sig ⟨S8, .i32⟩).ofBuf (Val := Elt F) v = v := rfl
theorem to_main_v4 (h₁ h₂ h₃) (v : Vec F S8 .i32) : (StableHlo.TRef.of main_v4 h₁ h₂ h₃ : StableHlo.TRef sig ⟨S8, .i32⟩).toBuf (Val := Elt F) v = v := rfl
theorem of_main_v4 (h₁ h₂ h₃) (v : Vec F S8 .i32) : (StableHlo.TRef.of main_v4 h₁ h₂ h₃ : StableHlo.TRef sig ⟨S8, .i32⟩).ofBuf (Val := Elt F) v = v := rfl
theorem to_main_v6 (h₁ h₂ h₃) (v : Vec F S8 .i32) : (StableHlo.TRef.of main_v6 h₁ h₂ h₃ : StableHlo.TRef sig ⟨S8, .i32⟩).toBuf (Val := Elt F) v = v := rfl
theorem of_main_v6 (h₁ h₂ h₃) (v : Vec F S8 .i32) : (StableHlo.TRef.of main_v6 h₁ h₂ h₃ : StableHlo.TRef sig ⟨S8, .i32⟩).ofBuf (Val := Elt F) v = v := rfl
theorem to_main_v7 (h₁ h₂ h₃) (v : Vec F S8 .i32) : (StableHlo.TRef.of main_v7 h₁ h₂ h₃ : StableHlo.TRef sig ⟨S8, .i32⟩).toBuf (Val := Elt F) v = v := rfl
theorem of_main_v7 (h₁ h₂ h₃) (v : Vec F S8 .i32) : (StableHlo.TRef.of main_v7 h₁ h₂ h₃ : StableHlo.TRef sig ⟨S8, .i32⟩).ofBuf (Val := Elt F) v = v := rfl
theorem to_main_v34 (h₁ h₂ h₃) (v : Vec F S42 .i32) : (StableHlo.TRef.of main_v34 h₁ h₂ h₃ : StableHlo.TRef sig ⟨S42, .i32⟩).toBuf (Val := Elt F) v = v := rfl
theorem of_main_v34 (h₁ h₂ h₃) (v : Vec F S42 .i32) : (StableHlo.TRef.of main_v34 h₁ h₂ h₃ : StableHlo.TRef sig ⟨S42, .i32⟩).ofBuf (Val := Elt F) v = v := rfl
theorem to_main_v35 (h₁ h₂ h₃) (v : Vec F S42 .i32) : (StableHlo.TRef.of main_v35 h₁ h₂ h₃ : StableHlo.TRef sig ⟨S42, .i32⟩).toBuf (Val := Elt F) v = v := rfl
theorem of_main_v35 (h₁ h₂ h₃) (v : Vec F S42 .i32) : (StableHlo.TRef.of main_v35 h₁ h₂ h₃ : StableHlo.TRef sig ⟨S42, .i32⟩).ofBuf (Val := Elt F) v = v := rfl
theorem to_main_v36 (h₁ h₂ h₃) (v : Vec F S42 .i32) : (StableHlo.TRef.of main_v36 h₁ h₂ h₃ : StableHlo.TRef sig ⟨S42, .i32⟩).toBuf (Val := Elt F) v = v := rfl
theorem of_main_v36 (h₁ h₂ h₃) (v : Vec F S42 .i32) : (StableHlo.TRef.of main_v36 h₁ h₂ h₃ : StableHlo.TRef sig ⟨S42, .i32⟩).ofBuf (Val := Elt F) v = v := rfl
theorem to_main_v37 (h₁ h₂ h₃) (v : Vec F S42 .i32) : (StableHlo.TRef.of main_v37 h₁ h₂ h₃ : StableHlo.TRef sig ⟨S42, .i32⟩).toBuf (Val := Elt F) v = v := rfl
theorem of_main_v37 (h₁ h₂ h₃) (v : Vec F S42 .i32) : (StableHlo.TRef.of main_v37 h₁ h₂ h₃ : StableHlo.TRef sig ⟨S42, .i32⟩).ofBuf (Val := Elt F) v = v := rfl
theorem to_main_v38 (h₁ h₂ h₃) (v : Vec F S42 .i32) : (StableHlo.TRef.of main_v38 h₁ h₂ h₃ : StableHlo.TRef sig ⟨S42, .i32⟩).toBuf (Val := Elt F) v = v := rfl
theorem of_main_v38 (h₁ h₂ h₃) (v : Vec F S42 .i32) : (StableHlo.TRef.of main_v38 h₁ h₂ h₃ : StableHlo.TRef sig ⟨S42, .i32⟩).ofBuf (Val := Elt F) v = v := rfl
theorem to_main_v33 (h₁ h₂ h₃) (v : Vec F S42 .i1) : (StableHlo.TRef.of main_v33 h₁ h₂ h₃ : StableHlo.TRef sig ⟨S42, .i1⟩).toBuf (Val := Elt F) v = v := rfl
theorem of_main_v33 (h₁ h₂ h₃) (v : Vec F S42 .i1) : (StableHlo.TRef.of main_v33 h₁ h₂ h₃ : StableHlo.TRef sig ⟨S42, .i1⟩).ofBuf (Val := Elt F) v = v := rfl
theorem to_main_c_1 (h₁ h₂ h₃) (v : Vec F S_ .i32) : (StableHlo.TRef.of main_c_1 h₁ h₂ h₃ : StableHlo.TRef sig ⟨S_, .i32⟩).toBuf (Val := Elt F) v = v := rfl
theorem of_main_c_1 (h₁ h₂ h₃) (v : Vec F S_ .i32) : (StableHlo.TRef.of main_c_1 h₁ h₂ h₃ : StableHlo.TRef sig ⟨S_, .i32⟩).ofBuf (Val := Elt F) v = v := rfl
theorem to_main_c_8 (h₁ h₂ h₃) (v : Vec F S_ .i32) : (StableHlo.TRef.of main_c_8 h₁ h₂ h₃ : StableHlo.TRef sig ⟨S_, .i32⟩).toBuf (Val := Elt F) v = v := rfl
theorem of_main_c_8 (h₁ h₂ h₃) (v : Vec F S_ .i32) : (StableHlo.TRef.of main_c_8 h₁ h₂ h₃ : StableHlo.TRef sig ⟨S_, .i32⟩).ofBuf (Val := Elt F) v = v := rfl
theorem to_main_c_9 (h₁ h₂ h₃) (v : Vec F S_ .i32) : (StableHlo.TRef.of main_c_9 h₁ h₂ h₃ : StableHlo.TRef sig ⟨S_, .i32⟩).toBuf (Val := Elt F) v = v := rfl
theorem of_main_c_9 (h₁ h₂ h₃) (v : Vec F S_ .i32) : (StableHlo.TRef.of main_c_9 h₁ h₂ h₃ : StableHlo.TRef sig ⟨S_, .i32⟩).ofBuf (Val := Elt F) v = v := rfl
theorem to_main_c_10 (h₁ h₂ h₃) (v : Vec F S_ .i32) : (StableHlo.TRef.of main_c_10 h₁ h₂ h₃ : StableHlo.TRef sig ⟨S_, .i32⟩).toBuf (Val := Elt F) v = v := rfl
theorem of_main_c_10 (h₁ h₂ h₃) (v : Vec F S_ .i32) : (StableHlo.TRef.of main_c_10 h₁ h₂ h₃ : StableHlo.TRef sig ⟨S_, .i32⟩).ofBuf (Val := Elt F) v = v := rfl
theorem to_main_c_11 (h₁ h₂ h₃) (v : Vec F S_ .i32) : (StableHlo.TRef.of main_c_11 h₁ h₂ h₃ : StableHlo.TRef sig ⟨S_, .i32⟩).toBuf (Val := Elt F) v = v := rfl
theorem of_main_c_11 (h₁ h₂ h₃) (v : Vec F S_ .i32) : (StableHlo.TRef.of main_c_11 h₁ h₂ h₃ : StableHlo.TRef sig ⟨S_, .i32⟩).ofBuf (Val := Elt F) v = v := rfl

variable (m : (ℓ : Loc nD τ sig) → Buf (Elt F) ℓ)

/-- The host code's stretches. -/
abbrev hostAll : List (List (HloOp τ sig (Elt F))) :=
  [hostOps0, hostOps0_1, hostOps0_2, hostOps0_3, hostOps0_4, hostOps0_5, hostOps0_6, hostOps0_7, hostOps0_8, hostOps0_9]

/-- The contents of every buffer once the host code has run. -/
def VM (c : Dev nD) (b : Ref sig .tc) : Buf (Elt F) ((c : Thread nD τ).loc b) :=
  StableHlo.after (hostAll (F := F)).flatten (fun b => m (c, b)) b

theorem VM_arg0 (c : Dev nD) : VM m c main_arg0 = m ((c : Thread nD τ).loc main_arg0) := by
  unfold VM
  after_reads_simp

theorem VM_arg1 (c : Dev nD) : VM m c main_arg1 = m ((c : Thread nD τ).loc main_arg1) := by
  unfold VM
  after_reads_simp

theorem VM_arg2 (c : Dev nD) : VM m c main_arg2 = m ((c : Thread nD τ).loc main_arg2) := by
  unfold VM
  after_reads_simp

theorem VM_arg3 (c : Dev nD) : VM m c main_arg3 = m ((c : Thread nD τ).loc main_arg3) := by
  unfold VM
  after_reads_simp

theorem VM_arg4 (c : Dev nD) : VM m c main_arg4 = m ((c : Thread nD τ).loc main_arg4) := by
  unfold VM
  after_reads_simp

theorem VM_arg5 (c : Dev nD) : VM m c main_arg5 = m ((c : Thread nD τ).loc main_arg5) := by
  unfold VM
  after_reads_simp

theorem VM_expert (c : Dev nD) : VM m c main_v22 = expertV (F := F) (m ((c : Thread nD τ).loc main_arg0)) := by
  unfold VM
  after_reads_simp
  simp only [StableHlo.TRef.ofBuf_toBuf, id_eq, to_main_v3, of_main_v3, to_main_v4, of_main_v4, to_main_v6, of_main_v6, to_main_v7, of_main_v7, to_main_v34, of_main_v34, to_main_v35, of_main_v35, to_main_v36, of_main_v36, to_main_v37, of_main_v37, to_main_v38, of_main_v38, to_main_v33, of_main_v33, to_main_c_1, of_main_c_1, to_main_c_8, of_main_c_8, to_main_c_9, of_main_c_9, to_main_c_10, of_main_c_10, to_main_c_11, of_main_c_11]
  rfl

theorem VM_chunks (c : Dev nD) : VM m c main_v38 = chunksV (F := F) (m ((c : Thread nD τ).loc main_arg0)) := by
  unfold VM
  after_reads_simp
  simp only [StableHlo.TRef.ofBuf_toBuf, id_eq, to_main_v3, of_main_v3, to_main_v4, of_main_v4, to_main_v6, of_main_v6, to_main_v7, of_main_v7, to_main_v34, of_main_v34, to_main_v35, of_main_v35, to_main_v36, of_main_v36, to_main_v37, of_main_v37, to_main_v38, of_main_v38, to_main_v33, of_main_v33, to_main_c_1, of_main_c_1, to_main_c_8, of_main_c_8, to_main_c_9, of_main_c_9, to_main_c_10, of_main_c_10, to_main_c_11, of_main_c_11]
  rfl

/-! ## The words' ranges -/

theorem slt_iff (a b : BitVec 32) : a.slt b = true ↔ a.toInt < b.toInt := by
  unfold BitVec.slt; exact decide_eq_true_iff

theorem minsi_le (x y : BitVec 32) : (IntOp.minsi x y).toInt ≤ x.toInt ∧ (IntOp.minsi x y).toInt ≤ y.toInt ∧ (IntOp.minsi x y = x ∨ IntOp.minsi x y = y) := by
  unfold IntOp.minsi
  by_cases h : x.slt y
  · rw [if_pos h]; rw [slt_iff] at h; exact ⟨le_refl _, by omega, .inl rfl⟩
  · rw [if_neg h]; rw [slt_iff] at h; exact ⟨by omega, le_refl _, .inr rfl⟩

theorem maxsi_ge (x y : BitVec 32) : x.toInt ≤ (IntOp.maxsi x y).toInt := by
  unfold IntOp.maxsi
  split_ifs with h
  · exact le_refl _
  · rw [slt_iff] at h; omega

theorem toNat_of_toInt {x : BitVec 32} {n : ℕ} (h0 : 0 ≤ x.toInt) (h1 : x.toInt ≤ n) : x.toNat ≤ n := by
  rw [BitVec.toInt_eq_toNat_cond] at h0 h1
  have := x.isLt
  split_ifs at h0 h1 <;> omega

theorem past_le (C : Vec F S8 .i32) (x : S42.Idx) : (pastV (F := F) C x : BitVec 32).toNat ≤ 8 := by
  have e := StableHlo.Predicate.toNat_reduce_count_cols (n := 42) (m := 8) (by decide)
    (cmpi .sge (broadcastInDim S42x8 ![0, 1] bcast_S42x1_S42x8_0_1 (broadcastInDim S42x1 ![0] bcast_S42_S42x1_0 (startV (F := F))))
      (broadcastInDim S42x8 ![0, 1] bcast_S1x8_S42x8_0_1 (broadcastInDim S1x8 ![1] bcast_S8_S1x8_1 (endV (F := F) C)))) natLt_1_32 reducesTo_S42x8_S42_d1 h_S_ x
  refine le_of_eq_of_le e ((Finset.card_filter_le _ _).trans ?_)
  rw [Finset.card_univ, Fintype.card_fin]

theorem expert_le (C : Vec F S8 .i32) (x : S42.Idx) : (expertV (F := F) C x : BitVec 32).toNat ≤ 7 := by
  have h := past_le C x
  have e : (expertV (F := F) C x : BitVec 32) = IntOp.minsi (pastV (F := F) C x : BitVec 32) 7#32 := rfl
  obtain ⟨h1, h2, h3⟩ := minsi_le (pastV (F := F) C x) 7#32
  rw [e]
  refine toNat_of_toInt ?_ (h2.trans (by decide))
  rcases h3 with h3 | h3 <;> rw [h3]
  · rw [BitVec.toInt_eq_toNat_cond, if_pos (by omega)]; omega
  · decide

theorem chunks_le (C : Vec F S8 .i32) (x : S42.Idx) : (chunksV (F := F) C x : BitVec 32).toNat ≤ 4 := by
  have e : (chunksV (F := F) C x : BitVec 32) = Scalar.select ((cmpi .slt (startV (F := F)) (broadcastInDim S42 ![] bcast_S_S42 (totalV (F := F) C)) : Vec F S42 .i1) x)
      (IntOp.minsi 4#32 (IntOp.maxsi 0#32 (negi (over256 (F := F) (negLeftV (F := F) C)) x))) 0#32 := rfl
  rw [e]
  generalize (negi (over256 (F := F) (negLeftV (F := F) C)) x : BitVec 32) = a
  unfold Scalar.select
  split_ifs
  · obtain ⟨h1, h2, h3⟩ := minsi_le 4#32 (IntOp.maxsi 0#32 a)
    have h4 := maxsi_ge 0#32 a
    refine toNat_of_toInt ?_ (h1.trans (by decide))
    rcases h3 with h3 | h3 <;> rw [h3]
    · decide
    · exact le_trans (by decide) h4
  · decide

end Cert.Kernel2Ideal.Hand

end
-- ==== Proof.FFinal.lean ====
/-
  The run of the feed-forward program, over any float values: it ends with every counter at zero, every argument as it
  was, and the result as the pipeline's record has it.
-/
module

public import proofs.«01_k».proof.Proof.FHost
public import Idealize.ShloMosaic.Lib.Pipeline.Frame
public import Idealize.ShloMosaic.Lib.Claim

@[expose] public section

set_option maxRecDepth 3328
set_option synthInstance.maxSize 4096

noncomputable section

namespace Cert.Kernel2Ideal.Hand

open Cert.Kernel2Ideal Cert.Kernel2Ideal.Gen Cert.Hand
open Idealize.ShloMosaic Idealize.ShloMosaic.TcCoe
open Idealize.SL Idealize.SL.RA Idealize.SL.BI
open Idealize.SL.Sem
open Idealize.ShloMosaic.Pipeline (Dat BodyObligation)

variable {F : FTy → Type} [FloatOps F]

variable (m : (ℓ : Loc nD τ sig) → Buf (Elt F) ℓ)

/-- The two tables as the launch finds them. -/
def pfM : pre0.Contents (Elt F) := fun k => VM m 0 (pre0.ref k)

theorem pfM_eq (c : Dev nD) (k : Fin 2) : VM m c (pre0.ref k) = pfM m k := by
  obtain rfl : c = 0 := Subsingleton.elim _ _
  rfl

theorem pfM_expert : pfM m 0 = expertV (F := F) (m (((0 : Dev nD) : Thread nD τ).loc main_arg0)) := VM_expert m 0
theorem pfM_chunks : pfM m 1 = chunksV (F := F) (m (((0 : Dev nD) : Thread nD τ).loc main_arg0)) := VM_chunks m 0

theorem expert_in (x : S42.Idx) : (pfM m 0 x : BitVec 32).toNat ≤ 7 := by
  rw [pfM_expert]; exact expert_le _ x
theorem chunks_in (x : S42.Idx) : (pfM m 1 x : BitVec 32).toNat ≤ 4 := by
  rw [pfM_chunks]; exact chunks_le _ x

variable (ρ : Dev nD → PrngReg)

theorem host_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub⟩

theorem host_fresh : (hostAll (F := F)).Forall fun ops => ops.Forall fun op => op.fresh = ∅ :=
  ⟨StableHlo.forall_fresh_of_map rfl, StableHlo.forall_fresh_of_map rfl, StableHlo.forall_fresh_of_map rfl, StableHlo.forall_fresh_of_map rfl, StableHlo.forall_fresh_of_map rfl,
    StableHlo.forall_fresh_of_map rfl, StableHlo.forall_fresh_of_map rfl, StableHlo.forall_fresh_of_map rfl, StableHlo.forall_fresh_of_map rfl, StableHlo.forall_fresh_of_map rfl⟩

/-- The record at the launch's tables. -/
abbrev datsM := dats (F := F) (pfM m) (expert_in m) (VM m)

theorem share_full (c : Dev nD) (w : Fin 6) : (datsM m 0 c).share w = fullShare := by
  fin_cases w <;> rfl

set_option backward.isDefEq.respectTransparency.types false in
theorem host_main : Pipeline.HMainP (Ix := Unit) (Name := ℕ) (U := UR sig nD τ) (Lvl := ℕ) (pcfgs (F := F)) 0 defs₀ Variants.none m main (VM m) :=
  Pipeline.hmainP_prefixes pcfgs 0 defs₀ Variants.none m main hostAll host_sub host_fresh main_chain

set_option backward.isDefEq.respectTransparency.types false in
set_option maxHeartbeats 2000000 in
theorem run_main :
    θ_run (defs (F := F)) (onTc main) ⟨m, fun _ => 0, ρ⟩ (fun r =>
      Pipeline.FramePost (Pipeline.pin (pcfgs (F := F)) (fun _ => adm (pfM m) (expert_in m))) (datsM m) 0 (VM m) r
        ∧ r.2.sem = fun _ => 0) :=
  Pipeline.θ_run_frameP_track pcfgs (fun _ => adm (pfM m) (expert_in m)) (datsM m) 0 launch0 defs₀ Variants.none m ρ main
    (fun c => (body_obligation (pfM m) (expert_in m) (VM m) c (chunks_in m)).loose) (share_full m) (fun _ _ => rfl) (VM m)
    (host_main m)
    (fun c w => A_eq (pfM m) (expert_in m) (VM m) c w) (fun c k => pfM_eq m c k)
    (fun c => phi_start (pfM m) (expert_in m) (VM m) c) (fun c => phi_end (pfM m) (expert_in m) (VM m) c) _ (fun _ h => h)

theorem arg0_rest : main_arg0 ∈ Pipeline.restRefs sig spec0 := Pipeline.mem_restRefs_of main_arg0 (by decide) (by decide)

set_option backward.isDefEq.respectTransparency.types false in
theorem run_ends :
    θ_run (defs (F := F)) (onTc main) ⟨m, fun _ => 0, ρ⟩ (fun r =>
      (∀ c : Dev nD, r.2.mem ((c : Thread nD τ).loc main_v39) = (datsM m 0 c).arrAt 5 (cfgA (pfM m) (expert_in m)).N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
        ∧ r.2.sem = fun _ => 0) :=
  (θ_run (defs (F := F)) _ _).mono (fun r hr => ⟨fun c =>
    ⟨(hr.1 c).1 5,
      ((hr.1 c).2 main_arg0 (arg0_rest)).trans (VM_arg0 m c),
      ((hr.1 c).1 0).trans (((datsM m 0 c).arrAt_in 0 rfl _).trans ((A_eq (pfM m) (expert_in m) (VM m) c 0).trans (VM_arg1 m c))),
      ((hr.1 c).1 1).trans (((datsM m 0 c).arrAt_in 1 rfl _).trans ((A_eq (pfM m) (expert_in m) (VM m) c 1).trans (VM_arg2 m c))),
      ((hr.1 c).1 2).trans (((datsM m 0 c).arrAt_in 2 rfl _).trans ((A_eq (pfM m) (expert_in m) (VM m) c 2).trans (VM_arg3 m c))),
      ((hr.1 c).1 3).trans (((datsM m 0 c).arrAt_in 3 rfl _).trans ((A_eq (pfM m) (expert_in m) (VM m) c 3).trans (VM_arg4 m c))),
      ((hr.1 c).1 4).trans (((datsM m 0 c).arrAt_in 4 rfl _).trans ((A_eq (pfM m) (expert_in m) (VM m) c 4).trans (VM_arg5 m c)))⟩, hr.2⟩) (run_main m ρ)

end Cert.Kernel2Ideal.Hand

end
-- ==== Proof.FFrames.lean ====
/- The feed-forward kernel's two frames. -/
module

public import proofs.«01_k».proof.Defs
public import proofs.«01_k».proof.Proof.FFinal
public import proofs.«01_k».proof.Proof.Gen.Kernel2
public import Idealize.ShloMosaic.Lib.Tactic

@[expose] public section

set_option maxRecDepth 3328

noncomputable section

namespace Cert.Kernel2Ideal.Hand

open Cert.Kernel2Ideal Cert.Kernel2Ideal.Gen Cert.Hand
open Idealize.ShloMosaic Idealize.ShloMosaic.TcCoe
open Idealize.SL.Sem

theorem frame_ideal : Cert.quiescent_Kernel2Ideal := fun m g _ =>
  (θ_run (defs (F := Ideal)) _ _).mono (fun r hr => ⟨fun c => (hr.1 c).2, hr.2⟩) (run_ends m g)

/-- The frame at the machine's words, of the text the two programs share. -/
def FrameBits : Prop :=
  ∀ (m : (ℓ : Loc nD τ sig) → Buf (Elt Bits) ℓ) (g : Dev nD → PrngReg), Cert.Pre_Kernel2 m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frame_text : FrameBits := fun m g _ =>
  (θ_run (defs (F := Bits)) _ _).mono (fun r hr => ⟨fun c => (hr.1 c).2, hr.2⟩) (run_ends (F := Bits) m g)

theorem frame_same : Cert.quiescent_Kernel2 = FrameBits := by sl_kernel_rfl

theorem frame_bits : Cert.quiescent_Kernel2 := frame_same.mpr frame_text

end Cert.Kernel2Ideal.Hand

end
-- ==== Proof.FRef.lean ====
/- The run of the feed-forward's reference. -/
module

public import proofs.«01_k».proof.Defs
public import proofs.«01_k».proof.Proof.Gen.Reference2Ideal
public import proofs.«01_k».proof.Proof.Gen.Pre_sorted_rows
public import Idealize.ShloMosaic.Lib.Claim
public import Idealize.ShloMosaic.Lib.Tactic
public import Idealize.ShloMosaic.Lib.Quiescent

@[expose] public section

set_option maxRecDepth 3328

noncomputable section

namespace Cert.Reference2Ideal.Hand

open Idealize.ShloMosaic Idealize.ShloMosaic.TcCoe Idealize.SL.Sem

theorem frame : Cert.quiescent_Reference2Ideal := by
  intro m g _
  hlo_run
  · exact fun _ => ⟨trivial, trivial, trivial, trivial, trivial, trivial⟩
  · exact sem_eq_zero_of_no_sems (by decide) _

theorem frame_pre : Cert.quiescent_Reference2Ideal_pre_sorted_rows := by
  intro m g _
  exact frame m g trivial

end Cert.Reference2Ideal.Hand

end
-- ==== Proof.FVals.lean ====
/-
  The feed-forward kernel's stored values at an index, over the extended reals: each update adds, at the rows it covers, the
  gated hidden units' products with the second matrix.
-/
module

public import proofs.«01_k».proof.Proof.FBody
public import Idealize.ShloMosaic.Lib.Pointwise

@[expose] public section

set_option maxRecDepth 16384

noncomputable section

namespace Cert.Kernel2Ideal.Hand

open Cert.Kernel2Ideal Cert.Kernel2Ideal.Gen Cert.Hand
open Idealize.ShloMosaic

/-- A hidden unit: the gate's value through the sigmoid-weighted linear unit, times the other's. -/
def unit (x a b : Fin 1024 → EReal) : EReal :=
  (∑ i, x i * a i) * Ideal.logistic (∑ i, x i * a i) * ∑ i, x i * b i

theorem pay7_at (w1 w3 : Vec Ideal S1x1024x512 .f32) (w2 : Vec Ideal S1x512x1024 .f32) (x : Vec Ideal S1024x1024 .bf16) (A : Vec Ideal S1024x1024 .f32) (r k : Fin 1024) :
    k0_pay7 w1 w3 w2 x A (ix2 r k) = A (ix2 r k)
      + ∑ f : Fin 512, unit (fun i => x (ix2 r i)) (fun i => w1 (ix3 0 i f)) (fun i => w3 (ix3 0 i f)) * w2 (ix3 0 f k) := by
  pointwise [k0_pay7, k0_pay4, k0_pay5, k0_pay6, unit]

theorem pay8_at (w1 w3 : Vec Ideal S1x1024x512 .f32) (w2 : Vec Ideal S1x512x1024 .f32) (x : Vec Ideal S256x1024 .bf16) (A : Vec Ideal S256x1024 .f32) (r : Fin 256) (k : Fin 1024) :
    k0_pay8 w1 w3 w2 x A (ix2 r k) = A (ix2 r k)
      + ∑ f : Fin 512, unit (fun i => x (ix2 r i)) (fun i => w1 (ix3 0 i f)) (fun i => w3 (ix3 0 i f)) * w2 (ix3 0 f k) := by
  pointwise [k0_pay8, k0_pay4, k0_pay5, k0_pay6, unit]

theorem pay9_at (w1 w3 : Vec Ideal S1x1024x512 .f32) (w2 : Vec Ideal S1x512x1024 .f32) (x : Vec Ideal S256x1024 .bf16) (A : Vec Ideal S256x1024 .f32) (r : Fin 256) (k : Fin 1024) :
    k0_pay9 w1 w3 w2 x A (ix2 r k) = A (ix2 r k)
      + ∑ f : Fin 512, unit (fun i => x (ix2 r i)) (fun i => w1 (ix3 0 i f)) (fun i => w3 (ix3 0 i f)) * w2 (ix3 0 f k) := by
  pointwise [k0_pay9, k0_pay4, k0_pay5, k0_pay6, unit]

theorem pay10_at (w1 w3 : Vec Ideal S1x1024x512 .f32) (w2 : Vec Ideal S1x512x1024 .f32) (x : Vec Ideal S256x1024 .bf16) (A : Vec Ideal S256x1024 .f32) (r : Fin 256) (k : Fin 1024) :
    k0_pay10 w1 w3 w2 x A (ix2 r k) = A (ix2 r k)
      + ∑ f : Fin 512, unit (fun i => x (ix2 r i)) (fun i => w1 (ix3 0 i f)) (fun i => w3 (ix3 0 i f)) * w2 (ix3 0 f k) := by
  pointwise [k0_pay10, k0_pay4, k0_pay5, k0_pay6, unit]

theorem pay1_at (A : Vec Ideal S1024x1024 .f32) (g : Vec Ideal S1024x1 .f32) (r k : Fin 1024) : k0_pay1 A g (ix2 r k) = A (ix2 r k) * g (ix2 r 0) := by
  pointwise [k0_pay1]

theorem pay2_at (r k : Fin 1024) : k0_pay2 (F := Ideal) (ix2 r k) = (0 : EReal) := by
  pointwise [k0_pay2]

theorem pay3_at (r k : Fin 1024) : k0_pay3 (F := Ideal) (ix2 r k) = (0 : EReal) := by
  pointwise [k0_pay3]

end Cert.Kernel2Ideal.Hand

end
-- ==== Proof.FSums.lean ====
/-
  What a step adds to an entry of the accumulator: at a row one of the live chunks covers, its block of hidden units'
  products with the second matrix.
-/
module

public import proofs.«01_k».proof.Proof.FVals

@[expose] public section

set_option maxRecDepth 16384

noncomputable section

namespace Cert.Kernel2Ideal.Hand

open Cert.Kernel2Ideal Cert.Kernel2Ideal.Gen Cert.Hand
open Idealize.ShloMosaic

/-- The products of one block of hidden units, summed. -/
def partU (w1 w3 : Vec Ideal S1x1024x512 .f32) (w2 : Vec Ideal S1x512x1024 .f32) (x : Fin 1024 → EReal) (k : Fin 1024) : EReal :=
  ∑ f : Fin 512, unit x (fun i => w1 (ix3 0 i f)) (fun i => w3 (ix3 0 i f)) * w2 (ix3 0 f k)

theorem full_word : ∀ k : Fin 5, (isFull (BitVec.ofNat 32 k.val) == 1#1) = decide (k.val = 4) := by decide +kernel
theorem more0_word : ∀ k : Fin 5, (hasMore (BitVec.ofNat 32 k.val) 0#32 == 1#1) = decide (0 < k.val ∧ k.val < 4) := by decide +kernel
theorem more1_word : ∀ k : Fin 5, (hasMore (BitVec.ofNat 32 k.val) 1#32 == 1#1) = decide (1 < k.val ∧ k.val < 4) := by decide +kernel
theorem more2_word : ∀ k : Fin 5, (hasMore (BitVec.ofNat 32 k.val) 2#32 == 1#1) = decide (2 < k.val ∧ k.val < 4) := by decide +kernel

variable (w1 w3 : Vec Ideal S1x1024x512 .f32) (w2 : Vec Ideal S1x512x1024 .f32) (x : Vec Ideal S1024x1024 .bf16) (A : Vec Ideal S1024x1024 .f32)

/-- An update of the rows from `o` on, at one of them. -/
theorem put_in (o : ℕ) (ho : o ≤ 768) (P : Vec Ideal S256x1024 .f32) (p k : Fin 1024) (q : Fin 256) (h : p.val = o + q.val) :
    VecWindow.put A ![o, 0] S256x1024.size P (ix2 p k) = P (ix2 q k) := by
  have hk := k.isLt
  have hq := q.isLt
  have hin : ∀ a : Fin 2, (![o, 0] : Fin 2 → ℕ) a ≤ ((ix2 p k : S1024x1024.Idx) a).val ∧ ((ix2 p k : S1024x1024.Idx) a).val < (![o, 0] : Fin 2 → ℕ) a + S256x1024.size a := by
    intro a
    match a with
    | ⟨0, _⟩ => show o ≤ p.val ∧ p.val < o + 256; omega
    | ⟨1, _⟩ => show 0 ≤ k.val ∧ k.val < 0 + 1024; omega
  refine (dif_pos hin).trans (congrArg P (funext fun a => Fin.ext ?_))
  match a with
  | ⟨0, _⟩ => show p.val - o = q.val; omega
  | ⟨1, _⟩ => show k.val - 0 = k.val; omega

/-- Elsewhere it changes nothing. -/
theorem put_out (o : ℕ) (P : Vec Ideal S256x1024 .f32) (p k : Fin 1024) (h : p.val < o ∨ o + 256 ≤ p.val) :
    VecWindow.put A ![o, 0] S256x1024.size P (ix2 p k) = A (ix2 p k) := by
  refine dif_neg fun hin => ?_
  have h0 : o ≤ p.val ∧ p.val < o + 256 := hin 0
  omega

theorem rows0_at {e : EltTy} (X : Vec Ideal S1024x1024 e) (q : Fin 256) (k p : Fin 1024) (h : p.val = 0 + q.val) : rows0 X (ix2 q k) = X (ix2 p k) := by
  refine congrArg X (funext fun a => Fin.ext ?_)
  match a with
  | ⟨0, _⟩ => show 0 + 1 * q.val = p.val; omega
  | ⟨1, _⟩ => show 0 + 1 * k.val = k.val; omega
theorem rows1_at {e : EltTy} (X : Vec Ideal S1024x1024 e) (q : Fin 256) (k p : Fin 1024) (h : p.val = 256 + q.val) : rows1 X (ix2 q k) = X (ix2 p k) := by
  refine congrArg X (funext fun a => Fin.ext ?_)
  match a with
  | ⟨0, _⟩ => show 256 + 1 * q.val = p.val; omega
  | ⟨1, _⟩ => show 0 + 1 * k.val = k.val; omega
theorem rows2_at {e : EltTy} (X : Vec Ideal S1024x1024 e) (q : Fin 256) (k p : Fin 1024) (h : p.val = 512 + q.val) : rows2 X (ix2 q k) = X (ix2 p k) := by
  refine congrArg X (funext fun a => Fin.ext ?_)
  match a with
  | ⟨0, _⟩ => show 512 + 1 * q.val = p.val; omega
  | ⟨1, _⟩ => show 0 + 1 * k.val = k.val; omega

variable (n : Fin 5) (p k : Fin 1024)

theorem fullV_at : fullV (BitVec.ofNat 32 n.val) w1 w3 w2 x A (ix2 p k)
    = if n.val = 4 then A (ix2 p k) + partU w1 w3 w2 (fun i => x (ix2 p i)) k else A (ix2 p k) := by
  have h := full_word n
  unfold fullV
  by_cases h4 : n.val = 4
  · rw [if_pos h4, if_pos (by simpa [h4] using h), pay7_at]; rfl
  · rw [if_neg h4, if_neg (by simpa [h4] using h)]

theorem chunk0V_at : chunk0V (BitVec.ofNat 32 n.val) w1 w3 w2 x A (ix2 p k)
    = if (0 < n.val ∧ n.val < 4) ∧ p.val < 256 then A (ix2 p k) + partU w1 w3 w2 (fun i => x (ix2 p i)) k else A (ix2 p k) := by
  have h := more0_word n
  unfold chunk0V
  by_cases h4 : 0 < n.val ∧ n.val < 4
  · rw [if_pos (by simpa [h4] using h)]
    by_cases hp : p.val < 256
    · rw [if_pos ⟨h4, hp⟩, put_in A 0 (by decide) _ p k ⟨p.val, hp⟩ (by show p.val = 0 + p.val; omega), pay8_at, rows0_at A ⟨p.val, hp⟩ k p (by show p.val = 0 + p.val; omega)]
      unfold partU
      simp only [fun i => rows0_at x ⟨p.val, hp⟩ i p (by show p.val = 0 + p.val; omega)]
    · rw [if_neg (fun q => hp q.2), put_out A 0 _ p k (by omega)]
  · rw [decide_eq_false h4] at h
    rw [if_neg (by simpa using h)]
    exact (if_neg (fun (q : _ ∧ _) => h4 q.1)).symm

theorem chunk1V_at : chunk1V (BitVec.ofNat 32 n.val) w1 w3 w2 x A (ix2 p k)
    = if (1 < n.val ∧ n.val < 4) ∧ 256 ≤ p.val ∧ p.val < 512 then A (ix2 p k) + partU w1 w3 w2 (fun i => x (ix2 p i)) k else A (ix2 p k) := by
  have h := more1_word n
  unfold chunk1V
  by_cases h4 : 1 < n.val ∧ n.val < 4
  · rw [if_pos (by simpa [h4] using h)]
    by_cases hp : 256 ≤ p.val ∧ p.val < 512
    · have hq : p.val - 256 < 256 := by omega
      have he : p.val = 256 + (⟨p.val - 256, hq⟩ : Fin 256).val := by show p.val = 256 + (p.val - 256); omega
      rw [if_pos ⟨h4, hp⟩, put_in A 256 (by decide) _ p k ⟨p.val - 256, hq⟩ he, pay9_at, rows1_at A ⟨p.val - 256, hq⟩ k p he]
      unfold partU
      simp only [fun i => rows1_at x ⟨p.val - 256, hq⟩ i p he]
    · rw [if_neg (fun q => hp q.2), put_out A 256 _ p k (by omega)]
  · rw [decide_eq_false h4] at h
    rw [if_neg (by simpa using h)]
    exact (if_neg (fun (q : _ ∧ _) => h4 q.1)).symm

theorem chunk2V_at : chunk2V (BitVec.ofNat 32 n.val) w1 w3 w2 x A (ix2 p k)
    = if (2 < n.val ∧ n.val < 4) ∧ 512 ≤ p.val ∧ p.val < 768 then A (ix2 p k) + partU w1 w3 w2 (fun i => x (ix2 p i)) k else A (ix2 p k) := by
  have h := more2_word n
  unfold chunk2V
  by_cases h4 : 2 < n.val ∧ n.val < 4
  · rw [if_pos (by simpa [h4] using h)]
    by_cases hp : 512 ≤ p.val ∧ p.val < 768
    · have hq : p.val - 512 < 256 := by omega
      have he : p.val = 512 + (⟨p.val - 512, hq⟩ : Fin 256).val := by show p.val = 512 + (p.val - 512); omega
      rw [if_pos ⟨h4, hp⟩, put_in A 512 (by decide) _ p k ⟨p.val - 512, hq⟩ he, pay10_at, rows2_at A ⟨p.val - 512, hq⟩ k p he]
      unfold partU
      simp only [fun i => rows2_at x ⟨p.val - 512, hq⟩ i p he]
    · rw [if_neg (fun q => hp q.2), put_out A 512 _ p k (by omega)]
  · rw [decide_eq_false h4] at h
    rw [if_neg (by simpa using h)]
    exact (if_neg (fun (q : _ ∧ _) => h4 q.1)).symm

/-- A step's updates at a row of a live chunk. -/
theorem addV_at (hn : 0 < n.val) (hp : p.val < 256 * n.val) : addV (BitVec.ofNat 32 n.val) w1 w3 w2 x A (ix2 p k)
    = A (ix2 p k) + partU w1 w3 w2 (fun i => x (ix2 p i)) k := by
  have h5 := n.isLt
  unfold addV
  rw [chunk2V_at, chunk1V_at, chunk0V_at, fullV_at]
  by_cases h4 : n.val = 4
  · rw [if_neg (by omega), if_neg (by omega), if_neg (by omega), if_pos h4]
  · rw [if_neg h4]
    by_cases h0 : p.val < 256
    · rw [if_neg (by omega), if_neg (by omega), if_pos (by omega)]
    · by_cases h1 : p.val < 512
      · rw [if_neg (by omega), if_pos (by omega), if_neg (by omega)]
      · rw [if_pos (by omega), if_neg (by omega), if_neg (by omega)]

end Cert.Kernel2Ideal.Hand

end
-- ==== Proof.FBlocks.lean ====
/-
  The feed-forward windows read at an index of the array they come from, and a tile's accumulator at a row of a live chunk.
-/
module

public import proofs.«01_k».proof.Proof.FData
public import proofs.«01_k».proof.Proof.FSums
public import Idealize.ShloMosaic.Lib.Pipeline.ValueKit.Geometry

@[expose] public section

set_option maxRecDepth 16384
set_option synthInstance.maxSize 4096

noncomputable section

namespace Cert.Kernel2Ideal.Hand

open Cert.Kernel2Ideal Cert.Kernel2Ideal.Gen Cert.Hand
open Idealize.ShloMosaic Idealize.ShloMosaic.TcCoe

theorem in0_at : ∀ t : Fin grid0.N, cc0_transform_0 (grid0.coords t) = ![t.val / 7, 0] := by decide +kernel
theorem in1_at : ∀ t : Fin grid0.N, cc0_transform_1 (grid0.coords t) = ![t.val / 7, 0] := by decide +kernel
theorem out5_at : ∀ t : Fin grid0.N, cc0_transform_5 (grid0.coords t) = ![t.val / 7, 0] := by decide +kernel
theorem live_word : ∀ k : Fin 5, 0 < k.val → Scalar.cmpi .sgt (BitVec.ofNat 32 k.val) 0#32 = 1#1 := by decide +kernel

theorem fsel_live (k : Fin 5) (hk : 0 < k.val) (t : Fin grid0.N) : (fsel (BitVec.ofNat 32 k.val) (grid0.coords t)).toNat = t.val % 7 := by
  unfold fsel
  rw [live_word k hk]
  have h := step_at t
  show (BitVec.ofNat 32 (grid0.coords t 1).val).toNat = _
  rw [h, BitVec.toNat_ofNat]
  omega

variable (pf : pre0.Contents (Elt Ideal)) (h : ∀ x : S42.Idx, (pf 0 x : BitVec 32).toNat ≤ 7)
variable (V : (c : Dev nD) → (b : Ref sig .tc) → Buf (Elt Ideal) ((c : Thread nD τ).loc b)) (c : Dev nD) (t : Fin (cfgA pf h).N)

theorem blk0_at (r k : Fin 1024) (n : Fin 43008) (hn : n.val = 1024 * (t.val / 7) + r.val) :
    blk0 pf h V c t (ix2 r k) = V c main_arg1 (ix2 n k) := by
  unfold blk0
  refine congrArg (V c main_arg1) (funext fun a => Fin.ext ?_)
  refine (((cfgA pf h).win 0).rect_emb_val t (ix2 r k) a).trans ?_
  match a with
  | ⟨0, _⟩ =>
    show cc0_transform_0 (grid0.coords t) 0 * 1024 + r.val = n.val
    rw [in0_at]
    show t.val / 7 * 1024 + r.val = n.val
    omega
  | ⟨1, _⟩ =>
    show cc0_transform_0 (grid0.coords t) 1 * 1024 + k.val = k.val
    rw [in0_at]
    show 0 * 1024 + k.val = k.val
    omega

theorem blk1_at (r : Fin 1024) (n : Fin 43008) (hn : n.val = 1024 * (t.val / 7) + r.val) :
    blk1 pf h V c t (ix2 r 0) = V c main_arg2 (ix2 n 0) := by
  unfold blk1
  refine congrArg (V c main_arg2) (funext fun a => Fin.ext ?_)
  refine (((cfgA pf h).win 1).rect_emb_val t (ix2 r 0) a).trans ?_
  match a with
  | ⟨0, _⟩ =>
    show cc0_transform_1 (grid0.coords t) 0 * 1024 + r.val = n.val
    rw [in1_at]
    show t.val / 7 * 1024 + r.val = n.val
    omega
  | ⟨1, _⟩ =>
    show cc0_transform_1 (grid0.coords t) 1 * 1 + 0 = 0
    rw [in1_at]
    rfl

section
variable (e : Fin 8) (he : (pf 0 (ixT (tileN t.val)) : BitVec 32) = BitVec.ofNat 32 e.val)
variable (q : Fin 5) (hq : 0 < q.val) (hc : (pf 1 (ixT (tileN t.val)) : BitVec 32) = BitVec.ofNat 32 q.val)

include he in
theorem expert_word : (pf 0 (ixT (tile (grid0.coords t))) : BitVec 32).toNat = e.val := by
  have h1 := e.isLt
  have h2 : (pf 0 (ixT (tile (grid0.coords t))) : BitVec 32) = BitVec.ofNat 32 e.val :=
    (congrArg (fun j => (pf 0 (ixT j) : BitVec 32)) (tile_at t)).trans he
  exact (congrArg BitVec.toNat h2).trans ((BitVec.toNat_ofNat ..).trans (Nat.mod_eq_of_lt (by omega)))

include hq hc in
theorem step_word : (fsel (pf 1 (ixT (tile (grid0.coords t)))) (grid0.coords t)).toNat = t.val % 7 := by
  have h2 : (pf 1 (ixT (tile (grid0.coords t))) : BitVec 32) = BitVec.ofNat 32 q.val :=
    (congrArg (fun j => (pf 1 (ixT j) : BitVec 32)) (tile_at t)).trans hc
  exact (congrArg (fun w : BitVec 32 => (fsel w (grid0.coords t)).toNat) h2).trans (fsel_live q hq t)

include he hq hc in
theorem blk2_at (i : Fin 1024) (f : Fin 512) (y : Fin 3584) (hy : y.val = 512 * (t.val % 7) + f.val) :
    blk2 pf h V c t (ix3 0 i f) = V c main_arg3 (ix3 e i y) := by
  have e1 := expert_word pf h t e he
  have e2 := step_word pf h t q hq hc
  unfold blk2
  refine congrArg (V c main_arg3) (funext fun a => Fin.ext ?_)
  refine (((cfgA pf h).win 2).rect_emb_val t (ix3 0 i f) a).trans ?_
  match a with
  | ⟨0, _⟩ =>
    show cc0_transform_2 k0_off1_inb numel1_S1 pf (grid0.coords t) 0 * 1 + 0 = e.val
    rw [tr2_eq]
    exact (Nat.mul_one _).trans e1
  | ⟨1, _⟩ =>
    show cc0_transform_2 k0_off1_inb numel1_S1 pf (grid0.coords t) 1 * 1024 + i.val = i.val
    rw [tr2_eq]
    show 0 * 1024 + i.val = i.val
    omega
  | ⟨2, _⟩ =>
    show cc0_transform_2 k0_off1_inb numel1_S1 pf (grid0.coords t) 2 * 512 + f.val = y.val
    rw [tr2_eq]
    show (fsel (pf 1 (ixT (tile (grid0.coords t)))) (grid0.coords t)).toNat * 512 + f.val = y.val
    rw [e2]
    omega

include he hq hc in
theorem blk3_at (i : Fin 1024) (f : Fin 512) (y : Fin 3584) (hy : y.val = 512 * (t.val % 7) + f.val) :
    blk3 pf h V c t (ix3 0 i f) = V c main_arg4 (ix3 e i y) := by
  have e1 := expert_word pf h t e he
  have e2 := step_word pf h t q hq hc
  unfold blk3
  refine congrArg (V c main_arg4) (funext fun a => Fin.ext ?_)
  refine (((cfgA pf h).win 3).rect_emb_val t (ix3 0 i f) a).trans ?_
  match a with
  | ⟨0, _⟩ =>
    show cc0_transform_3 k0_off1_inb numel1_S1 pf (grid0.coords t) 0 * 1 + 0 = e.val
    rw [tr3_eq]
    exact (Nat.mul_one _).trans e1
  | ⟨1, _⟩ =>
    show cc0_transform_3 k0_off1_inb numel1_S1 pf (grid0.coords t) 1 * 1024 + i.val = i.val
    rw [tr3_eq]
    show 0 * 1024 + i.val = i.val
    omega
  | ⟨2, _⟩ =>
    show cc0_transform_3 k0_off1_inb numel1_S1 pf (grid0.coords t) 2 * 512 + f.val = y.val
    rw [tr3_eq]
    show (fsel (pf 1 (ixT (tile (grid0.coords t)))) (grid0.coords t)).toNat * 512 + f.val = y.val
    rw [e2]
    omega

include he hq hc in
theorem blk4_at (f : Fin 512) (k : Fin 1024) (y : Fin 3584) (hy : y.val = 512 * (t.val % 7) + f.val) :
    blk4 pf h V c t (ix3 0 f k) = V c main_arg5 (ix3 e y k) := by
  have e1 := expert_word pf h t e he
  have e2 := step_word pf h t q hq hc
  unfold blk4
  refine congrArg (V c main_arg5) (funext fun a => Fin.ext ?_)
  refine (((cfgA pf h).win 4).rect_emb_val t (ix3 0 f k) a).trans ?_
  match a with
  | ⟨0, _⟩ =>
    show cc0_transform_4 k0_off1_inb numel1_S1 pf (grid0.coords t) 0 * 1 + 0 = e.val
    rw [tr4_eq]
    exact (Nat.mul_one _).trans e1
  | ⟨1, _⟩ =>
    show cc0_transform_4 k0_off1_inb numel1_S1 pf (grid0.coords t) 1 * 512 + f.val = y.val
    rw [tr4_eq]
    show (fsel (pf 1 (ixT (tile (grid0.coords t)))) (grid0.coords t)).toNat * 512 + f.val = y.val
    rw [e2]
    omega
  | ⟨2, _⟩ =>
    show cc0_transform_4 k0_off1_inb numel1_S1 pf (grid0.coords t) 2 * 1024 + k.val = k.val
    rw [tr4_eq]
    show 0 * 1024 + k.val = k.val
    omega

end

theorem emb5 (r k : Fin 1024) (n : Fin 43008) (hn : n.val = 1024 * (t.val / 7) + r.val) :
    (((cfgA pf h).win 5).blk t).view.emb (ix2 r k) = (ix2 n k : S43008x1024.Idx) := by
  refine funext fun a => Fin.ext ?_
  refine (((cfgA pf h).win 5).rect_emb_val t (ix2 r k) a).trans ?_
  match a with
  | ⟨0, _⟩ =>
    show cc0_transform_5 (grid0.coords t) 0 * 1024 + r.val = n.val
    rw [out5_at]
    show t.val / 7 * 1024 + r.val = n.val
    omega
  | ⟨1, _⟩ =>
    show cc0_transform_5 (grid0.coords t) 1 * 1024 + k.val = k.val
    rw [out5_at]
    show 0 * 1024 + k.val = k.val
    omega

/-! ## The accumulator -/

/-- Hidden unit `y` of expert `e` at row `n`, times its weight in the second matrix; zero past the last unit. -/
def termE (X : Vec Ideal S43008x1024 .bf16) (W1 W3 : Vec Ideal S8x1024x3584 .f32) (W2 : Vec Ideal S8x3584x1024 .f32) (e : Fin 8) (n : Fin 43008) (k : Fin 1024) (y : ℕ) : EReal :=
  if hy : y < 3584 then unit (fun i => X (ix2 n i)) (fun i => W1 (ix3 e i ⟨y, hy⟩)) (fun i => W3 (ix3 e i ⟨y, hy⟩)) * W2 (ix3 e ⟨y, hy⟩ k) else 0

variable (X : Vec Ideal S43008x1024 .bf16) (W1 W3 : Vec Ideal S8x1024x3584 .f32) (W2 : Vec Ideal S8x3584x1024 .f32)
  (h1 : V c main_arg1 = X) (h3 : V c main_arg3 = W1) (h4 : V c main_arg4 = W3) (h5 : V c main_arg5 = W2)

include h1 h3 h4 h5 in
/-- After `s` steps the accumulator of a live tile holds the first `512 s` units' sum. -/
theorem accF_at (j : Fin 42) (e : Fin 8) (he : (pf 0 (ixT j) : BitVec 32) = BitVec.ofNat 32 e.val) (q : Fin 5) (hq : 0 < q.val)
    (hc : (pf 1 (ixT j) : BitVec 32) = BitVec.ofNat 32 q.val) (p k : Fin 1024) (hp : p.val < 256 * q.val) (n : Fin 43008) (hn : n.val = 1024 * j.val + p.val) (s : ℕ) (hs : s ≤ 7) :
    accF pf h V c j.val s (ix2 p k) = ∑ y ∈ Finset.range (512 * s), termE X W1 W3 W2 e n k y := by
  have hj := j.isLt
  induction s with
  | zero => exact (pay3_at p k).trans (Finset.sum_range_zero _).symm
  | succ s ih =>
    have hv : (ptOf pf h (7 * j.val + s)).val = 7 * j.val + s := Nat.mod_eq_of_lt (by omega)
    have htl : tileN (ptOf pf h (7 * j.val + s)).val = j := Fin.ext (by show (ptOf pf h (7 * j.val + s)).val / 7 % 42 = j.val; rw [hv]; omega)
    have hnc : ncN pf (7 * j.val + s) = BitVec.ofNat 32 q.val :=
      (congrArg (fun i => (pf 1 (ixT i) : BitVec 32)) (Fin.ext (by show (7 * j.val + s) / 7 % 42 = j.val; omega))).trans hc
    have he' : (pf 0 (ixT (tileN (ptOf pf h (7 * j.val + s)).val)) : BitVec 32) = BitVec.ofNat 32 e.val := (congrArg (fun i => (pf 0 (ixT i) : BitVec 32)) htl).trans he
    have hc' : (pf 1 (ixT (tileN (ptOf pf h (7 * j.val + s)).val)) : BitVec 32) = BitVec.ofNat 32 q.val := (congrArg (fun i => (pf 1 (ixT i) : BitVec 32)) htl).trans hc
    show addV (ncN pf (7 * j.val + s)) _ _ _ _ (accF pf h V c j.val s) (ix2 p k) = _
    rw [hnc, addV_at _ _ _ _ _ q p k hq hp, ih (by omega), Nat.mul_succ, Finset.sum_range_add]
    congr 1
    rw [Finset.sum_range]
    unfold partU
    refine Finset.sum_congr rfl fun f _ => ?_
    have hf := f.isLt
    have hy : 512 * s + f.val < 3584 := by omega
    have hy' : (⟨512 * s + f.val, hy⟩ : Fin 3584).val = 512 * ((ptOf pf h (7 * j.val + s)).val % 7) + f.val := by
      rw [hv]; show 512 * s + f.val = _; omega
    rw [termE, dif_pos hy]
    simp only [fun i => blk0_at pf h V c (ptOf pf h (7 * j.val + s)) p i n (by rw [hv]; omega),
      fun i => blk2_at pf h V c (ptOf pf h (7 * j.val + s)) e he' q hq hc' i f _ hy',
      fun i => blk3_at pf h V c (ptOf pf h (7 * j.val + s)) e he' q hq hc' i f _ hy',
      blk4_at pf h V c (ptOf pf h (7 * j.val + s)) e he' q hq hc' f k _ hy', h1, h3, h4, h5]

end Cert.Kernel2Ideal.Hand

end
-- ==== Proof.FPlan.lean ====
/-
  The feed-forward call's plan in natural numbers: where the experts' segments lie, and, for a row an expert holds, the
  expert and the chunk count of the row's tile.
-/
module

public import proofs.«01_k».proof.Proof.FHost
public import Idealize.ShloMosaic.Lib.Routing.Words
public import Idealize.ShloMosaic.Lib.Routing.OpsSet
public import Idealize.ShloMosaic.Lib.PlanTiles.Words
public import Idealize.ShloMosaic.Lib.PlanTiles.Rows

@[expose] public section

set_option maxRecDepth 16384

noncomputable section

namespace Cert.Kernel2Ideal.Hand

open Cert.Kernel2Ideal Cert.Kernel2Ideal.Gen Cert.Hand
open Idealize.ShloMosaic Idealize.ShloMosaic.ValueIdx Idealize.ShloMosaic.WordCmp
open Idealize.ShloMosaic.Routing (pyDiv pyDiv_ap divsi_word remsi_word shape0 shape1 shape2 addi_ap subi_ap muli_ap iota1_ap bc0 bcCol bcRows bcCols slice1 reduce_count cumsum1
  gather_take1 ofNat32_sub msb_ofNat32 ofNat32_ne_zero slt_ofNat32 umod_ofNat32 udiv_ofNat32)
open Idealize.ShloMosaic.PlanTiles (minsi_word toInt_neg_ofNat32 msb_neg_ofNat32 neg_ofNat32_ne_zero)

/-! ## Natural numbers -/

/-- Expert `e`'s tiles. -/
def tilesOf (n : ℕ → ℕ) (e : ℕ) : ℕ := (n e + 1023) / 1024

/-- The tiles before expert `e`'s. -/
def before (n : ℕ → ℕ) : ℕ → ℕ
  | 0 => 0
  | e + 1 => before n e + tilesOf n e

/-- Row `r` is one of expert `e`'s. -/
def holdsRow (n : ℕ → ℕ) (e r : ℕ) : Prop := 1024 * before n e ≤ r ∧ r < 1024 * before n e + n e

theorem before_mono (n : ℕ → ℕ) (e d : ℕ) : before n e ≤ before n (e + d) := by
  induction d with
  | zero => exact le_refl _
  | succ d ih => exact ih.trans (Nat.le_add_right _ _)

theorem before_le_of_le (n : ℕ → ℕ) {e f : ℕ} (h : e ≤ f) : before n e ≤ before n f := by
  obtain ⟨d, rfl⟩ := Nat.exists_eq_add_of_le h
  exact before_mono n e d

theorem segs_sum (n : ℕ → ℕ) (e : ℕ) : ((List.range e).map fun k => tilesOf n k * 1024).sum = 1024 * before n e := by
  induction e with
  | zero => rfl
  | succ e ih =>
    rw [List.range_succ, List.map_append, List.sum_append, ih]
    show _ + (tilesOf n e * 1024 + 0) = 1024 * (before n e + tilesOf n e)
    omega

/-- The sum of the first counts. -/
def total (n : ℕ → ℕ) : ℕ → ℕ
  | 0 => 0
  | e + 1 => total n e + n e

theorem before_le_total (n : ℕ → ℕ) (e : ℕ) : 1024 * before n e ≤ total n e + 1023 * e := by
  induction e with
  | zero => exact le_refl _
  | succ e ih =>
    show 1024 * (before n e + (n e + 1023) / 1024) ≤ total n e + n e + 1023 * (e + 1)
    omega

theorem tile_of_row (n : ℕ → ℕ) {e t p : ℕ} (hp : p < 1024) (h : holdsRow n e (1024 * t + p)) : before n e ≤ t ∧ t < before n (e + 1) := by
  obtain ⟨h1, h2⟩ := h
  show before n e ≤ t ∧ t < before n e + (n e + 1023) / 1024
  omega

theorem row_unique (n : ℕ → ℕ) {e f r : ℕ} (he : holdsRow n e r) (hf : holdsRow n f r) : e = f := by
  have a := tile_of_row n (e := e) (t := r / 1024) (p := r % 1024) (Nat.mod_lt _ (by decide)) (by rwa [Nat.div_add_mod])
  have b := tile_of_row n (e := f) (t := r / 1024) (p := r % 1024) (Nat.mod_lt _ (by decide)) (by rwa [Nat.div_add_mod])
  rcases Nat.lt_trichotomy e f with h | h | h
  · have := before_le_of_le n (e := e + 1) (f := f) h
    omega
  · exact h
  · have := before_le_of_le n (e := f + 1) (f := e) h
    omega

theorem count_past (n : ℕ → ℕ) {e t : ℕ} (he : e < 8) (h1 : before n e ≤ t) (h2 : t < before n (e + 1)) :
    Nat.count (fun k => 1024 * before n (k + 1) ≤ 1024 * t) 8 = e := by
  obtain ⟨d, hd⟩ := Nat.exists_eq_add_of_le (Nat.le_of_lt he)
  rw [hd, Nat.count_add]
  have a : Nat.count (fun k => 1024 * before n (k + 1) ≤ 1024 * t) e = e := by
    rw [Nat.count_iff_forall]
    intro k hk
    have := before_le_of_le n (e := k + 1) (f := e) hk
    omega
  have b : Nat.count (fun k => 1024 * before n (e + k + 1) ≤ 1024 * t) d = 0 := by
    rw [Nat.count_iff_forall_not]
    intro k hk
    have := before_le_of_le n (e := e + 1) (f := e + k + 1) (by omega)
    omega
  rw [a, b, Nat.add_zero]

/-! ## Words -/

theorem divsi_neg (u : ArithUnit) {a m : ℕ} (h : 0 < a) (ha : a < 2 ^ 31) (h0 : 0 < m) (hm : m < 2 ^ 31) :
    IntOp.divsi u (-BitVec.ofNat 32 a) (BitVec.ofNat 32 m) = -BitVec.ofNat 32 (a / m) := by
  have hc : ¬ IntOp.SDivCorner (-BitVec.ofNat 32 a) (BitVec.ofNat 32 m) := by
    rintro (h | ⟨_, h⟩)
    · exact ofNat32_ne_zero h0 (by omega) h
    · exact Routing.ofNat32_ne_neg_one hm h
  unfold IntOp.divsi
  rw [if_neg hc, BitVec.sdiv_eq, msb_ofNat32 hm, msb_neg_ofNat32 h (by omega)]
  simp only [BitVec.neg_neg]
  exact congrArg (fun v : BitVec 32 => -v) (udiv_ofNat32 (by omega) (by omega))

theorem remsi_neg (u : ArithUnit) {a m : ℕ} (h : 0 < a) (ha : a < 2 ^ 31) (h0 : 0 < m) (hm : m < 2 ^ 31) :
    IntOp.remsi u (-BitVec.ofNat 32 a) (BitVec.ofNat 32 m) = -BitVec.ofNat 32 (a % m) := by
  have hc : ¬ IntOp.SDivCorner (-BitVec.ofNat 32 a) (BitVec.ofNat 32 m) := by
    rintro (h | ⟨_, h⟩)
    · exact ofNat32_ne_zero h0 (by omega) h
    · exact Routing.ofNat32_ne_neg_one hm h
  unfold IntOp.remsi
  rw [if_neg hc, BitVec.srem_eq, msb_ofNat32 hm, msb_neg_ofNat32 h (by omega)]
  simp only [BitVec.neg_neg]
  exact congrArg (fun v : BitVec 32 => -v) (umod_ofNat32 (by omega) (by omega))

/-- A negative word over 256, rounded down, negated: the number over 256, rounded up. -/
theorem neg_over256 (X : Vec Ideal S42 .i32) (i : S42.Idx) {a : ℕ} (hx : X i = -BitVec.ofNat 32 a) (h : 0 < a) (ha : a < 2 ^ 31) :
    negi (over256 (F := Ideal) X) i = BitVec.ofNat 32 ((a + 255) / 256) := by
  have e : over256 (F := Ideal) X i = Scalar.select (IntOp.andi (IntOp.cmpi .ne (if X i = 0 then (0 : BitVec 32) else if (X i).msb then -1 else 1)
        (if (256#32 : BitVec 32) = 0 then (0 : BitVec 32) else if (256#32 : BitVec 32).msb then -1 else 1))
      (IntOp.cmpi .ne (IntOp.remsi .host (X i) (BitVec.ofNat 32 256)) 0#32)) (IntOp.divsi .host (X i) (BitVec.ofNat 32 256) - 1#32) (IntOp.divsi .host (X i) (BitVec.ofNat 32 256)) := rfl
  show -(over256 (F := Ideal) X i) = _
  have e0 : (if (256#32 : BitVec 32) = 0 then (0 : BitVec 32) else if (256#32 : BitVec 32).msb then -1 else 1) = 1#32 := by decide
  rw [e, e0, hx, remsi_neg .host h ha (by decide) (by decide), divsi_neg .host h ha (by decide) (by decide), msb_neg_ofNat32 h (by omega),
    if_neg (neg_ofNat32_ne_zero h (by omega)), if_pos rfl]
  by_cases hz : a % 256 = 0
  · rw [hz]
    have e1 : IntOp.andi (IntOp.cmpi .ne (-1 : BitVec 32) 1#32) (IntOp.cmpi .ne (-BitVec.ofNat 32 0) 0#32) = 0#1 := by decide
    rw [e1]
    show - -BitVec.ofNat 32 (a / 256) = _
    rw [BitVec.neg_neg]
    congr 1
    omega
  · have e2 : IntOp.cmpi .ne (-BitVec.ofNat 32 (a % 256)) 0#32 = 1#1 := by
      rw [cmpi_ne_eq]
      exact (ofBool_decide_eq_one_iff _).2 (neg_ofNat32_ne_zero (by omega) (by omega))
    have e1 : IntOp.andi (IntOp.cmpi .ne (-1 : BitVec 32) 1#32) 1#1 = 1#1 := by decide
    rw [e2, e1]
    show -(-BitVec.ofNat 32 (a / 256) - 1#32) = _
    have e3 : (a + 255) / 256 = a / 256 + 1 := by omega
    rw [e3, ← BitVec.ofNat_add_ofNat]
    have : (1#32 : BitVec 32) = BitVec.ofNat 32 1 := rfl
    rw [this]
    generalize BitVec.ofNat 32 (a / 256) = q
    generalize BitVec.ofNat 32 1 = o
    rw [BitVec.sub_eq_add_neg, BitVec.neg_add, BitVec.neg_neg, BitVec.sub_eq_add_neg, BitVec.neg_neg]

/-! ## The plan -/

/-- The counts are those numbers, and they are not too many. -/
structure Counts (C : Vec Ideal S8 .i32) (n : ℕ → ℕ) : Prop where
  word : ∀ e : Fin 8, (C (ix1 e) : BitVec 32) = BitVec.ofNat 32 (n e.val)
  sum : total n 8 ≤ 33280

section

variable {C : Vec Ideal S8 .i32} {n : ℕ → ℕ} (hC : Counts C n)

include hC

theorem n_le (e : ℕ) (he : e < 8) : n e ≤ 33280 := by
  have h := hC.sum
  have h8 : total n 8 = ((((((((0 + n 0) + n 1) + n 2) + n 3) + n 4) + n 5) + n 6) + n 7) := rfl
  interval_cases e <;> omega

theorem before_le (e : ℕ) (he : e ≤ 8) : before n e ≤ 40 := by
  have h1 := before_le_of_le n he
  have h2 := before_le_total n 8
  have h3 := hC.sum
  omega

theorem seg_at (e : Fin 8) : (segV (F := Ideal) C (ix1 e) : BitVec 32) = BitVec.ofNat 32 (tilesOf n e.val * 1024) := by
  have hn := n_le hC e.val e.isLt
  have hr : (raisedV (F := Ideal) C (ix1 e) : BitVec 32) = BitVec.ofNat 32 (n e.val + 1023) := by
    show (C (ix1 e) : BitVec 32) + BitVec.ofNat 32 1024 - BitVec.ofNat 32 1 = _
    rw [hC.word, BitVec.ofNat_add_ofNat, ofNat32_sub (by omega)]
    rfl
  have hd := pyDiv_ap (s := S8) bcast_S_S8 (raisedV (F := Ideal) C) (constantI S_ 32 1024#32) (ix1 e) (a := n e.val + 1023) (b := 1024) hr rfl
    (by omega) (by decide) (by decide)
  show (over1024 (F := Ideal) (raisedV (F := Ideal) C) (ix1 e) : BitVec 32) * BitVec.ofNat 32 1024 = _
  have hd' : (over1024 (F := Ideal) (raisedV (F := Ideal) C) (ix1 e) : BitVec 32) = BitVec.ofNat 32 ((n e.val + 1023) / 1024) := hd
  rw [hd', BitVec.ofNat_mul_ofNat]
  rfl

theorem end_at (e : Fin 8) : (endV (F := Ideal) C (ix1 e) : BitVec 32) = BitVec.ofNat 32 (1024 * before n (e.val + 1)) := by
  rw [← segs_sum]
  exact cumsum1 (N := 8) (Nm1 := 7) rfl (segV (F := Ideal) C) (fun k => tilesOf n k * 1024) (seg_at hC) _ rfl reduceWindows_S8_S8_w8s1p7_0 h_S_ e

theorem off_at (e : Fin 8) : (offV (F := Ideal) C (ix1 e) : BitVec 32) = BitVec.ofNat 32 (1024 * before n e.val) := by
  show (endV (F := Ideal) C (ix1 e) : BitVec 32) - (segV (F := Ideal) C (ix1 e) : BitVec 32) = _
  have e1 : before n (e.val + 1) = before n e.val + tilesOf n e.val := rfl
  rw [end_at hC, seg_at hC, ofNat32_sub (by omega)]
  congr 1
  omega

theorem start_at (t : Fin 42) : (startV (F := Ideal) (ix1 t) : BitVec 32) = BitVec.ofNat 32 (1024 * t.val) := by
  show BitVec.ofNat 32 t.val * BitVec.ofNat 32 1024 = _
  rw [BitVec.ofNat_mul_ofNat, Nat.mul_comm]

theorem past_at (t : Fin 42) {e : ℕ} (he : e < 8) (h1 : before n e ≤ t.val) (h2 : t.val < before n (e + 1)) :
    (pastV (F := Ideal) C (ix1 t) : BitVec 32) = BitVec.ofNat 32 e := by
  refine (reduce_count (n := 42) (m := 8) (by decide) _ natLt_1_32 reducesTo_S42x8_S42_d1 h_S_ t (fun k => 1024 * before n (k + 1) ≤ 1024 * t.val) (fun q => ?_)).trans
    (congrArg (BitVec.ofNat 32) (count_past n he h1 h2))
  show IntOp.cmpi .sge _ _ = 1#1 ↔ _
  have ht := t.isLt
  have hb := before_le hC (q.val + 1) q.isLt
  rw [bcRows (n := 42) (m := 8) bcast_S42_S42x1_0 bcast_S42x1_S42x8_0_1, bcCols (n := 42) (m := 8) bcast_S8_S1x8_1 bcast_S1x8_S42x8_0_1, start_at hC, end_at hC,
    cmpi_sge_ofNat (by omega) (by omega), ofBool_decide_eq_one_iff]

theorem expert_at (t : Fin 42) {e : ℕ} (he : e < 8) (h1 : before n e ≤ t.val) (h2 : t.val < before n (e + 1)) :
    (expertV (F := Ideal) C (ix1 t) : BitVec 32) = BitVec.ofNat 32 e := by
  show IntOp.minsi (pastV (F := Ideal) C (ix1 t) : BitVec 32) (BitVec.ofNat 32 7) = _
  rw [past_at hC t he h1 h2, minsi_word (by omega) (by decide)]
  congr 1
  omega

theorem negLeft_at (t : Fin 42) {e : ℕ} (he : e < 8) (h1 : before n e ≤ t.val) (h2 : t.val < before n (e + 1)) :
    (negLeftV (F := Ideal) C (ix1 t) : BitVec 32) = -BitVec.ofNat 32 (1024 * before n e + n e - 1024 * t.val) := by
  have hg := gather_take1 (N := 8) (n := 42) gather_S8_S42x1_S42_n_0_n_n_0_1_1 rfl rfl rfl rfl (addi (offV (F := Ideal) C) C : Vec Ideal S8 .i32)
    (broadcastInDim S42x1 ![0] bcast_S42_S42x1_0 (select (cmpi .slt (expertV (F := Ideal) C) (all42 (F := Ideal) 0#32)) (addi (expertV (F := Ideal) C) (all42 (F := Ideal) 8#32)) (expertV (F := Ideal) C)))
    t ⟨e, he⟩ (by
      rw [bcCol (n := 42) bcast_S42_S42x1_0]
      show Scalar.select (IntOp.cmpi .slt (expertV (F := Ideal) C (ix1 t) : BitVec 32) (BitVec.ofNat 32 0)) _ _ = _
      rw [expert_at hC t he h1 h2, cmpi_slt_ofNat (by omega) (by decide), select_decide, if_neg (by omega)]) (by decide)
  show -((Host.gather gather_S8_S42x1_S42_n_0_n_n_0_1_1 _ _ (ix1 t) : BitVec 32) - (startV (F := Ideal) (ix1 t) : BitVec 32)) = _
  rw [hg, start_at hC]
  show -((offV (F := Ideal) C (ix1 (⟨e, he⟩ : Fin 8)) : BitVec 32) + (C (ix1 (⟨e, he⟩ : Fin 8)) : BitVec 32) - _) = _
  have hq : before n (e + 1) = before n e + (n e + 1023) / 1024 := rfl
  rw [off_at hC, hC.word, BitVec.ofNat_add_ofNat, ofNat32_sub (by show 1024 * t.val ≤ 1024 * before n e + n e; omega)]

theorem chunks_at (t : Fin 42) {e : ℕ} (he : e < 8) (h1 : before n e ≤ t.val) (h2 : t.val < before n (e + 1)) :
    (chunksV (F := Ideal) C (ix1 t) : BitVec 32) = BitVec.ofNat 32 (min 4 ((1024 * before n e + n e - 1024 * t.val + 255) / 256)) := by
  have hq : before n (e + 1) = before n e + (n e + 1023) / 1024 := rfl
  have h8 := before_le_of_le n (e := e + 1) (f := 8) he
  have hb := before_le hC 8 (le_refl 8)
  have hn := n_le hC e he
  have ht := t.isLt
  have htot : (totalV (F := Ideal) C ValueIdx.ix0 : BitVec 32) = BitVec.ofNat 32 (1024 * before n 8) := by
    unfold totalV
    refine (shapeCast_apply _ _ _ (ix1 (0 : Fin 1)) rfl).trans ?_
    exact (slice1 (m := 8) (n := 1) 7 (endV (F := Ideal) C) slices_S8_S1_7 0 (by decide)).trans (end_at hC 7)
  show Scalar.select (IntOp.cmpi .slt (startV (F := Ideal) (ix1 t) : BitVec 32) (broadcastInDim S42 ![] bcast_S_S42 (totalV (F := Ideal) C) (ix1 t)))
    (IntOp.minsi (BitVec.ofNat 32 4) (IntOp.maxsi 0#32 (negi (over256 (F := Ideal) (negLeftV (F := Ideal) C)) (ix1 t)))) _ = _
  rw [bc0 bcast_S_S42, htot, start_at hC, cmpi_slt_ofNat (by omega) (by omega), select_decide, if_pos (by omega),
    neg_over256 _ (ix1 t) (negLeft_at hC t he h1 h2) (by omega) (by omega), Routing.maxsi_zero_left (by omega), minsi_word (by decide) (by omega), Nat.min_comm]

/-- The tile of a row an expert holds: its expert, and a number of chunks that reaches the row. -/
theorem row_plan (t : Fin 42) {e p : ℕ} (he : e < 8) (hp : p < 1024) (h : holdsRow n e (1024 * t.val + p)) :
    (expertV (F := Ideal) C (ix1 t) : BitVec 32) = BitVec.ofNat 32 e
      ∧ ∃ k : ℕ, 0 < k ∧ k ≤ 4 ∧ p < 256 * k ∧ (chunksV (F := Ideal) C (ix1 t) : BitVec 32) = BitVec.ofNat 32 k := by
  obtain ⟨h1, h2⟩ := tile_of_row n hp h
  refine ⟨expert_at hC t he h1 h2, _, ?_, Nat.min_le_left _ _, ?_, chunks_at hC t he h1 h2⟩
  · obtain ⟨a, b⟩ := h
    omega
  · obtain ⟨a, b⟩ := h
    omega

end

end Cert.Kernel2Ideal.Hand

end
-- ==== Proof.FPreVals.lean ====
/-
  The feed-forward call's precondition at a row: an expert holds it, or its gate is zero.
-/
module

public import proofs.«01_k».proof.Proof.Gen.Pre_sorted_rows
public import Idealize.ShloMosaic.Lib.Pointwise
public import Idealize.ShloMosaic.Lib.Routing.OpsOrder

@[expose] public section

set_option maxRecDepth 16384

noncomputable section

namespace Cert.Pre_sorted_rows.Hand

open Cert.Pre_sorted_rows Cert.Pre_sorted_rows.Gen
open Idealize.ShloMosaic

/-- Whether each expert holds each row. -/
def heldV (O C : IVec S8 32) : IVec S43008x8 1 :=
  andi (cmpi .sge (broadcastInDim S43008x8 ![0, 1] bcast_S43008x1_S43008x8_0_1 (broadcastInDim S43008x1 ![0] bcast_S43008_S43008x1_0 (iotaInDim S43008 32 0)))
      (broadcastInDim S43008x8 ![0, 1] bcast_S1x8_S43008x8_0_1 (broadcastInDim S1x8 ![1] bcast_S8_S1x8_1 O)))
    (cmpi .slt (broadcastInDim S43008x8 ![0, 1] bcast_S43008x1_S43008x8_0_1 (broadcastInDim S43008x1 ![0] bcast_S43008_S43008x1_0 (iotaInDim S43008 32 0)))
      (broadcastInDim S43008x8 ![0, 1] bcast_S1x8_S43008x8_0_1 (addi (broadcastInDim S1x8 ![1] bcast_S8_S1x8_1 O) (broadcastInDim S1x8 ![1] bcast_S8_S1x8_1 C))))

/-- Whether some expert does, or the row's gate is zero. -/
def condV (O C : IVec S8 32) (G : FVec Ideal S43008x1 .f32) : IVec S43008 1 :=
  ori (Host.reduce IntOp.ori (heldV O C) (constantI S_ 1 0#1) reducesTo_S43008x8_S43008_d1 h_S_)
    (cmpf (F := Ideal) .oeq (shapeCast S43008 G shapeCasts_S43008x1_S43008) (broadcastInDim S43008 ![] bcast_S_S43008 (constant (F := Ideal) S_ .f32 0x00000000#32)))

theorem heldV_at (O C : IVec S8 32) (r : Fin 43008) (e : Fin 8) :
    heldV O C (ix2 r e) = IntOp.andi (IntOp.cmpi .sge (BitVec.ofNat 32 r.val) (O (ix1 e))) (IntOp.cmpi .slt (BitVec.ofNat 32 r.val) (IntOp.addi (O (ix1 e)) (C (ix1 e)))) := by
  pointwise [heldV]

theorem any_at (H : IVec S43008x8 1) (r : Fin 43008) :
    (Host.reduce IntOp.ori H (constantI S_ 1 0#1) reducesTo_S43008x8_S43008_d1 h_S_ : IVec S43008 1) (ix1 r)
      = Finset.fold IntOp.ori (0#1) (fun e : Fin 8 => H (ix2 r e)) Finset.univ := by
  pointwise

theorem zero_at (G : FVec Ideal S43008x1 .f32) (r : Fin 43008)
    (h : (cmpf (F := Ideal) .oeq (shapeCast S43008 G shapeCasts_S43008x1_S43008) (broadcastInDim S43008 ![] bcast_S_S43008 (constant (F := Ideal) S_ .f32 0x00000000#32)) : IVec S43008 1) (ix1 r) = 1#1) :
    G (ix2 r 0) = (0 : EReal) := by
  have e : (cmpf (F := Ideal) .oeq (shapeCast S43008 G shapeCasts_S43008x1_S43008) (broadcastInDim S43008 ![] bcast_S_S43008 (constant (F := Ideal) S_ .f32 0x00000000#32)) : IVec S43008 1) (ix1 r)
      = BitVec.ofBool (decide ((G (ix2 r 0) : EReal) = 0)) := by
    pointwise
  rw [e] at h
  by_contra hn
  rw [decide_eq_false hn] at h
  exact absurd h (by decide)

/-- At a row: an expert holds it or its gate is zero. -/
theorem held_or_zero (O C : IVec S8 32) (G : FVec Ideal S43008x1 .f32) (h : condV O C G = fun _ => 1#1) (r : Fin 43008) :
    (∃ e : Fin 8, IntOp.andi (IntOp.cmpi .sge (BitVec.ofNat 32 r.val) (O (ix1 e))) (IntOp.cmpi .slt (BitVec.ofNat 32 r.val) (IntOp.addi (O (ix1 e)) (C (ix1 e)))) = 1#1)
      ∨ G (ix2 r 0) = (0 : EReal) := by
  have h1 := congrFun h (ix1 r)
  have h2 : IntOp.ori ((Host.reduce IntOp.ori (heldV O C) (constantI S_ 1 0#1) reducesTo_S43008x8_S43008_d1 h_S_ : IVec S43008 1) (ix1 r))
      ((cmpf (F := Ideal) .oeq (shapeCast S43008 G shapeCasts_S43008x1_S43008) (broadcastInDim S43008 ![] bcast_S_S43008 (constant (F := Ideal) S_ .f32 0x00000000#32)) : IVec S43008 1) (ix1 r)) = 1#1 := h1
  have h3 : ∀ a b : BitVec 1, IntOp.ori a b = 1#1 → a = 1#1 ∨ b = 1#1 := by decide
  rcases h3 _ _ h2 with h4 | h4
  · rw [any_at] at h4
    obtain ⟨e, _, he⟩ := (Routing.fold_ori _ _).1 h4
    exact .inl ⟨e, (heldV_at O C r e).symm.trans he⟩
  · exact .inr (zero_at G r h4)

end Cert.Pre_sorted_rows.Hand

end
-- ==== Proof.FPre.lean ====
/-
  What the feed-forward call's precondition says in natural numbers: the counts are small, and a row no expert holds has
  gate zero.
-/
module

public import proofs.«01_k».proof.Proof.FPlan
public import proofs.«01_k».proof.Proof.FFrames
public import proofs.«01_k».proof.Proof.FPreVals

@[expose] public section

set_option maxRecDepth 16384

noncomputable section

namespace Cert.Kernel2Ideal.Hand

open Cert.Kernel2Ideal Cert.Kernel2Ideal.Gen Cert.Hand
open Idealize.ShloMosaic Idealize.ShloMosaic.WordCmp
open Idealize.ShloMosaic.TcCoe

/-- Row `r` lies in the segment, of a given start and length, of an expert. -/
theorem in_iff {C : Vec Ideal S8 .i32} {n : ℕ → ℕ} (hC : Counts C n) (e : Fin 8) (r : ℕ) (hr : r < 43008) :
    IntOp.andi (IntOp.cmpi .sge (BitVec.ofNat 32 r) (offV (F := Ideal) C (ValueIdx.ix1 e) : BitVec 32))
      (IntOp.cmpi .slt (BitVec.ofNat 32 r) (IntOp.addi (offV (F := Ideal) C (ValueIdx.ix1 e) : BitVec 32) (C (ValueIdx.ix1 e) : BitVec 32))) = 1#1 ↔ holdsRow n e.val r := by
  have h1 := n_le hC e.val e.isLt
  have h2 := before_le hC e.val (Nat.le_of_lt e.isLt)
  rw [off_at hC, hC.word, addi_ofNat, cmpi_sge_ofNat (by omega) (by omega), cmpi_slt_ofNat (by omega) (by omega), andi_ofBool, ofBool_eq_one_iff]
  unfold holdsRow
  simp

theorem small_count (w : BitVec 32) (h0 : IntOp.cmpi .sge w 0#32 = 1#1) (h1 : IntOp.cmpi .sle w 33280#32 = 1#1) : w.toNat ≤ 33280 := by
  have a : (0#32 : BitVec 32).sle w = true := by
    revert h0; unfold IntOp.cmpi; cases (0#32 : BitVec 32).sle w <;> simp
  have b : w.sle 33280#32 = true := by
    revert h1; unfold IntOp.cmpi; cases w.sle 33280#32 <;> simp
  rw [BitVec.sle_iff_toInt_le] at a b
  have c := BitVec.toInt_eq_toNat_cond w
  have hw := w.isLt
  have d : (33280#32 : BitVec 32).toInt = 33280 := by decide
  have e : (0#32 : BitVec 32).toInt = 0 := by decide
  rw [d] at b
  rw [e] at a
  split at c <;> omega

/-- The counts as natural numbers. -/
def countN (C : Vec Ideal S8 .i32) (e : ℕ) : ℕ := if h : e < 8 then (C (ValueIdx.ix1 ⟨e, h⟩) : BitVec 32).toNat else 0

/-- The counts fit, and a row no expert holds has gate zero. -/
def Sorted (C : Vec Ideal S8 .i32) (G : Vec Ideal S43008x1 .f32) : Prop :=
  Counts C (countN C) ∧ ∀ r : Fin 43008, (∃ e, e < 8 ∧ holdsRow (countN C) e r.val) ∨ G (ValueIdx.ix2 r 0) = (0 : EReal)

theorem sorted_of (C : Vec Ideal S8 .i32) (G : Vec Ideal S43008x1 .f32)
    (h0 : (cmpi .sge C (constantI S8 32 0#32) : IVec S8 1) = fun _ => 1#1) (h1 : (cmpi .sle C (constantI S8 32 33280#32) : IVec S8 1) = fun _ => 1#1)
    (h2 : (cmpi .sle (Host.reduce IntOp.addi C (constantI S_ 32 0#32) Cert.Pre_sorted_rows.Gen.reducesTo_S8_S_d0 h_S_ : IVec S_ 32) (constantI S_ 32 33280#32) : IVec S_ 1) = fun _ => 1#1)
    (h3 : Cert.Pre_sorted_rows.Hand.condV (offV (F := Ideal) C) C G = fun _ => 1#1) : Sorted C G := by
  have hs : ∀ e : Fin 8, (C (ValueIdx.ix1 e) : BitVec 32).toNat ≤ 33280 := fun e => small_count _ (congrFun h0 (ValueIdx.ix1 e)) (congrFun h1 (ValueIdx.ix1 e))
  have hw : ∀ e : Fin 8, (C (ValueIdx.ix1 e) : BitVec 32) = BitVec.ofNat 32 (countN C e.val) := by
    intro e
    unfold countN
    rw [dif_pos e.isLt]
    exact ((BitVec.ofNat_toNat 32 _).trans (BitVec.setWidth_eq _)).symm
  have hn : ∀ e, countN C e ≤ 33280 := by
    intro e
    unfold countN
    split
    · exact hs _
    · omega
  have ht : total (countN C) 8 ≤ 33280 := by
    have a : IntOp.cmpi .sle (Host.reduce IntOp.addi C (constantI S_ 32 0#32) Cert.Pre_sorted_rows.Gen.reducesTo_S8_S_d0 h_S_ ValueIdx.ix0 : BitVec 32) (33280#32 : BitVec 32) = 1#1 :=
      congrFun h2 ValueIdx.ix0
    have b := Routing.reduce_sum (N := 8) C (countN C) hw Cert.Pre_sorted_rows.Gen.reducesTo_S8_S_d0 h_S_
    have c : ((List.range 8).map (countN C)).sum = total (countN C) 8 := by
      simp [List.range_succ, total]
      omega
    rw [c] at b
    have d := hn 0
    have d1 := hn 1
    have d2 := hn 2
    have d3 := hn 3
    have d4 := hn 4
    have d5 := hn 5
    have d6 := hn 6
    have d7 := hn 7
    have h8 : total (countN C) 8 = ((((((((0 + countN C 0) + countN C 1) + countN C 2) + countN C 3) + countN C 4) + countN C 5) + countN C 6) + countN C 7) := rfl
    have a' := (congrArg (fun x : BitVec 32 => IntOp.cmpi .sle x (33280#32 : BitVec 32)) b).symm.trans a
    exact (cmpi_sle_ofNat_eq_one_iff (by omega) (by omega)).1 a'
  refine ⟨⟨hw, ht⟩, fun r => ?_⟩
  rcases Cert.Pre_sorted_rows.Hand.held_or_zero _ C G h3 r with ⟨e, he⟩ | hz
  · exact .inl ⟨e.val, e.isLt, (in_iff ⟨hw, ht⟩ e r.val r.isLt).1 he⟩
  · exact .inr hz

/-- The precondition's four parts, named. -/
theorem pre_parts (C : Vec Ideal S8 .i32) (xs : Vec Ideal S43008x1024 .bf16) (G : Vec Ideal S43008x1 .f32) (W1 W3 : Vec Ideal S8x1024x3584 .f32) (W2 : Vec Ideal S8x3584x1024 .f32) :
    Cert.Pre_sorted_rows.fn (F := Ideal) C xs G W1 W3 W2
      = ((cmpi .sge C (constantI S8 32 0#32) : IVec S8 1), (cmpi .sle C (constantI S8 32 33280#32) : IVec S8 1),
        (cmpi .sle (Host.reduce IntOp.addi C (constantI S_ 32 0#32) Cert.Pre_sorted_rows.Gen.reducesTo_S8_S_d0 h_S_ : IVec S_ 32) (constantI S_ 32 33280#32) : IVec S_ 1),
        Cert.Pre_sorted_rows.Hand.condV (offV (F := Ideal) C) C G) := rfl

/-- The precondition, at a device. -/
theorem sorted_at (m : (ℓ : Loc nD τ sig) → Buf (Elt Ideal) ℓ) (h : Cert.Pre_Kernel2Ideal_sorted_rows m) (c : Dev nD) :
    Sorted (m ((c : Thread nD τ).loc main_arg0)) (m ((c : Thread nD τ).loc main_arg2)) := by
  have h' := h c
  rw [pre_parts] at h'
  exact sorted_of _ _ h'.1 h'.2.1 h'.2.2.1 h'.2.2.2

end Cert.Kernel2Ideal.Hand

end
-- ==== Proof.FRefDefs.lean ====
/-
  The feed-forward reference's result, named as one expert's share added after another.
-/
module

public import proofs.«01_k».proof.Proof.FRef
public import Idealize.ShloMosaic.Lib.Pointwise

@[expose] public section

set_option maxRecDepth 16384

noncomputable section

namespace Cert.Reference2Ideal.Hand

open Cert.Reference2Ideal Cert.Reference2Ideal.Gen
open Idealize.ShloMosaic

variable {F : FTy → Type} [FloatOps F]

/-- One word at eight places. -/
def all8 (n : BitVec 32) : Vec F S8 .i32 := broadcastInDim S8 ![] bcast_S_S8 (constantI S_ 32 n)

/-- The lengths of the experts' segments: the counts rounded up to whole tiles of 1024 rows. -/
def segV (C : Vec F S8 .i32) : Vec F S8 .i32 :=
  let X : Vec F S8 .i32 := subi (addi C (all8 (F := F) 1024#32)) (all8 (F := F) 1#32)
  muli (select (andi (cmpi .ne (signi X) (broadcastInDim S8 ![] bcast_S_S8 (signi (constantI S_ 32 1024#32) : Vec F S_ .i32)))
      (cmpi .ne (Host.remsi X (all8 (F := F) 1024#32)) (all8 (F := F) 0#32)))
    (subi (Host.divsi X (all8 (F := F) 1024#32)) (all8 (F := F) 1#32)) (Host.divsi X (all8 (F := F) 1024#32))) (all8 (F := F) 1024#32)

/-- The segments' first rows. -/
def offV (C : Vec F S8 .i32) : Vec F S8 .i32 :=
  subi (Host.reduceWindow IntOp.addi ![8] ![1] ![7] ![0] (segV (F := F) C) (broadcastInDim S_ ![] bcast_S_S_ (constantI S_ 32 0#32) : Vec F S_ .i32) reduceWindows_S8_S8_w8s1p7_0 h_S_)
    (segV (F := F) C)

/-- A row's gate where the row lies from `lo` on and before `hi`. -/
def gateV (lo hi : Vec F S_ .i32) (G : Vec F S43008x1 .f32) : Vec F S43008x1 .f32 :=
  select (broadcastInDim S43008x1 ![0] bcast_S43008_S43008x1_0
    (andi (cmpi .sge (iotaInDim S43008 32 0) (broadcastInDim S43008 ![] bcast_S_S43008 lo))
      (cmpi .slt (iotaInDim S43008 32 0) (broadcastInDim S43008 ![] bcast_S_S43008 hi)) : Vec F S43008 .i1) : Vec F S43008x1 .i1)
    G (broadcastInDim S43008x1 ![] bcast_S_S43008x1 (constant S_ .f32 0x00000000#32))

/-- The sigmoid-weighted linear unit. -/
def siluV (x : Vec F S43008x3584 .f32) : Vec F S43008x3584 .f32 :=
  mulf x (Host.divf (broadcastInDim S43008x3584 ![] bcast_S_S43008x3584 (constant S_ .f32 0x3F800000#32))
    (addf (broadcastInDim S43008x3584 ![] bcast_S_S43008x3584 (constant S_ .f32 0x3F800000#32)) (Host.exp (Host.negf x))))

/-- Every row through one expert. -/
def ffnV (X : Vec F S43008x1024 .f32) (A B : Vec F S1024x3584 .f32) (D : Vec F S3584x1024 .f32) : Vec F S43008x1024 .f32 :=
  Host.dotGeneral dot_S43008x3584_S3584x1024_S43008x1024_1_0_0_1_n_n none
    (mulf (siluV (Host.dotGeneral dot_S43008x1024_S1024x3584_S43008x3584_1_0_0_1_n_n none X A))
      (Host.dotGeneral dot_S43008x1024_S1024x3584_S43008x3584_1_0_0_1_n_n none X B)) D

/-- One expert's rows added to those before. -/
def plusV (lo n : Vec F S_ .i32) (G : Vec F S43008x1 .f32) (X : Vec F S43008x1024 .f32) (A B : Vec F S1024x3584 .f32) (D : Vec F S3584x1024 .f32)
    (Y : Vec F S43008x1024 .f32) : Vec F S43008x1024 .f32 :=
  addf Y (mulf (broadcastInDim S43008x1024 ![0, 1] bcast_S43008x1_S43008x1024_0_1 (gateV lo (addi lo n) G)) (ffnV X A B D))

variable (C : Vec F S8 .i32) (xs : Vec F S43008x1024 .bf16) (G : Vec F S43008x1 .f32) (W1 W3 : Vec F S8x1024x3584 .f32) (W2 : Vec F S8x3584x1024 .f32)

/-- The sum before the first expert. -/
def sum0 : Vec F S43008x1024 .f32 := broadcastInDim S43008x1024 ![] bcast_S_S43008x1024 (constant S_ .f32 0x00000000#32)
/-- The sum after expert 0. -/
def sum1 : Vec F S43008x1024 .f32 :=
  plusV (shapeCast (s := S1) S_ (extractStridedSlice S1 ![0] (offV (F := F) C) slices_S8_S1_0) shapeCasts_S1_S_) (shapeCast (s := S1) S_ (extractStridedSlice S1 ![0] C slices_S8_S1_0) shapeCasts_S1_S_)
    G (extf .f32 xs bitsLt_bf16_f32)
    (shapeCast (s := S1x1024x3584) S1024x3584 (extractStridedSlice S1x1024x3584 ![0, 0, 0] W1 slices_S8x1024x3584_S1x1024x3584_0_0_0) shapeCasts_S1x1024x3584_S1024x3584)
    (shapeCast (s := S1x1024x3584) S1024x3584 (extractStridedSlice S1x1024x3584 ![0, 0, 0] W3 slices_S8x1024x3584_S1x1024x3584_0_0_0) shapeCasts_S1x1024x3584_S1024x3584)
    (shapeCast (s := S1x3584x1024) S3584x1024 (extractStridedSlice S1x3584x1024 ![0, 0, 0] W2 slices_S8x3584x1024_S1x3584x1024_0_0_0) shapeCasts_S1x3584x1024_S3584x1024)
    (sum0 (F := F))
/-- The sum after expert 1. -/
def sum2 : Vec F S43008x1024 .f32 :=
  plusV (shapeCast (s := S1) S_ (extractStridedSlice S1 ![1] (offV (F := F) C) slices_S8_S1_1) shapeCasts_S1_S_) (shapeCast (s := S1) S_ (extractStridedSlice S1 ![1] C slices_S8_S1_1) shapeCasts_S1_S_)
    G (extf .f32 xs bitsLt_bf16_f32)
    (shapeCast (s := S1x1024x3584) S1024x3584 (extractStridedSlice S1x1024x3584 ![1, 0, 0] W1 slices_S8x1024x3584_S1x1024x3584_1_0_0) shapeCasts_S1x1024x3584_S1024x3584)
    (shapeCast (s := S1x1024x3584) S1024x3584 (extractStridedSlice S1x1024x3584 ![1, 0, 0] W3 slices_S8x1024x3584_S1x1024x3584_1_0_0) shapeCasts_S1x1024x3584_S1024x3584)
    (shapeCast (s := S1x3584x1024) S3584x1024 (extractStridedSlice S1x3584x1024 ![1, 0, 0] W2 slices_S8x3584x1024_S1x3584x1024_1_0_0) shapeCasts_S1x3584x1024_S3584x1024)
    (sum1 C xs G W1 W3 W2)
/-- The sum after expert 2. -/
def sum3 : Vec F S43008x1024 .f32 :=
  plusV (shapeCast (s := S1) S_ (extractStridedSlice S1 ![2] (offV (F := F) C) slices_S8_S1_2) shapeCasts_S1_S_) (shapeCast (s := S1) S_ (extractStridedSlice S1 ![2] C slices_S8_S1_2) shapeCasts_S1_S_)
    G (extf .f32 xs bitsLt_bf16_f32)
    (shapeCast (s := S1x1024x3584) S1024x3584 (extractStridedSlice S1x1024x3584 ![2, 0, 0] W1 slices_S8x1024x3584_S1x1024x3584_2_0_0) shapeCasts_S1x1024x3584_S1024x3584)
    (shapeCast (s := S1x1024x3584) S1024x3584 (extractStridedSlice S1x1024x3584 ![2, 0, 0] W3 slices_S8x1024x3584_S1x1024x3584_2_0_0) shapeCasts_S1x1024x3584_S1024x3584)
    (shapeCast (s := S1x3584x1024) S3584x1024 (extractStridedSlice S1x3584x1024 ![2, 0, 0] W2 slices_S8x3584x1024_S1x3584x1024_2_0_0) shapeCasts_S1x3584x1024_S3584x1024)
    (sum2 C xs G W1 W3 W2)
/-- The sum after expert 3. -/
def sum4 : Vec F S43008x1024 .f32 :=
  plusV (shapeCast (s := S1) S_ (extractStridedSlice S1 ![3] (offV (F := F) C) slices_S8_S1_3) shapeCasts_S1_S_) (shapeCast (s := S1) S_ (extractStridedSlice S1 ![3] C slices_S8_S1_3) shapeCasts_S1_S_)
    G (extf .f32 xs bitsLt_bf16_f32)
    (shapeCast (s := S1x1024x3584) S1024x3584 (extractStridedSlice S1x1024x3584 ![3, 0, 0] W1 slices_S8x1024x3584_S1x1024x3584_3_0_0) shapeCasts_S1x1024x3584_S1024x3584)
    (shapeCast (s := S1x1024x3584) S1024x3584 (extractStridedSlice S1x1024x3584 ![3, 0, 0] W3 slices_S8x1024x3584_S1x1024x3584_3_0_0) shapeCasts_S1x1024x3584_S1024x3584)
    (shapeCast (s := S1x3584x1024) S3584x1024 (extractStridedSlice S1x3584x1024 ![3, 0, 0] W2 slices_S8x3584x1024_S1x3584x1024_3_0_0) shapeCasts_S1x3584x1024_S3584x1024)
    (sum3 C xs G W1 W3 W2)
/-- The sum after expert 4. -/
def sum5 : Vec F S43008x1024 .f32 :=
  plusV (shapeCast (s := S1) S_ (extractStridedSlice S1 ![4] (offV (F := F) C) slices_S8_S1_4) shapeCasts_S1_S_) (shapeCast (s := S1) S_ (extractStridedSlice S1 ![4] C slices_S8_S1_4) shapeCasts_S1_S_)
    G (extf .f32 xs bitsLt_bf16_f32)
    (shapeCast (s := S1x1024x3584) S1024x3584 (extractStridedSlice S1x1024x3584 ![4, 0, 0] W1 slices_S8x1024x3584_S1x1024x3584_4_0_0) shapeCasts_S1x1024x3584_S1024x3584)
    (shapeCast (s := S1x1024x3584) S1024x3584 (extractStridedSlice S1x1024x3584 ![4, 0, 0] W3 slices_S8x1024x3584_S1x1024x3584_4_0_0) shapeCasts_S1x1024x3584_S1024x3584)
    (shapeCast (s := S1x3584x1024) S3584x1024 (extractStridedSlice S1x3584x1024 ![4, 0, 0] W2 slices_S8x3584x1024_S1x3584x1024_4_0_0) shapeCasts_S1x3584x1024_S3584x1024)
    (sum4 C xs G W1 W3 W2)
/-- The sum after expert 5. -/
def sum6 : Vec F S43008x1024 .f32 :=
  plusV (shapeCast (s := S1) S_ (extractStridedSlice S1 ![5] (offV (F := F) C) slices_S8_S1_5) shapeCasts_S1_S_) (shapeCast (s := S1) S_ (extractStridedSlice S1 ![5] C slices_S8_S1_5) shapeCasts_S1_S_)
    G (extf .f32 xs bitsLt_bf16_f32)
    (shapeCast (s := S1x1024x3584) S1024x3584 (extractStridedSlice S1x1024x3584 ![5, 0, 0] W1 slices_S8x1024x3584_S1x1024x3584_5_0_0) shapeCasts_S1x1024x3584_S1024x3584)
    (shapeCast (s := S1x1024x3584) S1024x3584 (extractStridedSlice S1x1024x3584 ![5, 0, 0] W3 slices_S8x1024x3584_S1x1024x3584_5_0_0) shapeCasts_S1x1024x3584_S1024x3584)
    (shapeCast (s := S1x3584x1024) S3584x1024 (extractStridedSlice S1x3584x1024 ![5, 0, 0] W2 slices_S8x3584x1024_S1x3584x1024_5_0_0) shapeCasts_S1x3584x1024_S3584x1024)
    (sum5 C xs G W1 W3 W2)
/-- The sum after expert 6. -/
def sum7 : Vec F S43008x1024 .f32 :=
  plusV (shapeCast (s := S1) S_ (extractStridedSlice S1 ![6] (offV (F := F) C) slices_S8_S1_6) shapeCasts_S1_S_) (shapeCast (s := S1) S_ (extractStridedSlice S1 ![6] C slices_S8_S1_6) shapeCasts_S1_S_)
    G (extf .f32 xs bitsLt_bf16_f32)
    (shapeCast (s := S1x1024x3584) S1024x3584 (extractStridedSlice S1x1024x3584 ![6, 0, 0] W1 slices_S8x1024x3584_S1x1024x3584_6_0_0) shapeCasts_S1x1024x3584_S1024x3584)
    (shapeCast (s := S1x1024x3584) S1024x3584 (extractStridedSlice S1x1024x3584 ![6, 0, 0] W3 slices_S8x1024x3584_S1x1024x3584_6_0_0) shapeCasts_S1x1024x3584_S1024x3584)
    (shapeCast (s := S1x3584x1024) S3584x1024 (extractStridedSlice S1x3584x1024 ![6, 0, 0] W2 slices_S8x3584x1024_S1x3584x1024_6_0_0) shapeCasts_S1x3584x1024_S3584x1024)
    (sum6 C xs G W1 W3 W2)
/-- The sum after expert 7. -/
def sum8 : Vec F S43008x1024 .f32 :=
  plusV (shapeCast (s := S1) S_ (extractStridedSlice S1 ![7] (offV (F := F) C) slices_S8_S1_7) shapeCasts_S1_S_) (shapeCast (s := S1) S_ (extractStridedSlice S1 ![7] C slices_S8_S1_7) shapeCasts_S1_S_)
    G (extf .f32 xs bitsLt_bf16_f32)
    (shapeCast (s := S1x1024x3584) S1024x3584 (extractStridedSlice S1x1024x3584 ![7, 0, 0] W1 slices_S8x1024x3584_S1x1024x3584_7_0_0) shapeCasts_S1x1024x3584_S1024x3584)
    (shapeCast (s := S1x1024x3584) S1024x3584 (extractStridedSlice S1x1024x3584 ![7, 0, 0] W3 slices_S8x1024x3584_S1x1024x3584_7_0_0) shapeCasts_S1x1024x3584_S1024x3584)
    (shapeCast (s := S1x3584x1024) S3584x1024 (extractStridedSlice S1x3584x1024 ![7, 0, 0] W2 slices_S8x3584x1024_S1x3584x1024_7_0_0) shapeCasts_S1x3584x1024_S3584x1024)
    (sum7 C xs G W1 W3 W2)

/-- The result. -/
def out : Vec F S43008x1024 .bf16 := truncf .bf16 (sum8 C xs G W1 W3 W2) bitsLt_bf16_f32

end Cert.Reference2Ideal.Hand

end
-- ==== Proof.FRefVal.lean ====
/-
  The feed-forward reference's parts, read at an index.
-/
module

public import proofs.«01_k».proof.Proof.FRefDefs
public import Idealize.ShloMosaic.Lib.Pointwise

@[expose] public section

set_option maxRecDepth 16384

noncomputable section

namespace Cert.Reference2Ideal.Hand

open Cert.Reference2Ideal Cert.Reference2Ideal.Gen
open Idealize.ShloMosaic

/-- Whether row `r` lies from `lo` on and before `hi`. -/
abbrev inW (lo hi : BitVec 32) (r : ℕ) : BitVec 1 := IntOp.andi (IntOp.cmpi .sge (BitVec.ofNat 32 r) lo) (IntOp.cmpi .slt (BitVec.ofNat 32 r) hi)

/-- One hidden unit, of a row and the two columns of weights. -/
def unitR (x a b : Fin 1024 → EReal) : EReal := (∑ i, x i * a i) * Ideal.logistic (∑ i, x i * a i) * ∑ i, x i * b i

theorem gateV_at (lo hi : IVec S_ 32) (G : FVec Ideal S43008x1 .f32) (r : Fin 43008) :
    gateV (F := Ideal) lo hi G (ix2 r 0) = if inW (lo ix0) (hi ix0) r.val = 1#1 then G (ix2 r 0) else 0 := by
  pointwise [gateV]
  rfl

theorem ffnV_at (X : FVec Ideal S43008x1024 .f32) (A B : FVec Ideal S1024x3584 .f32) (D : FVec Ideal S3584x1024 .f32) (r : Fin 43008) (k : Fin 1024) :
    ffnV (F := Ideal) X A B D (ix2 r k) = ∑ f : Fin 3584, unitR (fun i => X (ix2 r i)) (fun i => A (ix2 i f)) (fun i => B (ix2 i f)) * D (ix2 f k) := by
  pointwise [ffnV, siluV]
  rfl

theorem plusV_at (lo n : IVec S_ 32) (G : FVec Ideal S43008x1 .f32) (X : FVec Ideal S43008x1024 .f32) (A B : FVec Ideal S1024x3584 .f32)
    (D : FVec Ideal S3584x1024 .f32) (Y : FVec Ideal S43008x1024 .f32) (r : Fin 43008) (k : Fin 1024) :
    plusV (F := Ideal) lo n G X A B D Y (ix2 r k) = Y (ix2 r k) + gateV (F := Ideal) lo (addi lo n) G (ix2 r 0) * ffnV (F := Ideal) X A B D (ix2 r k) := by
  generalize hf : ffnV (F := Ideal) X A B D = f
  generalize hg : gateV (F := Ideal) lo (addi lo n) G = g
  unfold plusV
  rw [hf, hg]
  pointwise

/-- An expert's share of an entry before the gate: its hidden units' products with its second matrix. -/
def ffnE (xs : FVec Ideal S43008x1024 .bf16) (W1 W3 : FVec Ideal S8x1024x3584 .f32) (W2 : FVec Ideal S8x3584x1024 .f32) (e : Fin 8) (r : Fin 43008) (k : Fin 1024) : EReal :=
  ∑ f : Fin 3584, unitR (fun i => xs (ix2 r i)) (fun i => W1 (ix3 e i f)) (fun i => W3 (ix3 e i f)) * W2 (ix3 e f k)

/-- A row's gate where expert `e` holds the row. -/
def gateE (O C : IVec S8 32) (G : FVec Ideal S43008x1 .f32) (e : Fin 8) (r : Fin 43008) : EReal :=
  if inW (O (ix1 e)) (IntOp.addi (O (ix1 e)) (C (ix1 e))) r.val = 1#1 then G (ix2 r 0) else 0

variable (C : IVec S8 32) (xs : FVec Ideal S43008x1024 .bf16) (G : FVec Ideal S43008x1 .f32) (W1 W3 : FVec Ideal S8x1024x3584 .f32) (W2 : FVec Ideal S8x3584x1024 .f32)
  (r : Fin 43008) (k : Fin 1024)

theorem sum0_at : sum0 (F := Ideal) (ix2 r k) = (0 : EReal) := by
  pointwise [sum0]

theorem sum1_at : sum1 (F := Ideal) C xs G W1 W3 W2 (ix2 r k) = sum0 (F := Ideal) (ix2 r k) + gateE (offV (F := Ideal) C) C G 0 r * ffnE xs W1 W3 W2 0 r k := by
  unfold sum1 gateE ffnE
  generalize sum0 (F := Ideal) = Y
  generalize offV (F := Ideal) C = O
  rw [plusV_at, gateV_at, ffnV_at]
  generalize unitR = u
  pointwise
  first | done | rfl

theorem sum2_at : sum2 (F := Ideal) C xs G W1 W3 W2 (ix2 r k) = sum1 (F := Ideal) C xs G W1 W3 W2 (ix2 r k) + gateE (offV (F := Ideal) C) C G 1 r * ffnE xs W1 W3 W2 1 r k := by
  unfold sum2 gateE ffnE
  generalize sum1 (F := Ideal) C xs G W1 W3 W2 = Y
  generalize offV (F := Ideal) C = O
  rw [plusV_at, gateV_at, ffnV_at]
  generalize unitR = u
  pointwise
  first | done | rfl

theorem sum3_at : sum3 (F := Ideal) C xs G W1 W3 W2 (ix2 r k) = sum2 (F := Ideal) C xs G W1 W3 W2 (ix2 r k) + gateE (offV (F := Ideal) C) C G 2 r * ffnE xs W1 W3 W2 2 r k := by
  unfold sum3 gateE ffnE
  generalize sum2 (F := Ideal) C xs G W1 W3 W2 = Y
  generalize offV (F := Ideal) C = O
  rw [plusV_at, gateV_at, ffnV_at]
  generalize unitR = u
  pointwise
  first | done | rfl

theorem sum4_at : sum4 (F := Ideal) C xs G W1 W3 W2 (ix2 r k) = sum3 (F := Ideal) C xs G W1 W3 W2 (ix2 r k) + gateE (offV (F := Ideal) C) C G 3 r * ffnE xs W1 W3 W2 3 r k := by
  unfold sum4 gateE ffnE
  generalize sum3 (F := Ideal) C xs G W1 W3 W2 = Y
  generalize offV (F := Ideal) C = O
  rw [plusV_at, gateV_at, ffnV_at]
  generalize unitR = u
  pointwise
  first | done | rfl

theorem sum5_at : sum5 (F := Ideal) C xs G W1 W3 W2 (ix2 r k) = sum4 (F := Ideal) C xs G W1 W3 W2 (ix2 r k) + gateE (offV (F := Ideal) C) C G 4 r * ffnE xs W1 W3 W2 4 r k := by
  unfold sum5 gateE ffnE
  generalize sum4 (F := Ideal) C xs G W1 W3 W2 = Y
  generalize offV (F := Ideal) C = O
  rw [plusV_at, gateV_at, ffnV_at]
  generalize unitR = u
  pointwise
  first | done | rfl

theorem sum6_at : sum6 (F := Ideal) C xs G W1 W3 W2 (ix2 r k) = sum5 (F := Ideal) C xs G W1 W3 W2 (ix2 r k) + gateE (offV (F := Ideal) C) C G 5 r * ffnE xs W1 W3 W2 5 r k := by
  unfold sum6 gateE ffnE
  generalize sum5 (F := Ideal) C xs G W1 W3 W2 = Y
  generalize offV (F := Ideal) C = O
  rw [plusV_at, gateV_at, ffnV_at]
  generalize unitR = u
  pointwise
  first | done | rfl

theorem sum7_at : sum7 (F := Ideal) C xs G W1 W3 W2 (ix2 r k) = sum6 (F := Ideal) C xs G W1 W3 W2 (ix2 r k) + gateE (offV (F := Ideal) C) C G 6 r * ffnE xs W1 W3 W2 6 r k := by
  unfold sum7 gateE ffnE
  generalize sum6 (F := Ideal) C xs G W1 W3 W2 = Y
  generalize offV (F := Ideal) C = O
  rw [plusV_at, gateV_at, ffnV_at]
  generalize unitR = u
  pointwise
  first | done | rfl

theorem sum8_at : sum8 (F := Ideal) C xs G W1 W3 W2 (ix2 r k) = sum7 (F := Ideal) C xs G W1 W3 W2 (ix2 r k) + gateE (offV (F := Ideal) C) C G 7 r * ffnE xs W1 W3 W2 7 r k := by
  unfold sum8 gateE ffnE
  generalize sum7 (F := Ideal) C xs G W1 W3 W2 = Y
  generalize offV (F := Ideal) C = O
  rw [plusV_at, gateV_at, ffnV_at]
  generalize unitR = u
  pointwise
  first | done | rfl

theorem out_at : out (F := Ideal) C xs G W1 W3 W2 (ix2 r k) = ∑ e : Fin 8, gateE (offV (F := Ideal) C) C G e r * ffnE xs W1 W3 W2 e r k := by
  have h : out (F := Ideal) C xs G W1 W3 W2 (ix2 r k) = sum8 (F := Ideal) C xs G W1 W3 W2 (ix2 r k) := by
    unfold out
    generalize sum8 (F := Ideal) C xs G W1 W3 W2 = Y
    pointwise
  rw [h, sum8_at, sum7_at, sum6_at, sum5_at, sum4_at, sum3_at, sum2_at, sum1_at, sum0_at, zero_add, Fin.sum_univ_eight]

end Cert.Reference2Ideal.Hand

end
-- ==== Proof.FOut.lean ====
/-
  The feed-forward call's result array: what the reference's is, where the counts and the gates meet the precondition.
-/
module

public import proofs.«01_k».proof.Proof.FBlocks
public import proofs.«01_k».proof.Proof.FPre
public import proofs.«01_k».proof.Proof.FRefVal

@[expose] public section

set_option maxRecDepth 16384
set_option synthInstance.maxSize 4096

noncomputable section

namespace Cert.Kernel2Ideal.Hand

open Cert.Kernel2Ideal Cert.Kernel2Ideal.Gen Cert.Hand
open Idealize.ShloMosaic Idealize.ShloMosaic.TcCoe
open Cert.Reference2Ideal.Hand (out out_at ffnE gateE unitR)

theorem ixT_eq (k : Fin 42) : ixT k = ValueIdx.ix1 k := by
  funext a
  match a with
  | ⟨0, _⟩ => rfl

theorem off_same (C : Vec Ideal S8 .i32) : Cert.Reference2Ideal.Hand.offV (F := Ideal) C = offV (F := Ideal) C := rfl

theorem mem_of_emb {κ : Kind} {sp : Space} {s : Shape} {e : EltTy} {v : View sig κ sp s e} (y : s.Idx) (i : v.ty.Idx) (he : v.emb y = i) : i ∈ v.set := by
  subst he
  exact v.emb_mem_set y

theorem idx2 {a b : ℕ} (y : (⟨2, ![a, b]⟩ : Shape).Idx) : y = ix2 (y 0) (y 1) := by
  funext q
  match q with
  | ⟨0, _⟩ => rfl
  | ⟨1, _⟩ => rfl

section
variable (C : Vec Ideal S8 .i32) (X : Vec Ideal S43008x1024 .bf16) (G : Vec Ideal S43008x1 .f32) (W1 W3 : Vec Ideal S8x1024x3584 .f32) (W2 : Vec Ideal S8x3584x1024 .f32)
variable (hS : Sorted C G)

include hS in
theorem gate_held (e : Fin 8) (r : Fin 43008) (h : holdsRow (countN C) e.val r.val) : gateE (Cert.Reference2Ideal.Hand.offV (F := Ideal) C) C G e r = G (ix2 r 0) :=
  if_pos ((in_iff hS.1 e r.val r.isLt).2 h)

include hS in
theorem gate_other (e : Fin 8) (r : Fin 43008) (h : ¬ holdsRow (countN C) e.val r.val) : gateE (Cert.Reference2Ideal.Hand.offV (F := Ideal) C) C G e r = 0 :=
  if_neg (fun q => h ((in_iff hS.1 e r.val r.isLt).1 q))

include hS in
/-- The reference at a row an expert holds: that expert's share alone. -/
theorem ref_held (e : Fin 8) (r : Fin 43008) (k : Fin 1024) (h : holdsRow (countN C) e.val r.val) :
    out (F := Ideal) C X G W1 W3 W2 (ix2 r k) = G (ix2 r 0) * ffnE X W1 W3 W2 e r k := by
  refine (out_at C X G W1 W3 W2 r k).trans ((Finset.sum_eq_single e (fun f _ hf => ?_) (fun hx => absurd (Finset.mem_univ e) hx)).trans ?_)
  · rw [gate_other C G hS f r (fun hq => hf (Fin.ext (row_unique _ hq h))), zero_mul]
  · rw [gate_held C G hS e r h]

include hS in
/-- The reference at a row whose gate is zero. -/
theorem ref_zero (r : Fin 43008) (k : Fin 1024) (h : G (ix2 r 0) = (0 : EReal)) : out (F := Ideal) C X G W1 W3 W2 (ix2 r k) = (0 : EReal) := by
  refine (out_at C X G W1 W3 W2 r k).trans (Finset.sum_eq_zero fun e _ => ?_)
  have hg : gateE (Cert.Reference2Ideal.Hand.offV (F := Ideal) C) C G e r = 0 := by
    by_cases hq : holdsRow (countN C) e.val r.val
    · exact (gate_held C G hS e r hq).trans h
    · exact gate_other C G hS e r hq
  rw [hg, zero_mul]

theorem terms_sum (e : Fin 8) (n : Fin 43008) (k : Fin 1024) : ∑ y ∈ Finset.range (512 * 7), termE X W1 W3 W2 e n k y = ffnE X W1 W3 W2 e n k := by
  rw [Finset.sum_range]
  refine Finset.sum_congr rfl fun y _ => ?_
  exact dif_pos y.isLt

variable (pf : pre0.Contents (Elt Ideal)) (h : ∀ x : S42.Idx, (pf 0 x : BitVec 32).toNat ≤ 7)
variable (V : (c : Dev nD) → (b : Ref sig .tc) → Buf (Elt Ideal) ((c : Thread nD τ).loc b)) (c : Dev nD)
  (h1 : V c main_arg1 = X) (h2 : V c main_arg2 = G) (h3 : V c main_arg3 = W1) (h4 : V c main_arg4 = W3) (h5 : V c main_arg5 = W2)
  (hx : pf 0 = expertV (F := Ideal) C) (hn : pf 1 = chunksV (F := Ideal) C)

include hS h1 h2 h3 h4 h5 hx hn in
theorem outT_at (t : Fin (cfgA pf h).N) (p k : Fin 1024) (n : Fin 43008) (he : n.val = 1024 * (t.val / 7) + p.val) :
    outT pf h V c t (ix2 p k) = out (F := Ideal) C X G W1 W3 W2 (ix2 n k) := by
  have hN := lt_of_lt_of_eq t.isLt (N_eq pf h)
  have hp := p.isLt
  have hg : blk1 pf h V c t (ix2 p 0) = G (ix2 n 0) := by rw [blk1_at pf h V c t p n he, h2]
  have hj : tileN t.val = ⟨t.val / 7, by omega⟩ := Fin.ext (by show t.val / 7 % 42 = t.val / 7; omega)
  unfold outT
  rcases hS.2 n with ⟨e, he8, hh⟩ | hz
  · have hh' : holdsRow (countN C) e (1024 * (⟨t.val / 7, by omega⟩ : Fin 42).val + p.val) := by rw [he] at hh; exact hh
    obtain ⟨r1, q, q0, q4, qp, r2⟩ := row_plan hS.1 ⟨t.val / 7, by omega⟩ he8 hp hh'
    have w1 : (pf 0 (ixT ⟨t.val / 7, by omega⟩) : BitVec 32) = BitVec.ofNat 32 e := by rw [hx, ixT_eq]; exact r1
    have w2 : (pf 1 (ixT ⟨t.val / 7, by omega⟩) : BitVec 32) = BitVec.ofNat 32 q := by rw [hn, ixT_eq]; exact r2
    have hl : ncN pf t.val = BitVec.ofNat 32 (⟨q, by omega⟩ : Fin 5).val := (congrArg (fun i => (pf 1 (ixT i) : BitVec 32)) hj).trans w2
    have hc := cond1_at ⟨q, by omega⟩
    rw [← hl] at hc
    rw [if_pos (by simpa [q0] using hc), pay1_at, hg,
      accF_at pf h V c X W1 W3 W2 h1 h3 h4 h5 ⟨t.val / 7, by omega⟩ ⟨e, he8⟩ w1 ⟨q, by omega⟩ q0 w2 p k qp n he 7 (le_refl _), terms_sum,
      ref_held C X G W1 W3 W2 hS ⟨e, he8⟩ n k hh, mul_comm]
  · have hz' : G (ix2 n 0) = (0 : EReal) := hz
    rw [ref_zero C X G W1 W3 W2 hS n k hz]
    by_cases hl : k0_cond1 (ncN pf t.val) = 1#1
    · rw [if_pos hl, pay1_at, hg, hz', mul_zero]
    · rw [if_neg hl]
      exact pay2_at p k

include hS h1 h2 h3 h4 h5 hx hn in
theorem final5 : (dats pf h V 0 c).arrAt 5 (cfgA pf h).N = (out (F := Ideal) C X G W1 W3 W2 : Vec Ideal S43008x1024 .bf16) := by
  refine (dats pf h V 0 c).arrAt_eq_of_emb 5 (out (F := Ideal) C X G W1 W3 W2) (fun t hf y => ?_) (fun i => ?_)
  · have hN := lt_of_lt_of_eq t.isLt (N_eq pf h)
    obtain ⟨r, k, rfl⟩ : ∃ (r k : Fin 1024), y = (ix2 r k : S1024x1024.Idx) := ⟨_, _, idx2 y⟩
    have hlt := r.isLt
    rw [after5]
    refine Eq.trans ?_ (congrArg (out (F := Ideal) C X G W1 W3 W2) (emb5 pf h t r k ⟨1024 * (t.val / 7) + r.val, by omega⟩ rfl)).symm
    exact outT_at C X G W1 W3 W2 hS pf h V c h1 h2 h3 h4 h5 hx hn t r k _ rfl
  · obtain ⟨n, k, rfl⟩ : ∃ (n : Fin 43008) (k : Fin 1024), i = (ix2 n k : S43008x1024.Idx) := ⟨_, _, idx2 i⟩
    have hlt := n.isLt
    have ht : 7 * (n.val / 1024) + 6 < 294 := by omega
    exact ⟨⟨7 * (n.val / 1024) + 6, by rw [N_eq]; exact ht⟩, by
        rw [flush5]
        exact decide_eq_true (by show (7 * (n.val / 1024) + 6) % 7 = 6; omega),
      mem_of_emb _ _ (emb5 pf h ⟨7 * (n.val / 1024) + 6, by rw [N_eq]; exact ht⟩ ⟨n.val % 1024, by omega⟩ k n
        (by show n.val = 1024 * ((7 * (n.val / 1024) + 6) / 7) + n.val % 1024; omega))⟩

end

end Cert.Kernel2Ideal.Hand

end
-- ==== Proof.FRefRun.lean ====
/-
  The feed-forward reference's run.
-/
module

public import proofs.«01_k».proof.Proof.FRefDefs

@[expose] public section

set_option maxRecDepth 16384

noncomputable section

namespace Cert.Reference2Ideal.Hand

open Cert.Reference2Ideal Cert.Reference2Ideal.Gen
open Idealize.ShloMosaic

variable {F : FTy → Type} [FloatOps F]

/-! The references the called functions take hold their own types. -/

theorem to_main_v3 (h₁ h₂ h₃) (v : Vec F S8 .i32) : (StableHlo.TRef.of main_v3 h₁ h₂ h₃ : StableHlo.TRef sig ⟨S8, .i32⟩).toBuf (Val := Elt F) v = v := rfl
theorem of_main_v3 (h₁ h₂ h₃) (v : Vec F S8 .i32) : (StableHlo.TRef.of main_v3 h₁ h₂ h₃ : StableHlo.TRef sig ⟨S8, .i32⟩).ofBuf (Val := Elt F) v = v := rfl
theorem to_main_c_1 (h₁ h₂ h₃) (v : Vec F S_ .i32) : (StableHlo.TRef.of main_c_1 h₁ h₂ h₃ : StableHlo.TRef sig ⟨S_, .i32⟩).toBuf (Val := Elt F) v = v := rfl
theorem of_main_c_1 (h₁ h₂ h₃) (v : Vec F S_ .i32) : (StableHlo.TRef.of main_c_1 h₁ h₂ h₃ : StableHlo.TRef sig ⟨S_, .i32⟩).ofBuf (Val := Elt F) v = v := rfl
theorem to_main_v4 (h₁ h₂ h₃) (v : Vec F S8 .i32) : (StableHlo.TRef.of main_v4 h₁ h₂ h₃ : StableHlo.TRef sig ⟨S8, .i32⟩).toBuf (Val := Elt F) v = v := rfl
theorem of_main_v4 (h₁ h₂ h₃) (v : Vec F S8 .i32) : (StableHlo.TRef.of main_v4 h₁ h₂ h₃ : StableHlo.TRef sig ⟨S8, .i32⟩).ofBuf (Val := Elt F) v = v := rfl
theorem to_main_v6 (h₁ h₂ h₃) (v : Vec F S8 .i32) : (StableHlo.TRef.of main_v6 h₁ h₂ h₃ : StableHlo.TRef sig ⟨S8, .i32⟩).toBuf (Val := Elt F) v = v := rfl
theorem of_main_v6 (h₁ h₂ h₃) (v : Vec F S8 .i32) : (StableHlo.TRef.of main_v6 h₁ h₂ h₃ : StableHlo.TRef sig ⟨S8, .i32⟩).ofBuf (Val := Elt F) v = v := rfl
theorem to_main_v7 (h₁ h₂ h₃) (v : Vec F S8 .i32) : (StableHlo.TRef.of main_v7 h₁ h₂ h₃ : StableHlo.TRef sig ⟨S8, .i32⟩).toBuf (Val := Elt F) v = v := rfl
theorem of_main_v7 (h₁ h₂ h₃) (v : Vec F S8 .i32) : (StableHlo.TRef.of main_v7 h₁ h₂ h₃ : StableHlo.TRef sig ⟨S8, .i32⟩).ofBuf (Val := Elt F) v = v := rfl
theorem to_main_v24 (h₁ h₂ h₃) (v : Vec F S43008x1 .i1) : (StableHlo.TRef.of main_v24 h₁ h₂ h₃ : StableHlo.TRef sig ⟨S43008x1, .i1⟩).toBuf (Val := Elt F) v = v := rfl
theorem of_main_v24 (h₁ h₂ h₃) (v : Vec F S43008x1 .i1) : (StableHlo.TRef.of main_v24 h₁ h₂ h₃ : StableHlo.TRef sig ⟨S43008x1, .i1⟩).ofBuf (Val := Elt F) v = v := rfl
theorem to_main_arg2 (h₁ h₂ h₃) (v : Vec F S43008x1 .f32) : (StableHlo.TRef.of main_arg2 h₁ h₂ h₃ : StableHlo.TRef sig ⟨S43008x1, .f32⟩).toBuf (Val := Elt F) v = v := rfl
theorem of_main_arg2 (h₁ h₂ h₃) (v : Vec F S43008x1 .f32) : (StableHlo.TRef.of main_arg2 h₁ h₂ h₃ : StableHlo.TRef sig ⟨S43008x1, .f32⟩).ofBuf (Val := Elt F) v = v := rfl
theorem to_main_cst_3 (h₁ h₂ h₃) (v : Vec F S_ .f32) : (StableHlo.TRef.of main_cst_3 h₁ h₂ h₃ : StableHlo.TRef sig ⟨S_, .f32⟩).toBuf (Val := Elt F) v = v := rfl
theorem of_main_cst_3 (h₁ h₂ h₃) (v : Vec F S_ .f32) : (StableHlo.TRef.of main_cst_3 h₁ h₂ h₃ : StableHlo.TRef sig ⟨S_, .f32⟩).ofBuf (Val := Elt F) v = v := rfl
theorem to_main_v25 (h₁ h₂ h₃) (v : Vec F S43008x1 .f32) : (StableHlo.TRef.of main_v25 h₁ h₂ h₃ : StableHlo.TRef sig ⟨S43008x1, .f32⟩).toBuf (Val := Elt F) v = v := rfl
theorem of_main_v25 (h₁ h₂ h₃) (v : Vec F S43008x1 .f32) : (StableHlo.TRef.of main_v25 h₁ h₂ h₃ : StableHlo.TRef sig ⟨S43008x1, .f32⟩).ofBuf (Val := Elt F) v = v := rfl
theorem to_main_v32 (h₁ h₂ h₃) (v : Vec F S43008x3584 .f32) : (StableHlo.TRef.of main_v32 h₁ h₂ h₃ : StableHlo.TRef sig ⟨S43008x3584, .f32⟩).toBuf (Val := Elt F) v = v := rfl
theorem of_main_v32 (h₁ h₂ h₃) (v : Vec F S43008x3584 .f32) : (StableHlo.TRef.of main_v32 h₁ h₂ h₃ : StableHlo.TRef sig ⟨S43008x3584, .f32⟩).ofBuf (Val := Elt F) v = v := rfl
theorem to_main_v33 (h₁ h₂ h₃) (v : Vec F S43008x3584 .f32) : (StableHlo.TRef.of main_v33 h₁ h₂ h₃ : StableHlo.TRef sig ⟨S43008x3584, .f32⟩).toBuf (Val := Elt F) v = v := rfl
theorem of_main_v33 (h₁ h₂ h₃) (v : Vec F S43008x3584 .f32) : (StableHlo.TRef.of main_v33 h₁ h₂ h₃ : StableHlo.TRef sig ⟨S43008x3584, .f32⟩).ofBuf (Val := Elt F) v = v := rfl
theorem to_main_v52 (h₁ h₂ h₃) (v : Vec F S43008x1 .i1) : (StableHlo.TRef.of main_v52 h₁ h₂ h₃ : StableHlo.TRef sig ⟨S43008x1, .i1⟩).toBuf (Val := Elt F) v = v := rfl
theorem of_main_v52 (h₁ h₂ h₃) (v : Vec F S43008x1 .i1) : (StableHlo.TRef.of main_v52 h₁ h₂ h₃ : StableHlo.TRef sig ⟨S43008x1, .i1⟩).ofBuf (Val := Elt F) v = v := rfl
theorem to_main_cst_4 (h₁ h₂ h₃) (v : Vec F S_ .f32) : (StableHlo.TRef.of main_cst_4 h₁ h₂ h₃ : StableHlo.TRef sig ⟨S_, .f32⟩).toBuf (Val := Elt F) v = v := rfl
theorem of_main_cst_4 (h₁ h₂ h₃) (v : Vec F S_ .f32) : (StableHlo.TRef.of main_cst_4 h₁ h₂ h₃ : StableHlo.TRef sig ⟨S_, .f32⟩).ofBuf (Val := Elt F) v = v := rfl
theorem to_main_v53 (h₁ h₂ h₃) (v : Vec F S43008x1 .f32) : (StableHlo.TRef.of main_v53 h₁ h₂ h₃ : StableHlo.TRef sig ⟨S43008x1, .f32⟩).toBuf (Val := Elt F) v = v := rfl
theorem of_main_v53 (h₁ h₂ h₃) (v : Vec F S43008x1 .f32) : (StableHlo.TRef.of main_v53 h₁ h₂ h₃ : StableHlo.TRef sig ⟨S43008x1, .f32⟩).ofBuf (Val := Elt F) v = v := rfl
theorem to_main_v60 (h₁ h₂ h₃) (v : Vec F S43008x3584 .f32) : (StableHlo.TRef.of main_v60 h₁ h₂ h₃ : StableHlo.TRef sig ⟨S43008x3584, .f32⟩).toBuf (Val := Elt F) v = v := rfl
theorem of_main_v60 (h₁ h₂ h₃) (v : Vec F S43008x3584 .f32) : (StableHlo.TRef.of main_v60 h₁ h₂ h₃ : StableHlo.TRef sig ⟨S43008x3584, .f32⟩).ofBuf (Val := Elt F) v = v := rfl
theorem to_main_v61 (h₁ h₂ h₃) (v : Vec F S43008x3584 .f32) : (StableHlo.TRef.of main_v61 h₁ h₂ h₃ : StableHlo.TRef sig ⟨S43008x3584, .f32⟩).toBuf (Val := Elt F) v = v := rfl
theorem of_main_v61 (h₁ h₂ h₃) (v : Vec F S43008x3584 .f32) : (StableHlo.TRef.of main_v61 h₁ h₂ h₃ : StableHlo.TRef sig ⟨S43008x3584, .f32⟩).ofBuf (Val := Elt F) v = v := rfl
theorem to_main_v80 (h₁ h₂ h₃) (v : Vec F S43008x1 .i1) : (StableHlo.TRef.of main_v80 h₁ h₂ h₃ : StableHlo.TRef sig ⟨S43008x1, .i1⟩).toBuf (Val := Elt F) v = v := rfl
theorem of_main_v80 (h₁ h₂ h₃) (v : Vec F S43008x1 .i1) : (StableHlo.TRef.of main_v80 h₁ h₂ h₃ : StableHlo.TRef sig ⟨S43008x1, .i1⟩).ofBuf (Val := Elt F) v = v := rfl
theorem to_main_cst_5 (h₁ h₂ h₃) (v : Vec F S_ .f32) : (StableHlo.TRef.of main_cst_5 h₁ h₂ h₃ : StableHlo.TRef sig ⟨S_, .f32⟩).toBuf (Val := Elt F) v = v := rfl
theorem of_main_cst_5 (h₁ h₂ h₃) (v : Vec F S_ .f32) : (StableHlo.TRef.of main_cst_5 h₁ h₂ h₃ : StableHlo.TRef sig ⟨S_, .f32⟩).ofBuf (Val := Elt F) v = v := rfl
theorem to_main_v81 (h₁ h₂ h₃) (v : Vec F S43008x1 .f32) : (StableHlo.TRef.of main_v81 h₁ h₂ h₃ : StableHlo.TRef sig ⟨S43008x1, .f32⟩).toBuf (Val := Elt F) v = v := rfl
theorem of_main_v81 (h₁ h₂ h₃) (v : Vec F S43008x1 .f32) : (StableHlo.TRef.of main_v81 h₁ h₂ h₃ : StableHlo.TRef sig ⟨S43008x1, .f32⟩).ofBuf (Val := Elt F) v = v := rfl
theorem to_main_v88 (h₁ h₂ h₃) (v : Vec F S43008x3584 .f32) : (StableHlo.TRef.of main_v88 h₁ h₂ h₃ : StableHlo.TRef sig ⟨S43008x3584, .f32⟩).toBuf (Val := Elt F) v = v := rfl
theorem of_main_v88 (h₁ h₂ h₃) (v : Vec F S43008x3584 .f32) : (StableHlo.TRef.of main_v88 h₁ h₂ h₃ : StableHlo.TRef sig ⟨S43008x3584, .f32⟩).ofBuf (Val := Elt F) v = v := rfl
theorem to_main_v89 (h₁ h₂ h₃) (v : Vec F S43008x3584 .f32) : (StableHlo.TRef.of main_v89 h₁ h₂ h₃ : StableHlo.TRef sig ⟨S43008x3584, .f32⟩).toBuf (Val := Elt F) v = v := rfl
theorem of_main_v89 (h₁ h₂ h₃) (v : Vec F S43008x3584 .f32) : (StableHlo.TRef.of main_v89 h₁ h₂ h₃ : StableHlo.TRef sig ⟨S43008x3584, .f32⟩).ofBuf (Val := Elt F) v = v := rfl
theorem to_main_v108 (h₁ h₂ h₃) (v : Vec F S43008x1 .i1) : (StableHlo.TRef.of main_v108 h₁ h₂ h₃ : StableHlo.TRef sig ⟨S43008x1, .i1⟩).toBuf (Val := Elt F) v = v := rfl
theorem of_main_v108 (h₁ h₂ h₃) (v : Vec F S43008x1 .i1) : (StableHlo.TRef.of main_v108 h₁ h₂ h₃ : StableHlo.TRef sig ⟨S43008x1, .i1⟩).ofBuf (Val := Elt F) v = v := rfl
theorem to_main_cst_6 (h₁ h₂ h₃) (v : Vec F S_ .f32) : (StableHlo.TRef.of main_cst_6 h₁ h₂ h₃ : StableHlo.TRef sig ⟨S_, .f32⟩).toBuf (Val := Elt F) v = v := rfl
theorem of_main_cst_6 (h₁ h₂ h₃) (v : Vec F S_ .f32) : (StableHlo.TRef.of main_cst_6 h₁ h₂ h₃ : StableHlo.TRef sig ⟨S_, .f32⟩).ofBuf (Val := Elt F) v = v := rfl
theorem to_main_v109 (h₁ h₂ h₃) (v : Vec F S43008x1 .f32) : (StableHlo.TRef.of main_v109 h₁ h₂ h₃ : StableHlo.TRef sig ⟨S43008x1, .f32⟩).toBuf (Val := Elt F) v = v := rfl
theorem of_main_v109 (h₁ h₂ h₃) (v : Vec F S43008x1 .f32) : (StableHlo.TRef.of main_v109 h₁ h₂ h₃ : StableHlo.TRef sig ⟨S43008x1, .f32⟩).ofBuf (Val := Elt F) v = v := rfl
theorem to_main_v116 (h₁ h₂ h₃) (v : Vec F S43008x3584 .f32) : (StableHlo.TRef.of main_v116 h₁ h₂ h₃ : StableHlo.TRef sig ⟨S43008x3584, .f32⟩).toBuf (Val := Elt F) v = v := rfl
theorem of_main_v116 (h₁ h₂ h₃) (v : Vec F S43008x3584 .f32) : (StableHlo.TRef.of main_v116 h₁ h₂ h₃ : StableHlo.TRef sig ⟨S43008x3584, .f32⟩).ofBuf (Val := Elt F) v = v := rfl
theorem to_main_v117 (h₁ h₂ h₃) (v : Vec F S43008x3584 .f32) : (StableHlo.TRef.of main_v117 h₁ h₂ h₃ : StableHlo.TRef sig ⟨S43008x3584, .f32⟩).toBuf (Val := Elt F) v = v := rfl
theorem of_main_v117 (h₁ h₂ h₃) (v : Vec F S43008x3584 .f32) : (StableHlo.TRef.of main_v117 h₁ h₂ h₃ : StableHlo.TRef sig ⟨S43008x3584, .f32⟩).ofBuf (Val := Elt F) v = v := rfl
theorem to_main_v136 (h₁ h₂ h₃) (v : Vec F S43008x1 .i1) : (StableHlo.TRef.of main_v136 h₁ h₂ h₃ : StableHlo.TRef sig ⟨S43008x1, .i1⟩).toBuf (Val := Elt F) v = v := rfl
theorem of_main_v136 (h₁ h₂ h₃) (v : Vec F S43008x1 .i1) : (StableHlo.TRef.of main_v136 h₁ h₂ h₃ : StableHlo.TRef sig ⟨S43008x1, .i1⟩).ofBuf (Val := Elt F) v = v := rfl
theorem to_main_cst_7 (h₁ h₂ h₃) (v : Vec F S_ .f32) : (StableHlo.TRef.of main_cst_7 h₁ h₂ h₃ : StableHlo.TRef sig ⟨S_, .f32⟩).toBuf (Val := Elt F) v = v := rfl
theorem of_main_cst_7 (h₁ h₂ h₃) (v : Vec F S_ .f32) : (StableHlo.TRef.of main_cst_7 h₁ h₂ h₃ : StableHlo.TRef sig ⟨S_, .f32⟩).ofBuf (Val := Elt F) v = v := rfl
theorem to_main_v137 (h₁ h₂ h₃) (v : Vec F S43008x1 .f32) : (StableHlo.TRef.of main_v137 h₁ h₂ h₃ : StableHlo.TRef sig ⟨S43008x1, .f32⟩).toBuf (Val := Elt F) v = v := rfl
theorem of_main_v137 (h₁ h₂ h₃) (v : Vec F S43008x1 .f32) : (StableHlo.TRef.of main_v137 h₁ h₂ h₃ : StableHlo.TRef sig ⟨S43008x1, .f32⟩).ofBuf (Val := Elt F) v = v := rfl
theorem to_main_v144 (h₁ h₂ h₃) (v : Vec F S43008x3584 .f32) : (StableHlo.TRef.of main_v144 h₁ h₂ h₃ : StableHlo.TRef sig ⟨S43008x3584, .f32⟩).toBuf (Val := Elt F) v = v := rfl
theorem of_main_v144 (h₁ h₂ h₃) (v : Vec F S43008x3584 .f32) : (StableHlo.TRef.of main_v144 h₁ h₂ h₃ : StableHlo.TRef sig ⟨S43008x3584, .f32⟩).ofBuf (Val := Elt F) v = v := rfl
theorem to_main_v145 (h₁ h₂ h₃) (v : Vec F S43008x3584 .f32) : (StableHlo.TRef.of main_v145 h₁ h₂ h₃ : StableHlo.TRef sig ⟨S43008x3584, .f32⟩).toBuf (Val := Elt F) v = v := rfl
theorem of_main_v145 (h₁ h₂ h₃) (v : Vec F S43008x3584 .f32) : (StableHlo.TRef.of main_v145 h₁ h₂ h₃ : StableHlo.TRef sig ⟨S43008x3584, .f32⟩).ofBuf (Val := Elt F) v = v := rfl
theorem to_main_v164 (h₁ h₂ h₃) (v : Vec F S43008x1 .i1) : (StableHlo.TRef.of main_v164 h₁ h₂ h₃ : StableHlo.TRef sig ⟨S43008x1, .i1⟩).toBuf (Val := Elt F) v = v := rfl
theorem of_main_v164 (h₁ h₂ h₃) (v : Vec F S43008x1 .i1) : (StableHlo.TRef.of main_v164 h₁ h₂ h₃ : StableHlo.TRef sig ⟨S43008x1, .i1⟩).ofBuf (Val := Elt F) v = v := rfl
theorem to_main_cst_8 (h₁ h₂ h₃) (v : Vec F S_ .f32) : (StableHlo.TRef.of main_cst_8 h₁ h₂ h₃ : StableHlo.TRef sig ⟨S_, .f32⟩).toBuf (Val := Elt F) v = v := rfl
theorem of_main_cst_8 (h₁ h₂ h₃) (v : Vec F S_ .f32) : (StableHlo.TRef.of main_cst_8 h₁ h₂ h₃ : StableHlo.TRef sig ⟨S_, .f32⟩).ofBuf (Val := Elt F) v = v := rfl
theorem to_main_v165 (h₁ h₂ h₃) (v : Vec F S43008x1 .f32) : (StableHlo.TRef.of main_v165 h₁ h₂ h₃ : StableHlo.TRef sig ⟨S43008x1, .f32⟩).toBuf (Val := Elt F) v = v := rfl
theorem of_main_v165 (h₁ h₂ h₃) (v : Vec F S43008x1 .f32) : (StableHlo.TRef.of main_v165 h₁ h₂ h₃ : StableHlo.TRef sig ⟨S43008x1, .f32⟩).ofBuf (Val := Elt F) v = v := rfl
theorem to_main_v172 (h₁ h₂ h₃) (v : Vec F S43008x3584 .f32) : (StableHlo.TRef.of main_v172 h₁ h₂ h₃ : StableHlo.TRef sig ⟨S43008x3584, .f32⟩).toBuf (Val := Elt F) v = v := rfl
theorem of_main_v172 (h₁ h₂ h₃) (v : Vec F S43008x3584 .f32) : (StableHlo.TRef.of main_v172 h₁ h₂ h₃ : StableHlo.TRef sig ⟨S43008x3584, .f32⟩).ofBuf (Val := Elt F) v = v := rfl
theorem to_main_v173 (h₁ h₂ h₃) (v : Vec F S43008x3584 .f32) : (StableHlo.TRef.of main_v173 h₁ h₂ h₃ : StableHlo.TRef sig ⟨S43008x3584, .f32⟩).toBuf (Val := Elt F) v = v := rfl
theorem of_main_v173 (h₁ h₂ h₃) (v : Vec F S43008x3584 .f32) : (StableHlo.TRef.of main_v173 h₁ h₂ h₃ : StableHlo.TRef sig ⟨S43008x3584, .f32⟩).ofBuf (Val := Elt F) v = v := rfl
theorem to_main_v192 (h₁ h₂ h₃) (v : Vec F S43008x1 .i1) : (StableHlo.TRef.of main_v192 h₁ h₂ h₃ : StableHlo.TRef sig ⟨S43008x1, .i1⟩).toBuf (Val := Elt F) v = v := rfl
theorem of_main_v192 (h₁ h₂ h₃) (v : Vec F S43008x1 .i1) : (StableHlo.TRef.of main_v192 h₁ h₂ h₃ : StableHlo.TRef sig ⟨S43008x1, .i1⟩).ofBuf (Val := Elt F) v = v := rfl
theorem to_main_cst_9 (h₁ h₂ h₃) (v : Vec F S_ .f32) : (StableHlo.TRef.of main_cst_9 h₁ h₂ h₃ : StableHlo.TRef sig ⟨S_, .f32⟩).toBuf (Val := Elt F) v = v := rfl
theorem of_main_cst_9 (h₁ h₂ h₃) (v : Vec F S_ .f32) : (StableHlo.TRef.of main_cst_9 h₁ h₂ h₃ : StableHlo.TRef sig ⟨S_, .f32⟩).ofBuf (Val := Elt F) v = v := rfl
theorem to_main_v193 (h₁ h₂ h₃) (v : Vec F S43008x1 .f32) : (StableHlo.TRef.of main_v193 h₁ h₂ h₃ : StableHlo.TRef sig ⟨S43008x1, .f32⟩).toBuf (Val := Elt F) v = v := rfl
theorem of_main_v193 (h₁ h₂ h₃) (v : Vec F S43008x1 .f32) : (StableHlo.TRef.of main_v193 h₁ h₂ h₃ : StableHlo.TRef sig ⟨S43008x1, .f32⟩).ofBuf (Val := Elt F) v = v := rfl
theorem to_main_v200 (h₁ h₂ h₃) (v : Vec F S43008x3584 .f32) : (StableHlo.TRef.of main_v200 h₁ h₂ h₃ : StableHlo.TRef sig ⟨S43008x3584, .f32⟩).toBuf (Val := Elt F) v = v := rfl
theorem of_main_v200 (h₁ h₂ h₃) (v : Vec F S43008x3584 .f32) : (StableHlo.TRef.of main_v200 h₁ h₂ h₃ : StableHlo.TRef sig ⟨S43008x3584, .f32⟩).ofBuf (Val := Elt F) v = v := rfl
theorem to_main_v201 (h₁ h₂ h₃) (v : Vec F S43008x3584 .f32) : (StableHlo.TRef.of main_v201 h₁ h₂ h₃ : StableHlo.TRef sig ⟨S43008x3584, .f32⟩).toBuf (Val := Elt F) v = v := rfl
theorem of_main_v201 (h₁ h₂ h₃) (v : Vec F S43008x3584 .f32) : (StableHlo.TRef.of main_v201 h₁ h₂ h₃ : StableHlo.TRef sig ⟨S43008x3584, .f32⟩).ofBuf (Val := Elt F) v = v := rfl
theorem to_main_v220 (h₁ h₂ h₃) (v : Vec F S43008x1 .i1) : (StableHlo.TRef.of main_v220 h₁ h₂ h₃ : StableHlo.TRef sig ⟨S43008x1, .i1⟩).toBuf (Val := Elt F) v = v := rfl
theorem of_main_v220 (h₁ h₂ h₃) (v : Vec F S43008x1 .i1) : (StableHlo.TRef.of main_v220 h₁ h₂ h₃ : StableHlo.TRef sig ⟨S43008x1, .i1⟩).ofBuf (Val := Elt F) v = v := rfl
theorem to_main_cst_10 (h₁ h₂ h₃) (v : Vec F S_ .f32) : (StableHlo.TRef.of main_cst_10 h₁ h₂ h₃ : StableHlo.TRef sig ⟨S_, .f32⟩).toBuf (Val := Elt F) v = v := rfl
theorem of_main_cst_10 (h₁ h₂ h₃) (v : Vec F S_ .f32) : (StableHlo.TRef.of main_cst_10 h₁ h₂ h₃ : StableHlo.TRef sig ⟨S_, .f32⟩).ofBuf (Val := Elt F) v = v := rfl
theorem to_main_v221 (h₁ h₂ h₃) (v : Vec F S43008x1 .f32) : (StableHlo.TRef.of main_v221 h₁ h₂ h₃ : StableHlo.TRef sig ⟨S43008x1, .f32⟩).toBuf (Val := Elt F) v = v := rfl
theorem of_main_v221 (h₁ h₂ h₃) (v : Vec F S43008x1 .f32) : (StableHlo.TRef.of main_v221 h₁ h₂ h₃ : StableHlo.TRef sig ⟨S43008x1, .f32⟩).ofBuf (Val := Elt F) v = v := rfl
theorem to_main_v228 (h₁ h₂ h₃) (v : Vec F S43008x3584 .f32) : (StableHlo.TRef.of main_v228 h₁ h₂ h₃ : StableHlo.TRef sig ⟨S43008x3584, .f32⟩).toBuf (Val := Elt F) v = v := rfl
theorem of_main_v228 (h₁ h₂ h₃) (v : Vec F S43008x3584 .f32) : (StableHlo.TRef.of main_v228 h₁ h₂ h₃ : StableHlo.TRef sig ⟨S43008x3584, .f32⟩).ofBuf (Val := Elt F) v = v := rfl
theorem to_main_v229 (h₁ h₂ h₃) (v : Vec F S43008x3584 .f32) : (StableHlo.TRef.of main_v229 h₁ h₂ h₃ : StableHlo.TRef sig ⟨S43008x3584, .f32⟩).toBuf (Val := Elt F) v = v := rfl
theorem of_main_v229 (h₁ h₂ h₃) (v : Vec F S43008x3584 .f32) : (StableHlo.TRef.of main_v229 h₁ h₂ h₃ : StableHlo.TRef sig ⟨S43008x3584, .f32⟩).ofBuf (Val := Elt F) v = v := rfl

open Idealize.ShloMosaic.TcCoe Idealize.SL.Sem in
set_option maxHeartbeats 4000000 in
/-- The reference's run. -/
theorem run_ends (m : (ℓ : Loc nD τ sig) → Buf (Elt Ideal) ℓ) (ρ : Dev nD → PrngReg) :
    θ_run (defs (F := Ideal)) (onTc main) ⟨m, fun _ => 0, ρ⟩ (fun r => ∀ c : Dev nD,
      r.2.mem ((c : Thread nD τ).loc main_v236) = out (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  hlo_run
  simp only [StableHlo.TRef.ofBuf_toBuf, id_eq, to_main_v3, of_main_v3, to_main_c_1, of_main_c_1, to_main_v4, of_main_v4, to_main_v6, of_main_v6, to_main_v7, of_main_v7, to_main_v24,
    of_main_v24, to_main_arg2, of_main_arg2, to_main_cst_3, of_main_cst_3, to_main_v25, of_main_v25, to_main_v32, of_main_v32, to_main_v33, of_main_v33, to_main_v52, of_main_v52,
    to_main_cst_4, of_main_cst_4, to_main_v53, of_main_v53, to_main_v60, of_main_v60, to_main_v61, of_main_v61, to_main_v80, of_main_v80, to_main_cst_5, of_main_cst_5, to_main_v81,
    of_main_v81, to_main_v88, of_main_v88, to_main_v89, of_main_v89, to_main_v108, of_main_v108, to_main_cst_6, of_main_cst_6, to_main_v109, of_main_v109, to_main_v116, of_main_v116,
    to_main_v117, of_main_v117, to_main_v136, of_main_v136, to_main_cst_7, of_main_cst_7, to_main_v137, of_main_v137, to_main_v144, of_main_v144, to_main_v145, of_main_v145,
    to_main_v164, of_main_v164, to_main_cst_8, of_main_cst_8, to_main_v165, of_main_v165, to_main_v172, of_main_v172, to_main_v173, of_main_v173, to_main_v192, of_main_v192,
    to_main_cst_9, of_main_cst_9, to_main_v193, of_main_v193, to_main_v200, of_main_v200, to_main_v201, of_main_v201, to_main_v220, of_main_v220, to_main_cst_10, of_main_cst_10,
    to_main_v221, of_main_v221, to_main_v228, of_main_v228, to_main_v229, of_main_v229]
  rfl

end Cert.Reference2Ideal.Hand

end
-- ==== Proof.FValue.lean ====
/-
  The claim that the feed-forward kernel's result is the reference's.
-/
module

public import proofs.«01_k».proof.Proof.FOut
public import proofs.«01_k».proof.Proof.FRefRun

@[expose] public section

set_option maxRecDepth 16384
set_option synthInstance.maxSize 4096

noncomputable section

namespace Cert.Kernel2Ideal.Hand

open Cert.Kernel2Ideal Cert.Kernel2Ideal.Gen
open Idealize.ShloMosaic Idealize.ShloMosaic.TcCoe Idealize.SL.Sem
open Cert.Reference2Ideal.Hand (out)

/-- The kernel's result, over the same arguments, is the reference's. -/
theorem value : Cert.algebraic_Kernel2Ideal_Reference2Ideal_pre_sorted_rows := by
  intro m g m' g' hp hm
  refine ⟨fun c => out (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)), ?_, ?_⟩
  · refine (θ_run (defs (F := Ideal)) _ _).mono (fun r hq c => ?_) (run_ends m g)
    have hc : c = 0 := Subsingleton.elim _ _
    refine ⟨(hq.1 c).1.trans ?_, (hq.1 c).2⟩
    exact final5 _ _ _ _ _ _ (sorted_at m hp c) (pfM m) (expert_in m) (VM m) c (VM_arg1 m c) (VM_arg2 m c) (VM_arg3 m c) (VM_arg4 m c) (VM_arg5 m c)
      (by rw [hc]; exact pfM_expert m) (by rw [hc]; exact pfM_chunks m)
  · refine (θ_run (Cert.Reference2Ideal.defs (F := Ideal)) _ _).mono (fun r hq c => ?_) (Cert.Reference2Ideal.Hand.run_ends m' g')
    obtain ⟨h0, h1, h2, h3, h4, h5⟩ := hm c
    have hq' := hq c
    rw [h0, h1, h2, h3, h4, h5] at hq'
    rw [h0, h1, h2, h3, h4, h5]
    exact hq'

end Cert.Kernel2Ideal.Hand

end
-- ==== Proof.PFrames.lean ====
/- The input projection's frames: the kernel's two, of one run, and its reference's. -/
module

public import proofs.«01_k».proof.Defs
public import proofs.«01_k».proof.Proof.Gen.Kernel3Ideal.Frame
public import proofs.«01_k».proof.Proof.Gen.Reference3Ideal
public import proofs.«01_k».proof.Proof.Gen.Kernel3
public import Idealize.ShloMosaic.Lib.Claim
public import Idealize.ShloMosaic.Lib.Tactic
public import Idealize.ShloMosaic.Lib.Quiescent

@[expose] public section

set_option maxRecDepth 3328

noncomputable section

namespace Cert.Kernel3Ideal.Hand

open Cert.Kernel3Ideal Cert.Kernel3Ideal.Gen
open Idealize.ShloMosaic Idealize.ShloMosaic.TcCoe
open Idealize.SL.Sem

theorem frame_ideal : Cert.quiescent_Kernel3Ideal := fun m g _ => Cert.Kernel3Ideal.Gen.frame m g

/-- The frame at the machine's words, of the text the two programs share. -/
def FrameBits : Prop :=
  ∀ (m : (ℓ : Loc nD τ sig) → Buf (Elt Bits) ℓ) (g : Dev nD → PrngReg), Cert.Pre_Kernel3 m →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame_text : FrameBits := fun m g _ => Cert.Kernel3Ideal.Gen.frame (F := Bits) m g

theorem frame_same : Cert.quiescent_Kernel3 = FrameBits := by sl_kernel_rfl

theorem frame_bits : Cert.quiescent_Kernel3 := frame_same.mpr frame_text

end Cert.Kernel3Ideal.Hand

namespace Cert.Reference3Ideal.Hand

open Idealize.ShloMosaic Idealize.ShloMosaic.TcCoe Idealize.SL.Sem

theorem frame : Cert.quiescent_Reference3Ideal := by
  intro m g _
  hlo_run
  · exact fun _ => ⟨trivial, trivial, trivial⟩
  · exact sem_eq_zero_of_no_sems (by decide) _

end Cert.Reference3Ideal.Hand

end
-- ==== Proof.PVals.lean ====
/-
  What a step of the input projection leaves in its eight blocks, at an index and over the extended reals: the row,
  normalised, times a column of the weights.
-/
module

public import proofs.«01_k».proof.Proof.Gen.Kernel3Ideal.Value
public import Idealize.ShloMosaic.Lib.Pointwise
public import Idealize.ShloMosaic.Lib.Pipeline.ValueKit.Tiles

@[expose] public section

set_option maxRecDepth 16384

noncomputable section

namespace Cert.Kernel3Ideal.Hand

open Cert.Kernel3Ideal Cert.Kernel3Ideal.Gen
open Idealize.ShloMosaic

/-- A row over its root mean square, times the gain. -/
def normAt (a : Fin 1024 → EReal) (g : Fin 1024 → EReal) (k : Fin 1024) : EReal :=
  a k * Ideal.rsqrt (Ideal.div (∑ x, a x * a x) (Ideal.ofBits .f32 1149239296#32) + Ideal.ofBits .f32 897988541#32) * g k

/-- The row so normalised, times a column. -/
def projAt (a g w : Fin 1024 → EReal) : EReal := ∑ k, normAt a g k * w k

section
variable (X : Vec Ideal S1024x1024 .f32) (g : Vec Ideal S1x1024 .f32)

theorem pay1_at (r k : Fin 1024) : k0_pay1 X g (ix2 r k) = normAt (fun x => X (ix2 r x)) (fun x => g (ix2 0 x)) k := by
  pointwise [k0_pay1, normAt]

theorem pay2_at (W : Vec Ideal S1024x512 .bf16) (r : Fin 1024) (j : Fin 512) :
    k0_pay2 X g W (ix2 r j) = projAt (fun x => X (ix2 r x)) (fun x => g (ix2 0 x)) (fun x => W (ix2 x j)) := by
  pointwise [k0_pay2, k0_pay1, projAt, normAt]

theorem pay3_at (W : Vec Ideal S1024x512 .bf16) (r : Fin 1024) (j : Fin 512) :
    k0_pay3 X g W (ix2 r j) = projAt (fun x => X (ix2 r x)) (fun x => g (ix2 0 x)) (fun x => W (ix2 x j)) := by
  pointwise [k0_pay3, k0_pay1, projAt, normAt]

theorem pay4_at (W : Vec Ideal S1024x512 .bf16) (r : Fin 1024) (j : Fin 512) :
    k0_pay4 X g W (ix2 r j) = projAt (fun x => X (ix2 r x)) (fun x => g (ix2 0 x)) (fun x => W (ix2 x j)) := by
  pointwise [k0_pay4, k0_pay1, projAt, normAt]

theorem pay6_at (W : Vec Ideal S1024x512 .bf16) (r : Fin 1024) (j : Fin 512) :
    k0_pay6 (k0_pay1 X g) (k0_pay5 W) (constant S1024x512 .f32 0x00000000#32) (ix2 r j)
      = projAt (fun x => X (ix2 r x)) (fun x => g (ix2 0 x)) (fun x => W (ix2 x j)) := by
  pointwise [k0_pay6, k0_pay5, k0_pay1, projAt, normAt]

theorem pay7_at (W : Vec Ideal S1024x512 .bf16) (r : Fin 1024) (j : Fin 512) :
    k0_pay7 (k0_pay1 X g) W (ix2 r j) = projAt (fun x => X (ix2 r x)) (fun x => g (ix2 0 x)) (fun x => W (ix2 x j)) := by
  pointwise [k0_pay7, k0_pay1, projAt, normAt]

theorem pay8_at (W : Vec Ideal S1024x128 .bf16) (r : Fin 1024) (j : Fin 128) :
    k0_pay8 (k0_pay1 X g) W (ix2 r j) = projAt (fun x => X (ix2 r x)) (fun x => g (ix2 0 x)) (fun x => W (ix2 x j)) := by
  pointwise [k0_pay8, k0_pay1, projAt, normAt]

/-- The same sum with the column's entries first. -/
theorem proj_comm (a g w : Fin 1024 → EReal) : ∑ k, w k * normAt a g k = projAt a g w :=
  Finset.sum_congr rfl fun k _ => mul_comm _ _

theorem pay9_at (W : Vec Ideal S512x1024 .bf16) (j : Fin 512) (r : Fin 1024) :
    k0_pay9 (k0_pay1 X g) W (ix3 0 j r) = projAt (fun x => X (ix2 r x)) (fun x => g (ix2 0 x)) (fun x => W (ix2 j x)) := by
  refine Eq.trans ?_ (proj_comm _ _ _)
  pointwise [k0_pay9, k0_pay1, normAt]

theorem pay10_at (W : Vec Ideal S512x1024 .bf16) (j : Fin 512) (r : Fin 1024) :
    k0_pay10 (k0_pay1 X g) W (ix3 0 j r) = projAt (fun x => X (ix2 r x)) (fun x => g (ix2 0 x)) (fun x => W (ix2 j x)) := by
  refine Eq.trans ?_ (proj_comm _ _ _)
  pointwise [k0_pay10, k0_pay1, normAt]

theorem pay11_at (W : Vec Ideal S8x1024 .bf16) (j : Fin 8) (r : Fin 1024) :
    k0_pay11 (k0_pay1 X g) W (ix2 j r) = projAt (fun x => X (ix2 r x)) (fun x => g (ix2 0 x)) (fun x => W (ix2 j x)) := by
  refine Eq.trans ?_ (proj_comm _ _ _)
  pointwise [k0_pay11, k0_pay1, normAt]

end

end Cert.Kernel3Ideal.Hand

end
-- ==== Proof.PPrep.lean ====
/-
  What the input projection's host code hands to the call, at an index of the arguments: the rows, the gain, and the two
  arrangements of the weights' columns.
-/
module

public import proofs.«01_k».proof.Proof.PVals
public import Idealize.ShloMosaic.Lib.StableHlo.RunRead

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem

variable (X : Vec Ideal S8x2048x1024 .f32) (G : Vec Ideal S2x1024 .f32) (W : Vec Ideal S1x1024x3592 .f32)

/-- The weights as a matrix. -/
def matV : Vec Ideal S1024x3592 .f32 := shapeCast (s := S1x1024x3592) S1024x3592 W shapeCasts_S1x1024x3592_S1024x3592

/-- The rows of all the prompts. -/
def rowsV : Vec Ideal S16384x1024 .f32 := shapeCast (s := S8x2048x1024) S16384x1024 X shapeCasts_S8x2048x1024_S16384x1024

/-- The gain. -/
def gainV : Vec Ideal S1x1024 .f32 :=
  shapeCast (s := S1024) S1x1024 (shapeCast (s := S1x1024) S1024 (extractStridedSlice S1x1024 ![0, 0] G slices_S2x1024_S1x1024_0_0) shapeCasts_S1x1024_S1024) shapeCasts_S1024_S1x1024

/-- The last eight columns. -/
def lastV : Vec Ideal S1024x8 .f32 := extractStridedSlice S1024x8 ![0, 3584] (matV W) slices_S1024x3592_S1024x8_0_3584

theorem rowsV_at (r : Fin 16384) (k : Fin 1024) : rowsV X (ix2 r k) = X (ix3 ⟨r.val / 2048, by omega⟩ ⟨r.val % 2048, by omega⟩ k) := by
  pointwise [rowsV]

theorem gainV_at (k : Fin 1024) : gainV G (ix2 0 k) = G (ix2 0 k) := by
  pointwise [gainV]

theorem matV_at (k : Fin 1024) (e : Fin 3592) : matV W (ix2 k e) = W (ix3 0 k e) := by
  pointwise [matV]

theorem lastV_at (k : Fin 1024) (e : Fin 8) : lastV W (ix2 k e) = W (ix3 0 k ⟨3584 + e.val, by omega⟩) := by
  pointwise [lastV, matV]

theorem zero_word : (FloatOps.sitofp (F := Ideal) .f32 (0#32 : BitVec 32) : EReal) = 0 := by
  show (((0#32 : BitVec 32).toInt : ℝ) : EReal) = 0
  simp

/-- The last eight columns, padded to a lane's width. -/
def padV : Vec Ideal S1024x128 .f32 :=
  pad S1024x128 ![0, 0] ![0, 120] ![0, 0] (lastV W) (sitofp (F := Ideal) (w := 32) .f32 (constantI S_ 32 0#32)) pads_S1024x8_S1024x128_000_01200 h_S_

theorem padV_at (k : Fin 1024) (e : Fin 128) :
    padV W (ix2 k e) = if h : e.val < 8 then W (ix3 0 k ⟨3584 + e.val, by omega⟩) else 0 := by
  pointwise [padV, lastV, matV]
  simp only [zero_word]

/-- The columns by which a row is multiplied. -/
def colsV : Vec Ideal S1024x2688 .bf16 :=
  truncf (F := Ideal) .bf16 (concatenate S1024x2688 1
    [⟨S1024x512, extractStridedSlice S1024x512 ![0, 0] (matV W) slices_S1024x3592_S1024x512_0_0⟩,
     ⟨S1024x2048, extractStridedSlice S1024x2048 ![0, 1536] (matV W) slices_S1024x3592_S1024x2048_0_1536⟩,
     ⟨S1024x128, padV W⟩] concatenates_S1024x512_S1024x2048_S1024x128_S1024x2688_d1) bitsLt_bf16_f32

/-- The columns which are multiplied by a row, each as a row. -/
def tposV : Vec Ideal S1032x1024 .bf16 :=
  truncf (F := Ideal) .bf16 (transpose (s := S1024x1032) S1032x1024 [1, 0]
    (concatenate S1024x1032 1
      [⟨S1024x1024, extractStridedSlice S1024x1024 ![0, 512] (matV W) slices_S1024x3592_S1024x1024_0_512⟩,
       ⟨S1024x8, lastV W⟩] concatenates_S1024x1024_S1024x8_S1024x1032_d1) transposes_S1024x1032_S1032x1024_1_0) bitsLt_bf16_f32

theorem colsV_at (k : Fin 1024) (j : Fin 2688) :
    colsV W (ix2 k j) = if h : j.val < 512 then W (ix3 0 k ⟨j.val, by omega⟩)
      else if h' : j.val < 2568 then W (ix3 0 k ⟨j.val + 1024, by omega⟩) else 0 := by
  pointwise [colsV, padV, lastV, matV]
  simp only [zero_word]
  repeat' split
  all_goals first | rfl | (exfalso; omega) | exact congrArg (fun e => W (ix3 0 k e)) (Fin.ext (by first | rfl | omega | (simp only; omega)))

theorem tposV_at (j : Fin 1032) (k : Fin 1024) :
    tposV W (ix2 j k) = if h : j.val < 1024 then W (ix3 0 k ⟨j.val + 512, by omega⟩) else W (ix3 0 k ⟨j.val + 2560, by omega⟩) := by
  pointwise [tposV, lastV, matV]
  split_ifs <;> exact congrArg (fun e => W (ix3 0 k e)) (Fin.ext (by first | rfl | omega | (simp only; omega)))

section
variable (m : (ℓ : Loc nD τ sig) → Buf (Elt Ideal) ℓ) (c : Dev nD)

theorem V_rows : V m c main_v0 = rowsV (m ((c : Thread nD τ).loc main_arg0)) := by
  unfold V
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp <;> rfl

theorem V_gain : V m c main_v14 = gainV (m ((c : Thread nD τ).loc main_arg1)) := by
  unfold V
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp <;> rfl

theorem V_cols : V m c main_v12 = colsV (m ((c : Thread nD τ).loc main_arg2)) := by
  unfold V
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp <;> rfl

theorem V_tpos : V m c main_v13 = tposV (m ((c : Thread nD τ).loc main_arg2)) := by
  unfold V
  simp only [hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp <;> rfl

end

end Cert.Kernel3Ideal.Hand

end
-- ==== Proof.PBlocks.lean ====
/-
  The input projection's windows: the blocks a step reads, at an index of the arguments, and what it leaves in each of its
  eight results' blocks.
-/
module

public import proofs.«01_k».proof.Proof.PPrep
public import Idealize.ShloMosaic.Lib.Pipeline.ValueKit.Geometry

@[expose] public section

set_option maxRecDepth 16384

noncomputable section

namespace Cert.Kernel3Ideal.Hand

open Cert.Kernel3Ideal Cert.Kernel3Ideal.Gen
open Idealize.ShloMosaic Idealize.ShloMosaic.TcCoe

theorem projAt_congr {a a' g g' w w' : Fin 1024 → EReal} (ha : ∀ k, a k = a' k) (hg : ∀ k, g k = g' k) (hw : ∀ k, w k = w' k) :
    projAt a g w = projAt a' g' w' := by
  obtain rfl := funext ha
  obtain rfl := funext hg
  obtain rfl := funext hw
  rfl

theorem zz2 : (![0, 0] : Fin 2 → ℕ) = fun _ => 0 := by decide
theorem zz3 : (![0, 0, 0] : Fin 3 → ℕ) = fun _ => 0 := by decide

/-! ## What a step writes, of the blocks it reads -/

section
variable (x0 : Vec Ideal S1024x1024 .f32) (x1 : Vec Ideal S1x1024 .f32) (x2 : Vec Ideal S1024x2688 .bf16) (x3 : Vec Ideal S1032x1024 .bf16)

theorem ld0 (r k : Fin 1024) : View.ld x0 r0_0 (ix2 r k) = x0 (ix2 r k) := congrFun (View.ld_unit_zero zz2 _ x0) _
theorem ld1 (k : Fin 1024) : View.ld x1 r0_1 (ix2 0 k) = x1 (ix2 0 k) := congrFun (View.ld_unit_zero zz2 _ x1) _

theorem ldc (o : ℕ) (inb) (k : Fin 1024) (j : Fin 512) (q : Fin 2688) (hq : q.val = o + j.val) :
    View.ld x2 (Rect.unit (s := S1024x2688) ![0, o] S1024x512.size inb) (ix2 k j) = x2 (ix2 k q) :=
  View.ld_unit_apply_of x2 ![0, o] _ inb (ix2 k j) (ix2 k q) (fun a => match a with
    | ⟨0, _⟩ => (Nat.zero_add _).symm
    | ⟨1, _⟩ => hq)

theorem ldg (inb) (k : Fin 1024) (j : Fin 128) (q : Fin 2688) (hq : q.val = 2560 + j.val) :
    View.ld x2 (Rect.unit (s := S1024x2688) ![0, 2560] S1024x128.size inb) (ix2 k j) = x2 (ix2 k q) :=
  View.ld_unit_apply_of x2 ![0, 2560] _ inb (ix2 k j) (ix2 k q) (fun a => match a with
    | ⟨0, _⟩ => (Nat.zero_add _).symm
    | ⟨1, _⟩ => hq)

theorem ldt (o : ℕ) (inb) (j : Fin 512) (k : Fin 1024) (q : Fin 1032) (hq : q.val = o + j.val) :
    View.ld x3 (Rect.unit (s := S1032x1024) ![o, 0] S512x1024.size inb) (ix2 j k) = x3 (ix2 q k) :=
  View.ld_unit_apply_of x3 ![o, 0] _ inb (ix2 j k) (ix2 q k) (fun a => match a with
    | ⟨0, _⟩ => hq
    | ⟨1, _⟩ => (Nat.zero_add _).symm)

theorem ldr (inb) (j : Fin 8) (k : Fin 1024) (q : Fin 1032) (hq : q.val = 1024 + j.val) :
    View.ld x3 (Rect.unit (s := S1032x1024) ![1024, 0] S8x1024.size inb) (ix2 j k) = x3 (ix2 q k) :=
  View.ld_unit_apply_of x3 ![1024, 0] _ inb (ix2 j k) (ix2 q k) (fun a => match a with
    | ⟨0, _⟩ => hq
    | ⟨1, _⟩ => (Nat.zero_add _).symm)

/-- Row `r` of the block times column `q` of the weights. -/
def colE (r : Fin 1024) (q : Fin 2688) : EReal := projAt (fun k => x0 (ix2 r k)) (fun k => x1 (ix2 0 k)) (fun k => x2 (ix2 k q))

/-- Row `r` of the block times row `q` of the weights turned round. -/
def rowE (r : Fin 1024) (q : Fin 1032) : EReal := projAt (fun k => x0 (ix2 r k)) (fun k => x1 (ix2 0 k)) (fun k => x3 (ix2 q k))

theorem out4_at (r : Fin 1024) (j : Fin 512) : out0_4 x0 x1 x2 x3 (ix2 r j) = colE x0 x1 x2 r ⟨j.val, by omega⟩ :=
  (congrFun (View.canon_unit_zero zz2 _ _) _).trans ((pay2_at _ _ _ r j).trans
    (projAt_congr (ld0 x0 r) (ld1 x1) (fun k => ldc x2 0 _ k j _ (Nat.zero_add _).symm)))

theorem out6_at (r : Fin 1024) (j : Fin 512) : out0_6 x0 x1 x2 x3 (ix2 r j) = colE x0 x1 x2 r ⟨1536 + j.val, by omega⟩ :=
  (congrFun (View.canon_unit_zero zz2 _ _) _).trans ((pay6_at _ _ _ r j).trans
    (projAt_congr (ld0 x0 r) (ld1 x1) (fun k => ldc x2 1536 _ k j _ rfl)))

theorem out7_at (r : Fin 1024) (j : Fin 512) : out0_7 x0 x1 x2 x3 (ix2 r j) = colE x0 x1 x2 r ⟨2048 + j.val, by omega⟩ :=
  (congrFun (View.canon_unit_zero zz2 _ _) _).trans ((pay7_at _ _ _ r j).trans
    (projAt_congr (ld0 x0 r) (ld1 x1) (fun k => ldc x2 2048 _ k j _ rfl)))

theorem out8_at (r : Fin 1024) (j : Fin 128) : out0_8 x0 x1 x2 x3 (ix2 r j) = colE x0 x1 x2 r ⟨2560 + j.val, by omega⟩ :=
  (congrFun (View.canon_unit_zero zz2 _ _) _).trans ((pay8_at _ _ _ r j).trans
    (projAt_congr (ld0 x0 r) (ld1 x1) (fun k => ldg x2 _ k j _ rfl)))

theorem out9_at (j : Fin 512) (r : Fin 1024) : out0_9 x0 x1 x2 x3 (ix3 0 j r) = rowE x0 x1 x3 r ⟨j.val, by omega⟩ :=
  (congrFun (View.canon_unit_zero zz3 _ _) _).trans ((pay9_at _ _ _ j r).trans
    (projAt_congr (ld0 x0 r) (ld1 x1) (fun k => ldt x3 0 _ j k _ (Nat.zero_add _).symm)))

theorem out10_at (j : Fin 512) (r : Fin 1024) : out0_10 x0 x1 x2 x3 (ix3 0 j r) = rowE x0 x1 x3 r ⟨512 + j.val, by omega⟩ :=
  (congrFun (View.canon_unit_zero zz3 _ _) _).trans ((pay10_at _ _ _ j r).trans
    (projAt_congr (ld0 x0 r) (ld1 x1) (fun k => ldt x3 512 _ j k _ rfl)))

theorem out11_at (j : Fin 8) (r : Fin 1024) : out0_11 x0 x1 x2 x3 (ix2 j r) = rowE x0 x1 x3 r ⟨1024 + j.val, by omega⟩ :=
  (congrFun (View.canon_unit_zero zz2 _ _) _).trans ((pay11_at _ _ _ j r).trans
    (projAt_congr (ld0 x0 r) (ld1 x1) (fun k => ldr x3 _ j k _ rfl)))

/-- The second result's block: its two halves in one. -/
def pairV : Vec Ideal S1024x1024 .f32 := fun i => colE x0 x1 x2 (i 0) ⟨512 + (i 1).val, by have h : (i 1).val < 1024 := (i 1).isLt; omega⟩

theorem idx2 {a b : ℕ} (y : (⟨2, ![a, b]⟩ : Shape).Idx) : y = ix2 (y 0) (y 1) := by
  funext q
  match q with
  | ⟨0, _⟩ => rfl
  | ⟨1, _⟩ => rfl

theorem idx3 {a b d : ℕ} (y : (⟨3, ![a, b, d]⟩ : Shape).Idx) : y = ix3 (y 0) (y 1) (y 2) := by
  funext q
  match q with
  | ⟨0, _⟩ => rfl
  | ⟨1, _⟩ => rfl
  | ⟨2, _⟩ => rfl

theorem pairV_emb (o : ℕ) (inb) (r : Fin 1024) (j : Fin 512) (q : Fin 2688) (hq : q.val = 512 + (o + j.val)) :
    pairV x0 x1 x2 ((Rect.unit (s := S1024x1024) ![0, o] S1024x512.size inb).emb (ix2 r j)) = colE x0 x1 x2 r q := by
  have h0 : ((Rect.unit (s := S1024x1024) ![0, o] S1024x512.size inb).emb (ix2 r j) 0 : Fin 1024) = r := by
    refine Fin.ext ?_
    refine (@Rect.idx_unit_val S1024x1024 ![0, o] S1024x512.size inb (ix2 r j : S1024x512.Idx) 0).trans ?_
    exact Nat.zero_add _
  have h1 : ((Rect.unit (s := S1024x1024) ![0, o] S1024x512.size inb).emb (ix2 r j) 1).val = o + j.val :=
    @Rect.idx_unit_val S1024x1024 ![0, o] S1024x512.size inb (ix2 r j : S1024x512.Idx) 1
  unfold pairV
  exact congrArg₂ (colE x0 x1 x2) h0 (Fin.ext (by show 512 + _ = _; rw [h1, hq]))

theorem out5_at (r : Fin 1024) (j : Fin 1024) : out0_5 x0 x1 x2 x3 (ix2 r j) = colE x0 x1 x2 r ⟨512 + j.val, by omega⟩ := by
  refine (View.canon_apply_of_pieces (pairV x0 x1 x2) _ ?_ (ix2 r j) (cover0_5 _ _ _)).trans rfl
  intro p hp y
  simp only [List.mem_cons, List.not_mem_nil, or_false] at hp
  rcases hp with rfl | rfl
  · obtain ⟨r', j', rfl⟩ : ∃ (r' : Fin 1024) (j' : Fin 512), y = (ix2 r' j' : S1024x512.Idx) := ⟨_, _, idx2 y⟩
    exact (pay4_at _ _ _ r' j').trans ((projAt_congr (ld0 x0 r') (ld1 x1) (fun k => ldc x2 1024 _ k j' ⟨1024 + j'.val, by omega⟩ rfl)).trans
      (pairV_emb x0 x1 x2 512 inb_S1024x1024_S1024x512_0_512 r' j' _ (by show 1024 + j'.val = _; omega)).symm)
  · obtain ⟨r', j', rfl⟩ : ∃ (r' : Fin 1024) (j' : Fin 512), y = (ix2 r' j' : S1024x512.Idx) := ⟨_, _, idx2 y⟩
    exact (pay3_at _ _ _ r' j').trans ((projAt_congr (ld0 x0 r') (ld1 x1) (fun k => ldc x2 512 _ k j' ⟨512 + j'.val, by omega⟩ rfl)).trans
      (pairV_emb x0 x1 x2 0 inb_S1024x1024_S1024x512_0_0 r' j' _ (by show 512 + j'.val = _; omega)).symm)

end

/-! ## The blocks it reads -/

theorem in0_at : ∀ t : Fin grid0.N, cc0_transform_0 (grid0.coords t) = ![t.val, 0] := by decide +kernel
theorem in1_at : ∀ t : Fin grid0.N, cc0_transform_1 (grid0.coords t) = ![0, 0] := by decide +kernel
theorem in2_at : ∀ t : Fin grid0.N, cc0_transform_2 (grid0.coords t) = ![0, 0] := by decide +kernel
theorem in3_at : ∀ t : Fin grid0.N, cc0_transform_3 (grid0.coords t) = ![0, 0] := by decide +kernel
theorem ou4_at : ∀ t : Fin grid0.N, cc0_transform_4 (grid0.coords t) = ![t.val, 0] := by decide +kernel
theorem ou5_at : ∀ t : Fin grid0.N, cc0_transform_5 (grid0.coords t) = ![t.val, 0] := by decide +kernel
theorem ou6_at : ∀ t : Fin grid0.N, cc0_transform_6 (grid0.coords t) = ![t.val, 0] := by decide +kernel
theorem ou7_at : ∀ t : Fin grid0.N, cc0_transform_7 (grid0.coords t) = ![t.val, 0] := by decide +kernel
theorem ou8_at : ∀ t : Fin grid0.N, cc0_transform_8 (grid0.coords t) = ![t.val, 0] := by decide +kernel
theorem ou9_at : ∀ t : Fin grid0.N, cc0_transform_9 (grid0.coords t) = ![t.val / 2, 0, t.val % 2] := by decide +kernel
theorem ou10_at : ∀ t : Fin grid0.N, cc0_transform_10 (grid0.coords t) = ![t.val / 2, 0, t.val % 2] := by decide +kernel
theorem ou11_at : ∀ t : Fin grid0.N, cc0_transform_11 (grid0.coords t) = ![0, t.val] := by decide +kernel

section
variable (m : (ℓ : Loc nD τ sig) → Buf (Elt Ideal) ℓ) (c : Dev nD) (t : Fin cfg0.N)

theorem blk0_at (r k : Fin 1024) (n : Fin 16384) (hn : n.val = 1024 * t.val + r.val) :
    iblk m c 0 t (ix2 r k) = V m c main_v0 (ix2 n k) := by
  unfold iblk
  refine congrArg (V m c main_v0) (funext fun a => Fin.ext ?_)
  refine ((cfg0.win 0).rect_emb_val t (ix2 r k) a).trans ?_
  match a with
  | ⟨0, _⟩ =>
    show cc0_transform_0 (grid0.coords t) 0 * 1024 + r.val = n.val
    rw [in0_at]
    show t.val * 1024 + r.val = n.val
    omega
  | ⟨1, _⟩ =>
    show cc0_transform_0 (grid0.coords t) 1 * 1024 + k.val = k.val
    rw [in0_at]
    show 0 * 1024 + k.val = k.val
    omega

theorem blk1_at (k : Fin 1024) : iblk m c 1 t (ix2 0 k) = V m c main_v14 (ix2 0 k) := by
  unfold iblk
  refine congrArg (V m c main_v14) (funext fun a => Fin.ext ?_)
  refine ((cfg0.win 1).rect_emb_val t (ix2 0 k) a).trans ?_
  match a with
  | ⟨0, _⟩ =>
    show cc0_transform_1 (grid0.coords t) 0 * 1 + 0 = 0
    rw [in1_at]
    rfl
  | ⟨1, _⟩ =>
    show cc0_transform_1 (grid0.coords t) 1 * 1024 + k.val = k.val
    rw [in1_at]
    show 0 * 1024 + k.val = k.val
    omega

theorem blk2_at (k : Fin 1024) (q : Fin 2688) : iblk m c 2 t (ix2 k q) = V m c main_v12 (ix2 k q) := by
  unfold iblk
  refine congrArg (V m c main_v12) (funext fun a => Fin.ext ?_)
  refine ((cfg0.win 2).rect_emb_val t (ix2 k q) a).trans ?_
  match a with
  | ⟨0, _⟩ =>
    show cc0_transform_2 (grid0.coords t) 0 * 1024 + k.val = k.val
    rw [in2_at]
    show 0 * 1024 + k.val = k.val
    omega
  | ⟨1, _⟩ =>
    show cc0_transform_2 (grid0.coords t) 1 * 2688 + q.val = q.val
    rw [in2_at]
    show 0 * 2688 + q.val = q.val
    omega

theorem blk3_at (q : Fin 1032) (k : Fin 1024) : iblk m c 3 t (ix2 q k) = V m c main_v13 (ix2 q k) := by
  unfold iblk
  refine congrArg (V m c main_v13) (funext fun a => Fin.ext ?_)
  refine ((cfg0.win 3).rect_emb_val t (ix2 q k) a).trans ?_
  match a with
  | ⟨0, _⟩ =>
    show cc0_transform_3 (grid0.coords t) 0 * 1032 + q.val = q.val
    rw [in3_at]
    show 0 * 1032 + q.val = q.val
    omega
  | ⟨1, _⟩ =>
    show cc0_transform_3 (grid0.coords t) 1 * 1024 + k.val = k.val
    rw [in3_at]
    show 0 * 1024 + k.val = k.val
    omega

end

end Cert.Kernel3Ideal.Hand

end
-- ==== Proof.POut.lean ====
/-
  The input projection's eight result arrays, each one function of the arguments.
-/
module

public import proofs.«01_k».proof.Proof.PBlocks

@[expose] public section

set_option maxRecDepth 16384

noncomputable section

namespace Cert.Kernel3Ideal.Hand

open Cert.Kernel3Ideal Cert.Kernel3Ideal.Gen
open Idealize.ShloMosaic Idealize.ShloMosaic.TcCoe

section
variable (X : Vec Ideal S8x2048x1024 .f32) (G : Vec Ideal S2x1024 .f32) (W : Vec Ideal S1x1024x3592 .f32)

/-- Token `n`'s projection on column `e`: the prompts' tokens in order, 2048 to a prompt. -/
def tokE (n : Fin 16384) (e : Fin 3592) : EReal :=
  projAt (fun k => X (ix3 ⟨n.val / 2048, by omega⟩ ⟨n.val % 2048, by omega⟩ k)) (fun k => G (ix2 0 k)) (fun k => W (ix3 0 k e))

/-- A product with a column of zeros. -/
theorem proj_zero (a g w : Fin 1024 → EReal) (hw : ∀ k, w k = 0) : projAt a g w = 0 :=
  Finset.sum_eq_zero fun k _ => by rw [hw k, mul_zero]

/-- Columns `o` and on, a token to a row. -/
def flatV (d o : ℕ) (hd : o + d ≤ 3592) : Vec Ideal ⟨2, ![16384, d]⟩ .f32 := fun i =>
  tokE X G W (i 0) ⟨o + (i 1).val, by have h : (i 1).val < d := (i 1).isLt; omega⟩

/-- The gates' eight columns, and zeros. -/
def gatesV : Vec Ideal S16384x128 .f32 := fun i =>
  if h : (i 1).val < 8 then tokE X G W (i 0) ⟨3584 + (i 1).val, by omega⟩ else 0

theorem gatesV_lo (n : Fin 16384) (j : Fin 128) (hj : j.val < 8) : gatesV X G W (ix2 n j) = tokE X G W n ⟨3584 + j.val, by omega⟩ :=
  dif_pos (show ((ix2 n j : S16384x128.Idx) 1).val < 8 from hj)

theorem gatesV_hi (n : Fin 16384) (j : Fin 128) (hj : ¬ j.val < 8) : gatesV X G W (ix2 n j) = 0 :=
  dif_neg (show ¬ ((ix2 n j : S16384x128.Idx) 1).val < 8 from hj)

/-- Columns `o` and on, a column of a prompt to a row. -/
def headsV (o : ℕ) (ho : o + 512 ≤ 3592) : Vec Ideal S8x512x2048 .f32 := fun i =>
  tokE X G W ⟨2048 * (i 0).val + (i 2).val, by have h : (i 0).val < 8 := (i 0).isLt; have h' : (i 2).val < 2048 := (i 2).isLt; omega⟩
    ⟨o + (i 1).val, by have h : (i 1).val < 512 := (i 1).isLt; omega⟩

/-- The gates' eight columns, a column to a row. -/
def gateRowsV : Vec Ideal S8x16384 .f32 := fun i =>
  tokE X G W (i 1) ⟨3584 + (i 0).val, by have h : (i 0).val < 8 := (i 0).isLt; omega⟩

variable (m : (ℓ : Loc nD τ sig) → Buf (Elt Ideal) ℓ) (c : Dev nD)
  (hX : m ((c : Thread nD τ).loc main_arg0) = X) (hG : m ((c : Thread nD τ).loc main_arg1) = G) (hW : m ((c : Thread nD τ).loc main_arg2) = W)

include hX hG hW in
theorem cell_col (t : Fin cfg0.N) (r : Fin 1024) (q : Fin 2688) (n : Fin 16384) (e : Fin 3592) (hn : n.val = 1024 * t.val + r.val)
    (he : (q.val < 512 ∧ e.val = q.val) ∨ (512 ≤ q.val ∧ q.val < 2568 ∧ e.val = q.val + 1024)) :
    colE (iblk m c 0 t) (iblk m c 1 t) (iblk m c 2 t) r q = tokE X G W n e := by
  refine projAt_congr (fun k => ?_) (fun k => ?_) (fun k => ?_)
  · refine (blk0_at m c t r k n hn).trans ?_
    rw [V_rows, hX]
    exact rowsV_at X n k
  · refine (blk1_at m c t k).trans ?_
    rw [V_gain, hG]
    exact gainV_at G k
  · refine (blk2_at m c t k q).trans ?_
    rw [V_cols, hW]
    refine (colsV_at W k q).trans ?_
    rcases he with ⟨h1, h2⟩ | ⟨h1, h2, h3⟩
    · rw [dif_pos h1]
      exact congrArg (fun e => W (ix3 0 k e)) (Fin.ext h2.symm)
    · rw [dif_neg (by omega), dif_pos h2]
      exact congrArg (fun e => W (ix3 0 k e)) (Fin.ext h3.symm)

include hW in
theorem cell_pad (t : Fin cfg0.N) (r : Fin 1024) (q : Fin 2688) (hq : 2568 ≤ q.val) :
    colE (iblk m c 0 t) (iblk m c 1 t) (iblk m c 2 t) r q = 0 := by
  refine proj_zero _ _ _ (fun k => ?_)
  refine (blk2_at m c t k q).trans ?_
  rw [V_cols, hW]
  refine (colsV_at W k q).trans ?_
  rw [dif_neg (by omega), dif_neg (by omega)]

include hX hG hW in
theorem cell_row (t : Fin cfg0.N) (r : Fin 1024) (q : Fin 1032) (n : Fin 16384) (e : Fin 3592) (hn : n.val = 1024 * t.val + r.val)
    (he : (q.val < 1024 ∧ e.val = q.val + 512) ∨ (1024 ≤ q.val ∧ e.val = q.val + 2560)) :
    rowE (iblk m c 0 t) (iblk m c 1 t) (iblk m c 3 t) r q = tokE X G W n e := by
  refine projAt_congr (fun k => ?_) (fun k => ?_) (fun k => ?_)
  · refine (blk0_at m c t r k n hn).trans ?_
    rw [V_rows, hX]
    exact rowsV_at X n k
  · refine (blk1_at m c t k).trans ?_
    rw [V_gain, hG]
    exact gainV_at G k
  · refine (blk3_at m c t q k).trans ?_
    rw [V_tpos, hW]
    refine (tposV_at W q k).trans ?_
    rcases he with ⟨h1, h2⟩ | ⟨h1, h2⟩
    · rw [dif_pos h1]
      exact congrArg (fun e => W (ix3 0 k e)) (Fin.ext h2.symm)
    · rw [dif_neg (by omega)]
      exact congrArg (fun e => W (ix3 0 k e)) (Fin.ext h2.symm)

theorem mem_of_emb {κ : Kind} {sp : Space} {s : Shape} {e : EltTy} {v : View sig κ sp s e} (y : s.Idx) (i : v.ty.Idx) (he : v.emb y = i) : i ∈ v.set := by
  subst he
  exact v.emb_mem_set y

theorem tok_congr {n n' : Fin 16384} {e e' : Fin 3592} (hn : n.val = n'.val) (he : e.val = e'.val) : tokE X G W n e = tokE X G W n' e' := by
  obtain rfl := Fin.ext hn
  obtain rfl := Fin.ext he
  rfl

theorem emb4 (t : Fin cfg0.N) (r : Fin 1024) (j : Fin 512) (n : Fin 16384) (hn : n.val = 1024 * t.val + r.val) :
    ((cfg0.win 4).blk t).view.emb (ix2 r j) = (ix2 n j : S16384x512.Idx) := by
  refine funext fun a => Fin.ext ?_
  refine ((cfg0.win 4).rect_emb_val t (ix2 r j) a).trans ?_
  match a with
  | ⟨0, _⟩ =>
    show cc0_transform_4 (grid0.coords t) 0 * 1024 + r.val = n.val
    rw [ou4_at]
    show t.val * 1024 + r.val = n.val
    omega
  | ⟨1, _⟩ =>
    show cc0_transform_4 (grid0.coords t) 1 * 512 + j.val = j.val
    rw [ou4_at]
    show 0 * 512 + j.val = j.val
    omega

theorem emb5 (t : Fin cfg0.N) (r : Fin 1024) (j : Fin 1024) (n : Fin 16384) (hn : n.val = 1024 * t.val + r.val) :
    ((cfg0.win 5).blk t).view.emb (ix2 r j) = (ix2 n j : S16384x1024.Idx) := by
  refine funext fun a => Fin.ext ?_
  refine ((cfg0.win 5).rect_emb_val t (ix2 r j) a).trans ?_
  match a with
  | ⟨0, _⟩ =>
    show cc0_transform_5 (grid0.coords t) 0 * 1024 + r.val = n.val
    rw [ou5_at]
    show t.val * 1024 + r.val = n.val
    omega
  | ⟨1, _⟩ =>
    show cc0_transform_5 (grid0.coords t) 1 * 1024 + j.val = j.val
    rw [ou5_at]
    show 0 * 1024 + j.val = j.val
    omega

theorem emb6 (t : Fin cfg0.N) (r : Fin 1024) (j : Fin 512) (n : Fin 16384) (hn : n.val = 1024 * t.val + r.val) :
    ((cfg0.win 6).blk t).view.emb (ix2 r j) = (ix2 n j : S16384x512.Idx) := by
  refine funext fun a => Fin.ext ?_
  refine ((cfg0.win 6).rect_emb_val t (ix2 r j) a).trans ?_
  match a with
  | ⟨0, _⟩ =>
    show cc0_transform_6 (grid0.coords t) 0 * 1024 + r.val = n.val
    rw [ou6_at]
    show t.val * 1024 + r.val = n.val
    omega
  | ⟨1, _⟩ =>
    show cc0_transform_6 (grid0.coords t) 1 * 512 + j.val = j.val
    rw [ou6_at]
    show 0 * 512 + j.val = j.val
    omega

theorem emb7 (t : Fin cfg0.N) (r : Fin 1024) (j : Fin 512) (n : Fin 16384) (hn : n.val = 1024 * t.val + r.val) :
    ((cfg0.win 7).blk t).view.emb (ix2 r j) = (ix2 n j : S16384x512.Idx) := by
  refine funext fun a => Fin.ext ?_
  refine ((cfg0.win 7).rect_emb_val t (ix2 r j) a).trans ?_
  match a with
  | ⟨0, _⟩ =>
    show cc0_transform_7 (grid0.coords t) 0 * 1024 + r.val = n.val
    rw [ou7_at]
    show t.val * 1024 + r.val = n.val
    omega
  | ⟨1, _⟩ =>
    show cc0_transform_7 (grid0.coords t) 1 * 512 + j.val = j.val
    rw [ou7_at]
    show 0 * 512 + j.val = j.val
    omega

theorem emb8 (t : Fin cfg0.N) (r : Fin 1024) (j : Fin 128) (n : Fin 16384) (hn : n.val = 1024 * t.val + r.val) :
    ((cfg0.win 8).blk t).view.emb (ix2 r j) = (ix2 n j : S16384x128.Idx) := by
  refine funext fun a => Fin.ext ?_
  refine ((cfg0.win 8).rect_emb_val t (ix2 r j) a).trans ?_
  match a with
  | ⟨0, _⟩ =>
    show cc0_transform_8 (grid0.coords t) 0 * 1024 + r.val = n.val
    rw [ou8_at]
    show t.val * 1024 + r.val = n.val
    omega
  | ⟨1, _⟩ =>
    show cc0_transform_8 (grid0.coords t) 1 * 128 + j.val = j.val
    rw [ou8_at]
    show 0 * 128 + j.val = j.val
    omega

theorem emb9 (t : Fin cfg0.N) (j : Fin 512) (r : Fin 1024) (b : Fin 8) (s : Fin 2048) (hb : b.val = t.val / 2) (hs : s.val = 1024 * (t.val % 2) + r.val) :
    ((cfg0.win 9).blk t).view.emb (ix3 0 j r) = (ix3 b j s : S8x512x2048.Idx) := by
  refine funext fun a => Fin.ext ?_
  refine ((cfg0.win 9).rect_emb_val t (ix3 0 j r) a).trans ?_
  match a with
  | ⟨0, _⟩ =>
    show cc0_transform_9 (grid0.coords t) 0 * 1 + 0 = b.val
    rw [ou9_at]
    show t.val / 2 * 1 + 0 = b.val
    omega
  | ⟨1, _⟩ =>
    show cc0_transform_9 (grid0.coords t) 1 * 512 + j.val = j.val
    rw [ou9_at]
    show 0 * 512 + j.val = j.val
    omega
  | ⟨2, _⟩ =>
    show cc0_transform_9 (grid0.coords t) 2 * 1024 + r.val = s.val
    rw [ou9_at]
    show t.val % 2 * 1024 + r.val = s.val
    omega

theorem emb10 (t : Fin cfg0.N) (j : Fin 512) (r : Fin 1024) (b : Fin 8) (s : Fin 2048) (hb : b.val = t.val / 2) (hs : s.val = 1024 * (t.val % 2) + r.val) :
    ((cfg0.win 10).blk t).view.emb (ix3 0 j r) = (ix3 b j s : S8x512x2048.Idx) := by
  refine funext fun a => Fin.ext ?_
  refine ((cfg0.win 10).rect_emb_val t (ix3 0 j r) a).trans ?_
  match a with
  | ⟨0, _⟩ =>
    show cc0_transform_10 (grid0.coords t) 0 * 1 + 0 = b.val
    rw [ou10_at]
    show t.val / 2 * 1 + 0 = b.val
    omega
  | ⟨1, _⟩ =>
    show cc0_transform_10 (grid0.coords t) 1 * 512 + j.val = j.val
    rw [ou10_at]
    show 0 * 512 + j.val = j.val
    omega
  | ⟨2, _⟩ =>
    show cc0_transform_10 (grid0.coords t) 2 * 1024 + r.val = s.val
    rw [ou10_at]
    show t.val % 2 * 1024 + r.val = s.val
    omega

theorem emb11 (t : Fin cfg0.N) (j : Fin 8) (r : Fin 1024) (n : Fin 16384) (hn : n.val = 1024 * t.val + r.val) :
    ((cfg0.win 11).blk t).view.emb (ix2 j r) = (ix2 j n : S8x16384.Idx) := by
  refine funext fun a => Fin.ext ?_
  refine ((cfg0.win 11).rect_emb_val t (ix2 j r) a).trans ?_
  match a with
  | ⟨0, _⟩ =>
    show cc0_transform_11 (grid0.coords t) 0 * 8 + j.val = j.val
    rw [ou11_at]
    show 0 * 8 + j.val = j.val
    omega
  | ⟨1, _⟩ =>
    show cc0_transform_11 (grid0.coords t) 1 * 1024 + r.val = n.val
    rw [ou11_at]
    show t.val * 1024 + r.val = n.val
    omega

theorem N_eq : cfg0.N = 16 := by decide

include hX hG hW in
theorem final4 : (dats m 0 c).arrAt 4 cfg0.N = (flatV X G W 512 0 (by omega) : Vec Ideal S16384x512 .f32) := by
  refine (dats m 0 c).arrAt_eq_of_emb 4 (flatV X G W 512 0 (by omega)) (fun t hf y => ?_) (fun i => ?_)
  · have hN : t.val < 16 := lt_of_lt_of_eq t.isLt N_eq
    obtain ⟨r, j, rfl⟩ : ∃ (r : Fin 1024) (j : Fin 512), y = (ix2 r j : S1024x512.Idx) := ⟨_, _, idx2 y⟩
    have hlt := r.isLt
    have hjt := j.isLt
    rw [after0_4]
    refine Eq.trans ?_ (congrArg (flatV X G W 512 0 (by omega)) (emb4 t r j ⟨1024 * t.val + r.val, by omega⟩ rfl)).symm
    refine (cast_eq _ _).trans ?_
    refine (out4_at (iblk m c 0 t) (iblk m c 1 t) (iblk m c 2 t) (iblk m c 3 t) r j).trans ?_
    exact cell_col X G W m c hX hG hW t r _ ⟨1024 * t.val + r.val, by omega⟩ _ rfl (by simp only; show (_ ∧ 0 + j.val = _) ∨ _; omega)
  · obtain ⟨n, k, rfl⟩ : ∃ (n : Fin 16384) (k : Fin 512), i = (ix2 n k : S16384x512.Idx) := ⟨_, _, idx2 i⟩
    have hlt := n.isLt
    exact ⟨⟨n.val / 1024, by rw [N_eq]; omega⟩, flush0_4 _, mem_of_emb _ _ (emb4 ⟨n.val / 1024, by rw [N_eq]; omega⟩ ⟨n.val % 1024, by omega⟩ k n
      (by show n.val = 1024 * (n.val / 1024) + n.val % 1024; omega))⟩

include hX hG hW in
theorem final5 : (dats m 0 c).arrAt 5 cfg0.N = (flatV X G W 1024 1536 (by omega) : Vec Ideal S16384x1024 .f32) := by
  refine (dats m 0 c).arrAt_eq_of_emb 5 (flatV X G W 1024 1536 (by omega)) (fun t hf y => ?_) (fun i => ?_)
  · have hN : t.val < 16 := lt_of_lt_of_eq t.isLt N_eq
    obtain ⟨r, j, rfl⟩ : ∃ (r : Fin 1024) (j : Fin 1024), y = (ix2 r j : S1024x1024.Idx) := ⟨_, _, idx2 y⟩
    have hlt := r.isLt
    have hjt := j.isLt
    rw [after0_5]
    refine Eq.trans ?_ (congrArg (flatV X G W 1024 1536 (by omega)) (emb5 t r j ⟨1024 * t.val + r.val, by omega⟩ rfl)).symm
    refine (cast_eq _ _).trans ?_
    refine (out5_at (iblk m c 0 t) (iblk m c 1 t) (iblk m c 2 t) (iblk m c 3 t) r j).trans ?_
    exact cell_col X G W m c hX hG hW t r _ ⟨1024 * t.val + r.val, by omega⟩ _ rfl (by simp only; show _ ∨ (_ ∧ _ ∧ 1536 + j.val = _); omega)
  · obtain ⟨n, k, rfl⟩ : ∃ (n : Fin 16384) (k : Fin 1024), i = (ix2 n k : S16384x1024.Idx) := ⟨_, _, idx2 i⟩
    have hlt := n.isLt
    exact ⟨⟨n.val / 1024, by rw [N_eq]; omega⟩, flush0_5 _, mem_of_emb _ _ (emb5 ⟨n.val / 1024, by rw [N_eq]; omega⟩ ⟨n.val % 1024, by omega⟩ k n
      (by show n.val = 1024 * (n.val / 1024) + n.val % 1024; omega))⟩

include hX hG hW in
theorem final6 : (dats m 0 c).arrAt 6 cfg0.N = (flatV X G W 512 2560 (by omega) : Vec Ideal S16384x512 .f32) := by
  refine (dats m 0 c).arrAt_eq_of_emb 6 (flatV X G W 512 2560 (by omega)) (fun t hf y => ?_) (fun i => ?_)
  · have hN : t.val < 16 := lt_of_lt_of_eq t.isLt N_eq
    obtain ⟨r, j, rfl⟩ : ∃ (r : Fin 1024) (j : Fin 512), y = (ix2 r j : S1024x512.Idx) := ⟨_, _, idx2 y⟩
    have hlt := r.isLt
    have hjt := j.isLt
    rw [after0_6]
    refine Eq.trans ?_ (congrArg (flatV X G W 512 2560 (by omega)) (emb6 t r j ⟨1024 * t.val + r.val, by omega⟩ rfl)).symm
    refine (cast_eq _ _).trans ?_
    refine (out6_at (iblk m c 0 t) (iblk m c 1 t) (iblk m c 2 t) (iblk m c 3 t) r j).trans ?_
    exact cell_col X G W m c hX hG hW t r _ ⟨1024 * t.val + r.val, by omega⟩ _ rfl (by simp only; show _ ∨ (_ ∧ _ ∧ 2560 + j.val = _); omega)
  · obtain ⟨n, k, rfl⟩ : ∃ (n : Fin 16384) (k : Fin 512), i = (ix2 n k : S16384x512.Idx) := ⟨_, _, idx2 i⟩
    have hlt := n.isLt
    exact ⟨⟨n.val / 1024, by rw [N_eq]; omega⟩, flush0_6 _, mem_of_emb _ _ (emb6 ⟨n.val / 1024, by rw [N_eq]; omega⟩ ⟨n.val % 1024, by omega⟩ k n
      (by show n.val = 1024 * (n.val / 1024) + n.val % 1024; omega))⟩

include hX hG hW in
theorem final7 : (dats m 0 c).arrAt 7 cfg0.N = (flatV X G W 512 3072 (by omega) : Vec Ideal S16384x512 .f32) := by
  refine (dats m 0 c).arrAt_eq_of_emb 7 (flatV X G W 512 3072 (by omega)) (fun t hf y => ?_) (fun i => ?_)
  · have hN : t.val < 16 := lt_of_lt_of_eq t.isLt N_eq
    obtain ⟨r, j, rfl⟩ : ∃ (r : Fin 1024) (j : Fin 512), y = (ix2 r j : S1024x512.Idx) := ⟨_, _, idx2 y⟩
    have hlt := r.isLt
    have hjt := j.isLt
    rw [after0_7]
    refine Eq.trans ?_ (congrArg (flatV X G W 512 3072 (by omega)) (emb7 t r j ⟨1024 * t.val + r.val, by omega⟩ rfl)).symm
    refine (cast_eq _ _).trans ?_
    refine (out7_at (iblk m c 0 t) (iblk m c 1 t) (iblk m c 2 t) (iblk m c 3 t) r j).trans ?_
    exact cell_col X G W m c hX hG hW t r _ ⟨1024 * t.val + r.val, by omega⟩ _ rfl (by simp only; show _ ∨ (_ ∧ _ ∧ 3072 + j.val = _); omega)
  · obtain ⟨n, k, rfl⟩ : ∃ (n : Fin 16384) (k : Fin 512), i = (ix2 n k : S16384x512.Idx) := ⟨_, _, idx2 i⟩
    have hlt := n.isLt
    exact ⟨⟨n.val / 1024, by rw [N_eq]; omega⟩, flush0_7 _, mem_of_emb _ _ (emb7 ⟨n.val / 1024, by rw [N_eq]; omega⟩ ⟨n.val % 1024, by omega⟩ k n
      (by show n.val = 1024 * (n.val / 1024) + n.val % 1024; omega))⟩

include hX hG hW in
theorem final8 : (dats m 0 c).arrAt 8 cfg0.N = (gatesV X G W : Vec Ideal S16384x128 .f32) := by
  refine (dats m 0 c).arrAt_eq_of_emb 8 (gatesV X G W) (fun t hf y => ?_) (fun i => ?_)
  · have hN : t.val < 16 := lt_of_lt_of_eq t.isLt N_eq
    obtain ⟨r, j, rfl⟩ : ∃ (r : Fin 1024) (j : Fin 128), y = (ix2 r j : S1024x128.Idx) := ⟨_, _, idx2 y⟩
    have hlt := r.isLt
    have hjt := j.isLt
    rw [after0_8]
    refine Eq.trans ?_ (congrArg (gatesV X G W) (emb8 t r j ⟨1024 * t.val + r.val, by omega⟩ rfl)).symm
    refine (cast_eq _ _).trans ?_
    refine (out8_at (iblk m c 0 t) (iblk m c 1 t) (iblk m c 2 t) (iblk m c 3 t) r j).trans ?_
    by_cases hj : j.val < 8
    · refine (cell_col X G W m c hX hG hW t r _ ⟨1024 * t.val + r.val, by omega⟩ ⟨3584 + j.val, by omega⟩ rfl (by simp only; omega)).trans ?_
      exact (gatesV_lo X G W _ j hj).symm
    · refine (cell_pad W m c hW t r _ (by simp only; omega)).trans ?_
      exact (gatesV_hi X G W _ j hj).symm
  · obtain ⟨n, k, rfl⟩ : ∃ (n : Fin 16384) (k : Fin 128), i = (ix2 n k : S16384x128.Idx) := ⟨_, _, idx2 i⟩
    have hlt := n.isLt
    exact ⟨⟨n.val / 1024, by rw [N_eq]; omega⟩, flush0_8 _, mem_of_emb _ _ (emb8 ⟨n.val / 1024, by rw [N_eq]; omega⟩ ⟨n.val % 1024, by omega⟩ k n
      (by show n.val = 1024 * (n.val / 1024) + n.val % 1024; omega))⟩

include hX hG hW in
theorem final9 : (dats m 0 c).arrAt 9 cfg0.N = (headsV X G W 512 (by omega) : Vec Ideal S8x512x2048 .f32) := by
  refine (dats m 0 c).arrAt_eq_of_emb 9 (headsV X G W 512 (by omega)) (fun t hf y => ?_) (fun i => ?_)
  · have hN : t.val < 16 := lt_of_lt_of_eq t.isLt N_eq
    obtain ⟨z, j, r, rfl⟩ : ∃ (z : Fin 1) (j : Fin 512) (r : Fin 1024), y = (ix3 z j r : S1x512x1024.Idx) := ⟨_, _, _, idx3 y⟩
    obtain rfl : z = 0 := Subsingleton.elim _ _
    have hlt := r.isLt
    have hjt := j.isLt
    rw [after0_9]
    refine Eq.trans ?_ (congrArg (headsV X G W 512 (by omega)) (emb9 t j r ⟨t.val / 2, by omega⟩ ⟨1024 * (t.val % 2) + r.val, by omega⟩ rfl rfl)).symm
    refine (cast_eq _ _).trans ?_
    refine (out9_at (iblk m c 0 t) (iblk m c 1 t) (iblk m c 2 t) (iblk m c 3 t) j r).trans ?_
    refine (cell_row X G W m c hX hG hW t r _ ⟨1024 * t.val + r.val, by omega⟩ ⟨512 + j.val, by omega⟩ rfl (by simp only; omega)).trans ?_
    exact tok_congr X G W (by show 1024 * t.val + r.val = 2048 * (t.val / 2) + (1024 * (t.val % 2) + r.val); omega) rfl
  · obtain ⟨b, j, s, rfl⟩ : ∃ (b : Fin 8) (j : Fin 512) (s : Fin 2048), i = (ix3 b j s : S8x512x2048.Idx) := ⟨_, _, _, idx3 i⟩
    have hlt := b.isLt
    have hst := s.isLt
    exact ⟨⟨2 * b.val + s.val / 1024, by rw [N_eq]; omega⟩, flush0_9 _, mem_of_emb _ _ (emb9 ⟨2 * b.val + s.val / 1024, by rw [N_eq]; omega⟩ j ⟨s.val % 1024, by omega⟩ b s
      (by show b.val = (2 * b.val + s.val / 1024) / 2; omega) (by show s.val = 1024 * ((2 * b.val + s.val / 1024) % 2) + s.val % 1024; omega))⟩

include hX hG hW in
theorem final10 : (dats m 0 c).arrAt 10 cfg0.N = (headsV X G W 1024 (by omega) : Vec Ideal S8x512x2048 .f32) := by
  refine (dats m 0 c).arrAt_eq_of_emb 10 (headsV X G W 1024 (by omega)) (fun t hf y => ?_) (fun i => ?_)
  · have hN : t.val < 16 := lt_of_lt_of_eq t.isLt N_eq
    obtain ⟨z, j, r, rfl⟩ : ∃ (z : Fin 1) (j : Fin 512) (r : Fin 1024), y = (ix3 z j r : S1x512x1024.Idx) := ⟨_, _, _, idx3 y⟩
    obtain rfl : z = 0 := Subsingleton.elim _ _
    have hlt := r.isLt
    have hjt := j.isLt
    rw [after0_10]
    refine Eq.trans ?_ (congrArg (headsV X G W 1024 (by omega)) (emb10 t j r ⟨t.val / 2, by omega⟩ ⟨1024 * (t.val % 2) + r.val, by omega⟩ rfl rfl)).symm
    refine (cast_eq _ _).trans ?_
    refine (out10_at (iblk m c 0 t) (iblk m c 1 t) (iblk m c 2 t) (iblk m c 3 t) j r).trans ?_
    refine (cell_row X G W m c hX hG hW t r _ ⟨1024 * t.val + r.val, by omega⟩ ⟨1024 + j.val, by omega⟩ rfl (by simp only; omega)).trans ?_
    exact tok_congr X G W (by show 1024 * t.val + r.val = 2048 * (t.val / 2) + (1024 * (t.val % 2) + r.val); omega) rfl
  · obtain ⟨b, j, s, rfl⟩ : ∃ (b : Fin 8) (j : Fin 512) (s : Fin 2048), i = (ix3 b j s : S8x512x2048.Idx) := ⟨_, _, _, idx3 i⟩
    have hlt := b.isLt
    have hst := s.isLt
    exact ⟨⟨2 * b.val + s.val / 1024, by rw [N_eq]; omega⟩, flush0_10 _, mem_of_emb _ _ (emb10 ⟨2 * b.val + s.val / 1024, by rw [N_eq]; omega⟩ j ⟨s.val % 1024, by omega⟩ b s
      (by show b.val = (2 * b.val + s.val / 1024) / 2; omega) (by show s.val = 1024 * ((2 * b.val + s.val / 1024) % 2) + s.val % 1024; omega))⟩

include hX hG hW in
theorem final11 : (dats m 0 c).arrAt 11 cfg0.N = (gateRowsV X G W : Vec Ideal S8x16384 .f32) := by
  refine (dats m 0 c).arrAt_eq_of_emb 11 (gateRowsV X G W) (fun t hf y => ?_) (fun i => ?_)
  · have hN : t.val < 16 := lt_of_lt_of_eq t.isLt N_eq
    obtain ⟨j, r, rfl⟩ : ∃ (j : Fin 8) (r : Fin 1024), y = (ix2 j r : S8x1024.Idx) := ⟨_, _, idx2 y⟩
    have hlt := r.isLt
    have hjt := j.isLt
    rw [after0_11]
    refine Eq.trans ?_ (congrArg (gateRowsV X G W) (emb11 t j r ⟨1024 * t.val + r.val, by omega⟩ rfl)).symm
    refine (cast_eq _ _).trans ?_
    refine (out11_at (iblk m c 0 t) (iblk m c 1 t) (iblk m c 2 t) (iblk m c 3 t) j r).trans ?_
    exact cell_row X G W m c hX hG hW t r _ ⟨1024 * t.val + r.val, by omega⟩ ⟨3584 + j.val, by omega⟩ rfl (by simp only; omega)
  · obtain ⟨j, n, rfl⟩ : ∃ (j : Fin 8) (n : Fin 16384), i = (ix2 j n : S8x16384.Idx) := ⟨_, _, idx2 i⟩
    have hlt := n.isLt
    exact ⟨⟨n.val / 1024, by rw [N_eq]; omega⟩, flush0_11 _, mem_of_emb _ _ (emb11 ⟨n.val / 1024, by rw [N_eq]; omega⟩ j ⟨n.val % 1024, by omega⟩ n
      (by show n.val = 1024 * (n.val / 1024) + n.val % 1024; omega))⟩

end

end Cert.Kernel3Ideal.Hand

end
-- ==== Proof.PRef.lean ====
/-
  The input projection's reference at an index: the token's normalised row times a column, wherever the result puts it.
-/
module

public import proofs.«01_k».proof.Proof.POut
public import proofs.«01_k».proof.Proof.Gen.Reference3Ideal.Run

@[expose] public section

set_option maxRecDepth 16384

noncomputable section

namespace Cert.Reference3Ideal.Hand

open Cert.Reference3Ideal Cert.Reference3Ideal.Gen
open Idealize.ShloMosaic Idealize.ShloMosaic.TcCoe
open Cert.Kernel3Ideal.Hand (projAt normAt tokE tok_congr flatV gatesV gatesV_lo gatesV_hi headsV gateRowsV zero_word idx2 idx3)

variable (X : Vec Ideal S8x2048x1024 .f32) (G : Vec Ideal S2x1024 .f32) (W : Vec Ideal S1x1024x3592 .f32)

/-- The normalised tokens times the weights, before the results are cut out of it. -/
def prodV : Vec Ideal S8x2048x3592 .f32 :=
  Host.dotGeneral (F := Ideal) (φ₁ := .f32) (φ₂ := .f32) dot_S8x2048x1024_S1024x3592_S8x2048x3592_2_0_01_1_n_n none
    (mulf (F := Ideal) (mulf (F := Ideal) X (broadcastInDim S8x2048x1024 ![0, 1, 2] bcast_S8x2048x1_S8x2048x1024_0_1_2 (Host.rsqrt (F := Ideal) (addf (F := Ideal) (Host.divf (F := Ideal) (broadcastInDim S8x2048x1 ![0, 1] bcast_S8x2048_S8x2048x1_0_1 (Host.reduceAdd (F := Ideal) (mulf (F := Ideal) X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast (s := S1x1024) S1024 (extractStridedSlice S1x1024 ![0, 0] G slices_S2x1024_S1x1024_0_0) shapeCasts_S1x1024_S1024))))
    (shapeCast (s := S1x1024x3592) S1024x3592 W shapeCasts_S1x1024x3592_S1024x3592)

theorem prodV_at (b : Fin 8) (s : Fin 2048) (e : Fin 3592) :
    prodV X G W (ix3 b s e) = projAt (fun k => X (ix3 b s k)) (fun k => G (ix2 0 k)) (fun k => W (ix3 0 k e)) := by
  pointwise [prodV, projAt, normAt]

theorem prodV_tok (n : Fin 16384) (e : Fin 3592) :
    prodV X G W (ix3 ⟨n.val / 2048, by omega⟩ ⟨n.val % 2048, by omega⟩ e) = tokE X G W n e := prodV_at X G W _ _ e

theorem prodV_split (b : Fin 8) (s : Fin 2048) (e : Fin 3592) (n : Fin 16384) (hn : n.val = 2048 * b.val + s.val) :
    prodV X G W (ix3 b s e) = tokE X G W n e := by
  have hb : b = ⟨n.val / 2048, by omega⟩ := Fin.ext (by show b.val = n.val / 2048; omega)
  have hs : s = ⟨n.val % 2048, by omega⟩ := Fin.ext (by show s.val = n.val % 2048; omega)
  refine Eq.trans ?_ (prodV_tok X G W n e)
  rw [← hb, ← hs]

variable (P : Vec Ideal S8x2048x3592 .f32)

theorem q_cut (n : Fin 16384) (j : Fin 512) :
    shapeCast (s := S8x2048x512) S16384x512 (extractStridedSlice S8x2048x512 ![0, 0, 0] P slices_S8x2048x3592_S8x2048x512_0_0_0) shapeCasts_S8x2048x512_S16384x512 (ix2 n j)
      = P (ix3 ⟨n.val / 2048, by omega⟩ ⟨n.val % 2048, by omega⟩ ⟨0 + j.val, by omega⟩) := by
  pointwise

theorem q_eq :
    shapeCast (s := S8x2048x512) S16384x512 (extractStridedSlice S8x2048x512 ![0, 0, 0] (prodV X G W) slices_S8x2048x3592_S8x2048x512_0_0_0) shapeCasts_S8x2048x512_S16384x512
      = flatV X G W 512 0 (by omega) := by
  funext i
  obtain ⟨n, j, rfl⟩ : ∃ (n : Fin 16384) (j : Fin 512), i = (ix2 n j : S16384x512.Idx) := ⟨_, _, idx2 i⟩
  exact (q_cut _ n j).trans (prodV_tok X G W n _)

theorem qk_cut (n : Fin 16384) (j : Fin 1024) :
    shapeCast (s := S8x2048x1024) S16384x1024 (extractStridedSlice S8x2048x1024 ![0, 0, 1536] P slices_S8x2048x3592_S8x2048x1024_0_0_1536) shapeCasts_S8x2048x1024_S16384x1024 (ix2 n j)
      = P (ix3 ⟨n.val / 2048, by omega⟩ ⟨n.val % 2048, by omega⟩ ⟨1536 + j.val, by omega⟩) := by
  pointwise

theorem qk_eq :
    shapeCast (s := S8x2048x1024) S16384x1024 (extractStridedSlice S8x2048x1024 ![0, 0, 1536] (prodV X G W) slices_S8x2048x3592_S8x2048x1024_0_0_1536) shapeCasts_S8x2048x1024_S16384x1024
      = flatV X G W 1024 1536 (by omega) := by
  funext i
  obtain ⟨n, j, rfl⟩ : ∃ (n : Fin 16384) (j : Fin 1024), i = (ix2 n j : S16384x1024.Idx) := ⟨_, _, idx2 i⟩
  exact (qk_cut _ n j).trans (prodV_tok X G W n _)

theorem vb_cut (n : Fin 16384) (j : Fin 512) :
    shapeCast (s := S8x2048x512) S16384x512 (extractStridedSlice S8x2048x512 ![0, 0, 2560] P slices_S8x2048x3592_S8x2048x512_0_0_2560) shapeCasts_S8x2048x512_S16384x512 (ix2 n j)
      = P (ix3 ⟨n.val / 2048, by omega⟩ ⟨n.val % 2048, by omega⟩ ⟨2560 + j.val, by omega⟩) := by
  pointwise

theorem vb_eq :
    shapeCast (s := S8x2048x512) S16384x512 (extractStridedSlice S8x2048x512 ![0, 0, 2560] (prodV X G W) slices_S8x2048x3592_S8x2048x512_0_0_2560) shapeCasts_S8x2048x512_S16384x512
      = flatV X G W 512 2560 (by omega) := by
  funext i
  obtain ⟨n, j, rfl⟩ : ∃ (n : Fin 16384) (j : Fin 512), i = (ix2 n j : S16384x512.Idx) := ⟨_, _, idx2 i⟩
  exact (vb_cut _ n j).trans (prodV_tok X G W n _)

theorem ob_cut (n : Fin 16384) (j : Fin 512) :
    shapeCast (s := S8x2048x512) S16384x512 (extractStridedSlice S8x2048x512 ![0, 0, 3072] P slices_S8x2048x3592_S8x2048x512_0_0_3072) shapeCasts_S8x2048x512_S16384x512 (ix2 n j)
      = P (ix3 ⟨n.val / 2048, by omega⟩ ⟨n.val % 2048, by omega⟩ ⟨3072 + j.val, by omega⟩) := by
  pointwise

theorem ob_eq :
    shapeCast (s := S8x2048x512) S16384x512 (extractStridedSlice S8x2048x512 ![0, 0, 3072] (prodV X G W) slices_S8x2048x3592_S8x2048x512_0_0_3072) shapeCasts_S8x2048x512_S16384x512
      = flatV X G W 512 3072 (by omega) := by
  funext i
  obtain ⟨n, j, rfl⟩ : ∃ (n : Fin 16384) (j : Fin 512), i = (ix2 n j : S16384x512.Idx) := ⟨_, _, idx2 i⟩
  exact (ob_cut _ n j).trans (prodV_tok X G W n _)

theorem k_cut (b : Fin 8) (j : Fin 512) (s : Fin 2048) :
    transpose (s := S8x2048x512) S8x512x2048 [0, 2, 1] (extractStridedSlice S8x2048x512 ![0, 0, 512] P slices_S8x2048x3592_S8x2048x512_0_0_512) transposes_S8x2048x512_S8x512x2048_0_2_1 (ix3 b j s)
      = P (ix3 b s ⟨512 + j.val, by omega⟩) := by
  pointwise

theorem k_eq :
    transpose (s := S8x2048x512) S8x512x2048 [0, 2, 1] (extractStridedSlice S8x2048x512 ![0, 0, 512] (prodV X G W) slices_S8x2048x3592_S8x2048x512_0_0_512) transposes_S8x2048x512_S8x512x2048_0_2_1
      = headsV X G W 512 (by omega) := by
  funext i
  obtain ⟨b, j, s, rfl⟩ : ∃ (b : Fin 8) (j : Fin 512) (s : Fin 2048), i = (ix3 b j s : S8x512x2048.Idx) := ⟨_, _, _, idx3 i⟩
  exact (k_cut _ b j s).trans (prodV_split X G W b s _ ⟨2048 * b.val + s.val, by omega⟩ rfl)

theorem v_cut (b : Fin 8) (j : Fin 512) (s : Fin 2048) :
    transpose (s := S8x2048x512) S8x512x2048 [0, 2, 1] (extractStridedSlice S8x2048x512 ![0, 0, 1024] P slices_S8x2048x3592_S8x2048x512_0_0_1024) transposes_S8x2048x512_S8x512x2048_0_2_1 (ix3 b j s)
      = P (ix3 b s ⟨1024 + j.val, by omega⟩) := by
  pointwise

theorem v_eq :
    transpose (s := S8x2048x512) S8x512x2048 [0, 2, 1] (extractStridedSlice S8x2048x512 ![0, 0, 1024] (prodV X G W) slices_S8x2048x3592_S8x2048x512_0_0_1024) transposes_S8x2048x512_S8x512x2048_0_2_1
      = headsV X G W 1024 (by omega) := by
  funext i
  obtain ⟨b, j, s, rfl⟩ : ∃ (b : Fin 8) (j : Fin 512) (s : Fin 2048), i = (ix3 b j s : S8x512x2048.Idx) := ⟨_, _, _, idx3 i⟩
  exact (v_cut _ b j s).trans (prodV_split X G W b s _ ⟨2048 * b.val + s.val, by omega⟩ rfl)

theorem gate_cut (n : Fin 16384) (j : Fin 128) :
    pad S16384x128 ![0, 0] ![0, 120] ![0, 0] (shapeCast (s := S8x2048x8) S16384x8 (extractStridedSlice S8x2048x8 ![0, 0, 3584] P slices_S8x2048x3592_S8x2048x8_0_0_3584) shapeCasts_S8x2048x8_S16384x8)
        (sitofp (F := Ideal) (w := 32) .f32 (constantI S_ 32 0#32)) pads_S16384x8_S16384x128_000_01200 h_S_ (ix2 n j)
      = if h : j.val < 8 then P (ix3 ⟨n.val / 2048, by omega⟩ ⟨n.val % 2048, by omega⟩ ⟨3584 + j.val, by omega⟩) else (0 : EReal) := by
  pointwise
  simp only [zero_word]

theorem gate_eq :
    pad S16384x128 ![0, 0] ![0, 120] ![0, 0] (shapeCast (s := S8x2048x8) S16384x8 (extractStridedSlice S8x2048x8 ![0, 0, 3584] (prodV X G W) slices_S8x2048x3592_S8x2048x8_0_0_3584) shapeCasts_S8x2048x8_S16384x8)
        (sitofp (F := Ideal) (w := 32) .f32 (constantI S_ 32 0#32)) pads_S16384x8_S16384x128_000_01200 h_S_
      = gatesV X G W := by
  funext i
  obtain ⟨n, j, rfl⟩ : ∃ (n : Fin 16384) (j : Fin 128), i = (ix2 n j : S16384x128.Idx) := ⟨_, _, idx2 i⟩
  refine (gate_cut _ n j).trans ?_
  by_cases h : j.val < 8
  · exact (dif_pos h).trans ((prodV_tok X G W n _).trans (gatesV_lo X G W n j h).symm)
  · exact (dif_neg h).trans (gatesV_hi X G W n j h).symm

theorem grow_cut (j : Fin 8) (n : Fin 16384) :
    transpose (s := S16384x8) S8x16384 [1, 0] (shapeCast (s := S8x2048x8) S16384x8 (extractStridedSlice S8x2048x8 ![0, 0, 3584] P slices_S8x2048x3592_S8x2048x8_0_0_3584) shapeCasts_S8x2048x8_S16384x8)
        transposes_S16384x8_S8x16384_1_0 (ix2 j n)
      = P (ix3 ⟨n.val / 2048, by omega⟩ ⟨n.val % 2048, by omega⟩ ⟨3584 + j.val, by omega⟩) := by
  pointwise

theorem grow_eq :
    transpose (s := S16384x8) S8x16384 [1, 0] (shapeCast (s := S8x2048x8) S16384x8 (extractStridedSlice S8x2048x8 ![0, 0, 3584] (prodV X G W) slices_S8x2048x3592_S8x2048x8_0_0_3584) shapeCasts_S8x2048x8_S16384x8)
        transposes_S16384x8_S8x16384_1_0
      = gateRowsV X G W := by
  funext i
  obtain ⟨j, n, rfl⟩ : ∃ (j : Fin 8) (n : Fin 16384), i = (ix2 j n : S8x16384.Idx) := ⟨_, _, idx2 i⟩
  exact (grow_cut _ j n).trans (prodV_tok X G W n _)

end Cert.Reference3Ideal.Hand

end
-- ==== Proof.PValue.lean ====
/-
  The input projection over the extended reals: its eight results are its reference's.
-/
module

public import proofs.«01_k».proof.Defs
public import proofs.«01_k».proof.Proof.PRef

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem

/-- The kernel's results, over the same arguments, are the reference's. -/
theorem value : Cert.algebraic_Kernel3Ideal_Reference3Ideal := by
  intro m g m' g' _ hm
  refine ⟨fun c => flatV (m ((c : Thread nD τ).loc main_arg0)) (m ((c : Thread nD τ).loc main_arg1)) (m ((c : Thread nD τ).loc main_arg2)) 512 0 (by omega),
    fun c => flatV (m ((c : Thread nD τ).loc main_arg0)) (m ((c : Thread nD τ).loc main_arg1)) (m ((c : Thread nD τ).loc main_arg2)) 1024 1536 (by omega),
    fun c => flatV (m ((c : Thread nD τ).loc main_arg0)) (m ((c : Thread nD τ).loc main_arg1)) (m ((c : Thread nD τ).loc main_arg2)) 512 2560 (by omega),
    fun c => flatV (m ((c : Thread nD τ).loc main_arg0)) (m ((c : Thread nD τ).loc main_arg1)) (m ((c : Thread nD τ).loc main_arg2)) 512 3072 (by omega),
    fun c => gatesV (m ((c : Thread nD τ).loc main_arg0)) (m ((c : Thread nD τ).loc main_arg1)) (m ((c : Thread nD τ).loc main_arg2)),
    fun c => headsV (m ((c : Thread nD τ).loc main_arg0)) (m ((c : Thread nD τ).loc main_arg1)) (m ((c : Thread nD τ).loc main_arg2)) 512 (by omega),
    fun c => headsV (m ((c : Thread nD τ).loc main_arg0)) (m ((c : Thread nD τ).loc main_arg1)) (m ((c : Thread nD τ).loc main_arg2)) 1024 (by omega),
    fun c => gateRowsV (m ((c : Thread nD τ).loc main_arg0)) (m ((c : Thread nD τ).loc main_arg1)) (m ((c : Thread nD τ).loc main_arg2)), ?_, ?_⟩
  · refine (θ_run (defs (F := Ideal)) _ _).mono (fun r hq c => ?_) (Cert.Kernel3Ideal.Value.run_blocks m g)
    obtain ⟨h0, h1, h2, h3, h4, h5, h6, h7, ha⟩ := hq c
    exact ⟨h0.trans (final4 _ _ _ m c rfl rfl rfl), h1.trans (final5 _ _ _ m c rfl rfl rfl), h2.trans (final6 _ _ _ m c rfl rfl rfl),
      h3.trans (final7 _ _ _ m c rfl rfl rfl), h4.trans (final8 _ _ _ m c rfl rfl rfl), h5.trans (final9 _ _ _ m c rfl rfl rfl),
      h6.trans (final10 _ _ _ m c rfl rfl rfl), h7.trans (final11 _ _ _ m c rfl rfl rfl), ha⟩
  · refine (θ_run (Cert.Reference3Ideal.defs (F := Ideal)) _ _).mono (fun r hq c => ?_) (Cert.Reference3Ideal.Value.run m' g')
    obtain ⟨a0, a1, a2⟩ := hm c
    obtain ⟨h0, h1, h2, h3, h4, h5, h6, h7, ha⟩ := hq c
    have e0 := h0.trans (Cert.Reference3Ideal.Hand.q_eq _ _ _)
    have e1 := h1.trans (Cert.Reference3Ideal.Hand.qk_eq _ _ _)
    have e2 := h2.trans (Cert.Reference3Ideal.Hand.vb_eq _ _ _)
    have e3 := h3.trans (Cert.Reference3Ideal.Hand.ob_eq _ _ _)
    have e4 := h4.trans (Cert.Reference3Ideal.Hand.gate_eq _ _ _)
    have e5 := h5.trans (Cert.Reference3Ideal.Hand.k_eq _ _ _)
    have e6 := h6.trans (Cert.Reference3Ideal.Hand.v_eq _ _ _)
    have e7 := h7.trans (Cert.Reference3Ideal.Hand.grow_eq _ _ _)
    clear h0 h1 h2 h3 h4 h5 h6 h7
    rw [a0, a1, a2] at e0 e1 e2 e3 e4 e5 e6 e7
    exact ⟨e0, e1, e2, e3, e4, e5, e6, e7, ha⟩

end Cert.Kernel3Ideal.Hand

end
-- ==== Proof.lean ====
/- The certificate of the experts' feed-forward, of the expert combine and of the even layer's input projection. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.Pre_routed
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Pre_sorted_rows
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Frames
public import proofs.«01_k».proof.Proof.Ref
public import proofs.«01_k».proof.Proof.Value
public import proofs.«01_k».proof.Proof.FFrames
public import proofs.«01_k».proof.Proof.FRef
public import proofs.«01_k».proof.Proof.FValue
public import proofs.«01_k».proof.Proof.PFrames
public import proofs.«01_k».proof.Proof.PValue

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_routed.Gen.facts, Cert.Pre_sorted_rows.Gen.facts,
  Cert.KernelIdeal.Hand.frame_bits, Cert.KernelIdeal.Hand.frame_ideal, Cert.ReferenceIdeal.Hand.frame, Cert.ReferenceIdeal.Hand.frame_pre,
  Cert.Kernel2Ideal.Hand.frame_bits, Cert.Kernel2Ideal.Hand.frame_ideal, fun m g _ => Cert.Kernel2Ideal.Hand.frame_ideal m g trivial,
  Cert.Reference2Ideal.Hand.frame, Cert.Reference2Ideal.Hand.frame_pre,
  Cert.Kernel3Ideal.Hand.frame_bits, Cert.Kernel3Ideal.Hand.frame_ideal, Cert.Reference3Ideal.Hand.frame,
  trivial, Cert.KernelIdeal.Hand.value, trivial, Cert.Kernel2Ideal.Hand.value,
  trivial, Cert.Kernel3Ideal.Hand.value⟩

end Cert.Proof

end
